-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v73) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v65) = v2 c
          ∧ r.2.mem ((c.tc : Thread Cert.Reference8Ideal.nD Cert.Reference8Ideal.τ).loc Cert.Reference8Ideal.main_v69) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S32x128x512 : Shape := ⟨3, ![32, 128, 512]⟩
abbrev S32x128x8x64 : Shape := ⟨4, ![32, 128, 8, 64]⟩
abbrev S32x128x8 : Shape := ⟨3, ![32, 128, 8]⟩
abbrev S_ : Shape := ⟨0, ![]⟩

class Facts : Prop where
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S32x128x8x64 : S_.BroadcastsInDim S32x128x8x64 (![] : Fin 0 → Fin S32x128x8x64.rank)
  reducesTo_S32x128x8x64_S_d0_1_2_3 : S32x128x8x64.ReducesTo [0, 1, 2, 3] S_
  bcast_S_S32x128x8 : S_.BroadcastsInDim S32x128x8 (![] : Fin 0 → Fin S32x128x8.rank)
  reducesTo_S32x128x8_S_d0_1_2 : S32x128x8.ReducesTo [0, 1, 2] S_

variable [Facts]

def fn_part2 {F : FTy → Type} [FloatOps F] (main_arg7 : FVec F S32x128x8x64 .f32) (main_v33 : IVec S_ 1) : IVec S_ 1 :=
  let main_v34 : FVec F S32x128x8x64 .f32 := Host.absf main_arg7
  let main_cst_12 : FVec F S_ .f32 := constant S_ .f32 0x7F800000#32
  let main_v35 : FVec F S32x128x8x64 .f32 := broadcastInDim S32x128x8x64 ![] bcast_S_S32x128x8x64 main_cst_12
  let main_v36 : IVec S32x128x8x64 1 := cmpf .olt main_v34 main_v35
  let main_c_13 : IVec S_ 1 := constantI S_ 1 1#1
  let main_v37 : IVec S_ 1 := (fun x v => Host.reduce IntOp.andi x v reducesTo_S32x128x8x64_S_d0_1_2_3 h_S_) main_v36 main_c_13
  let main_v38 : IVec S_ 1 := andi main_v33 main_v37
  main_v38

def fn_part1 {F : FTy → Type} [FloatOps F] (main_arg4 : FVec F S32x128x8 .f32) (main_arg5 : FVec F S32x128x8x64 .f32) (main_arg6 : FVec F S32x128x8 .f32) (main_arg7 : FVec F S32x128x8x64 .f32) (main_v13 : IVec S_ 1) (main_v16 : IVec S32x128x8x64 1) : IVec S_ 1 :=
  let main_c_5 : IVec S_ 1 := constantI S_ 1 1#1
  let main_v17 : IVec S_ 1 := (fun x v => Host.reduce IntOp.andi x v reducesTo_S32x128x8x64_S_d0_1_2_3 h_S_) main_v16 main_c_5
  let main_v18 : IVec S_ 1 := andi main_v13 main_v17
  let main_v19 : FVec F S32x128x8 .f32 := Host.absf main_arg4
  let main_cst_6 : FVec F S_ .f32 := constant S_ .f32 0x7F800000#32
  let main_v20 : FVec F S32x128x8 .f32 := broadcastInDim S32x128x8 ![] bcast_S_S32x128x8 main_cst_6
  let main_v21 : IVec S32x128x8 1 := cmpf .olt main_v19 main_v20
  let main_c_7 : IVec S_ 1 := constantI S_ 1 1#1
  let main_v22 : IVec S_ 1 := (fun x v => Host.reduce IntOp.andi x v reducesTo_S32x128x8_S_d0_1_2 h_S_) main_v21 main_c_7
  let main_v23 : IVec S_ 1 := andi main_v18 main_v22
  let main_v24 : FVec F S32x128x8x64 .f32 := Host.absf main_arg5
  let main_cst_8 : FVec F S_ .f32 := constant S_ .f32 0x7F800000#32
  let main_v25 : FVec F S32x128x8x64 .f32 := broadcastInDim S32x128x8x64 ![] bcast_S_S32x128x8x64 main_cst_8
  let main_v26 : IVec S32x128x8x64 1 := cmpf .olt main_v24 main_v25
  let main_c_9 : IVec S_ 1 := constantI S_ 1 1#1
  let main_v27 : IVec S_ 1 := (fun x v => Host.reduce IntOp.andi x v reducesTo_S32x128x8x64_S_d0_1_2_3 h_S_) main_v26 main_c_9
  let main_v28 : IVec S_ 1 := andi main_v23 main_v27
  let main_v29 : FVec F S32x128x8 .f32 := Host.absf main_arg6
  let main_cst_10 : FVec F S_ .f32 := constant S_ .f32 0x7F800000#32
  let main_v30 : FVec F S32x128x8 .f32 := broadcastInDim S32x128x8 ![] bcast_S_S32x128x8 main_cst_10
  let main_v31 : IVec S32x128x8 1 := cmpf .olt main_v29 main_v30
  let main_c_11 : IVec S_ 1 := constantI S_ 1 1#1
  let main_v32 : IVec S_ 1 := (fun x v => Host.reduce IntOp.andi x v reducesTo_S32x128x8_S_d0_1_2 h_S_) main_v31 main_c_11
  let main_v33 : IVec S_ 1 := andi main_v28 main_v32
  fn_part2 (F := F) main_arg7 main_v33

def fn {F : FTy → Type} [FloatOps F] (main_arg0 : FVec F S32x128x512 .f32) (main_arg1 : FVec F S32x128x512 .f32) (main_arg2 : FVec F S32x128x512 .f32) (main_arg3 : FVec F S32x128x8x64 .f32) (main_arg4 : FVec F S32x128x8 .f32) (main_arg5 : FVec F S32x128x8x64 .f32) (main_arg6 : FVec F S32x128x8 .f32) (main_arg7 : FVec F S32x128x8x64 .f32) : IVec S_ 1 :=
  let main_v0 : FVec F S32x128x512 .f32 := Host.absf main_arg0
  let main_cst : FVec F S_ .f32 := constant S_ .f32 0x7F800000#32
  let main_v1 : FVec F S32x128x512 .f32 := broadcastInDim S32x128x512 ![] bcast_S_S32x128x512 main_cst
  let main_v2 : IVec S32x128x512 1 := cmpf .olt main_v0 main_v1
  let main_c : IVec S_ 1 := constantI S_ 1 1#1
  let main_v3 : IVec S_ 1 := (fun x v => Host.reduce IntOp.andi x v reducesTo_S32x128x512_S_d0_1_2 h_S_) main_v2 main_c
  let main_v4 : FVec F S32x128x512 .f32 := Host.absf main_arg1
  let main_cst_0 : FVec F S_ .f32 := constant S_ .f32 0x7F800000#32
  let main_v5 : FVec F S32x128x512 .f32 := broadcastInDim S32x128x512 ![] bcast_S_S32x128x512 main_cst_0
  let main_v6 : IVec S32x128x512 1 := cmpf .olt main_v4 main_v5
  let main_c_1 : IVec S_ 1 := constantI S_ 1 1#1
  let main_v7 : IVec S_ 1 := (fun x v => Host.reduce IntOp.andi x v reducesTo_S32x128x512_S_d0_1_2 h_S_) main_v6 main_c_1
  let main_v8 : IVec S_ 1 := andi main_v3 main_v7
  let main_v9 : FVec F S32x128x512 .f32 := Host.absf main_arg2
  let main_cst_2 : FVec F S_ .f32 := constant S_ .f32 0x7F800000#32
  let main_v10 : FVec F S32x128x512 .f32 := broadcastInDim S32x128x512 ![] bcast_S_S32x128x512 main_cst_2
  let main_v11 : IVec S32x128x512 1 := cmpf .olt main_v9 main_v10
  let main_c_3 : IVec S_ 1 := constantI S_ 1 1#1
  let main_v12 : IVec S_ 1 := (fun x v => Host.reduce IntOp.andi x v reducesTo_S32x128x512_S_d0_1_2 h_S_) main_v11 main_c_3
  let main_v13 : IVec S_ 1 := andi main_v8 main_v12
  let main_v14 : FVec F S32x128x8x64 .f32 := Host.absf main_arg3
  let main_cst_4 : FVec F S_ .f32 := constant S_ .f32 0x7F800000#32
  let main_v15 : FVec F S32x128x8x64 .f32 := broadcastInDim S32x128x8x64 ![] bcast_S_S32x128x8x64 main_cst_4
  let main_v16 : IVec S32x128x8x64 1 := cmpf .olt main_v14 main_v15
  fn_part1 (F := F) main_arg4 main_arg5 main_arg6 main_arg7 main_v13 main_v16
-- ==== Kernel.lean ====
abbrev S32x128x512 : Shape := ⟨3, ![32, 128, 512]⟩
abbrev S32x128x8x64 : Shape := ⟨4, ![32, 128, 8, 64]⟩
abbrev S32x128x8 : Shape := ⟨3, ![32, 128, 8]⟩
abbrev S_ : Shape := ⟨0, ![]⟩
abbrev S32x256x8x64 : Shape := ⟨4, ![32, 256, 8, 64]⟩
abbrev S32x8x128x256 : Shape := ⟨4, ![32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x8x128 : Shape := ⟨3, ![32, 8, 128]⟩
abbrev S32x8x128x1 : Shape := ⟨4, ![32, 8, 128, 1]⟩
abbrev S32x8x64x128 : Shape := ⟨4, ![32, 8, 64, 128]⟩
abbrev S32x128x8x1 : Shape := ⟨4, ![32, 128, 8, 1]⟩
abbrev S32x128x128 : Shape := ⟨3, ![32, 128, 128]⟩
abbrev S4x128x512 : Shape := ⟨3, ![4, 128, 512]⟩
abbrev S4x128x128 : Shape := ⟨3, ![4, 128, 128]⟩
abbrev S8x128x128 : Shape := ⟨3, ![8, 128, 128]⟩
abbrev S128x128 : Shape := ⟨2, ![128, 128]⟩
abbrev S1x128x512 : Shape := ⟨3, ![1, 128, 512]⟩
abbrev S128x512 : Shape := ⟨2, ![128, 512]⟩
abbrev S1x128x128 : Shape := ⟨3, ![1, 128, 128]⟩

abbrev nBuf : Space → Nat
  | .hbm => 116
  | .vmem => 22
  | .smem => 0
  | _ => 0

abbrev bufTy : (tb : Table) → Fin (tcTables nBuf tb) → BufTy
  | .hbm, ⟨0, _⟩ => ⟨S32x128x512, .f32⟩
  | .hbm, ⟨1, _⟩ => ⟨S32x128x512, .f32⟩
  | .hbm, ⟨2, _⟩ => ⟨S32x128x512, .f32⟩
  | .hbm, ⟨3, _⟩ => ⟨S32x128x8x64, .f32⟩
  | .hbm, ⟨4, _⟩ => ⟨S32x128x8, .f32⟩
  | .hbm, ⟨5, _⟩ => ⟨S32x128x8x64, .f32⟩
  | .hbm, ⟨6, _⟩ => ⟨S32x128x8, .f32⟩
  | .hbm, ⟨7, _⟩ => ⟨S32x128x8x64, .f32⟩
  | .hbm, ⟨8, _⟩ => ⟨S32x128x512, .bf16⟩
  | .hbm, ⟨9, _⟩ => ⟨S32x128x512, .bf16⟩
  | .hbm, ⟨10, _⟩ => ⟨S_, .f32⟩
  | .hbm, ⟨11, _⟩ => ⟨S32x128x512, .f32⟩
  | .hbm, ⟨12, _⟩ => ⟨S32x128x512, .f32⟩
  | .hbm, ⟨13, _⟩ => ⟨S32x128x8x64, .f32⟩
  | .hbm, ⟨14, _⟩ => ⟨S32x128x8x64, .f32⟩
  | .hbm, ⟨15, _⟩ => ⟨S32x128x8x64, .f32⟩
  | .hbm, ⟨16, _⟩ => ⟨S_, .f32⟩
  | .hbm, ⟨17, _⟩ => ⟨S32x128x8x64, .f32⟩
  | .hbm, ⟨18, _⟩ => ⟨S32x256x8x64, .f32⟩
  | .hbm, ⟨19, _⟩ => ⟨S_, .f32⟩
  | .hbm, ⟨20, _⟩ => ⟨S32x128x8x64, .f32⟩
  | .hbm, ⟨21, _⟩ => ⟨S32x256x8x64, .f32⟩
  | .hbm, ⟨22, _⟩ => ⟨S32x8x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S128x256, .i1⟩
  | .hbm, ⟨44, _⟩ => ⟨S128x256, .i1⟩
  | .hbm, ⟨45, _⟩ => ⟨S_, .f32⟩
  | .hbm, ⟨46, _⟩ => ⟨S_, .f32⟩
  | .hbm, ⟨47, _⟩ => ⟨S32x8x128x256, .i1⟩
  | .hbm, ⟨48, _⟩ => ⟨S32x8x128x256, .f32⟩
  | .hbm, ⟨49, _⟩ => ⟨S32x8x128x256, .f32⟩
  | .hbm, ⟨50, _⟩ => ⟨S_, .f32⟩
  | .hbm, ⟨51, _⟩ => ⟨S32x8x128, .f32⟩
  | .hbm, ⟨52, _⟩ => ⟨S32x8x128x1, .f32⟩
  | .hbm, ⟨53, _⟩ => ⟨S32x8x128x256, .f32⟩
  | .hbm, ⟨54, _⟩ => ⟨S32x8x128x256, .f32⟩
  | .hbm, ⟨55, _⟩ => ⟨S32x8x128x256, .f32⟩
  | .hbm, ⟨56, _⟩ => ⟨S_, .f32⟩
  | .hbm, ⟨57, _⟩ => ⟨S32x8x128, .f32⟩
  | .hbm, ⟨58, _⟩ => ⟨S32x8x128x1, .f32⟩
  | .hbm, ⟨59, _⟩ => ⟨S32x8x128x256, .f32⟩
  | .hbm, ⟨60, _⟩ => ⟨S32x8x128x256, .f32⟩
  | .hbm, ⟨61, _⟩ => ⟨S32x8x64x128, .f32⟩
  | .hbm, ⟨62, _⟩ => ⟨S32x128x8x64, .f32⟩
  | .hbm, ⟨63, _⟩ => ⟨S32x8x128x1, .f32⟩
  | .hbm, ⟨64, _⟩ => ⟨S32x8x128x1, .f32⟩
  | .hbm, ⟨65, _⟩ => ⟨S32x8x128, .f32⟩
  | .hbm, ⟨66, _⟩ => ⟨S32x128x8, .f32⟩
  | .hbm, ⟨67, _⟩ => ⟨S32x128x8, .f32⟩
  | .hbm, ⟨68, _⟩ => ⟨S32x128x8, .f32⟩
  | .hbm, ⟨69, _⟩ => ⟨S32x128x8, .f32⟩
  | .hbm, ⟨70, _⟩ => ⟨S32x128x8, .f32⟩
  | .hbm, ⟨71, _⟩ => ⟨S32x128x8, .f32⟩
  | .hbm, ⟨72, _⟩ => ⟨S32x128x8, .f32⟩
  | .hbm, ⟨73, _⟩ => ⟨S32x128x8, .f32⟩
  | .hbm, ⟨74, _⟩ => ⟨S32x128x8, .f32⟩
  | .hbm, ⟨75, _⟩ => ⟨S32x128x8, .f32⟩
  | .hbm, ⟨76, _⟩ => ⟨S32x128x8, .f32⟩
  | .hbm, ⟨77, _⟩ => ⟨S32x128x8, .f32⟩
  | .hbm, ⟨78, _⟩ => ⟨S32x128x8, .f32⟩
  | .hbm, ⟨79, _⟩ => ⟨S32x128x8, .f32⟩
  | .hbm, ⟨80, _⟩ => ⟨S32x128x8x1, .f32⟩
  | .hbm, ⟨81, _⟩ => ⟨S32x128x8x1, .f32⟩
  | .hbm, ⟨82, _⟩ => ⟨S32x128x8x64, .f32⟩
  | .hbm, ⟨83, _⟩ => ⟨S32x128x8x64, .f32⟩
  | .hbm, ⟨84, _⟩ => ⟨S32x128x8x64, .f32⟩
  | .hbm, ⟨85, _⟩ => ⟨S32x128x8x64, .f32⟩
  | .hbm, ⟨86, _⟩ => ⟨S32x128x8x64, .f32⟩
  | .hbm, ⟨87, _⟩ => ⟨S_, .f32⟩
  | .hbm, ⟨88, _⟩ => ⟨S32x128x8x1, .f32⟩
  | .hbm, ⟨89, _⟩ => ⟨S32x128x8x1, .f32⟩
  | .hbm, ⟨90, _⟩ => ⟨S32x128x8x1, .f32⟩
  | .hbm, ⟨91, _⟩ => ⟨S32x128x8x64, .f32⟩
  | .hbm, ⟨92, _⟩ => ⟨S32x128x8x64, .f32⟩
  | .hbm, ⟨93, _⟩ => ⟨S32x128x8x64, .f32⟩
  | .hbm, ⟨94, _⟩ => ⟨S32x128x8x64, .f32⟩
  | .hbm, ⟨95, _⟩ => ⟨S_, .f32⟩
  | .hbm, ⟨96, _⟩ => ⟨S32x128x8, .f32⟩
  | .hbm, ⟨97, _⟩ => ⟨S_, .f32⟩
  | .hbm, ⟨98, _⟩ => ⟨S32x128x8x1, .f32⟩
  | .hbm, ⟨99, _⟩ => ⟨S32x128x8x1, .f32⟩
  | .hbm, ⟨100, _⟩ => ⟨S32x128x8x1, .f32⟩
  | .hbm, ⟨101, _⟩ => ⟨S32x128x8x64, .f32⟩
  | .hbm, ⟨102, _⟩ => ⟨S32x128x8x64, .f32⟩
  | .hbm, ⟨103, _⟩ => ⟨S32x128x512, .bf16⟩
  | .hbm, ⟨104, _⟩ => ⟨S32x128x512, .f32⟩
  | .hbm, ⟨105, _⟩ => ⟨S32x128x512, .bf16⟩
  | .hbm, ⟨106, _⟩ => ⟨S32x128x8, .f32⟩
  | .hbm, ⟨107, _⟩ => ⟨S_, .i32⟩
  | .hbm, ⟨108, _⟩ => ⟨S_, .f32⟩
  | .hbm, ⟨109, _⟩ => ⟨S32x128x128, .f32⟩
  | .hbm, ⟨110, _⟩ => ⟨S_, .i32⟩
  | .hbm, ⟨111, _⟩ => ⟨S_, .f32⟩
  | .hbm, ⟨112, _⟩ => ⟨S32x128x128, .f32⟩
  | .hbm, ⟨113, _⟩ => ⟨S32x128x512, .f32⟩
  | .hbm, ⟨114, _⟩ => ⟨S32x128x512, .f32⟩
  | .hbm, ⟨115, _⟩ => ⟨S32x128x512, .f32⟩
  | .local _ .vmem, ⟨0, _⟩ => ⟨S4x128x512, .bf16⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x512, .f32⟩
  | .local _ .vmem, ⟨13, _⟩ => ⟨S4x128x512, .f32⟩
  | .local _ .vmem, ⟨14, _⟩ => ⟨S4x128x512, .f32⟩
  | .local _ .vmem, ⟨15, _⟩ => ⟨S4x128x512, .f32⟩
  | .local _ .vmem, ⟨16, _⟩ => ⟨S4x128x512, .f32⟩
  | .local _ .vmem, ⟨17, _⟩ => ⟨S4x128x512, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .bf16⟩
  | .local _ .vmem, ⟨21, _⟩ => ⟨S8x128x128, .bf16⟩
  | _, _ => ⟨S32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_9 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_11 : Ref sig .tc := ⟨.hbm, 107, rfl⟩
abbrev main_call1_v0 : Ref sig .tc := ⟨.hbm, 108, rfl⟩
abbrev main_v83 : Ref sig .tc := ⟨.hbm, 109, rfl⟩
abbrev main_c_12 : Ref sig .tc := ⟨.hbm, 110, rfl⟩
abbrev main_call2_v0 : Ref sig .tc := ⟨.hbm, 111, rfl⟩
abbrev main_v84 : Ref sig .tc := ⟨.hbm, 112, rfl⟩
abbrev main_v85_0 : Ref sig .tc := ⟨.hbm, 113, rfl⟩
abbrev main_v85_1 : Ref sig .tc := ⟨.hbm, 114, rfl⟩
abbrev main_v85_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32x128x512 : Shape := ⟨3, ![32, 128, 512]⟩
abbrev S32x128x8x64 : Shape := ⟨4, ![32, 128, 8, 64]⟩
abbrev S32x128x8 : Shape := ⟨3, ![32, 128, 8]⟩
abbrev S_ : Shape := ⟨0, ![]⟩
abbrev S32x256x8x64 : Shape := ⟨4, ![32, 256, 8, 64]⟩
abbrev S32x8x128x256 : Shape := ⟨4, ![32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x8x128 : Shape := ⟨3, ![32, 8, 128]⟩
abbrev S32x8x128x1 : Shape := ⟨4, ![32, 8, 128, 1]⟩
abbrev S32x8x64x128 : Shape := ⟨4, ![32, 8, 64, 128]⟩
abbrev S1x32x128x8 : Shape := ⟨4, ![1, 32, 128, 8]⟩
abbrev S3x32x128x8 : Shape := ⟨4, ![3, 32, 128, 8]⟩
abbrev S3x32x128x8x1 : Shape := ⟨5, ![3, 32, 128, 8, 1]⟩
abbrev S1x32x128x8x64 : Shape := ⟨5, ![1, 32, 128, 8, 64]⟩
abbrev S3x32x128x8x64 : Shape := ⟨5, ![3, 32, 128, 8, 64]⟩
abbrev S32x8x64x256 : Shape := ⟨4, ![32, 8, 64, 256]⟩
abbrev S32x8x256x64 : Shape := ⟨4, ![32, 8, 256, 64]⟩
abbrev S32x8x128x64 : Shape := ⟨4, ![32, 8, 128, 64]⟩

abbrev nBuf : Space → Nat
  | .hbm => 222
  | .vmem => 0
  | .smem => 0
  | _ => 0

abbrev hbmTy0_0 (i : Nat) : BufTy := match i % 128 with
  | 0 => ⟨S32x128x512, .f32⟩
  | 1 => ⟨S32x128x512, .f32⟩
  | 2 => ⟨S32x128x512, .f32⟩
  | 3 => ⟨S32x128x8x64, .f32⟩
  | 4 => ⟨S32x128x8, .f32⟩
  | 5 => ⟨S32x128x8x64, .f32⟩
  | 6 => ⟨S32x128x8, .f32⟩
  | 7 => ⟨S32x128x8x64, .f32⟩
  | 8 => ⟨S_, .f32⟩
  | 9 => ⟨S32x128x512, .f32⟩
  | 10 => ⟨S32x128x512, .f32⟩
  | 11 => ⟨S32x128x8x64, .f32⟩
  | 12 => ⟨S32x128x8x64, .f32⟩
  | 13 => ⟨S32x128x8x64, .f32⟩
  | 14 => ⟨S_, .f32⟩
  | 15 => ⟨S32x128x8x64, .f32⟩
  | 16 => ⟨S32x256x8x64, .f32⟩
  | 17 => ⟨S_, .f32⟩
  | 18 => ⟨S32x128x8x64, .f32⟩
  | 19 => ⟨S_, .f32⟩
  | 20 => ⟨S32x128x8x64, .f32⟩
  | 21 => ⟨S32x256x8x64, .f32⟩
  | 22 => ⟨S_, .f32⟩
  | 23 => ⟨S32x128x8x64, .f32⟩
  | 24 => ⟨S32x8x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S1x256, .i32⟩
  | 31 => ⟨S1x256, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S_, .i32⟩
  | 43 => ⟨S1x256, .i32⟩
  | 44 => ⟨S1x256, .i1⟩
  | 45 => ⟨S128x256, .i1⟩
  | 46 => ⟨S128x256, .i1⟩
  | 47 => ⟨S_, .f32⟩
  | 48 => ⟨S_, .f32⟩
  | 49 => ⟨S32x8x128x256, .i1⟩
  | 50 => ⟨S32x8x128x256, .f32⟩
  | 51 => ⟨S32x8x128x256, .f32⟩
  | 52 => ⟨S_, .f32⟩
  | 53 => ⟨S32x8x128x256, .f32⟩
  | 54 => ⟨S_, .f32⟩
  | 55 => ⟨S32x8x128, .f32⟩
  | 56 => ⟨S32x8x128x1, .f32⟩
  | 57 => ⟨S32x8x128x256, .f32⟩
  | 58 => ⟨S32x8x128x256, .i1⟩
  | 59 => ⟨S32x8x128x256, .f32⟩
  | 60 => ⟨S_, .f32⟩
  | 61 => ⟨S32x8x128, .f32⟩
  | 62 => ⟨S32x8x128x1, .f32⟩
  | 63 => ⟨S32x8x128x256, .f32⟩
  | 64 => ⟨S32x8x128x256, .f32⟩
  | 65 => ⟨S32x8x128x256, .f32⟩
  | 66 => ⟨S_, .f32⟩
  | 67 => ⟨S32x8x128, .f32⟩
  | 68 => ⟨S32x8x128x1, .f32⟩
  | 69 => ⟨S32x8x128x256, .f32⟩
  | 70 => ⟨S32x8x128x256, .f32⟩
  | 71 => ⟨S32x8x128x1, .f32⟩
  | 72 => ⟨S_, .f32⟩
  | 73 => ⟨S32x8x128x1, .f32⟩
  | 74 => ⟨S32x8x128x1, .f32⟩
  | 75 => ⟨S32x8x64x128, .f32⟩
  | 76 => ⟨S32x128x8x64, .f32⟩
  | 77 => ⟨S32x8x128x1, .f32⟩
  | 78 => ⟨S32x8x128x1, .f32⟩
  | 79 => ⟨S32x8x128, .f32⟩
  | 80 => ⟨S32x128x8, .f32⟩
  | 81 => ⟨S1x32x128x8, .f32⟩
  | 82 => ⟨S1x32x128x8, .f32⟩
  | 83 => ⟨S1x32x128x8, .f32⟩
  | 84 => ⟨S3x32x128x8, .f32⟩
  | 85 => ⟨S_, .f32⟩
  | 86 => ⟨S32x128x8, .f32⟩
  | 87 => ⟨S_, .f32⟩
  | 88 => ⟨S32x128x8, .f32⟩
  | 89 => ⟨S_, .f32⟩
  | 90 => ⟨S32x128x8, .f32⟩
  | 91 => ⟨S1x32x128x8, .f32⟩
  | 92 => ⟨S3x32x128x8, .f32⟩
  | 93 => ⟨S3x32x128x8, .i1⟩
  | 94 => ⟨S3x32x128x8, .f32⟩
  | 95 => ⟨S_, .f32⟩
  | 96 => ⟨S32x128x8, .f32⟩
  | 97 => ⟨S_, .f32⟩
  | 98 => ⟨S32x128x8, .f32⟩
  | 99 => ⟨S32x128x8, .f32⟩
  | 100 => ⟨S_, .f32⟩
  | 101 => ⟨S32x128x8, .f32⟩
  | 102 => ⟨S32x128x8, .i1⟩
  | 103 => ⟨S_, .f32⟩
  | 104 => ⟨S32x128x8, .f32⟩
  | 105 => ⟨S32x128x8, .i1⟩
  | 106 => ⟨S_, .f32⟩
  | 107 => ⟨S32x128x8, .f32⟩
  | 108 => ⟨S_, .f32⟩
  | 109 => ⟨S32x128x8, .f32⟩
  | 110 => ⟨S_, .f32⟩
  | 111 => ⟨S32x128x8, .f32⟩
  | 112 => ⟨S32x128x8, .f32⟩
  | 113 => ⟨S32x128x8, .f32⟩
  | 114 => ⟨S1x32x128x8, .f32⟩
  | 115 => ⟨S3x32x128x8, .f32⟩
  | 116 => ⟨S3x32x128x8, .f32⟩
  | 117 => ⟨S3x32x128x8, .f32⟩
  | 118 => ⟨S_, .f32⟩
  | 119 => ⟨S32x128x8, .f32⟩
  | 120 => ⟨S1x32x128x8, .f32⟩
  | 121 => ⟨S3x32x128x8, .f32⟩
  | 122 => ⟨S3x32x128x8, .f32⟩
  | 123 => ⟨S1x32x128x8, .f32⟩
  | 124 => ⟨S_, .f32⟩
  | 125 => ⟨S1x32x128x8, .f32⟩
  | 126 => ⟨S1x32x128x8, .f32⟩
  | 127 => ⟨S3x32x128x8x1, .f32⟩
  | _ => ⟨S32x128x512, .f32⟩

abbrev hbmTy0_1 (i : Nat) : BufTy := match i % 128 with
  | 0 => ⟨S1x32x128x8x64, .f32⟩
  | 1 => ⟨S1x32x128x8x64, .f32⟩
  | 2 => ⟨S1x32x128x8x64, .f32⟩
  | 3 => ⟨S3x32x128x8x64, .f32⟩
  | 4 => ⟨S_, .f32⟩
  | 5 => ⟨S32x128x8x64, .f32⟩
  | 6 => ⟨S_, .f32⟩
  | 7 => ⟨S32x128x8x64, .f32⟩
  | 8 => ⟨S3x32x128x8x64, .f32⟩
  | 9 => ⟨S3x32x128x8x64, .f32⟩
  | 10 => ⟨S_, .f32⟩
  | 11 => ⟨S32x128x8x64, .f32⟩
  | 12 => ⟨S3x32x128x8x64, .f32⟩
  | 13 => ⟨S3x32x128x8x64, .f32⟩
  | 14 => ⟨S3x32x128x8x64, .f32⟩
  | 15 => ⟨S3x32x128x8x64, .f32⟩
  | 16 => ⟨S_, .f32⟩
  | 17 => ⟨S3x32x128x8, .f32⟩
  | 18 => ⟨S3x32x128x8x1, .f32⟩
  | 19 => ⟨S1x32x128x8x64, .f32⟩
  | 20 => ⟨S32x128x8x64, .f32⟩
  | 21 => ⟨S1x32x128x8x64, .f32⟩
  | 22 => ⟨S32x128x8x64, .f32⟩
  | 23 => ⟨S1x32x128x8x64, .f32⟩
  | 24 => ⟨S32x128x8x64, .f32⟩
  | 25 => ⟨S_, .f32⟩
  | 26 => ⟨S3x32x128x8, .f32⟩
  | 27 => ⟨S3x32x128x8, .f32⟩
  | 28 => ⟨S3x32x128x8, .f32⟩
  | 29 => ⟨S3x32x128x8, .f32⟩
  | 30 => ⟨S_, .f32⟩
  | 31 => ⟨S32x128x8, .f32⟩
  | 32 => ⟨S1x32x128x8, .f32⟩
  | 33 => ⟨S1x32x128x8, .f32⟩
  | 34 => ⟨S3x32x128x8, .f32⟩
  | 35 => ⟨S3x32x128x8, .f32⟩
  | 36 => ⟨S_, .f32⟩
  | 37 => ⟨S32x128x8, .f32⟩
  | 38 => ⟨S3x32x128x8, .f32⟩
  | 39 => ⟨S3x32x128x8, .f32⟩
  | 40 => ⟨S3x32x128x8, .f32⟩
  | 41 => ⟨S1x32x128x8, .f32⟩
  | 42 => ⟨S32x128x8, .f32⟩
  | 43 => ⟨S1x32x128x8, .f32⟩
  | 44 => ⟨S32x128x8, .f32⟩
  | 45 => ⟨S1x32x128x8, .f32⟩
  | 46 => ⟨S32x128x8, .f32⟩
  | 47 => ⟨S32x8x128, .f32⟩
  | 48 => ⟨S32x8x128x1, .f32⟩
  | 49 => ⟨S32x8x128x1, .f32⟩
  | 50 => ⟨S32x8x64x128, .f32⟩
  | 51 => ⟨S32x8x128x256, .f32⟩
  | 52 => ⟨S32x8x64x256, .f32⟩
  | 53 => ⟨S32x256x8x64, .f32⟩
  | 54 => ⟨S32x8x128x256, .f32⟩
  | 55 => ⟨S32x8x128x256, .f32⟩
  | 56 => ⟨S32x8x128x256, .f32⟩
  | 57 => ⟨S_, .f32⟩
  | 58 => ⟨S32x8x128, .f32⟩
  | 59 => ⟨S32x8x128x1, .f32⟩
  | 60 => ⟨S32x8x128x1, .f32⟩
  | 61 => ⟨S32x8x128x1, .f32⟩
  | 62 => ⟨S32x8x128x256, .f32⟩
  | 63 => ⟨S32x8x128x256, .f32⟩
  | 64 => ⟨S_, .f32⟩
  | 65 => ⟨S32x8x128, .f32⟩
  | 66 => ⟨S32x8x128x256, .f32⟩
  | 67 => ⟨S32x8x128x256, .f32⟩
  | 68 => ⟨S32x8x128x256, .f32⟩
  | 69 => ⟨S32x8x128x256, .f32⟩
  | 70 => ⟨S_, .f32⟩
  | 71 => ⟨S32x8x128, .f32⟩
  | 72 => ⟨S32x8x128x1, .f32⟩
  | 73 => ⟨S32x8x128x1, .f32⟩
  | 74 => ⟨S_, .f32⟩
  | 75 => ⟨S32x8x128, .f32⟩
  | 76 => ⟨S32x8x128, .f32⟩
  | 77 => ⟨S32x8x128x256, .f32⟩
  | 78 => ⟨S32x8x128x256, .f32⟩
  | 79 => ⟨S32x8x128x256, .f32⟩
  | 80 => ⟨S_, .f32⟩
  | 81 => ⟨S32x8x128x256, .f32⟩
  | 82 => ⟨S32x8x128x256, .f32⟩
  | 83 => ⟨S32x8x256x64, .f32⟩
  | 84 => ⟨S32x256x8x64, .f32⟩
  | 85 => ⟨S32x8x128x64, .f32⟩
  | 86 => ⟨S32x128x8x64, .f32⟩
  | 87 => ⟨S32x128x8x64, .f32⟩
  | 88 => ⟨S32x128x8x64, .f32⟩
  | 89 => ⟨S32x128x8x64, .f32⟩
  | 90 => ⟨S32x128x8x64, .f32⟩
  | 91 => ⟨S32x128x512, .f32⟩
  | 92 => ⟨S32x128x512, .f32⟩
  | 93 => ⟨S32x128x512, .f32⟩
  | _ => ⟨S32x128x512, .f32⟩

abbrev hbmTy (i : Nat) : BufTy := match i / 128 with
  | 0 => hbmTy0_0 i
  | 1 => hbmTy0_1 i
  | _ => ⟨S32x128x512, .f32⟩

abbrev bufTy : (tb : Table) → Fin (tcTables nBuf tb) → BufTy
  | .hbm, ⟨i, _⟩ => hbmTy i
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_call0_v0 : Ref sig .tc := ⟨.hbm, 48, rfl⟩
abbrev main_v30_1 : Ref sig .tc := ⟨.hbm, 49, rfl⟩
abbrev main_call0_v2 : Ref sig .tc := ⟨.hbm, 50, rfl⟩
abbrev main_v30_0 : Ref sig .tc := ⟨.hbm, 51, rfl⟩
abbrev main_call0_cst : Ref sig .tc := ⟨.hbm, 52, rfl⟩
abbrev main_v30_2 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_cst_18 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_cst_21 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_24 : Ref sig .tc := ⟨.hbm, 132, rfl⟩
abbrev main_v93 : Ref sig .tc := ⟨.hbm, 133, rfl⟩
abbrev main_cst_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_26 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_28 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_29 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_30 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_31 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_32 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_33 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_34 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_call1_cst : Ref sig .tc := ⟨.hbm, 208, rfl⟩
abbrev main_call1_v0 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S1024x4096 : Shape := ⟨2, ![1024, 4096]⟩
abbrev S2x6x1024 : Shape := ⟨3, ![2, 6, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S2x8x1024 : Shape := ⟨3, ![2, 8, 1024]⟩
abbrev S8x1024 : Shape := ⟨2, ![8, 1024]⟩
abbrev S1x512x1024 : Shape := ⟨3, ![1, 512, 1024]⟩
abbrev S1x512x4096 : Shape := ⟨3, ![1, 512, 4096]⟩
abbrev S1x6x1024 : Shape := ⟨3, ![1, 6, 1024]⟩
abbrev S1x8x1024 : Shape := ⟨3, ![1, 8, 1024]⟩
abbrev S2 : Shape := ⟨1, ![2]⟩
abbrev S1 : Shape := ⟨1, ![1]⟩
abbrev S_ : Shape := ⟨0, ![]⟩
abbrev S512x1024 : Shape := ⟨2, ![512, 1024]⟩
abbrev S1024x1024 : Shape := ⟨2, ![1024, 1024]⟩
abbrev S1x1024x1024 : Shape := ⟨3, ![1, 1024, 1024]⟩
abbrev S512 : Shape := ⟨1, ![512]⟩
abbrev S512x1 : Shape := ⟨2, ![512, 1]⟩
abbrev S1x1x1024 : Shape := ⟨3, ![1, 1, 1024]⟩
abbrev S1024 : Shape := ⟨1, ![1024]⟩

abbrev nBuf : Space → Nat
  | .hbm => 16
  | .vmem => 20
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x4096, .bf16⟩
  | .hbm, ⟨2, _⟩ => ⟨S4096x1024, .f32⟩
  | .hbm, ⟨3, _⟩ => ⟨S1024x4096, .f32⟩
  | .hbm, ⟨4, _⟩ => ⟨S2x2048x1024, .f32⟩
  | .hbm, ⟨5, _⟩ => ⟨S2x2048x1024, .f32⟩
  | .hbm, ⟨6, _⟩ => ⟨S2x6x1024, .f32⟩
  | .hbm, ⟨7, _⟩ => ⟨S1x1024, .f32⟩
  | .hbm, ⟨8, _⟩ => ⟨S1024x4x1024, .f32⟩
  | .hbm, ⟨9, _⟩ => ⟨S4x1024x1024, .f32⟩
  | .hbm, ⟨10, _⟩ => ⟨S4096x1024, .bf16⟩
  | .hbm, ⟨11, _⟩ => ⟨S4x1024x1024, .bf16⟩
  | .hbm, ⟨12, _⟩ => ⟨S2x2048x4096, .bf16⟩
  | .hbm, ⟨13, _⟩ => ⟨S2x2048x1024, .f32⟩
  | .hbm, ⟨14, _⟩ => ⟨S2x8x1024, .f32⟩
  | .hbm, ⟨15, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x512x4096, .bf16⟩
  | .local _ .vmem, ⟨12, _⟩ => ⟨S1x512x4096, .bf16⟩
  | .local _ .vmem, ⟨13, _⟩ => ⟨S1x512x1024, .f32⟩
  | .local _ .vmem, ⟨14, _⟩ => ⟨S1x512x1024, .f32⟩
  | .local _ .vmem, ⟨15, _⟩ => ⟨S1x8x1024, .f32⟩
  | .local _ .vmem, ⟨16, _⟩ => ⟨S1x8x1024, .f32⟩
  | .local _ .vmem, ⟨17, _⟩ => ⟨S8x1024, .f32⟩
  | .local _ .vmem, ⟨18, _⟩ => ⟨S4096x1024, .bf16⟩
  | .local _ .vmem, ⟨19, _⟩ => ⟨S4x1024x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S2x2048x1024 : Shape := ⟨3, ![2, 2048, 1024]⟩
abbrev S2x2048x4096 : Shape := ⟨3, ![2, 2048, 4096]⟩
abbrev S4096x1024 : Shape := ⟨2, ![4096, 1024]⟩
abbrev S1024x4096 : Shape := ⟨2, ![1024, 4096]⟩
abbrev S2x6x1024 : Shape := ⟨3, ![2, 6, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩
abbrev S2x8x1024 : Shape := ⟨3, ![2, 8, 1024]⟩
abbrev S7x1024 : Shape := ⟨2, ![7, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x4096, .bf16⟩
  | .hbm, ⟨2, _⟩ => ⟨S4096x1024, .f32⟩
  | .hbm, ⟨3, _⟩ => ⟨S1024x4096, .f32⟩
  | .hbm, ⟨4, _⟩ => ⟨S2x2048x1024, .f32⟩
  | .hbm, ⟨5, _⟩ => ⟨S2x2048x1024, .f32⟩
  | .hbm, ⟨6, _⟩ => ⟨S2x6x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S2x2048x4096, .f32⟩
  | .hbm, ⟨11, _⟩ => ⟨S_, .f32⟩
  | .hbm, ⟨12, _⟩ => ⟨S2x2048x4096, .f32⟩
  | .hbm, ⟨13, _⟩ => ⟨S2x2048x4096, .f32⟩
  | .hbm, ⟨14, _⟩ => ⟨S_, .f32⟩
  | .hbm, ⟨15, _⟩ => ⟨S2x2048x4096, .f32⟩
  | .hbm, ⟨16, _⟩ => ⟨S2x2048x4096, .i1⟩
  | .hbm, ⟨17, _⟩ => ⟨S_, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x2048x4096, .f32⟩
  | .hbm, ⟨22, _⟩ => ⟨S2x2048x4096, .f32⟩
  | .hbm, ⟨23, _⟩ => ⟨S2x2048x1024, .f32⟩
  | .hbm, ⟨24, _⟩ => ⟨S2x2048x1024, .f32⟩
  | .hbm, ⟨25, _⟩ => ⟨S2x2048x4096, .f32⟩
  | .hbm, ⟨26, _⟩ => ⟨S2x2048x4096, .f32⟩
  | .hbm, ⟨27, _⟩ => ⟨S_, .f32⟩
  | .hbm, ⟨28, _⟩ => ⟨S2x2048x4096, .f32⟩
  | .hbm, ⟨29, _⟩ => ⟨S2x2048x4096, .f32⟩
  | .hbm, ⟨30, _⟩ => ⟨S2x2048x1024, .f32⟩
  | .hbm, ⟨31, _⟩ => ⟨S_, .f32⟩
  | .hbm, ⟨32, _⟩ => ⟨S2x2048, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1024, .f32⟩
  | .hbm, ⟨46, _⟩ => ⟨S2x2048x1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x4096, .f32⟩
  | .hbm, ⟨58, _⟩ => ⟨S2x2048x1024, .f32⟩
  | .hbm, ⟨59, _⟩ => ⟨S_, .f32⟩
  | .hbm, ⟨60, _⟩ => ⟨S2x1024, .f32⟩
  | .hbm, ⟨61, _⟩ => ⟨S2x1x1024, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x1x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S2x2048x1024, .f32⟩
  | .hbm, ⟨78, _⟩ => ⟨S_, .f32⟩
  | .hbm, ⟨79, _⟩ => ⟨S2x2048, .f32⟩
  | .hbm, ⟨80, _⟩ => ⟨S2x2048x1, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1, .f32⟩
  | .hbm, ⟨85, _⟩ => ⟨S_, .f32⟩
  | .hbm, ⟨86, _⟩ => ⟨S2x2048x1, .f32⟩
  | .hbm, ⟨87, _⟩ => ⟨S2x2048x1, .f32⟩
  | .hbm, ⟨88, _⟩ => ⟨S_, .f32⟩
  | .hbm, ⟨89, _⟩ => ⟨S2x2048, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S2x2048x1024, .f32⟩
  | .hbm, ⟨95, _⟩ => ⟨S2x2048x4096, .bf16⟩
  | .hbm, ⟨96, _⟩ => ⟨S_, .f32⟩
  | .hbm, ⟨97, _⟩ => ⟨S2x6x1024, .f32⟩
  | .hbm, ⟨98, _⟩ => ⟨S2x8x1024, .f32⟩
  | .hbm, ⟨99, _⟩ => ⟨S_, .f32⟩
  | .hbm, ⟨100, _⟩ => ⟨S7x1024, .f32⟩
  | .hbm, ⟨101, _⟩ => ⟨S8x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S2x2048x1024 : Shape := ⟨3, ![2, 2048, 1024]⟩
abbrev S2x6x1024 : Shape := ⟨3, ![2, 6, 1024]⟩
abbrev S1x1024 : Shape := ⟨2, ![1, 1024]⟩
abbrev S2x2048x4096 : Shape := ⟨3, ![2, 2048, 4096]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 33
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S2x2048x4096, .bf16⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .bf16⟩
  | .hbm, ⟨30, _⟩ => ⟨S4096x1024, .bf16⟩
  | .hbm, ⟨31, _⟩ => ⟨S4096x4096, .bf16⟩
  | .hbm, ⟨32, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2048x1024 : Shape := ⟨3, ![2, 2048, 1024]⟩
abbrev S2x6x1024 : Shape := ⟨3, ![2, 6, 1024]⟩
abbrev S1x1024 : Shape := ⟨2, ![1, 1024]⟩
abbrev S2x2048x4096 : Shape := ⟨3, ![2, 2048, 4096]⟩
abbrev S2x1x1024 : Shape := ⟨3, ![2, 1, 1024]⟩
abbrev S_ : Shape := ⟨0, ![]⟩
abbrev S1024x4096 : Shape := ⟨2, ![1024, 4096]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S2x2048x4096, .bf16⟩
  | .hbm, ⟨4, _⟩ => ⟨S2x1x1024, .f32⟩
  | .hbm, ⟨5, _⟩ => ⟨S2x1x1024, .f32⟩
  | .hbm, ⟨6, _⟩ => ⟨S_, .f32⟩
  | .hbm, ⟨7, _⟩ => ⟨S1024x4096, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x4096, .f32⟩
  | .hbm, ⟨32, _⟩ => ⟨S2x2048x4096, .f32⟩
  | .hbm, ⟨33, _⟩ => ⟨S4096x1024, .f32⟩
  | .hbm, ⟨34, _⟩ => ⟨S1024x4096, .f32⟩
  | .hbm, ⟨35, _⟩ => ⟨S1024x4x1024, .f32⟩
  | .hbm, ⟨36, _⟩ => ⟨S4x1024x1024, .f32⟩
  | .hbm, ⟨37, _⟩ => ⟨S4x1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel5.lean ====
abbrev S2x2048x512 : Shape := ⟨3, ![2, 2048, 512]⟩
abbrev S1x512 : Shape := ⟨2, ![1, 512]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 42
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S2x2048x1024, .bf16⟩
  | .hbm, ⟨5, _⟩ => ⟨S2x2048x512, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x512, .f32⟩
  | .hbm, ⟨17, _⟩ => ⟨S2x2048x512, .f32⟩
  | .hbm, ⟨18, _⟩ => ⟨S1x1x512, .f32⟩
  | .hbm, ⟨19, _⟩ => ⟨S2x2048x512, .f32⟩
  | .hbm, ⟨20, _⟩ => ⟨S2x2048x512, .f32⟩
  | .hbm, ⟨21, _⟩ => ⟨S2x2048x512, .f32⟩
  | .hbm, ⟨22, _⟩ => ⟨S_, .f32⟩
  | .hbm, ⟨23, _⟩ => ⟨S2x2048, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S2x2048x1, .f32⟩
  | .hbm, ⟨30, _⟩ => ⟨S2x2048x1, .f32⟩
  | .hbm, ⟨31, _⟩ => ⟨S2x2048x1, .f32⟩
  | .hbm, ⟨32, _⟩ => ⟨S2x2048x512, .f32⟩
  | .hbm, ⟨33, _⟩ => ⟨S2x2048x512, .f32⟩
  | .hbm, ⟨34, _⟩ => ⟨S1x1x512, .f32⟩
  | .hbm, ⟨35, _⟩ => ⟨S2x2048x512, .f32⟩
  | .hbm, ⟨36, _⟩ => ⟨S2x2048x512, .f32⟩
  | .hbm, ⟨37, _⟩ => ⟨S2x2048x1024, .f32⟩
  | .hbm, ⟨38, _⟩ => ⟨S2x2048x1024, .bf16⟩
  | .hbm, ⟨39, _⟩ => ⟨S4096x1024, .bf16⟩
  | .hbm, ⟨40, _⟩ => ⟨S4096x1024, .bf16⟩
  | .hbm, ⟨41, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S2x2048x512 : Shape := ⟨3, ![2, 2048, 512]⟩
abbrev S1x512 : Shape := ⟨2, ![1, 512]⟩
abbrev S2x2048x1024 : Shape := ⟨3, ![2, 2048, 1024]⟩
abbrev S_ : Shape := ⟨0, ![]⟩
abbrev S1024x1024 : Shape := ⟨2, ![1024, 1024]⟩
abbrev S2x2048 : Shape := ⟨2, ![2, 2048]⟩
abbrev S2x2048x1 : Shape := ⟨3, ![2, 2048, 1]⟩
abbrev S1x1x512 : Shape := ⟨3, ![1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S2x2048x1024, .bf16⟩
  | .hbm, ⟨5, _⟩ => ⟨S_, .f32⟩
  | .hbm, ⟨6, _⟩ => ⟨S1024x1024, .f32⟩
  | .hbm, ⟨7, _⟩ => ⟨S2x2048x512, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x512, .f32⟩
  | .hbm, ⟨19, _⟩ => ⟨S2x2048x512, .f32⟩
  | .hbm, ⟨20, _⟩ => ⟨S1x1x512, .f32⟩
  | .hbm, ⟨21, _⟩ => ⟨S2x2048x512, .f32⟩
  | .hbm, ⟨22, _⟩ => ⟨S2x2048x512, .f32⟩
  | .hbm, ⟨23, _⟩ => ⟨S2x2048x512, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x512, .f32⟩
  | .hbm, ⟨35, _⟩ => ⟨S2x2048x512, .f32⟩
  | .hbm, ⟨36, _⟩ => ⟨S1x1x512, .f32⟩
  | .hbm, ⟨37, _⟩ => ⟨S2x2048x512, .f32⟩
  | .hbm, ⟨38, _⟩ => ⟨S2x2048x512, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S1024x1024, .f32⟩
  | .hbm, ⟨43, _⟩ => ⟨S1024x1024, .f32⟩
  | .hbm, ⟨44, _⟩ => ⟨S1024x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x6x1024 : Shape := ⟨3, ![2, 6, 1024]⟩
abbrev S1x1024 : Shape := ⟨2, ![1, 1024]⟩
abbrev S2x2048x2304 : Shape := ⟨3, ![2, 2048, 2304]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩
abbrev S4096x2304 : Shape := ⟨2, ![4096, 2304]⟩
abbrev S4x1024x576 : Shape := ⟨3, ![4, 1024, 576]⟩
abbrev S1024x1024 : Shape := ⟨2, ![1024, 1024]⟩
abbrev S1024x2304 : Shape := ⟨2, ![1024, 2304]⟩
abbrev S1024x576 : Shape := ⟨2, ![1024, 576]⟩
abbrev S1x1024x576 : Shape := ⟨3, ![1, 1024, 576]⟩

abbrev nBuf : Space → Nat
  | .hbm => 33
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S2x2048x2304, .bf16⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .bf16⟩
  | .hbm, ⟨30, _⟩ => ⟨S4096x1024, .bf16⟩
  | .hbm, ⟨31, _⟩ => ⟨S4096x2304, .bf16⟩
  | .hbm, ⟨32, _⟩ => ⟨S4x1024x576, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S4x1024x576, .bf16⟩
  | .local _ .vmem, ⟨5, _⟩ => ⟨S1024x2304, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S2x2048x1024 : Shape := ⟨3, ![2, 2048, 1024]⟩
abbrev S2x6x1024 : Shape := ⟨3, ![2, 6, 1024]⟩
abbrev S1x1024 : Shape := ⟨2, ![1, 1024]⟩
abbrev S2x2048x2304 : Shape := ⟨3, ![2, 2048, 2304]⟩
abbrev S2x1x1024 : Shape := ⟨3, ![2, 1, 1024]⟩
abbrev S_ : Shape := ⟨0, ![]⟩
abbrev S1024x2304 : Shape := ⟨2, ![1024, 2304]⟩
abbrev S2x2048 : Shape := ⟨2, ![2, 2048]⟩
abbrev S2x2048x1 : Shape := ⟨3, ![2, 2048, 1]⟩
abbrev S1x1x1024 : Shape := ⟨3, ![1, 1, 1024]⟩
abbrev S2304x1024 : Shape := ⟨2, ![2304, 1024]⟩
abbrev S1024x4x576 : Shape := ⟨3, ![1024, 4, 576]⟩
abbrev S4x1024x576 : Shape := ⟨3, ![4, 1024, 576]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S2x2048x2304, .bf16⟩
  | .hbm, ⟨4, _⟩ => ⟨S2x1x1024, .f32⟩
  | .hbm, ⟨5, _⟩ => ⟨S2x1x1024, .f32⟩
  | .hbm, ⟨6, _⟩ => ⟨S_, .f32⟩
  | .hbm, ⟨7, _⟩ => ⟨S1024x2304, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x2304, .f32⟩
  | .hbm, ⟨32, _⟩ => ⟨S2x2048x2304, .f32⟩
  | .hbm, ⟨33, _⟩ => ⟨S2304x1024, .f32⟩
  | .hbm, ⟨34, _⟩ => ⟨S1024x2304, .f32⟩
  | .hbm, ⟨35, _⟩ => ⟨S1024x4x576, .f32⟩
  | .hbm, ⟨36, _⟩ => ⟨S4x1024x576, .f32⟩
  | .hbm, ⟨37, _⟩ => ⟨S4x1024x576, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x6x1024 : Shape := ⟨3, ![2, 6, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2x2048x4096 : Shape := ⟨3, ![2, 2048, 4096]⟩
abbrev S1x512x1024 : Shape := ⟨3, ![1, 512, 1024]⟩
abbrev S1x6x1024 : Shape := ⟨3, ![1, 6, 1024]⟩
abbrev S1x512x4096 : Shape := ⟨3, ![1, 512, 4096]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x1024x1024 : Shape := ⟨3, ![1, 1024, 1024]⟩
abbrev S1024x1024 : Shape := ⟨2, ![1024, 1024]⟩

abbrev nBuf : Space → Nat
  | .hbm => 10
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S2x2048x1024, .bf16⟩
  | .hbm, ⟨8, _⟩ => ⟨S2x2048x4096, .bf16⟩
  | .hbm, ⟨9, _⟩ => ⟨S2x2048x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S4x1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x512x4096, .bf16⟩
  | .local _ .vmem, ⟨11, _⟩ => ⟨S1x512x4096, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x2048x1024 : Shape := ⟨3, ![2, 2048, 1024]⟩
abbrev S2x6x1024 : Shape := ⟨3, ![2, 6, 1024]⟩
abbrev S1x1024 : Shape := ⟨2, ![1, 1024]⟩
abbrev S1024x4096 : Shape := ⟨2, ![1024, 4096]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x4096 : Shape := ⟨3, ![2, 2048, 4096]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x6x1024, .f32⟩
  | .hbm, ⟨2, _⟩ => ⟨S1x1024, .f32⟩
  | .hbm, ⟨3, _⟩ => ⟨S1024x4096, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x4096, .f32⟩
  | .hbm, ⟨30, _⟩ => ⟨S2x2048x1024, .bf16⟩
  | .hbm, ⟨31, _⟩ => ⟨S2x2048x4096, .bf16⟩
  | .hbm, ⟨32, _⟩ => ⟨S_, .f32⟩
  | .hbm, ⟨33, _⟩ => ⟨S2x2048x4096, .f32⟩
  | .hbm, ⟨34, _⟩ => ⟨S2x2048x4096, .f32⟩
  | .hbm, ⟨35, _⟩ => ⟨S2x2048x4096, .f32⟩
  | .hbm, ⟨36, _⟩ => ⟨S2x2048x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel8.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S2x6x1024 : Shape := ⟨3, ![2, 6, 1024]⟩
abbrev S1x1024 : Shape := ⟨2, ![1, 1024]⟩
abbrev S2x8x1024 : Shape := ⟨3, ![2, 8, 1024]⟩
abbrev S8x1024 : Shape := ⟨2, ![8, 1024]⟩
abbrev S1x512x4096 : Shape := ⟨3, ![1, 512, 4096]⟩
abbrev S1x512x1024 : Shape := ⟨3, ![1, 512, 1024]⟩
abbrev S1x6x1024 : Shape := ⟨3, ![1, 6, 1024]⟩
abbrev S1x8x1024 : Shape := ⟨3, ![1, 8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024 : Shape := ⟨1, ![1024]⟩
abbrev S1 : Shape := ⟨1, ![1]⟩
abbrev S1x1x1 : Shape := ⟨3, ![1, 1, 1]⟩
abbrev S1x1 : Shape := ⟨2, ![1, 1]⟩

abbrev nBuf : Space → Nat
  | .hbm => 11
  | .vmem => 17
  | .smem => 0
  | _ => 0

abbrev bufTy : (tb : Table) → Fin (tcTables nBuf tb) → BufTy
  | .hbm, ⟨0, _⟩ => ⟨S2x2048x4096, .bf16⟩
  | .hbm, ⟨1, _⟩ => ⟨S4096x1024, .f32⟩
  | .hbm, ⟨2, _⟩ => ⟨S2x2048x1024, .f32⟩
  | .hbm, ⟨3, _⟩ => ⟨S2x2048x1024, .f32⟩
  | .hbm, ⟨4, _⟩ => ⟨S2x6x1024, .f32⟩
  | .hbm, ⟨5, _⟩ => ⟨S1x1024, .f32⟩
  | .hbm, ⟨6, _⟩ => ⟨S4096x1024, .bf16⟩
  | .hbm, ⟨7, _⟩ => ⟨S2x2048x1024, .f32⟩
  | .hbm, ⟨8, _⟩ => ⟨S2x2048x1024, .bf16⟩
  | .hbm, ⟨9, _⟩ => ⟨S2x8x1024, .f32⟩
  | .hbm, ⟨10, _⟩ => ⟨S8x1024, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x8x1024, .f32⟩
  | .local _ .vmem, ⟨15, _⟩ => ⟨S1x8x1024, .f32⟩
  | .local _ .vmem, ⟨16, _⟩ => ⟨S8x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference8Ideal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S2x6x1024 : Shape := ⟨3, ![2, 6, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩
abbrev S2x7x1024 : Shape := ⟨3, ![2, 7, 1024]⟩
abbrev S2x8x1024 : Shape := ⟨3, ![2, 8, 1024]⟩
abbrev S6x1024 : Shape := ⟨2, ![6, 1024]⟩
abbrev S8x1024 : Shape := ⟨2, ![8, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S4096x1024, .f32⟩
  | .hbm, ⟨2, _⟩ => ⟨S2x2048x1024, .f32⟩
  | .hbm, ⟨3, _⟩ => ⟨S2x2048x1024, .f32⟩
  | .hbm, ⟨4, _⟩ => ⟨S2x6x1024, .f32⟩
  | .hbm, ⟨5, _⟩ => ⟨S1x1024, .f32⟩
  | .hbm, ⟨6, _⟩ => ⟨S2x2048x4096, .f32⟩
  | .hbm, ⟨7, _⟩ => ⟨S2x2048x1024, .f32⟩
  | .hbm, ⟨8, _⟩ => ⟨S2x1x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048, .f32⟩
  | .hbm, ⟨39, _⟩ => ⟨S_, .f32⟩
  | .hbm, ⟨40, _⟩ => ⟨S2x2048, .f32⟩
  | .hbm, ⟨41, _⟩ => ⟨S2x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x2048, .f32⟩
  | .hbm, ⟨50, _⟩ => ⟨S_, .f32⟩
  | .hbm, ⟨51, _⟩ => ⟨S2x2048, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x1024, .f32⟩
  | .hbm, ⟨60, _⟩ => ⟨S2x1x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S2x2048x1024, .f32⟩
  | .hbm, ⟨66, _⟩ => ⟨S2x2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2x2048x1024, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S2x2048x1, .f32⟩
  | .hbm, ⟨77, _⟩ => ⟨S_, .f32⟩
  | .hbm, ⟨78, _⟩ => ⟨S2x2048x1, .f32⟩
  | .hbm, ⟨79, _⟩ => ⟨S2x2048x1, .f32⟩
  | .hbm, ⟨80, _⟩ => ⟨S_, .f32⟩
  | .hbm, ⟨81, _⟩ => ⟨S2x2048, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .bf16⟩
  | .hbm, ⟨88, _⟩ => ⟨S_, .f32⟩
  | .hbm, ⟨89, _⟩ => ⟨S2x7x1024, .f32⟩
  | .hbm, ⟨90, _⟩ => ⟨S2x8x1024, .f32⟩
  | .hbm, ⟨91, _⟩ => ⟨S_, .f32⟩
  | .hbm, ⟨92, _⟩ => ⟨S_, .f32⟩
  | .hbm, ⟨93, _⟩ => ⟨S1x1024, .f32⟩
  | .hbm, ⟨94, _⟩ => ⟨S_, .f32⟩
  | .hbm, ⟨95, _⟩ => ⟨S6x1024, .f32⟩
  | .hbm, ⟨96, _⟩ => ⟨S8x1024, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Proof.Kern.lean ====
module

public import proofs.«01_k».proof.Proof.Gen.KernelIdeal.Value
public import Idealize.ShloMosaic.Lib.ValueIdxCore

@[expose] public section

set_option maxRecDepth 16384

/-! What one grid step of the kernel stores, as terms in the six operand blocks: the four blocks of scratch it fills for each of the
four units (scores, output times values, probabilities, score gradients), and the three gradient blocks read off them. -/

noncomputable section

namespace Cert.Branch.Kern

open Cert.KernelIdeal Cert.KernelIdeal.Gen Idealize.ShloMosaic Idealize.ShloMosaic.TcCoe Idealize.SL.Sem

variable {F : FTy → Type} [FloatOps F] [Named F]

/-! ## The step's values -/

/-- The lanes of the first head of a pair. -/
def lo : IVec S128x128 1 := cmpi .slt (iota .tc S128x128 32 [1] iota_S128x128_d1_w32) (broadcast S128x128 64#32)

/-- The pairs of a row and a column at most it. -/
def tri : IVec S128x128 1 :=
  cmpi .sle (iota .tc S128x128 32 [1] iota_S128x128_d1_w32) (iota .tc S128x128 32 [0] iota_S128x128_d0_w32)

/-- A pair of heads with the lanes of the other head made zero: head 0, then head 1. -/
def half : ℕ → FVec F S128x128 .bf16 → FVec F S128x128 .bf16
  | 0, v => select lo v (broadcast S128x128 (Scalar.ofBits .bf16 0x0000#16))
  | _ + 1, v => select lo (broadcast S128x128 (Scalar.ofBits .bf16 0x0000#16)) v

/-- The accumulator a product starts at. -/
def Z : FVec F S128x128 .f32 := constant S128x128 .f32 0x00000000#32

theorem unit_inb (u : ℕ) : ∀ a, (![u % 4, 0, 0] : Fin 3 → ℕ) a + S1x128x512.size a ≤ S4x128x512.size a :=
  fun | 0 => (by have := Nat.mod_lt u (show 4 > 0 by decide); show u % 4 + 1 ≤ 4; omega)
      | 1 => Nat.le_refl _
      | 2 => Nat.le_refl _

theorem pair_inb (p : ℕ) : ∀ a, (![0, p % 4 * 128] : Fin 2 → ℕ) a + S128x128.size a ≤ S128x512.size a :=
  Rect.inb₂ (Nat.le_refl _) (by have := Nat.mod_lt p (show 4 > 0 by decide); show p % 4 * 128 + 128 ≤ 512; omega)

theorem lane_inb (u : ℕ) : ∀ a, (![u % 4, 0, 0] : Fin 3 → ℕ) a + S1x128x128.size a ≤ S4x128x128.size a :=
  fun | 0 => (by have := Nat.mod_lt u (show 4 > 0 by decide); show u % 4 + 1 ≤ 4; omega)
      | 1 => Nat.le_refl _
      | 2 => Nat.le_refl _

theorem col_inb (h : ℕ) : ∀ a, (![0, h % 8] : Fin 2 → ℕ) a + S128x1.size a ≤ S128x128.size a :=
  Rect.inb₂ (Nat.le_refl _) (by have := Nat.mod_lt h (show 8 > 0 by decide); show h % 8 + 1 ≤ 128; omega)

/-- The rows of unit `u` and the lanes of the pair of heads `p`, read out of a block of four units. -/
def LD (a : Memref sig .tc .vmem S4x128x512 .bf16) (ha : a.IsWhole) (x : Vec F S4x128x512 .bf16) (u p : ℕ) : FVec F S128x128 .bf16 :=
  shapeCast S128x128 (LoadRect.valAlong
    (LoadRect.numel_consLift (Rect.unit (s := S128x512) ![0, p % 4 * 128] S128x128.size (pair_inb p)).toLoadRect ![1, 128, 512] rfl (by decide))
    (View.readAt (Elt F) a.view
      ((Rect.unit (s := S4x128x512) ![u % 4, 0, 0] S1x128x512.size (unit_inb u)).withinL
        ((Rect.unit (s := S128x512) ![0, p % 4 * 128] S128x128.size (pair_inb p)).toLoadRect.consLift ![1, 128, 512] rfl (by decide)) (fun _ => rfl))
      (ha.unread x))) shapeCasts_S128x128_S128x128

/-- A column at every column. -/
abbrev bc (v : Vec F S128x1 .f32) : FVec F S128x128 .f32 :=
  broadcastTo S128x128 (shapeCast S128x1 (shapeCast S128x1 v shapeCasts_S128x1_S128x1) shapeCasts_S128x1_S128x1) broadcasts_S128x1_S128x128

/-- Head `h`'s column of unit `u`, along the rows, at every column. -/
def CL (a : Memref sig .tc .vmem S4x128x128 .f32) (ha : a.IsWhole) (x : Vec F S4x128x128 .f32) (u h : ℕ) : FVec F S128x128 .f32 :=
  bc (LoadRect.valAlong
    (LoadRect.numel_consLift (Rect.unit (s := S128x128) ![0, h % 8] S128x1.size (col_inb h)).toLoadRect ![1, 128, 128] rfl (by decide))
    (View.readAt (Elt F) a.view
      ((Rect.unit (s := S4x128x128) ![u % 4, 0, 0] S1x128x128.size (lane_inb u)).withinL
        ((Rect.unit (s := S128x128) ![0, h % 8] S128x1.size (col_inb h)).toLoadRect.consLift ![1, 128, 128] rfl (by decide)) (fun _ => rfl))
      (ha.unread x)))

/-- A block as one of the eight of a scratch array. -/
abbrev up {t : FTy} (v : FVec F S128x128 t) : FVec F S1x128x128 t := shapeCast S1x128x128 v shapeCasts_S128x128_S1x128x128

/-- And back. -/
abbrev dn {t : FTy} (v : FVec F S1x128x128 t) : FVec F S128x128 t := shapeCast S128x128 v shapeCasts_S1x128x128_S128x128

/-- Head `e`'s scores of a row's query and a column's key, masked above the diagonal. -/
def SC (q k : ℕ → FVec F S128x128 .bf16) (e : ℕ) : FVec F S1x128x128 .f32 :=
  up (select tri (matmul dot_S128x128_S128x128_S128x128_1_1_0_0_n_n none (half (e % 2) (q (e / 2))) (k (e / 2)) Z)
    (broadcast S128x128 (Named.named κ "mask" 0xF149F2CA#32)))

/-- Head `e`'s products of a row's output gradient and a column's value. -/
def DP (g v : ℕ → FVec F S128x128 .bf16) (e : ℕ) : FVec F S1x128x128 .f32 :=
  up (matmul dot_S128x128_S128x128_S128x128_1_1_0_0_n_n none (half (e % 2) (g (e / 2))) (v (e / 2)) Z)

/-- The exponential of the scores less the row's logsumexp. -/
def EX (s : FVec F S1x128x128 .f32) (l : FVec F S128x128 .f32) : FVec F S128x128 .f32 := exp (subf (dn s) l)

/-- The probabilities. -/
def PR (s : FVec F S1x128x128 .f32) (l : FVec F S128x128 .f32) : FVec F S1x128x128 .bf16 := up (truncf .bf16 (EX s l) bitsLt_bf16_f32)

/-- The gradient of the scores. -/
def DS (s : FVec F S1x128x128 .f32) (g : FVec F S1x128x128 .f32) (l d : FVec F S128x128 .f32) : FVec F S1x128x128 .bf16 :=
  up (truncf .bf16 (mulf (EX s l) (subf (dn g) d)) bitsLt_bf16_f32)

/-- A pair's sum over rows of two heads' blocks against a block of vectors. -/
def OT (a b : FVec F S1x128x128 .bf16) (v : FVec F S128x128 .bf16) : FVec F S128x128 .f32 :=
  addf (matmul dot_S128x128_S128x128_S128x128_0_0_1_1_n_n none (dn a) (half 0 v) Z)
    (matmul dot_S128x128_S128x128_S128x128_0_0_1_1_n_n none (dn b) (half 1 v) Z)

/-- A pair's sum over columns of two heads' blocks against a block of vectors. -/
def ON (a b : FVec F S1x128x128 .bf16) (v : FVec F S128x128 .bf16) : FVec F S128x128 .f32 :=
  addf (matmul dot_S128x128_S128x128_S128x128_1_0_0_1_n_n none (dn a) (half 0 v) Z)
    (matmul dot_S128x128_S128x128_S128x128_1_0_0_1_n_n none (dn b) (half 1 v) Z)

/-! ## A scratch array written block by block -/

section Lists
variable {t : EltTy}

/-- The blocks below `n` of a scratch array are read back as `f` says. -/
def Holds (v : View sig .tc .vmem S8x128x128 t) (L : List (View.Piece (Elt F) S8x128x128 t)) (n : ℕ) (f : ℕ → Vec F S1x128x128 t) : Prop :=
  ∀ (e : ℕ) (inb : ∀ a, (![e, 0, 0] : Fin 3 → ℕ) a + S1x128x128.size a ≤ S8x128x128.size a), e < n →
    v.readCov L (Rect.unit (s := S8x128x128) ![e, 0, 0] S1x128x128.size inb).toLoadRect = f e

theorem Holds.zero (v : View sig .tc .vmem S8x128x128 t) (L : List (View.Piece (Elt F) S8x128x128 t)) (f : ℕ → Vec F S1x128x128 t) :
    Holds v L 0 f := fun e _ h => absurd h (Nat.not_lt_zero e)

theorem Holds.cons {v : View sig .tc .vmem S8x128x128 t} {L : List (View.Piece (Elt F) S8x128x128 t)} {n : ℕ} {f : ℕ → Vec F S1x128x128 t}
    {inb : ∀ a, (![n, 0, 0] : Fin 3 → ℕ) a + S1x128x128.size a ≤ S8x128x128.size a}
    {w : (Rect.unit (s := S8x128x128) ![n, 0, 0] S1x128x128.size inb).shape.Idx → Elt F t} (hw : w = f n) (h : Holds v L n f) :
    Holds v (⟨Rect.unit (s := S8x128x128) ![n, 0, 0] S1x128x128.size inb, w⟩ :: L) (n + 1) f := by
  intro e inb' he
  by_cases h' : e < n
  · rw [View.readCov_cons_of_disjoint]
    · exact h e inb' h'
    · rw [Finset.disjoint_right]
      intro y hy
      refine Rect.not_mem_set_of_axis _ y (0 : Fin 3) n 1 rfl rfl rfl (Or.inl ?_)
      obtain ⟨j, hj, hy'⟩ := (LoadRect.mem_set _).mp hy (0 : Fin 3)
      have hj' : j < 1 := hj
      have hy'' : (y (0 : Fin 3)).val = e + 1 * j := hy'
      omega
  · obtain rfl : e = n := by omega
    exact (View.readCov_cons_toLoadRect v _ w L).trans hw

/-! ## A gradient block stored pair by pair -/

/-- Every stored piece is a part of one block. -/
def PcOK (L : List (View.Piece (Elt F) S4x128x512 t)) (G : Vec F S4x128x512 t) : Prop := ∀ p ∈ L, ∀ x, p.2 x = G (p.1.emb x)

theorem PcOK.nil (G : Vec F S4x128x512 t) : PcOK (F := F) [] G := fun _ h => absurd h (List.not_mem_nil)

/-- The block whose unit `u` at pair `p` is `D u p`. -/
def Blk (D : ℕ → ℕ → Vec F S128x128 t) : Vec F S4x128x512 t := fun i =>
  D (i 0).val ((i 2).val / 128) (ValueIdx.ix2 (n0 := 128) (n1 := 128) (i 1) ⟨(i 2).val % 128, Nat.mod_lt _ (by decide)⟩)

theorem Blk_at (D : ℕ → ℕ → Vec F S128x128 t) (i : S4x128x512.Idx) (u p : ℕ) (j : S128x128.Idx) (h0 : (i (0 : Fin 3)).val = u)
    (h1 : (i (1 : Fin 3)).val = (j (0 : Fin 2)).val) (h2 : (i (2 : Fin 3)).val = p * 128 + (j (1 : Fin 2)).val) : Blk D i = D u p j := by
  have hj : (j (1 : Fin 2)).val < 128 := (j (1 : Fin 2)).isLt
  have hd : (i (2 : Fin 3)).val / 128 = p := by omega
  have hm : (i (2 : Fin 3)).val % 128 = (j (1 : Fin 2)).val := by omega
  show D (i (0 : Fin 3)).val ((i (2 : Fin 3)).val / 128) _ = _
  rw [h0, hd]
  refine congrArg (D u p) (funext fun a => Fin.ext ?_)
  fin_cases a
  · exact h1
  · exact hm

theorem PcOK.cons {L : List (View.Piece (Elt F) S4x128x512 t)} {D : ℕ → ℕ → Vec F S128x128 t} (u p : ℕ)
    {ib : ∀ a, (![u, 0, 0] : Fin 3 → ℕ) a + (![1, 128, 512] : Fin 3 → ℕ) a ≤ S4x128x512.size a}
    {ip : ∀ a, (![0, p * 128] : Fin 2 → ℕ) a + (![128, 128] : Fin 2 → ℕ) a ≤ S128x512.size a}
    {h0 : (![1, 128, 512] : Fin 3 → ℕ) 0 = 1} {hs : ∀ i : Fin 2, (![1, 128, 512] : Fin 3 → ℕ) i.succ = (![128, 512] : Fin 2 → ℕ) i}
    {h1 : ∀ a, (Rect.unit (s := S4x128x512) ![u, 0, 0] ![1, 128, 512] ib).stride a = 1}
    {w : Vec F S128x128 t}
    {hR : ((Rect.unit (s := S128x512) ![0, p * 128] ![128, 128] ip).consLift ![1, 128, 512] h0 hs).shape.numel
      = (Rect.unit (s := S128x512) ![0, p * 128] ![128, 128] ip).shape.numel} (hw : w = D u p) (h : PcOK L (Blk D)) :
    PcOK (⟨(Rect.unit (s := S4x128x512) ![u, 0, 0] ![1, 128, 512] ib).within
      ((Rect.unit (s := S128x512) ![0, p * 128] ![128, 128] ip).consLift ![1, 128, 512] h0 hs) h1,
      Rect.payAlong (r := Rect.unit (s := S128x512) ![0, p * 128] ![128, 128] ip) hR w⟩ :: L) (Blk D) := by
  intro q hq x
  rcases List.mem_cons.mp hq with rfl | hq
  · subst hw
    have hx1 : (x (1 : Fin 3)).val < 128 := (x (1 : Fin 3)).isLt
    have hx2 : (x (2 : Fin 3)).val < 128 := (x (2 : Fin 3)).isLt
    have hx0 : (x (0 : Fin 3)).val < 1 := (x (0 : Fin 3)).isLt
    refine (Rect.payAlong_consLift _ _ h0 hs (D u p) hR x
      (ValueIdx.ix2 (n0 := 128) (n1 := 128) ⟨(x (1 : Fin 3)).val, hx1⟩ ⟨(x (2 : Fin 3)).val, hx2⟩) ?_).trans ?_
    · intro i; fin_cases i <;> rfl
    · refine (Blk_at D _ u p _ ?_ ?_ ?_).symm
      · show u + 0 + 1 * (x (0 : Fin 3)).val = u; omega
      · show 0 + 0 + 1 * (x (1 : Fin 3)).val = (x (1 : Fin 3)).val; omega
      · show 0 + p * 128 + 1 * (x (2 : Fin 3)).val = p * 128 + (x (2 : Fin 3)).val; omega
  · exact h q hq x

end Lists

/-! ## What the scratch arrays hold when they are read -/

section Step
variable (c : Dev nD) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x512 .bf16) (harg5 : arg5.IsWhole) (arg6 : Memref sig .tc .vmem S4x128x128 .f32) (harg6 : arg6.IsWhole) (arg7 : Memref sig .tc .vmem S4x128x128 .f32) (harg7 : arg7.IsWhole) (arg8 : Memref sig .tc .vmem S4x128x512 .f32) (harg8 : arg8.IsWhole) (arg9 : Memref sig .tc .vmem S4x128x512 .f32) (harg9 : arg9.IsWhole) (arg10 : Memref sig .tc .vmem S4x128x512 .f32) (harg10 : arg10.IsWhole) (arg11 : Memref sig .tc .vmem S8x128x128 .f32) (harg11 : arg11.IsWhole) (arg12 : Memref sig .tc .vmem S8x128x128 .f32) (harg12 : arg12.IsWhole) (arg13 : Memref sig .tc .vmem S8x128x128 .bf16) (harg13 : arg13.IsWhole) (arg14 : Memref sig .tc .vmem S8x128x128 .bf16) (harg14 : arg14.IsWhole)
  (x0 x1 x2 x3 : Vec F S4x128x512 .bf16) (x4 x5 : Vec F S4x128x128 .f32)

/-- Head `e`'s scores in unit `u`. -/
abbrev sU (u : ℕ) : ℕ → FVec F S1x128x128 .f32 := SC (LD arg2 harg2 x0 u) (LD arg3 harg3 x1 u)
/-- Head `e`'s products of output gradients and values in unit `u`. -/
abbrev gU (u : ℕ) : ℕ → FVec F S1x128x128 .f32 := DP (LD arg5 harg5 x3 u) (LD arg4 harg4 x2 u)
/-- Head `e`'s probabilities in unit `u`. -/
abbrev pU (u e : ℕ) : FVec F S1x128x128 .bf16 := PR (sU arg2 harg2 arg3 harg3 x0 x1 u e) (CL arg7 harg7 x5 u e)
/-- Head `e`'s score gradients in unit `u`. -/
abbrev dU (u e : ℕ) : FVec F S1x128x128 .bf16 :=
  DS (sU arg2 harg2 arg3 harg3 x0 x1 u e) (gU arg4 harg4 arg5 harg5 x2 x3 u e) (CL arg7 harg7 x5 u e) (CL arg6 harg6 x4 u e)

theorem hs0_8 : Holds arg11.view (kernelRun0_A.sl.HS0_8 c arg2 harg2 arg3 harg3 x0 x1) 8 (sU arg2 harg2 arg3 harg3 x0 x1 0) :=
  Holds.cons (rfl) (Holds.cons (rfl) (Holds.cons (rfl) (Holds.cons (rfl) (Holds.cons (rfl) (Holds.cons (rfl) (Holds.cons (rfl) (Holds.cons (rfl) (Holds.zero _ _ _))))))))

theorem hs1_8 : Holds arg12.view (kernelRun0_A.sl.HS1_8 c arg4 harg4 arg5 harg5 x2 x3) 8 (gU arg4 harg4 arg5 harg5 x2 x3 0) :=
  Holds.cons (rfl) (Holds.cons (rfl) (Holds.cons (rfl) (Holds.cons (rfl) (Holds.cons (rfl) (Holds.cons (rfl) (Holds.cons (rfl) (Holds.cons (rfl) (Holds.zero _ _ _))))))))

theorem hs2_8 : Holds arg13.view (kernelRun0_A.sl.HS2_8 c arg2 harg2 arg3 harg3 arg7 harg7 arg11 x0 x1 x5) 8 (pU arg2 harg2 arg3 harg3 arg7 harg7 x0 x1 x5 0) :=
  have hs := hs0_8 c arg2 harg2 arg3 harg3 arg11 x0 x1
  Holds.cons (congrArg (fun s => PR s (CL arg7 harg7 x5 0 7)) (hs 7 _ (by decide))) (Holds.cons (congrArg (fun s => PR s (CL arg7 harg7 x5 0 6)) (hs 6 _ (by decide))) (Holds.cons (congrArg (fun s => PR s (CL arg7 harg7 x5 0 5)) (hs 5 _ (by decide))) (Holds.cons (congrArg (fun s => PR s (CL arg7 harg7 x5 0 4)) (hs 4 _ (by decide))) (Holds.cons (congrArg (fun s => PR s (CL arg7 harg7 x5 0 3)) (hs 3 _ (by decide))) (Holds.cons (congrArg (fun s => PR s (CL arg7 harg7 x5 0 2)) (hs 2 _ (by decide))) (Holds.cons (congrArg (fun s => PR s (CL arg7 harg7 x5 0 1)) (hs 1 _ (by decide))) (Holds.cons (congrArg (fun s => PR s (CL arg7 harg7 x5 0 0)) (hs 0 _ (by decide))) (Holds.zero _ _ _))))))))

set_option maxHeartbeats 2000000 in
theorem hs3_8 : Holds arg14.view (kernelRun0_A.sl.HS3_8 c arg2 harg2 arg3 harg3 arg4 harg4 arg5 harg5 arg6 harg6 arg7 harg7 arg11 arg12 x0 x1 x2 x3 x4 x5) 8 (dU arg2 harg2 arg3 harg3 arg4 harg4 arg5 harg5 arg6 harg6 arg7 harg7 x0 x1 x2 x3 x4 x5 0) :=
  have hs := hs0_8 c arg2 harg2 arg3 harg3 arg11 x0 x1
  have hg := hs1_8 c arg4 harg4 arg5 harg5 arg12 x2 x3
  Holds.cons (congrArg₂ (fun s g => DS s g (CL arg7 harg7 x5 0 7) (CL arg6 harg6 x4 0 7)) (hs 7 _ (by decide)) (hg 7 _ (by decide))) (Holds.cons (congrArg₂ (fun s g => DS s g (CL arg7 harg7 x5 0 6) (CL arg6 harg6 x4 0 6)) (hs 6 _ (by decide)) (hg 6 _ (by decide))) (Holds.cons (congrArg₂ (fun s g => DS s g (CL arg7 harg7 x5 0 5) (CL arg6 harg6 x4 0 5)) (hs 5 _ (by decide)) (hg 5 _ (by decide))) (Holds.cons (congrArg₂ (fun s g => DS s g (CL arg7 harg7 x5 0 4) (CL arg6 harg6 x4 0 4)) (hs 4 _ (by decide)) (hg 4 _ (by decide))) (Holds.cons (congrArg₂ (fun s g => DS s g (CL arg7 harg7 x5 0 3) (CL arg6 harg6 x4 0 3)) (hs 3 _ (by decide)) (hg 3 _ (by decide))) (Holds.cons (congrArg₂ (fun s g => DS s g (CL arg7 harg7 x5 0 2) (CL arg6 harg6 x4 0 2)) (hs 2 _ (by decide)) (hg 2 _ (by decide))) (Holds.cons (congrArg₂ (fun s g => DS s g (CL arg7 harg7 x5 0 1) (CL arg6 harg6 x4 0 1)) (hs 1 _ (by decide)) (hg 1 _ (by decide))) (Holds.cons (congrArg₂ (fun s g => DS s g (CL arg7 harg7 x5 0 0) (CL arg6 harg6 x4 0 0)) (hs 0 _ (by decide)) (hg 0 _ (by decide))) (Holds.zero _ _ _))))))))

theorem hs0_16 : Holds arg11.view (kernelRun0_A.sl.HS0_16 c arg2 harg2 arg3 harg3 x0 x1) 8 (sU arg2 harg2 arg3 harg3 x0 x1 1) :=
  Holds.cons (rfl) (Holds.cons (rfl) (Holds.cons (rfl) (Holds.cons (rfl) (Holds.cons (rfl) (Holds.cons (rfl) (Holds.cons (rfl) (Holds.cons (rfl) (Holds.zero _ _ _))))))))

theorem hs1_16 : Holds arg12.view (kernelRun0_A.sl.HS1_16 c arg4 harg4 arg5 harg5 x2 x3) 8 (gU arg4 harg4 arg5 harg5 x2 x3 1) :=
  Holds.cons (rfl) (Holds.cons (rfl) (Holds.cons (rfl) (Holds.cons (rfl) (Holds.cons (rfl) (Holds.cons (rfl) (Holds.cons (rfl) (Holds.cons (rfl) (Holds.zero _ _ _))))))))

theorem hs2_16 : Holds arg13.view (kernelRun0_A.sl.HS2_16 c arg2 harg2 arg3 harg3 arg7 harg7 arg11 x0 x1 x5) 8 (pU arg2 harg2 arg3 harg3 arg7 harg7 x0 x1 x5 1) :=
  have hs := hs0_16 c arg2 harg2 arg3 harg3 arg11 x0 x1
  Holds.cons (congrArg (fun s => PR s (CL arg7 harg7 x5 1 7)) (hs 7 _ (by decide))) (Holds.cons (congrArg (fun s => PR s (CL arg7 harg7 x5 1 6)) (hs 6 _ (by decide))) (Holds.cons (congrArg (fun s => PR s (CL arg7 harg7 x5 1 5)) (hs 5 _ (by decide))) (Holds.cons (congrArg (fun s => PR s (CL arg7 harg7 x5 1 4)) (hs 4 _ (by decide))) (Holds.cons (congrArg (fun s => PR s (CL arg7 harg7 x5 1 3)) (hs 3 _ (by decide))) (Holds.cons (congrArg (fun s => PR s (CL arg7 harg7 x5 1 2)) (hs 2 _ (by decide))) (Holds.cons (congrArg (fun s => PR s (CL arg7 harg7 x5 1 1)) (hs 1 _ (by decide))) (Holds.cons (congrArg (fun s => PR s (CL arg7 harg7 x5 1 0)) (hs 0 _ (by decide))) (Holds.zero _ _ _))))))))

set_option maxHeartbeats 2000000 in
theorem hs3_16 : Holds arg14.view (kernelRun0_A.sl.HS3_16 c arg2 harg2 arg3 harg3 arg4 harg4 arg5 harg5 arg6 harg6 arg7 harg7 arg11 arg12 x0 x1 x2 x3 x4 x5) 8 (dU arg2 harg2 arg3 harg3 arg4 harg4 arg5 harg5 arg6 harg6 arg7 harg7 x0 x1 x2 x3 x4 x5 1) :=
  have hs := hs0_16 c arg2 harg2 arg3 harg3 arg11 x0 x1
  have hg := hs1_16 c arg4 harg4 arg5 harg5 arg12 x2 x3
  Holds.cons (congrArg₂ (fun s g => DS s g (CL arg7 harg7 x5 1 7) (CL arg6 harg6 x4 1 7)) (hs 7 _ (by decide)) (hg 7 _ (by decide))) (Holds.cons (congrArg₂ (fun s g => DS s g (CL arg7 harg7 x5 1 6) (CL arg6 harg6 x4 1 6)) (hs 6 _ (by decide)) (hg 6 _ (by decide))) (Holds.cons (congrArg₂ (fun s g => DS s g (CL arg7 harg7 x5 1 5) (CL arg6 harg6 x4 1 5)) (hs 5 _ (by decide)) (hg 5 _ (by decide))) (Holds.cons (congrArg₂ (fun s g => DS s g (CL arg7 harg7 x5 1 4) (CL arg6 harg6 x4 1 4)) (hs 4 _ (by decide)) (hg 4 _ (by decide))) (Holds.cons (congrArg₂ (fun s g => DS s g (CL arg7 harg7 x5 1 3) (CL arg6 harg6 x4 1 3)) (hs 3 _ (by decide)) (hg 3 _ (by decide))) (Holds.cons (congrArg₂ (fun s g => DS s g (CL arg7 harg7 x5 1 2) (CL arg6 harg6 x4 1 2)) (hs 2 _ (by decide)) (hg 2 _ (by decide))) (Holds.cons (congrArg₂ (fun s g => DS s g (CL arg7 harg7 x5 1 1) (CL arg6 harg6 x4 1 1)) (hs 1 _ (by decide)) (hg 1 _ (by decide))) (Holds.cons (congrArg₂ (fun s g => DS s g (CL arg7 harg7 x5 1 0) (CL arg6 harg6 x4 1 0)) (hs 0 _ (by decide)) (hg 0 _ (by decide))) (Holds.zero _ _ _))))))))

theorem hs0_24 : Holds arg11.view (kernelRun0_A.sl.HS0_24 c arg2 harg2 arg3 harg3 x0 x1) 8 (sU arg2 harg2 arg3 harg3 x0 x1 2) :=
  Holds.cons (rfl) (Holds.cons (rfl) (Holds.cons (rfl) (Holds.cons (rfl) (Holds.cons (rfl) (Holds.cons (rfl) (Holds.cons (rfl) (Holds.cons (rfl) (Holds.zero _ _ _))))))))

theorem hs1_24 : Holds arg12.view (kernelRun0_A.sl.HS1_24 c arg4 harg4 arg5 harg5 x2 x3) 8 (gU arg4 harg4 arg5 harg5 x2 x3 2) :=
  Holds.cons (rfl) (Holds.cons (rfl) (Holds.cons (rfl) (Holds.cons (rfl) (Holds.cons (rfl) (Holds.cons (rfl) (Holds.cons (rfl) (Holds.cons (rfl) (Holds.zero _ _ _))))))))

theorem hs2_24 : Holds arg13.view (kernelRun0_A.sl.HS2_24 c arg2 harg2 arg3 harg3 arg7 harg7 arg11 x0 x1 x5) 8 (pU arg2 harg2 arg3 harg3 arg7 harg7 x0 x1 x5 2) :=
  have hs := hs0_24 c arg2 harg2 arg3 harg3 arg11 x0 x1
  Holds.cons (congrArg (fun s => PR s (CL arg7 harg7 x5 2 7)) (hs 7 _ (by decide))) (Holds.cons (congrArg (fun s => PR s (CL arg7 harg7 x5 2 6)) (hs 6 _ (by decide))) (Holds.cons (congrArg (fun s => PR s (CL arg7 harg7 x5 2 5)) (hs 5 _ (by decide))) (Holds.cons (congrArg (fun s => PR s (CL arg7 harg7 x5 2 4)) (hs 4 _ (by decide))) (Holds.cons (congrArg (fun s => PR s (CL arg7 harg7 x5 2 3)) (hs 3 _ (by decide))) (Holds.cons (congrArg (fun s => PR s (CL arg7 harg7 x5 2 2)) (hs 2 _ (by decide))) (Holds.cons (congrArg (fun s => PR s (CL arg7 harg7 x5 2 1)) (hs 1 _ (by decide))) (Holds.cons (congrArg (fun s => PR s (CL arg7 harg7 x5 2 0)) (hs 0 _ (by decide))) (Holds.zero _ _ _))))))))

set_option maxHeartbeats 2000000 in
theorem hs3_24 : Holds arg14.view (kernelRun0_A.sl.HS3_24 c arg2 harg2 arg3 harg3 arg4 harg4 arg5 harg5 arg6 harg6 arg7 harg7 arg11 arg12 x0 x1 x2 x3 x4 x5) 8 (dU arg2 harg2 arg3 harg3 arg4 harg4 arg5 harg5 arg6 harg6 arg7 harg7 x0 x1 x2 x3 x4 x5 2) :=
  have hs := hs0_24 c arg2 harg2 arg3 harg3 arg11 x0 x1
  have hg := hs1_24 c arg4 harg4 arg5 harg5 arg12 x2 x3
  Holds.cons (congrArg₂ (fun s g => DS s g (CL arg7 harg7 x5 2 7) (CL arg6 harg6 x4 2 7)) (hs 7 _ (by decide)) (hg 7 _ (by decide))) (Holds.cons (congrArg₂ (fun s g => DS s g (CL arg7 harg7 x5 2 6) (CL arg6 harg6 x4 2 6)) (hs 6 _ (by decide)) (hg 6 _ (by decide))) (Holds.cons (congrArg₂ (fun s g => DS s g (CL arg7 harg7 x5 2 5) (CL arg6 harg6 x4 2 5)) (hs 5 _ (by decide)) (hg 5 _ (by decide))) (Holds.cons (congrArg₂ (fun s g => DS s g (CL arg7 harg7 x5 2 4) (CL arg6 harg6 x4 2 4)) (hs 4 _ (by decide)) (hg 4 _ (by decide))) (Holds.cons (congrArg₂ (fun s g => DS s g (CL arg7 harg7 x5 2 3) (CL arg6 harg6 x4 2 3)) (hs 3 _ (by decide)) (hg 3 _ (by decide))) (Holds.cons (congrArg₂ (fun s g => DS s g (CL arg7 harg7 x5 2 2) (CL arg6 harg6 x4 2 2)) (hs 2 _ (by decide)) (hg 2 _ (by decide))) (Holds.cons (congrArg₂ (fun s g => DS s g (CL arg7 harg7 x5 2 1) (CL arg6 harg6 x4 2 1)) (hs 1 _ (by decide)) (hg 1 _ (by decide))) (Holds.cons (congrArg₂ (fun s g => DS s g (CL arg7 harg7 x5 2 0) (CL arg6 harg6 x4 2 0)) (hs 0 _ (by decide)) (hg 0 _ (by decide))) (Holds.zero _ _ _))))))))

theorem hs0_32 : Holds arg11.view (kernelRun0_A.sl.HS0_32 c arg2 harg2 arg3 harg3 x0 x1) 8 (sU arg2 harg2 arg3 harg3 x0 x1 3) :=
  Holds.cons (rfl) (Holds.cons (rfl) (Holds.cons (rfl) (Holds.cons (rfl) (Holds.cons (rfl) (Holds.cons (rfl) (Holds.cons (rfl) (Holds.cons (rfl) (Holds.zero _ _ _))))))))

theorem hs1_32 : Holds arg12.view (kernelRun0_A.sl.HS1_32 c arg4 harg4 arg5 harg5 x2 x3) 8 (gU arg4 harg4 arg5 harg5 x2 x3 3) :=
  Holds.cons (rfl) (Holds.cons (rfl) (Holds.cons (rfl) (Holds.cons (rfl) (Holds.cons (rfl) (Holds.cons (rfl) (Holds.cons (rfl) (Holds.cons (rfl) (Holds.zero _ _ _))))))))

theorem hs2_32 : Holds arg13.view (kernelRun0_A.sl.HS2_32 c arg2 harg2 arg3 harg3 arg7 harg7 arg11 x0 x1 x5) 8 (pU arg2 harg2 arg3 harg3 arg7 harg7 x0 x1 x5 3) :=
  have hs := hs0_32 c arg2 harg2 arg3 harg3 arg11 x0 x1
  Holds.cons (congrArg (fun s => PR s (CL arg7 harg7 x5 3 7)) (hs 7 _ (by decide))) (Holds.cons (congrArg (fun s => PR s (CL arg7 harg7 x5 3 6)) (hs 6 _ (by decide))) (Holds.cons (congrArg (fun s => PR s (CL arg7 harg7 x5 3 5)) (hs 5 _ (by decide))) (Holds.cons (congrArg (fun s => PR s (CL arg7 harg7 x5 3 4)) (hs 4 _ (by decide))) (Holds.cons (congrArg (fun s => PR s (CL arg7 harg7 x5 3 3)) (hs 3 _ (by decide))) (Holds.cons (congrArg (fun s => PR s (CL arg7 harg7 x5 3 2)) (hs 2 _ (by decide))) (Holds.cons (congrArg (fun s => PR s (CL arg7 harg7 x5 3 1)) (hs 1 _ (by decide))) (Holds.cons (congrArg (fun s => PR s (CL arg7 harg7 x5 3 0)) (hs 0 _ (by decide))) (Holds.zero _ _ _))))))))

theorem ds_7 (l d : Vec F S128x1 .f32) (s g : Vec F S1x128x128 .f32) : k0_pay375 (k0_pay372 l) d s g = DS s g (bc l) (bc d) := rfl

theorem ds_6 (l d : Vec F S128x1 .f32) (s g : Vec F S1x128x128 .f32) : k0_pay371 l d s g = DS s g (bc l) (bc d) := rfl

theorem ds_5 (l d : Vec F S128x1 .f32) (s g : Vec F S1x128x128 .f32) : k0_pay368 l d s g = DS s g (bc l) (bc d) := rfl

theorem ds_4 (l d : Vec F S128x1 .f32) (s g : Vec F S1x128x128 .f32) : k0_pay365 (k0_pay364 l d s g) = DS s g (bc l) (bc d) := rfl

theorem ds_3 (l d : Vec F S128x1 .f32) (s g : Vec F S1x128x128 .f32) : k0_pay361 (k0_pay358 l d s g) = DS s g (bc l) (bc d) := rfl

theorem ds_2 (l d : Vec F S128x1 .f32) (s g : Vec F S1x128x128 .f32) : k0_pay356 (k0_pay352 d) (k0_pay353 l s) (k0_pay354 g) = DS s g (bc l) (bc d) := rfl

theorem ds_1 (l d : Vec F S128x1 .f32) (s g : Vec F S1x128x128 .f32) : k0_pay351 (k0_pay347 l) (k0_pay348 d) s g = DS s g (bc l) (bc d) := rfl

theorem ds_0 (l d : Vec F S128x1 .f32) (s g : Vec F S1x128x128 .f32) : k0_pay346 (k0_pay343 l) d s g = DS s g (bc l) (bc d) := rfl

set_option maxHeartbeats 1000000 in
theorem hs3_32 : Holds arg14.view (kernelRun0_A.sl.HS3_32 c arg2 harg2 arg3 harg3 arg4 harg4 arg5 harg5 arg6 harg6 arg7 harg7 arg11 arg12 x0 x1 x2 x3 x4 x5) 8 (dU arg2 harg2 arg3 harg3 arg4 harg4 arg5 harg5 arg6 harg6 arg7 harg7 x0 x1 x2 x3 x4 x5 3) := by
  have hs := hs0_32 c arg2 harg2 arg3 harg3 arg11 x0 x1
  have hg := hs1_32 c arg4 harg4 arg5 harg5 arg12 x2 x3
  refine Holds.cons (?_) (Holds.cons (?_) (Holds.cons (?_) (Holds.cons (?_) (Holds.cons (?_) (Holds.cons (?_) (Holds.cons (?_) (Holds.cons (?_) (Holds.zero _ _ _))))))))
  · refine (ds_7 _ _ _ _).trans ?_
    exact congrArg₂ (fun s g => DS s g (CL arg7 harg7 x5 3 7) (CL arg6 harg6 x4 3 7)) (hs 7 _ (by decide)) (hg 7 _ (by decide))
  · refine (ds_6 _ _ _ _).trans ?_
    exact congrArg₂ (fun s g => DS s g (CL arg7 harg7 x5 3 6) (CL arg6 harg6 x4 3 6)) (hs 6 _ (by decide)) (hg 6 _ (by decide))
  · refine (ds_5 _ _ _ _).trans ?_
    exact congrArg₂ (fun s g => DS s g (CL arg7 harg7 x5 3 5) (CL arg6 harg6 x4 3 5)) (hs 5 _ (by decide)) (hg 5 _ (by decide))
  · refine (ds_4 _ _ _ _).trans ?_
    exact congrArg₂ (fun s g => DS s g (CL arg7 harg7 x5 3 4) (CL arg6 harg6 x4 3 4)) (hs 4 _ (by decide)) (hg 4 _ (by decide))
  · refine (ds_3 _ _ _ _).trans ?_
    exact congrArg₂ (fun s g => DS s g (CL arg7 harg7 x5 3 3) (CL arg6 harg6 x4 3 3)) (hs 3 _ (by decide)) (hg 3 _ (by decide))
  · refine (ds_2 _ _ _ _).trans ?_
    exact congrArg₂ (fun s g => DS s g (CL arg7 harg7 x5 3 2) (CL arg6 harg6 x4 3 2)) (hs 2 _ (by decide)) (hg 2 _ (by decide))
  · refine (ds_1 _ _ _ _).trans ?_
    exact congrArg₂ (fun s g => DS s g (CL arg7 harg7 x5 3 1) (CL arg6 harg6 x4 3 1)) (hs 1 _ (by decide)) (hg 1 _ (by decide))
  · refine (ds_0 _ _ _ _).trans ?_
    exact congrArg₂ (fun s g => DS s g (CL arg7 harg7 x5 3 0) (CL arg6 harg6 x4 3 0)) (hs 0 _ (by decide)) (hg 0 _ (by decide))

/-! ## The three gradient blocks -/

/-- The gradient of the queries, unit by unit and pair by pair. -/
def qG (u p : ℕ) : FVec F S128x128 .f32 := ON (dU arg2 harg2 arg3 harg3 arg4 harg4 arg5 harg5 arg6 harg6 arg7 harg7 x0 x1 x2 x3 x4 x5 u (2 * p)) (dU arg2 harg2 arg3 harg3 arg4 harg4 arg5 harg5 arg6 harg6 arg7 harg7 x0 x1 x2 x3 x4 x5 u (2 * p + 1)) (LD arg3 harg3 x1 u p)
/-- The gradient of the keys. -/
def kG (u p : ℕ) : FVec F S128x128 .f32 := OT (dU arg2 harg2 arg3 harg3 arg4 harg4 arg5 harg5 arg6 harg6 arg7 harg7 x0 x1 x2 x3 x4 x5 u (2 * p)) (dU arg2 harg2 arg3 harg3 arg4 harg4 arg5 harg5 arg6 harg6 arg7 harg7 x0 x1 x2 x3 x4 x5 u (2 * p + 1)) (LD arg2 harg2 x0 u p)
/-- The gradient of the values. -/
def vG (u p : ℕ) : FVec F S128x128 .f32 := OT (pU arg2 harg2 arg3 harg3 arg7 harg7 x0 x1 x5 u (2 * p)) (pU arg2 harg2 arg3 harg3 arg7 harg7 x0 x1 x5 u (2 * p + 1)) (LD arg5 harg5 x3 u p)

variable (i : grid0.Coords)

theorem pc_q : PcOK (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).1 (Blk (qG arg2 harg2 arg3 harg3 arg4 harg4 arg5 harg5 arg6 harg6 arg7 harg7 x0 x1 x2 x3 x4 x5)) := by
  have h8 := hs3_8 c arg2 harg2 arg3 harg3 arg4 harg4 arg5 harg5 arg6 harg6 arg7 harg7 arg11 arg12 arg14 x0 x1 x2 x3 x4 x5
  have h16 := hs3_16 c arg2 harg2 arg3 harg3 arg4 harg4 arg5 harg5 arg6 harg6 arg7 harg7 arg11 arg12 arg14 x0 x1 x2 x3 x4 x5
  have h24 := hs3_24 c arg2 harg2 arg3 harg3 arg4 harg4 arg5 harg5 arg6 harg6 arg7 harg7 arg11 arg12 arg14 x0 x1 x2 x3 x4 x5
  have h32 := hs3_32 c arg2 harg2 arg3 harg3 arg4 harg4 arg5 harg5 arg6 harg6 arg7 harg7 arg11 arg12 arg14 x0 x1 x2 x3 x4 x5
  unfold kernelRun0_A
  dsimp only
  exact (PcOK.cons 3 3
    (congrArg₂ (fun a b => ON a b (LD arg3 harg3 x1 3 3)) (h32 6 _ (by decide)) (h32 7 _ (by decide))) (PcOK.cons 3 2
    (congrArg₂ (fun a b => ON a b (LD arg3 harg3 x1 3 2)) (h32 4 _ (by decide)) (h32 5 _ (by decide))) (PcOK.cons 3 1
    (congrArg₂ (fun a b => ON a b (LD arg3 harg3 x1 3 1)) (h32 2 _ (by decide)) (h32 3 _ (by decide))) (PcOK.cons 3 0
    (congrArg₂ (fun a b => ON a b (LD arg3 harg3 x1 3 0)) (h32 0 _ (by decide)) (h32 1 _ (by decide))) (PcOK.cons 2 3
    (congrArg₂ (fun a b => ON a b (LD arg3 harg3 x1 2 3)) (h24 6 _ (by decide)) (h24 7 _ (by decide))) (PcOK.cons 2 2
    (congrArg₂ (fun a b => ON a b (LD arg3 harg3 x1 2 2)) (h24 4 _ (by decide)) (h24 5 _ (by decide))) (PcOK.cons 2 1
    (congrArg₂ (fun a b => ON a b (LD arg3 harg3 x1 2 1)) (h24 2 _ (by decide)) (h24 3 _ (by decide))) (PcOK.cons 2 0
    (congrArg₂ (fun a b => ON a b (LD arg3 harg3 x1 2 0)) (h24 0 _ (by decide)) (h24 1 _ (by decide))) (PcOK.cons 1 3
    (congrArg₂ (fun a b => ON a b (LD arg3 harg3 x1 1 3)) (h16 6 _ (by decide)) (h16 7 _ (by decide))) (PcOK.cons 1 2
    (congrArg₂ (fun a b => ON a b (LD arg3 harg3 x1 1 2)) (h16 4 _ (by decide)) (h16 5 _ (by decide))) (PcOK.cons 1 1
    (congrArg₂ (fun a b => ON a b (LD arg3 harg3 x1 1 1)) (h16 2 _ (by decide)) (h16 3 _ (by decide))) (PcOK.cons 1 0
    (congrArg₂ (fun a b => ON a b (LD arg3 harg3 x1 1 0)) (h16 0 _ (by decide)) (h16 1 _ (by decide))) (PcOK.cons 0 3
    (congrArg₂ (fun a b => ON a b (LD arg3 harg3 x1 0 3)) (h8 6 _ (by decide)) (h8 7 _ (by decide))) (PcOK.cons 0 2
    (congrArg₂ (fun a b => ON a b (LD arg3 harg3 x1 0 2)) (h8 4 _ (by decide)) (h8 5 _ (by decide))) (PcOK.cons 0 1
    (congrArg₂ (fun a b => ON a b (LD arg3 harg3 x1 0 1)) (h8 2 _ (by decide)) (h8 3 _ (by decide))) (PcOK.cons 0 0
    (congrArg₂ (fun a b => ON a b (LD arg3 harg3 x1 0 0)) (h8 0 _ (by decide)) (h8 1 _ (by decide))) (PcOK.nil _)))))))))))))))))

theorem out_q : out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = Blk (qG arg2 harg2 arg3 harg3 arg4 harg4 arg5 harg5 arg6 harg6 arg7 harg7 x0 x1 x2 x3 x4 x5) := by
  funext y
  exact View.read_writes_apply_of_pieces (Val := Elt F) VO0_6 VO0_6.junk _ _ (pc_q c arg2 harg2 arg3 harg3 arg4 harg4 arg5 harg5 arg6 harg6 arg7 harg7 arg8 harg8 arg9 harg9 arg10 harg10 arg11 harg11 arg12 harg12 arg13 harg13 arg14 harg14 x0 x1 x2 x3 x4 x5 i) y
    (cover0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y)

theorem pc_k : PcOK (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1 (Blk (kG arg2 harg2 arg3 harg3 arg4 harg4 arg5 harg5 arg6 harg6 arg7 harg7 x0 x1 x2 x3 x4 x5)) := by
  have h8 := hs3_8 c arg2 harg2 arg3 harg3 arg4 harg4 arg5 harg5 arg6 harg6 arg7 harg7 arg11 arg12 arg14 x0 x1 x2 x3 x4 x5
  have h16 := hs3_16 c arg2 harg2 arg3 harg3 arg4 harg4 arg5 harg5 arg6 harg6 arg7 harg7 arg11 arg12 arg14 x0 x1 x2 x3 x4 x5
  have h24 := hs3_24 c arg2 harg2 arg3 harg3 arg4 harg4 arg5 harg5 arg6 harg6 arg7 harg7 arg11 arg12 arg14 x0 x1 x2 x3 x4 x5
  have h32 := hs3_32 c arg2 harg2 arg3 harg3 arg4 harg4 arg5 harg5 arg6 harg6 arg7 harg7 arg11 arg12 arg14 x0 x1 x2 x3 x4 x5
  unfold kernelRun0_A
  dsimp only
  exact (PcOK.cons 3 3
    (congrArg₂ (fun a b => OT a b (LD arg2 harg2 x0 3 3)) (h32 6 _ (by decide)) (h32 7 _ (by decide))) (PcOK.cons 3 2
    (congrArg₂ (fun a b => OT a b (LD arg2 harg2 x0 3 2)) (h32 4 _ (by decide)) (h32 5 _ (by decide))) (PcOK.cons 3 1
    (congrArg₂ (fun a b => OT a b (LD arg2 harg2 x0 3 1)) (h32 2 _ (by decide)) (h32 3 _ (by decide))) (PcOK.cons 3 0
    (congrArg₂ (fun a b => OT a b (LD arg2 harg2 x0 3 0)) (h32 0 _ (by decide)) (h32 1 _ (by decide))) (PcOK.cons 2 3
    (congrArg₂ (fun a b => OT a b (LD arg2 harg2 x0 2 3)) (h24 6 _ (by decide)) (h24 7 _ (by decide))) (PcOK.cons 2 2
    (congrArg₂ (fun a b => OT a b (LD arg2 harg2 x0 2 2)) (h24 4 _ (by decide)) (h24 5 _ (by decide))) (PcOK.cons 2 1
    (congrArg₂ (fun a b => OT a b (LD arg2 harg2 x0 2 1)) (h24 2 _ (by decide)) (h24 3 _ (by decide))) (PcOK.cons 2 0
    (congrArg₂ (fun a b => OT a b (LD arg2 harg2 x0 2 0)) (h24 0 _ (by decide)) (h24 1 _ (by decide))) (PcOK.cons 1 3
    (congrArg₂ (fun a b => OT a b (LD arg2 harg2 x0 1 3)) (h16 6 _ (by decide)) (h16 7 _ (by decide))) (PcOK.cons 1 2
    (congrArg₂ (fun a b => OT a b (LD arg2 harg2 x0 1 2)) (h16 4 _ (by decide)) (h16 5 _ (by decide))) (PcOK.cons 1 1
    (congrArg₂ (fun a b => OT a b (LD arg2 harg2 x0 1 1)) (h16 2 _ (by decide)) (h16 3 _ (by decide))) (PcOK.cons 1 0
    (congrArg₂ (fun a b => OT a b (LD arg2 harg2 x0 1 0)) (h16 0 _ (by decide)) (h16 1 _ (by decide))) (PcOK.cons 0 3
    (congrArg₂ (fun a b => OT a b (LD arg2 harg2 x0 0 3)) (h8 6 _ (by decide)) (h8 7 _ (by decide))) (PcOK.cons 0 2
    (congrArg₂ (fun a b => OT a b (LD arg2 harg2 x0 0 2)) (h8 4 _ (by decide)) (h8 5 _ (by decide))) (PcOK.cons 0 1
    (congrArg₂ (fun a b => OT a b (LD arg2 harg2 x0 0 1)) (h8 2 _ (by decide)) (h8 3 _ (by decide))) (PcOK.cons 0 0
    (congrArg₂ (fun a b => OT a b (LD arg2 harg2 x0 0 0)) (h8 0 _ (by decide)) (h8 1 _ (by decide))) (PcOK.nil _)))))))))))))))))

theorem out_k : out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = Blk (kG arg2 harg2 arg3 harg3 arg4 harg4 arg5 harg5 arg6 harg6 arg7 harg7 x0 x1 x2 x3 x4 x5) := by
  funext y
  exact View.read_writes_apply_of_pieces (Val := Elt F) VO0_7 VO0_7.junk _ _ (pc_k c arg2 harg2 arg3 harg3 arg4 harg4 arg5 harg5 arg6 harg6 arg7 harg7 arg8 harg8 arg9 harg9 arg10 harg10 arg11 harg11 arg12 harg12 arg13 harg13 arg14 harg14 x0 x1 x2 x3 x4 x5 i) y
    (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y)

theorem pc_v : PcOK (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1 (Blk (vG arg2 harg2 arg3 harg3 arg5 harg5 arg7 harg7 x0 x1 x3 x5)) := by
  have h8 := hs2_8 c arg2 harg2 arg3 harg3 arg7 harg7 arg11 arg13 x0 x1 x5
  have h16 := hs2_16 c arg2 harg2 arg3 harg3 arg7 harg7 arg11 arg13 x0 x1 x5
  have h24 := hs2_24 c arg2 harg2 arg3 harg3 arg7 harg7 arg11 arg13 x0 x1 x5
  have h32 := hs2_32 c arg2 harg2 arg3 harg3 arg7 harg7 arg11 arg13 x0 x1 x5
  unfold kernelRun0_A
  dsimp only
  exact (PcOK.cons 3 3
    (congrArg₂ (fun a b => OT a b (LD arg5 harg5 x3 3 3)) (h32 6 _ (by decide)) (h32 7 _ (by decide))) (PcOK.cons 3 2
    (congrArg₂ (fun a b => OT a b (LD arg5 harg5 x3 3 2)) (h32 4 _ (by decide)) (h32 5 _ (by decide))) (PcOK.cons 3 1
    (congrArg₂ (fun a b => OT a b (LD arg5 harg5 x3 3 1)) (h32 2 _ (by decide)) (h32 3 _ (by decide))) (PcOK.cons 3 0
    (congrArg₂ (fun a b => OT a b (LD arg5 harg5 x3 3 0)) (h32 0 _ (by decide)) (h32 1 _ (by decide))) (PcOK.cons 2 3
    (congrArg₂ (fun a b => OT a b (LD arg5 harg5 x3 2 3)) (h24 6 _ (by decide)) (h24 7 _ (by decide))) (PcOK.cons 2 2
    (congrArg₂ (fun a b => OT a b (LD arg5 harg5 x3 2 2)) (h24 4 _ (by decide)) (h24 5 _ (by decide))) (PcOK.cons 2 1
    (congrArg₂ (fun a b => OT a b (LD arg5 harg5 x3 2 1)) (h24 2 _ (by decide)) (h24 3 _ (by decide))) (PcOK.cons 2 0
    (congrArg₂ (fun a b => OT a b (LD arg5 harg5 x3 2 0)) (h24 0 _ (by decide)) (h24 1 _ (by decide))) (PcOK.cons 1 3
    (congrArg₂ (fun a b => OT a b (LD arg5 harg5 x3 1 3)) (h16 6 _ (by decide)) (h16 7 _ (by decide))) (PcOK.cons 1 2
    (congrArg₂ (fun a b => OT a b (LD arg5 harg5 x3 1 2)) (h16 4 _ (by decide)) (h16 5 _ (by decide))) (PcOK.cons 1 1
    (congrArg₂ (fun a b => OT a b (LD arg5 harg5 x3 1 1)) (h16 2 _ (by decide)) (h16 3 _ (by decide))) (PcOK.cons 1 0
    (congrArg₂ (fun a b => OT a b (LD arg5 harg5 x3 1 0)) (h16 0 _ (by decide)) (h16 1 _ (by decide))) (PcOK.cons 0 3
    (congrArg₂ (fun a b => OT a b (LD arg5 harg5 x3 0 3)) (h8 6 _ (by decide)) (h8 7 _ (by decide))) (PcOK.cons 0 2
    (congrArg₂ (fun a b => OT a b (LD arg5 harg5 x3 0 2)) (h8 4 _ (by decide)) (h8 5 _ (by decide))) (PcOK.cons 0 1
    (congrArg₂ (fun a b => OT a b (LD arg5 harg5 x3 0 1)) (h8 2 _ (by decide)) (h8 3 _ (by decide))) (PcOK.cons 0 0
    (congrArg₂ (fun a b => OT a b (LD arg5 harg5 x3 0 0)) (h8 0 _ (by decide)) (h8 1 _ (by decide))) (PcOK.nil _)))))))))))))))))

theorem out_v : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 = Blk (vG arg2 harg2 arg3 harg3 arg5 harg5 arg7 harg7 x0 x1 x3 x5) := by
  funext y
  exact View.read_writes_apply_of_pieces (Val := Elt F) VO0_8 VO0_8.junk _ _ (pc_v c arg2 harg2 arg3 harg3 arg4 harg4 arg5 harg5 arg6 harg6 arg7 harg7 arg8 harg8 arg9 harg9 arg10 harg10 arg11 harg11 arg12 harg12 arg13 harg13 arg14 harg14 x0 x1 x2 x3 x4 x5 i) y
    (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 y)

end Step

end Cert.Branch.Kern
-- ==== Proof.Math.lean ====
/- The real-number content of the certificate: one row of the dilated branch's softmax, its part in the mixture of the
   branches, and the gradient through both. Coordinates are natural numbers; the arrays are functions of them. -/
module

public import Idealize.ShloMosaic.PureOps.Ideal.Laws

@[expose] public section

noncomputable section

namespace Cert.Branch

open Finset

/-- The arguments as real functions of their coordinates: `q k v` by (unit, row, lane), `o1 o4 ct` by (unit, row, head,
    lane of the head), `l1 l4` by (unit, row, head). -/
structure Data where
  q : ℕ → ℕ → ℕ → ℝ
  k : ℕ → ℕ → ℕ → ℝ
  v : ℕ → ℕ → ℕ → ℝ
  o1 : ℕ → ℕ → ℕ → ℕ → ℝ
  l1 : ℕ → ℕ → ℕ → ℝ
  o4 : ℕ → ℕ → ℕ → ℕ → ℝ
  l4 : ℕ → ℕ → ℕ → ℝ
  ct : ℕ → ℕ → ℕ → ℕ → ℝ

variable (D : Data) (n h i j d : ℕ)

/-- The scaled query. -/
def qs : ℝ := D.q n i (h * 64 + d) * (1 / 8)
/-- The key of the window of two blocks; the block before the first is zero. -/
def kc : ℝ := if j < 128 then 0 else D.k n (j - 128) (h * 64 + d)
/-- The value of the window of two blocks. -/
def vc : ℝ := if j < 128 then 0 else D.v n (j - 128) (h * 64 + d)
/-- The score of query `i` and window key `j`. -/
def sc : ℝ := ∑ d : Fin 64, kc D n h j d * qs D n h i d
/-- The window keys that query `i` attends to. -/
def Ok : Prop := 128 ≤ j ∧ j ≤ 128 + i
instance : Decidable (Ok i j) := by unfold Ok; infer_instance
/-- The masked score, an extended real. -/
def sm : EReal := if Ok i j then ((sc D n h i j : ℝ) : EReal) else ⊥
/-- The row's maximum. -/
def top : ℝ := (range (i + 1)).sup' ⟨0, by simp⟩ fun j => sc D n h i (128 + j)
/-- The unnormalised weight. -/
def ex : ℝ := if Ok i j then Real.exp (sc D n h i j - top D n h i) else 0
/-- The row's normaliser. -/
def zz : ℝ := ∑ j : Fin 256, ex D n h i j
/-- The row's log-sum. -/
def ls : ℝ := top D n h i + Real.log (zz D n h i)
/-- The branch's output. -/
def oo : ℝ := ∑ j : Fin 256, vc D n h j d * (ex D n h i j / zz D n h i)

/-- The largest of the three log-sums. -/
def m3 : ℝ := max (max (D.l1 n i h) (D.l4 n i h)) (ls D n h i)
/-- The log-sum and the output of branch `b`. -/
def lb (b : ℕ) : ℝ := if b = 0 then D.l1 n i h else if b = 1 then D.l4 n i h else ls D n h i
def ob (b : ℕ) : ℝ := if b = 0 then D.o1 n i h d else if b = 1 then D.o4 n i h d else oo D n h i d
def eb (b : ℕ) : ℝ := Real.exp (lb D n h i b - m3 D n h i)
def z3 : ℝ := ∑ b : Fin 3, eb D n h i b
def wb (b : ℕ) : ℝ := eb D n h i b / z3 D n h i
/-- The cotangent's product with branch `b`'s output. -/
def ab (b : ℕ) : ℝ := ∑ d : Fin 64, D.ct n i h d * ob D n h i d b
/-- The cotangent of the branch's output. -/
def dob : ℝ := wb D n h i 2 * D.ct n i h d
/-- The part that every score of the row loses. -/
def dl : ℝ := wb D n h i 2 * ∑ b : Fin 3, wb D n h i b * ab D n h i b
/-- The cotangent of the branch's log-sum. -/
def dls : ℝ := (ab D n h i 2 / z3 D n h i + -(∑ b : Fin 3, ab D n h i b * (1 / (z3 D n h i * z3 D n h i)) * eb D n h i b)) * eb D n h i 2
/-- The cotangent of the normalised weight. -/
def dpw : ℝ := ∑ d : Fin 64, dob D n h i d * vc D n h j d
/-- The part of the normaliser's cotangent. -/
def dzz : ℝ := dls D n h i / zz D n h i + -(∑ j : Fin 256, dpw D n h i j * (1 / (zz D n h i * zz D n h i)) * ex D n h i j)
/-- The cotangent of the shifted score. -/
def dsr : ℝ := (dpw D n h i j / zz D n h i + dzz D n h i) * ex D n h i j

/-- The weight of query `i` on key `j` of its own block. -/
def pr : ℝ := if j ≤ i then Real.exp (sc D n h i (128 + j) - ls D n h i) else 0
/-- The cotangent of its score. -/
def ds : ℝ := pr D n h i j * (dpw D n h i (128 + j) - dl D n h i)

/-! ## The softmax row -/

theorem le_top {i j : ℕ} (hj : Ok i j) : sc D n h i j ≤ top D n h i := by
  obtain ⟨h1, h2⟩ := hj
  obtain ⟨j, rfl⟩ := Nat.exists_eq_add_of_le h1
  exact le_sup' (fun j => sc D n h i (128 + j)) (mem_range.mpr (by omega))

theorem top_mem : ∃ j, Ok i j ∧ sc D n h i j = top D n h i := by
  obtain ⟨j, hj, e⟩ := exists_mem_eq_sup' (s := range (i + 1)) ⟨0, by simp⟩ fun j => sc D n h i (128 + j)
  exact ⟨128 + j, ⟨by omega, by have := mem_range.mp hj; omega⟩, e.symm⟩

theorem ex_nonneg : 0 ≤ ex D n h i j := by unfold ex; split_ifs <;> positivity

theorem zz_pos (hi : i < 128) : 0 < zz D n h i := by
  unfold zz
  refine sum_pos' (fun j _ => ex_nonneg D n h i j) ⟨⟨128, by omega⟩, mem_univ _, ?_⟩
  unfold ex
  rw [if_pos ⟨le_refl _, by simp⟩]
  positivity

theorem ex_div (hi : i < 128) (hj : Ok i j) :
    ex D n h i j / zz D n h i = Real.exp (sc D n h i j - ls D n h i) := by
  unfold ex ls
  rw [if_pos hj, ← sub_sub, Real.exp_sub _ (Real.log _), Real.exp_log (zz_pos D n h i hi)]

theorem sum_ex_div (hi : i < 128) : ∑ j : Fin 256, ex D n h i j / zz D n h i = 1 := by
  rw [← sum_div]; exact div_self (zz_pos D n h i hi).ne'

/-! ## The mixture -/

theorem z3_pos : 0 < z3 D n h i := by
  unfold z3 eb; exact sum_pos (fun _ _ => Real.exp_pos _) ⟨0, mem_univ _⟩

theorem wb_two : wb D n h i 2 = 1 - wb D n h i 0 - wb D n h i 1 := by
  have hz := (z3_pos D n h i).ne'
  have e : z3 D n h i = eb D n h i 0 + eb D n h i 1 + eb D n h i 2 := by
    unfold z3; rw [Fin.sum_univ_three]; rfl
  unfold wb
  field_simp
  linarith

theorem dls_eq : dls D n h i = wb D n h i 2 * (ab D n h i 2 - ∑ b : Fin 3, wb D n h i b * ab D n h i b) := by
  have hz := (z3_pos D n h i).ne'
  unfold dls wb
  simp only [Fin.sum_univ_three]
  field_simp
  ring

/-- The row's sum of the weights' cotangents. -/
theorem sum_dpw : ∑ j : Fin 256, dpw D n h i j * (ex D n h i j / zz D n h i) = wb D n h i 2 * ab D n h i 2 := by
  unfold dpw ab dob
  simp only [sum_mul]
  rw [sum_comm, mul_sum]
  refine sum_congr rfl fun d _ => ?_
  show _ = wb D n h i 2 * (D.ct n i h d * oo D n h i d)
  unfold oo
  rw [mul_sum, mul_sum]
  exact sum_congr rfl fun j _ => by ring

theorem dzz_eq (hi : i < 128) : dzz D n h i = -dl D n h i / zz D n h i := by
  have hz := (zz_pos D n h i hi).ne'
  have e : ∑ j : Fin 256, dpw D n h i j * (1 / (zz D n h i * zz D n h i)) * ex D n h i j
      = (wb D n h i 2 * ab D n h i 2) / zz D n h i := by
    rw [← sum_dpw, sum_div]
    exact sum_congr rfl fun j _ => by field_simp
  unfold dzz
  rw [e, dls_eq]
  unfold dl
  field_simp
  ring

/-- A row's scores take nothing from its maximum. -/
theorem dmax_eq (hi : i < 128) : dls D n h i + ∑ j : Fin 256, -dsr D n h i j = 0 := by
  have e : ∑ j : Fin 256, dsr D n h i j = wb D n h i 2 * ab D n h i 2 - dl D n h i := by
    have : ∀ j : Fin 256, dsr D n h i j = dpw D n h i j * (ex D n h i j / zz D n h i) - dl D n h i * (ex D n h i j / zz D n h i) := by
      intro j; unfold dsr; rw [dzz_eq D n h i hi]; ring
    simp only [this]
    rw [sum_sub_distrib, sum_dpw, ← mul_sum, sum_ex_div D n h i hi, mul_one]
  rw [sum_neg_distrib, e, dls_eq]
  unfold dl
  ring

theorem dsr_eq (hi : i < 128) : dsr D n h i (128 + j) = ds D n h i j := by
  unfold dsr ds pr
  by_cases hj : j ≤ i
  · rw [dzz_eq D n h i hi, if_pos hj, ← ex_div D n h i (128 + j) hi ⟨by omega, by omega⟩]
    ring
  · rw [if_neg hj]
    unfold ex
    rw [if_neg (by unfold Ok; omega)]
    ring

theorem pr_eq (hi : i < 128) : ex D n h i (128 + j) / zz D n h i = pr D n h i j := by
  unfold pr
  by_cases hj : j ≤ i
  · rw [if_pos hj, ex_div D n h i (128 + j) hi ⟨by omega, by omega⟩]
  · rw [if_neg hj]; unfold ex; rw [if_neg (by unfold Ok; omega), zero_div]

/-! ## The results -/

/-- The gradient of the scaled query, of the key and of the value, by (unit, row, head, lane of the head). -/
def gq : ℝ := ∑ j : Fin 128, ds D n h i j * D.k n j (h * 64 + d)
def gk : ℝ := ∑ i : Fin 128, ds D n h i j * qs D n h i d
def gv : ℝ := ∑ i : Fin 128, pr D n h i j * dob D n h i d

theorem gq_eq (hi : i < 128) : ∑ j : Fin 256, dsr D n h i j * kc D n h j d = gq D n h i d := by
  rw [show (∑ j : Fin 256, dsr D n h i j * kc D n h j d) = _ from
    Fin.sum_univ_add (a := 128) (b := 128) fun j : Fin (128 + 128) => dsr D n h i j * kc D n h j d]
  unfold gq
  rw [sum_eq_zero (s := univ (α := Fin 128)), zero_add]
  · refine sum_congr rfl fun j _ => ?_
    rw [Fin.val_natAdd, dsr_eq D n h i j hi]
    unfold kc
    rw [if_neg (by omega), Nat.add_sub_cancel_left]
  · intro j _
    unfold kc
    rw [if_pos (by rw [Fin.val_castAdd]; exact j.isLt), mul_zero]

/-! ## Extended reals -/

theorem coe_sum {ι : Type*} (s : Finset ι) (f : ι → ℝ) : (∑ a ∈ s, ((f a : ℝ) : EReal)) = ((∑ a ∈ s, f a : ℝ) : EReal) := by
  classical
  induction s using Finset.induction_on with
  | empty => simp
  | insert a s ha ih => rw [sum_insert ha, sum_insert ha, ih, EReal.coe_add]

/-- A fold of the maximum whose terms are below a value that one of them takes. -/
theorem fold_max_eq {ι : Type*} (s : Finset ι) (f : ι → EReal) (x : EReal) (hle : ∀ a ∈ s, f a ≤ x) (hx : ∃ a ∈ s, f a = x) :
    s.fold max ⊥ f = x := by
  refine le_antisymm ((fold_max_le x).mpr ⟨bot_le, hle⟩) ?_
  obtain ⟨a, ha, rfl⟩ := hx
  exact le_fold_max _ |>.mpr (Or.inr ⟨a, ha, le_refl _⟩)

theorem fold_sm (hi : i < 128) :
    (univ : Finset (Fin 256)).fold max ⊥ (fun j : Fin 256 => sm D n h i j) = ((top D n h i : ℝ) : EReal) := by
  refine fold_max_eq _ _ _ (fun j _ => ?_) ?_
  · unfold sm
    split_ifs with hj
    · exact EReal.coe_le_coe_iff.mpr (le_top D n h hj)
    · exact bot_le
  · obtain ⟨j, hj, e⟩ := top_mem D n h i
    refine ⟨⟨j, by have := hj.2; omega⟩, mem_univ _, ?_⟩
    unfold sm
    rw [if_pos hj, e]

/-- The number of maxima of a row is not zero. -/
theorem count_pos (hi : i < 128) : 0 < ∑ j : Fin 256, if sm D n h i j = ((top D n h i : ℝ) : EReal) then (1 : ℝ) else 0 := by
  obtain ⟨j, hj, e⟩ := top_mem D n h i
  refine sum_pos' (fun _ _ => by split_ifs <;> norm_num) ⟨⟨j, by have := hj.2; omega⟩, mem_univ _, ?_⟩
  rw [if_pos (by unfold sm; rw [if_pos hj, e])]
  norm_num

/-- The masked, shifted and exponentiated score. -/
theorem exp_sm : Idealize.ShloMosaic.Ideal.exp (sm D n h i j - ((top D n h i : ℝ) : EReal)) = ((ex D n h i j : ℝ) : EReal) := by
  unfold sm ex
  split_ifs
  · rw [← EReal.coe_sub]; rfl
  · rw [sub_eq_add_neg, EReal.bot_add]; rfl

/-- The exact quotient of two reals. -/
theorem div_coe (x y : ℝ) (hy : y ≠ 0) : Idealize.ShloMosaic.Ideal.div (x : EReal) (y : EReal) = ((x / y : ℝ) : EReal) := by
  unfold Idealize.ShloMosaic.Ideal.div
  rw [if_neg (by exact_mod_cast hy), ← EReal.coe_inv, ← EReal.coe_mul, div_eq_mul_inv]

theorem log_coe (x : ℝ) (hx : 0 < x) : Idealize.ShloMosaic.Ideal.log (x : EReal) = ((Real.log x : ℝ) : EReal) := by
  show (if x ≤ 0 then (⊥ : EReal) else _) = _
  rw [if_neg (not_le.mpr hx)]

end Cert.Branch
-- ==== Proof.Consts.lean ====
/- The constants of the two programs as extended reals, and small readings shared by both sides. -/
module

public import proofs.«01_k».proof.Proof.Math
public import Idealize.ShloMosaic.Lib.ValueIdx

@[expose] public section

noncomputable section

namespace Cert.Branch

open Idealize.ShloMosaic

theorem c18 : (FloatOps.ofBits (F := Ideal) .f32 0x3E000000#32) = ((1 / 8 : ℝ) : EReal) := by
  show Ideal.ofBits .f32 0x3E000000#32 = _
  simp [Ideal.ofBits, Ideal.ieee, -EReal.coe_mul]; norm_num
theorem c1 : (FloatOps.ofBits (F := Ideal) .f32 0x3F800000#32) = ((1 : ℝ) : EReal) := by
  show Ideal.ofBits .f32 0x3F800000#32 = _
  simp [Ideal.ofBits, Ideal.ieee, -EReal.coe_mul]; norm_num
theorem c0 : (FloatOps.ofBits (F := Ideal) .f32 0x00000000#32) = ((0 : ℝ) : EReal) := by
  show Ideal.ofBits .f32 0x00000000#32 = _
  simp [Ideal.ofBits, Ideal.ieee, -EReal.coe_mul]
theorem cbot : (FloatOps.ofBits (F := Ideal) .f32 0xFF800000#32) = (⊥ : EReal) := by
  show Ideal.ofBits .f32 0xFF800000#32 = _
  simp [Ideal.ofBits, Ideal.ieee, -EReal.coe_mul]

/-- An equality test converted to a float. -/
theorem conv_eq (x y : EReal) :
    FloatOps.uitofp (F := Ideal) .f32 (FloatOps.cmpf (F := Ideal) (φ := .f32) .oeq x y) = ((if x = y then 1 else 0 : ℝ) : EReal) := by
  show ((((Ideal.cmp .oeq x y).toNat : ℝ)) : EReal) = _
  unfold Ideal.cmp
  split_ifs <;> simp_all

theorem fold_m3 (D : Data) (n h i : ℕ) :
    (Finset.univ : Finset (Fin 3)).fold max ⊥ (fun b : Fin 3 => ((lb D n h i b : ℝ) : EReal)) = ((m3 D n h i : ℝ) : EReal) := by
  refine fold_max_eq _ _ _ (fun b _ => ?_) ?_
  · refine EReal.coe_le_coe_iff.mpr ?_
    unfold m3
    fin_cases b
    · exact le_max_of_le_left (le_max_left _ _)
    · exact le_max_of_le_left (le_max_right _ _)
    · exact le_max_right _ _
  · unfold m3
    rcases max_choice (max (D.l1 n i h) (D.l4 n i h)) (ls D n h i) with e | e
    · rw [e]
      rcases max_choice (D.l1 n i h) (D.l4 n i h) with e | e
      · rw [e]; exact ⟨0, Finset.mem_univ _, rfl⟩
      · rw [e]; exact ⟨1, Finset.mem_univ _, rfl⟩
    · rw [e]; exact ⟨2, Finset.mem_univ _, rfl⟩

end Cert.Branch
-- ==== Proof.KVal.lean ====
/- The kernel's stored blocks read at exact values: real sums over lanes and rows. -/
module

public import proofs.«01_k».proof.Proof.Kern
public import proofs.«01_k».proof.Proof.Consts
public import Idealize.ShloMosaic.Lib.ValueIdx
public import Idealize.ShloMosaic.Lib.Pipeline.Value

@[expose] public section

set_option maxRecDepth 16384

noncomputable section

namespace Cert.Branch.Kern

open Cert.KernelIdeal Cert.KernelIdeal.Gen Idealize.ShloMosaic Idealize.ShloMosaic.ValueIdx Idealize.ShloMosaic.TcCoe Idealize.SL.Sem

/-! ## Loads -/

section Loads
variable {F : FTy → Type} [FloatOps F] [Named F]

theorem LD_apply (a : Memref sig .tc .vmem S4x128x512 .bf16) (ha : a.IsWhole) (x : Vec F S4x128x512 .bf16) (u p : ℕ) (j : S128x128.Idx) :
    LD a ha x u p j = x (ix3 (n0 := 4) (n1 := 128) (n2 := 512) ⟨u % 4, Nat.mod_lt _ (by decide)⟩ (j 0)
      ⟨p % 4 * 128 + (j 1).val, by have := Nat.mod_lt p (show 4 > 0 by decide); have : (j 1).val < 128 := (j 1).isLt; omega⟩) := by
  unfold LD
  refine (shapeCast_apply _ _ j j rfl).trans ?_
  dsimp only [LoadRect.valAlong]
  rw [show Shape.reshapeEquiv (LoadRect.numel_consLift (Rect.unit (s := S128x512) ![0, p % 4 * 128] S128x128.size (pair_inb p)).toLoadRect ![1, 128, 512] rfl (by decide)) j
    = Fin.cons ⟨0, Nat.one_pos⟩ j from Shape.reshapeEquiv_cons_one (d := S128x128.size) _ _]
  refine (congrFun (ha.read_unread x) _).trans ?_
  refine congrArg x (funext fun b => Fin.ext ?_)
  fin_cases b
  · show u % 4 + 0 + 1 * 0 = u % 4; omega
  · show 0 + 0 + 1 * (j 0).val = (j 0).val; omega
  · show 0 + p % 4 * 128 + 1 * (j 1).val = p % 4 * 128 + (j 1).val; omega

theorem CL_apply (a : Memref sig .tc .vmem S4x128x128 .f32) (ha : a.IsWhole) (x : Vec F S4x128x128 .f32) (u h : ℕ) (j : S128x128.Idx) :
    CL a ha x u h j = x (ix3 (n0 := 4) (n1 := 128) (n2 := 128) ⟨u % 4, Nat.mod_lt _ (by decide)⟩ (j 0)
      ⟨h % 8, by have := Nat.mod_lt h (show 8 > 0 by decide); omega⟩) := by
  unfold CL bc
  refine (broadcastTo_apply _ _ j (ix2 (n0 := 128) (n1 := 1) (j 0) 0) (fun b => ?_)).trans ?_
  · fin_cases b <;> rfl
  refine (shapeCast_apply _ _ _ (ix2 (n0 := 128) (n1 := 1) (j 0) 0) rfl).trans ?_
  refine (shapeCast_apply _ _ _ (ix2 (n0 := 128) (n1 := 1) (j 0) 0) rfl).trans ?_
  dsimp only [LoadRect.valAlong]
  rw [show Shape.reshapeEquiv (LoadRect.numel_consLift (Rect.unit (s := S128x128) ![0, h % 8] S128x1.size (col_inb h)).toLoadRect ![1, 128, 128] rfl (by decide)) (ix2 (n0 := 128) (n1 := 1) (j 0) 0)
    = Fin.cons ⟨0, Nat.one_pos⟩ (ix2 (n0 := 128) (n1 := 1) (j 0) 0) from Shape.reshapeEquiv_cons_one (d := S128x1.size) _ _]
  refine (congrFun (ha.read_unread x) _).trans ?_
  refine congrArg x (funext fun b => Fin.ext ?_)
  fin_cases b
  · show u % 4 + 0 + 1 * 0 = u % 4; omega
  · show 0 + 0 + 1 * (j 0).val = (j 0).val; omega
  · show 0 + h % 8 + 1 * 0 = h % 8; omega

theorem up_apply {t : FTy} (v : FVec F S128x128 t) (i : S1x128x128.Idx) : up v i = v (ix2 (n0 := 128) (n1 := 128) (i 1) (i 2)) := by
  refine shapeCast_apply v _ i _ ?_
  have h0 : (i 0).val < 1 := (i 0).isLt
  rw [Shape.rowMajor_val_two, Shape.rowMajor_val_three]
  show (i 1).val * 128 + (i 2).val = ((i 0).val * 128 + (i 1).val) * 128 + (i 2).val
  omega

theorem dn_apply {t : FTy} (v : FVec F S1x128x128 t) (j : S128x128.Idx) : dn v j = v (ix3 (n0 := 1) (n1 := 128) (n2 := 128) 0 (j 0) (j 1)) := by
  refine shapeCast_apply v _ j _ ?_
  rw [Shape.rowMajor_val_two, Shape.rowMajor_val_three]
  show (0 * 128 + (j 0).val) * 128 + (j 1).val = (j 0).val * 128 + (j 1).val
  omega

theorem dn_up {t : FTy} (v : FVec F S128x128 t) (j : S128x128.Idx) : dn (up v) j = v j := by
  rw [dn_apply, up_apply]
  exact congrArg v (eq_ix2 j).symm

end Loads

/-! ## The lane and triangle masks -/

set_option maxRecDepth 100000 in
theorem lo_word (b : Fin 128) : IntOp.cmpi .slt (BitVec.ofNat 32 (0 * 128 + b.val)) 64#32 = if b.val < 64 then 1#1 else 0#1 := by
  revert b; decide +kernel

set_option maxRecDepth 100000 in
theorem tri_word (a b : Fin 128) :
    IntOp.cmpi .sle (BitVec.ofNat 32 (0 * 128 + b.val)) (BitVec.ofNat 32 (0 * 128 + a.val)) = if b.val ≤ a.val then 1#1 else 0#1 := by
  revert a b; decide +kernel

theorem lo_apply (j : S128x128.Idx) : lo j = if (j 1).val < 64 then 1#1 else 0#1 := lo_word (j 1)
theorem tri_apply (j : S128x128.Idx) : tri j = if (j 1).val ≤ (j 0).val then 1#1 else 0#1 := tri_word (j 0) (j 1)

theorem zero16 : (Scalar.ofBits .bf16 0x0000#16 : Ideal .bf16) = ((0 : ℝ) : EReal) := by
  show Ideal.ofBits .bf16 0x0000#16 = _
  simp [Ideal.ofBits, Ideal.ieee, -EReal.coe_mul]

theorem half_zero (v : FVec Ideal S128x128 .bf16) (j : S128x128.Idx) (r : ℝ) (hr : v j = (r : EReal)) :
    half 0 v j = ((if (j 1).val < 64 then r else 0 : ℝ) : EReal) := by
  show Scalar.select (lo j) (v j) (Scalar.ofBits .bf16 0x0000#16) = _
  rw [lo_apply, hr, zero16]
  split_ifs
  · exact select_one _ _
  · exact select_zero _ _

theorem half_one (v : FVec Ideal S128x128 .bf16) (j : S128x128.Idx) (r : ℝ) (hr : v j = (r : EReal)) :
    half 1 v j = ((if (j 1).val < 64 then 0 else r : ℝ) : EReal) := by
  show Scalar.select (lo j) (Scalar.ofBits .bf16 0x0000#16) (v j) = _
  rw [lo_apply, hr, zero16]
  split_ifs
  · exact select_one _ _
  · exact select_zero _ _

theorem sum_lo (f : ℕ → ℝ) : (∑ d : Fin 128, if d.val < 64 then f d else 0) = ∑ d : Fin 64, f d := by
  rw [show (∑ d : Fin 128, if d.val < 64 then f d else 0) = _ from
    Fin.sum_univ_add (a := 64) (b := 64) fun d : Fin (64 + 64) => if d.val < 64 then f d else 0]
  rw [Finset.sum_eq_zero (s := Finset.univ (α := Fin 64)) (f := fun d => if (Fin.natAdd 64 d).val < 64 then f (Fin.natAdd 64 d) else 0), add_zero]
  · exact Finset.sum_congr rfl fun d _ => by rw [if_pos (by rw [Fin.val_castAdd]; exact d.isLt)]; rfl
  · intro d _; rw [if_neg (by rw [Fin.val_natAdd]; omega)]

theorem sum_hi (f : ℕ → ℝ) : (∑ d : Fin 128, if d.val < 64 then 0 else f d) = ∑ d : Fin 64, f (64 + d) := by
  rw [show (∑ d : Fin 128, if d.val < 64 then 0 else f d) = _ from
    Fin.sum_univ_add (a := 64) (b := 64) fun d : Fin (64 + 64) => if d.val < 64 then 0 else f d]
  rw [Finset.sum_eq_zero (s := Finset.univ (α := Fin 64)) (f := fun d => if (Fin.castAdd 64 d).val < 64 then 0 else f (Fin.castAdd 64 d)), zero_add]
  · exact Finset.sum_congr rfl fun d _ => by rw [if_neg (by rw [Fin.val_natAdd]; omega)]; rfl
  · intro d _; rw [if_pos (by rw [Fin.val_castAdd]; exact d.isLt)]

/-! ## The three products -/

section Dots
variable (a b : FVec Ideal S128x128 .bf16) (i j : Fin 128)

theorem Z_apply (i : S128x128.Idx) : Z (F := Ideal) i = 0 := Ideal.ofBits_zero_f32

theorem dotNT (A B : ℕ → ℝ) (ha : ∀ k : Fin 128, a (ix2 i k) = ((A k : ℝ) : EReal)) (hb : ∀ k : Fin 128, b (ix2 j k) = ((B k : ℝ) : EReal)) :
    matmul dot_S128x128_S128x128_S128x128_1_1_0_0_n_n none a b Z (ix2 i j) = ((∑ k : Fin 128, A k * B k : ℝ) : EReal) := by
  show FloatOps.matmul dot_S128x128_S128x128_S128x128_1_1_0_0_n_n none a b Z (ix2 i j) = _
  rw [Ideal.matmul_apply, Z_apply, zero_add,
    ← Equiv.sum_comp (contrEquiv1 dot_S128x128_S128x128_S128x128_1_1_0_0_n_n 128 rfl rfl).symm, ← coe_sum]
  refine Finset.sum_congr rfl fun k _ => ?_
  have hk := contrEquiv1_symm_val dot_S128x128_S128x128_S128x128_1_1_0_0_n_n 128 rfl rfl k
  rw [show dot_S128x128_S128x128_S128x128_1_1_0_0_n_n.lhsIdx (ix2 i j) ((contrEquiv1 dot_S128x128_S128x128_S128x128_1_1_0_0_n_n 128 rfl rfl).symm k) = ix2 i k from
      funext fun a => Fin.ext (by match a with
        | ⟨0, _⟩ => rfl
        | ⟨1, _⟩ => exact hk),
    show dot_S128x128_S128x128_S128x128_1_1_0_0_n_n.rhsIdx (ix2 i j) ((contrEquiv1 dot_S128x128_S128x128_S128x128_1_1_0_0_n_n 128 rfl rfl).symm k) = ix2 j k from
      funext fun a => Fin.ext (by match a with
        | ⟨0, _⟩ => rfl
        | ⟨1, _⟩ => exact hk), ha, hb, EReal.coe_mul]

theorem dotTN (A B : ℕ → ℝ) (ha : ∀ k : Fin 128, a (ix2 k i) = ((A k : ℝ) : EReal)) (hb : ∀ k : Fin 128, b (ix2 k j) = ((B k : ℝ) : EReal)) :
    matmul dot_S128x128_S128x128_S128x128_0_0_1_1_n_n none a b Z (ix2 i j) = ((∑ k : Fin 128, A k * B k : ℝ) : EReal) := by
  show FloatOps.matmul dot_S128x128_S128x128_S128x128_0_0_1_1_n_n none a b Z (ix2 i j) = _
  rw [Ideal.matmul_apply, Z_apply, zero_add,
    ← Equiv.sum_comp (contrEquiv1 dot_S128x128_S128x128_S128x128_0_0_1_1_n_n 128 rfl rfl).symm, ← coe_sum]
  refine Finset.sum_congr rfl fun k _ => ?_
  have hk := contrEquiv1_symm_val dot_S128x128_S128x128_S128x128_0_0_1_1_n_n 128 rfl rfl k
  rw [show dot_S128x128_S128x128_S128x128_0_0_1_1_n_n.lhsIdx (ix2 i j) ((contrEquiv1 dot_S128x128_S128x128_S128x128_0_0_1_1_n_n 128 rfl rfl).symm k) = ix2 k i from
      funext fun a => Fin.ext (by match a with
        | ⟨0, _⟩ => exact hk
        | ⟨1, _⟩ => rfl),
    show dot_S128x128_S128x128_S128x128_0_0_1_1_n_n.rhsIdx (ix2 i j) ((contrEquiv1 dot_S128x128_S128x128_S128x128_0_0_1_1_n_n 128 rfl rfl).symm k) = ix2 k j from
      funext fun a => Fin.ext (by match a with
        | ⟨0, _⟩ => exact hk
        | ⟨1, _⟩ => rfl), ha, hb, EReal.coe_mul]

theorem dotNN (A B : ℕ → ℝ) (ha : ∀ k : Fin 128, a (ix2 i k) = ((A k : ℝ) : EReal)) (hb : ∀ k : Fin 128, b (ix2 k j) = ((B k : ℝ) : EReal)) :
    matmul dot_S128x128_S128x128_S128x128_1_0_0_1_n_n none a b Z (ix2 i j) = ((∑ k : Fin 128, A k * B k : ℝ) : EReal) := by
  show FloatOps.matmul dot_S128x128_S128x128_S128x128_1_0_0_1_n_n none a b Z (ix2 i j) = _
  rw [Ideal.matmul_apply, Z_apply, zero_add,
    ← Equiv.sum_comp (contrEquiv1 dot_S128x128_S128x128_S128x128_1_0_0_1_n_n 128 rfl rfl).symm, ← coe_sum]
  refine Finset.sum_congr rfl fun k _ => ?_
  have hk := contrEquiv1_symm_val dot_S128x128_S128x128_S128x128_1_0_0_1_n_n 128 rfl rfl k
  rw [show dot_S128x128_S128x128_S128x128_1_0_0_1_n_n.lhsIdx (ix2 i j) ((contrEquiv1 dot_S128x128_S128x128_S128x128_1_0_0_1_n_n 128 rfl rfl).symm k) = ix2 i k from
      funext fun a => Fin.ext (by match a with
        | ⟨0, _⟩ => rfl
        | ⟨1, _⟩ => exact hk),
    show dot_S128x128_S128x128_S128x128_1_0_0_1_n_n.rhsIdx (ix2 i j) ((contrEquiv1 dot_S128x128_S128x128_S128x128_1_0_0_1_n_n 128 rfl rfl).symm k) = ix2 k j from
      funext fun a => Fin.ext (by match a with
        | ⟨0, _⟩ => exact hk
        | ⟨1, _⟩ => rfl), ha, hb, EReal.coe_mul]

end Dots

/-! ## One unit -/

/-- A head's sum of products of two arrays' lanes. -/
def hd (A B : ℕ → ℕ → ℝ) (e i j : ℕ) : ℝ := ∑ d : Fin 64, A i (e * 64 + d) * B j (e * 64 + d)
/-- The weight. -/
def wt (A B L : ℕ → ℕ → ℝ) (e i j : ℕ) : ℝ := if j ≤ i then Real.exp (hd A B e i j - L i e) else 0
/-- The gradient of the score. -/
def sg (A B L G V D : ℕ → ℕ → ℝ) (e i j : ℕ) : ℝ := wt A B L e i j * (hd G V e i j - D i e)

section Unit
variable {A B : ℕ → ℕ → ℝ} {a b : ℕ → FVec Ideal S128x128 .bf16}

theorem halves (ha : ∀ p < 4, ∀ i j : Fin 128, a p (ix2 i j) = ((A i (p * 128 + j) : ℝ) : EReal))
    (hb : ∀ p < 4, ∀ i j : Fin 128, b p (ix2 i j) = ((B i (p * 128 + j) : ℝ) : EReal)) (e : ℕ) (he : e < 8) (i j : Fin 128) :
    matmul dot_S128x128_S128x128_S128x128_1_1_0_0_n_n none (half (e % 2) (a (e / 2))) (b (e / 2)) Z (ix2 i j)
      = ((hd A B e i j : ℝ) : EReal) := by
  have hp : e / 2 < 4 := by omega
  rcases Nat.mod_two_eq_zero_or_one e with h | h
  · rw [h]
    refine (dotNT _ _ i j (fun k => if k < 64 then A i (e / 2 * 128 + k) else 0) (fun k => B j (e / 2 * 128 + k))
      (fun k => half_zero _ _ _ (ha _ hp i k)) (fun k => hb _ hp j k)).trans ?_
    refine congrArg _ ?_
    unfold hd
    rw [← sum_lo fun k => A i (e * 64 + k) * B j (e * 64 + k)]
    refine Finset.sum_congr rfl fun k _ => ?_
    rw [show e / 2 * 128 = e * 64 by omega]
    split_ifs
    · rfl
    · rw [zero_mul]
  · rw [h]
    refine (dotNT _ _ i j (fun k => if k < 64 then 0 else A i (e / 2 * 128 + k)) (fun k => B j (e / 2 * 128 + k))
      (fun k => half_one _ _ _ (ha _ hp i k)) (fun k => hb _ hp j k)).trans ?_
    refine congrArg _ ?_
    unfold hd
    rw [show (∑ d : Fin 64, A i (e * 64 + d) * B j (e * 64 + d)) = ∑ d : Fin 64, A i (e / 2 * 128 + (64 + d)) * B j (e / 2 * 128 + (64 + d)) from
      Finset.sum_congr rfl fun d _ => by rw [show e / 2 * 128 + (64 + d.val) = e * 64 + d.val by omega],
      ← sum_hi fun k => A i (e / 2 * 128 + k) * B j (e / 2 * 128 + k)]
    refine Finset.sum_congr rfl fun k _ => ?_
    split_ifs
    · rw [zero_mul]
    · rfl

theorem mask_bot : (Named.named κ "mask" 0xF149F2CA#32 : Ideal .f32) = (⊥ : EReal) := rfl

theorem SC_apply (ha : ∀ p < 4, ∀ i j : Fin 128, a p (ix2 i j) = ((A i (p * 128 + j) : ℝ) : EReal))
    (hb : ∀ p < 4, ∀ i j : Fin 128, b p (ix2 i j) = ((B i (p * 128 + j) : ℝ) : EReal)) (e : ℕ) (he : e < 8) (i j : Fin 128) :
    dn (SC a b e) (ix2 i j) = if j.val ≤ i.val then ((hd A B e i j : ℝ) : EReal) else ⊥ := by
  unfold SC
  rw [dn_up]
  show Scalar.select (tri (ix2 i j)) (matmul _ none _ _ Z (ix2 i j)) (Named.named κ "mask" 0xF149F2CA#32) = _
  rw [tri_apply, halves ha hb e he i j, mask_bot]
  show Scalar.select (if j.val ≤ i.val then 1#1 else 0#1) _ _ = _
  split_ifs
  · exact select_one _ _
  · exact select_zero _ _

theorem DP_apply (ha : ∀ p < 4, ∀ i j : Fin 128, a p (ix2 i j) = ((A i (p * 128 + j) : ℝ) : EReal))
    (hb : ∀ p < 4, ∀ i j : Fin 128, b p (ix2 i j) = ((B i (p * 128 + j) : ℝ) : EReal)) (e : ℕ) (he : e < 8) (i j : Fin 128) :
    dn (DP a b e) (ix2 i j) = ((hd A B e i j : ℝ) : EReal) := by
  unfold DP
  rw [dn_up]
  exact halves ha hb e he i j

variable {L : ℕ → ℕ → ℝ} {l : FVec Ideal S128x128 .f32}

theorem EX_apply (ha : ∀ p < 4, ∀ i j : Fin 128, a p (ix2 i j) = ((A i (p * 128 + j) : ℝ) : EReal))
    (hb : ∀ p < 4, ∀ i j : Fin 128, b p (ix2 i j) = ((B i (p * 128 + j) : ℝ) : EReal)) (e : ℕ) (he : e < 8)
    (hl : ∀ i j : Fin 128, l (ix2 i j) = ((L i e : ℝ) : EReal)) (i j : Fin 128) :
    EX (SC a b e) l (ix2 i j) = ((wt A B L e i j : ℝ) : EReal) := by
  show Ideal.exp (dn (SC a b e) (ix2 i j) - l (ix2 i j)) = _
  rw [SC_apply ha hb e he, hl]
  unfold wt
  split_ifs
  · rw [← EReal.coe_sub]; rfl
  · rw [sub_eq_add_neg, EReal.bot_add]; rfl

theorem PR_apply (ha : ∀ p < 4, ∀ i j : Fin 128, a p (ix2 i j) = ((A i (p * 128 + j) : ℝ) : EReal))
    (hb : ∀ p < 4, ∀ i j : Fin 128, b p (ix2 i j) = ((B i (p * 128 + j) : ℝ) : EReal)) (e : ℕ) (he : e < 8)
    (hl : ∀ i j : Fin 128, l (ix2 i j) = ((L i e : ℝ) : EReal)) (i j : Fin 128) :
    dn (PR (SC a b e) l) (ix2 i j) = ((wt A B L e i j : ℝ) : EReal) := by
  unfold PR
  rw [dn_up]
  exact EX_apply ha hb e he hl i j

variable {G V D : ℕ → ℕ → ℝ} {g v : ℕ → FVec Ideal S128x128 .bf16} {d : FVec Ideal S128x128 .f32}

theorem DS_apply (ha : ∀ p < 4, ∀ i j : Fin 128, a p (ix2 i j) = ((A i (p * 128 + j) : ℝ) : EReal))
    (hb : ∀ p < 4, ∀ i j : Fin 128, b p (ix2 i j) = ((B i (p * 128 + j) : ℝ) : EReal))
    (hg : ∀ p < 4, ∀ i j : Fin 128, g p (ix2 i j) = ((G i (p * 128 + j) : ℝ) : EReal))
    (hv : ∀ p < 4, ∀ i j : Fin 128, v p (ix2 i j) = ((V i (p * 128 + j) : ℝ) : EReal)) (e : ℕ) (he : e < 8)
    (hl : ∀ i j : Fin 128, l (ix2 i j) = ((L i e : ℝ) : EReal)) (hd' : ∀ i j : Fin 128, d (ix2 i j) = ((D i e : ℝ) : EReal)) (i j : Fin 128) :
    dn (DS (SC a b e) (DP g v e) l d) (ix2 i j) = ((sg A B L G V D e i j : ℝ) : EReal) := by
  unfold DS
  rw [dn_up]
  show EX (SC a b e) l (ix2 i j) * (dn (DP g v e) (ix2 i j) - d (ix2 i j)) = _
  rw [EX_apply ha hb e he hl, DP_apply hg hv e he, hd', ← EReal.coe_sub, ← EReal.coe_mul]
  rfl

end Unit

/-! ## A pair's two heads against one block of vectors -/

section Pair
variable {P : ℕ → ℕ → ℕ → ℝ} {s t : FVec Ideal S1x128x128 .bf16} {W : ℕ → ℕ → ℝ} {w : FVec Ideal S128x128 .bf16} (p : ℕ)

theorem pair_sum (f g : ℕ → ℝ) (c : ℕ) (y : ℕ → ℝ) (hc : c < 128) :
    (∑ k : Fin 128, f k * (if c < 64 then y k else 0)) + (∑ k : Fin 128, g k * (if c < 64 then 0 else y k))
      = ∑ k : Fin 128, (if c < 64 then f k else g k) * y k := by
  split_ifs <;> simp

theorem OT_apply (hs : ∀ i j : Fin 128, dn s (ix2 i j) = ((P (2 * p) i j : ℝ) : EReal))
    (ht : ∀ i j : Fin 128, dn t (ix2 i j) = ((P (2 * p + 1) i j : ℝ) : EReal))
    (hw : ∀ i j : Fin 128, w (ix2 i j) = ((W i (p * 128 + j) : ℝ) : EReal)) (j c : Fin 128) :
    OT s t w (ix2 j c) = ((∑ i : Fin 128, P ((p * 128 + c) / 64) i j * W i (p * 128 + c) : ℝ) : EReal) := by
  show matmul dot_S128x128_S128x128_S128x128_0_0_1_1_n_n none (dn s) (half 0 w) Z (ix2 j c)
    + matmul dot_S128x128_S128x128_S128x128_0_0_1_1_n_n none (dn t) (half 1 w) Z (ix2 j c) = _
  rw [dotTN _ _ j c (fun k => P (2 * p) k j) (fun k => if c.val < 64 then W k (p * 128 + c) else 0) (fun k => hs k j)
      (fun k => half_zero _ _ _ (hw k c)),
    dotTN _ _ j c (fun k => P (2 * p + 1) k j) (fun k => if c.val < 64 then 0 else W k (p * 128 + c)) (fun k => ht k j)
      (fun k => half_one _ _ _ (hw k c)), ← EReal.coe_add, pair_sum (fun k => P (2 * p) k j) (fun k => P (2 * p + 1) k j) c (fun k => W k (p * 128 + c)) c.isLt]
  refine congrArg _ (Finset.sum_congr rfl fun k _ => ?_)
  split_ifs with h
  · rw [show (p * 128 + c.val) / 64 = 2 * p by omega]
  · rw [show (p * 128 + c.val) / 64 = 2 * p + 1 by have := c.isLt; omega]

theorem ON_apply (hs : ∀ i j : Fin 128, dn s (ix2 i j) = ((P (2 * p) i j : ℝ) : EReal))
    (ht : ∀ i j : Fin 128, dn t (ix2 i j) = ((P (2 * p + 1) i j : ℝ) : EReal))
    (hw : ∀ i j : Fin 128, w (ix2 i j) = ((W i (p * 128 + j) : ℝ) : EReal)) (i c : Fin 128) :
    ON s t w (ix2 i c) = ((∑ j : Fin 128, P ((p * 128 + c) / 64) i j * W j (p * 128 + c) : ℝ) : EReal) := by
  show matmul dot_S128x128_S128x128_S128x128_1_0_0_1_n_n none (dn s) (half 0 w) Z (ix2 i c)
    + matmul dot_S128x128_S128x128_S128x128_1_0_0_1_n_n none (dn t) (half 1 w) Z (ix2 i c) = _
  rw [dotNN _ _ i c (fun k => P (2 * p) i k) (fun k => if c.val < 64 then W k (p * 128 + c) else 0) (fun k => hs i k)
      (fun k => half_zero _ _ _ (hw k c)),
    dotNN _ _ i c (fun k => P (2 * p + 1) i k) (fun k => if c.val < 64 then 0 else W k (p * 128 + c)) (fun k => ht i k)
      (fun k => half_one _ _ _ (hw k c)), ← EReal.coe_add, pair_sum (fun k => P (2 * p) i k) (fun k => P (2 * p + 1) i k) c (fun k => W k (p * 128 + c)) c.isLt]
  refine congrArg _ (Finset.sum_congr rfl fun k _ => ?_)
  split_ifs with h
  · rw [show (p * 128 + c.val) / 64 = 2 * p by omega]
  · rw [show (p * 128 + c.val) / 64 = 2 * p + 1 by have := c.isLt; omega]

end Pair

/-! ## The three blocks -/

section Blocks
variable (arg2 : Memref sig .tc .vmem S4x128x512 .bf16) (harg2 : arg2.IsWhole) (arg3 : Memref sig .tc .vmem S4x128x512 .bf16) (harg3 : arg3.IsWhole)
  (arg4 : Memref sig .tc .vmem S4x128x512 .bf16) (harg4 : arg4.IsWhole) (arg5 : Memref sig .tc .vmem S4x128x512 .bf16) (harg5 : arg5.IsWhole)
  (arg6 : Memref sig .tc .vmem S4x128x128 .f32) (harg6 : arg6.IsWhole) (arg7 : Memref sig .tc .vmem S4x128x128 .f32) (harg7 : arg7.IsWhole)
  {x0 x1 x2 x3 : Vec Ideal S4x128x512 .bf16} {x4 x5 : Vec Ideal S4x128x128 .f32} {Q K V G E L : ℕ → ℕ → ℕ → ℝ}

theorem LD_real (a : Memref sig .tc .vmem S4x128x512 .bf16) (ha : a.IsWhole) {x : Vec Ideal S4x128x512 .bf16} {X : ℕ → ℕ → ℕ → ℝ}
    (hx : ∀ i : S4x128x512.Idx, x i = ((X (i 0).val (i 1).val (i 2).val : ℝ) : EReal)) (u : ℕ) (hu : u < 4) (p : ℕ) (hp : p < 4) (i j : Fin 128) :
    LD a ha x u p (ix2 i j) = ((X u i (p * 128 + j) : ℝ) : EReal) := by
  rw [LD_apply, hx]
  show ((X (u % 4) i.val (p % 4 * 128 + j.val) : ℝ) : EReal) = _
  rw [Nat.mod_eq_of_lt hu, Nat.mod_eq_of_lt hp]

theorem CL_real (a : Memref sig .tc .vmem S4x128x128 .f32) (ha : a.IsWhole) {x : Vec Ideal S4x128x128 .f32} {X : ℕ → ℕ → ℕ → ℝ}
    (hx : ∀ i : S4x128x128.Idx, (i 2).val < 8 → x i = ((X (i 0).val (i 1).val (i 2).val : ℝ) : EReal)) (u : ℕ) (hu : u < 4) (h : ℕ) (hh : h < 8) (i j : Fin 128) :
    CL a ha x u h (ix2 i j) = ((X u i h : ℝ) : EReal) := by
  rw [CL_apply, hx _ (Nat.mod_lt h (by decide))]
  show ((X (u % 4) i.val (h % 8) : ℝ) : EReal) = _
  rw [Nat.mod_eq_of_lt hu, Nat.mod_eq_of_lt hh]

variable (h0 : ∀ i : S4x128x512.Idx, x0 i = ((Q (i 0).val (i 1).val (i 2).val : ℝ) : EReal))
  (h1 : ∀ i : S4x128x512.Idx, x1 i = ((K (i 0).val (i 1).val (i 2).val : ℝ) : EReal))
  (h2 : ∀ i : S4x128x512.Idx, x2 i = ((V (i 0).val (i 1).val (i 2).val : ℝ) : EReal))
  (h3 : ∀ i : S4x128x512.Idx, x3 i = ((G (i 0).val (i 1).val (i 2).val : ℝ) : EReal))
  (h4 : ∀ i : S4x128x128.Idx, (i 2).val < 8 → x4 i = ((E (i 0).val (i 1).val (i 2).val : ℝ) : EReal))
  (h5 : ∀ i : S4x128x128.Idx, (i 2).val < 8 → x5 i = ((L (i 0).val (i 1).val (i 2).val : ℝ) : EReal))

include h0 h1 h5 in
theorem pU_real (u : ℕ) (hu : u < 4) (e : ℕ) (he : e < 8) (i j : Fin 128) :
    dn (pU arg2 harg2 arg3 harg3 arg7 harg7 x0 x1 x5 u e) (ix2 i j) = ((wt (Q u) (K u) (L u) e i j : ℝ) : EReal) :=
  PR_apply (fun p hp i j => LD_real arg2 harg2 h0 u hu p hp i j) (fun p hp i j => LD_real arg3 harg3 h1 u hu p hp i j) e he
    (fun i j => CL_real arg7 harg7 h5 u hu e he i j) i j

include h0 h1 h2 h3 h4 h5 in
theorem dU_real (u : ℕ) (hu : u < 4) (e : ℕ) (he : e < 8) (i j : Fin 128) :
    dn (dU arg2 harg2 arg3 harg3 arg4 harg4 arg5 harg5 arg6 harg6 arg7 harg7 x0 x1 x2 x3 x4 x5 u e) (ix2 i j)
      = ((sg (Q u) (K u) (L u) (G u) (V u) (E u) e i j : ℝ) : EReal) :=
  DS_apply (fun p hp i j => LD_real arg2 harg2 h0 u hu p hp i j) (fun p hp i j => LD_real arg3 harg3 h1 u hu p hp i j)
    (fun p hp i j => LD_real arg5 harg5 h3 u hu p hp i j) (fun p hp i j => LD_real arg4 harg4 h2 u hu p hp i j) e he
    (fun i j => CL_real arg7 harg7 h5 u hu e he i j) (fun i j => CL_real arg6 harg6 h4 u hu e he i j) i j

theorem Blk_real (D : ℕ → ℕ → Vec Ideal S128x128 .f32) (R : ℕ → ℕ → ℕ → ℝ)
    (hD : ∀ u < 4, ∀ p < 4, ∀ i c : Fin 128, D u p (ix2 i c) = ((R u i (p * 128 + c) : ℝ) : EReal)) (i : S4x128x512.Idx) :
    Blk (F := Ideal) (t := .f32) D i = ((R (i 0).val (i 1).val (i 2).val : ℝ) : EReal) := by
  have b0 : (i 0).val < 4 := (i 0).isLt
  have b2 : (i 2).val < 512 := (i 2).isLt
  refine (hD _ b0 ((i 2).val / 128) (by omega) _ _).trans ?_
  show ((R (i 0).val (i 1).val ((i 2).val / 128 * 128 + (i 2).val % 128) : ℝ) : EReal) = _
  rw [show (i 2).val / 128 * 128 + (i 2).val % 128 = (i 2).val by omega]

include h0 h1 h2 h3 h4 h5 in
theorem q_real (i : S4x128x512.Idx) :
    Blk (F := Ideal) (t := .f32) (qG arg2 harg2 arg3 harg3 arg4 harg4 arg5 harg5 arg6 harg6 arg7 harg7 x0 x1 x2 x3 x4 x5) i
      = ((∑ j : Fin 128, sg (Q (i 0).val) (K (i 0).val) (L (i 0).val) (G (i 0).val) (V (i 0).val) (E (i 0).val) ((i 2).val / 64) (i 1).val j
          * K (i 0).val j (i 2).val : ℝ) : EReal) := by
  refine Blk_real _ (fun u r c => ∑ j : Fin 128, sg (Q u) (K u) (L u) (G u) (V u) (E u) (c / 64) r j * K u j c) ?_ i
  intro u hu p hp i c
  exact ON_apply (P := sg (Q u) (K u) (L u) (G u) (V u) (E u)) (W := K u) p
    (fun i j => dU_real arg2 harg2 arg3 harg3 arg4 harg4 arg5 harg5 arg6 harg6 arg7 harg7 h0 h1 h2 h3 h4 h5 u hu (2 * p) (by omega) i j)
    (fun i j => dU_real arg2 harg2 arg3 harg3 arg4 harg4 arg5 harg5 arg6 harg6 arg7 harg7 h0 h1 h2 h3 h4 h5 u hu (2 * p + 1) (by omega) i j)
    (fun i j => LD_real arg3 harg3 h1 u hu p hp i j) i c

include h0 h1 h2 h3 h4 h5 in
theorem k_real (i : S4x128x512.Idx) :
    Blk (F := Ideal) (t := .f32) (kG arg2 harg2 arg3 harg3 arg4 harg4 arg5 harg5 arg6 harg6 arg7 harg7 x0 x1 x2 x3 x4 x5) i
      = ((∑ r : Fin 128, sg (Q (i 0).val) (K (i 0).val) (L (i 0).val) (G (i 0).val) (V (i 0).val) (E (i 0).val) ((i 2).val / 64) r (i 1).val
          * Q (i 0).val r (i 2).val : ℝ) : EReal) := by
  refine Blk_real _ (fun u j c => ∑ r : Fin 128, sg (Q u) (K u) (L u) (G u) (V u) (E u) (c / 64) r j * Q u r c) ?_ i
  intro u hu p hp j c
  exact OT_apply (P := sg (Q u) (K u) (L u) (G u) (V u) (E u)) (W := Q u) p
    (fun i j => dU_real arg2 harg2 arg3 harg3 arg4 harg4 arg5 harg5 arg6 harg6 arg7 harg7 h0 h1 h2 h3 h4 h5 u hu (2 * p) (by omega) i j)
    (fun i j => dU_real arg2 harg2 arg3 harg3 arg4 harg4 arg5 harg5 arg6 harg6 arg7 harg7 h0 h1 h2 h3 h4 h5 u hu (2 * p + 1) (by omega) i j)
    (fun i j => LD_real arg2 harg2 h0 u hu p hp i j) j c

include h0 h1 h3 h5 in
theorem v_real (i : S4x128x512.Idx) :
    Blk (F := Ideal) (t := .f32) (vG arg2 harg2 arg3 harg3 arg5 harg5 arg7 harg7 x0 x1 x3 x5) i
      = ((∑ r : Fin 128, wt (Q (i 0).val) (K (i 0).val) (L (i 0).val) ((i 2).val / 64) r (i 1).val * G (i 0).val r (i 2).val : ℝ) : EReal) := by
  refine Blk_real _ (fun u j c => ∑ r : Fin 128, wt (Q u) (K u) (L u) (c / 64) r j * G u r c) ?_ i
  intro u hu p hp j c
  exact OT_apply (P := wt (Q u) (K u) (L u)) (W := G u) p
    (fun i j => pU_real arg2 harg2 arg3 harg3 arg7 harg7 h0 h1 h5 u hu (2 * p) (by omega) i j)
    (fun i j => pU_real arg2 harg2 arg3 harg3 arg7 harg7 h0 h1 h5 u hu (2 * p + 1) (by omega) i j)
    (fun i j => LD_real arg5 harg5 h3 u hu p hp i j) j c

end Blocks

end Cert.Branch.Kern
-- ==== Proof.RefRead.lean ====
/- The reference's operations read one at a time as real functions of the coordinates. -/
module

public import proofs.«01_k».proof.Proof.Gen.ReferenceIdeal.Read
public import proofs.«01_k».proof.Proof.Consts

@[expose] public section

set_option maxRecDepth 16384

noncomputable section

namespace Cert.Branch.Ref

open Cert.ReferenceIdeal Cert.ReferenceIdeal.Gen Cert.ReferenceIdeal.Read Cert.Branch
open Idealize.ShloMosaic Idealize.ShloMosaic.ValueIdx Idealize.ShloMosaic.StableHlo

/-- The arguments hold the real numbers that `D` lists. -/
structure Is (D : Data) (x0 x1 x2 : (⟨S32x128x512, .f32⟩ : BufTy).Contents (Elt Ideal)) (x3 : (⟨S32x128x8x64, .f32⟩ : BufTy).Contents (Elt Ideal))
    (x4 : (⟨S32x128x8, .f32⟩ : BufTy).Contents (Elt Ideal)) (x5 : (⟨S32x128x8x64, .f32⟩ : BufTy).Contents (Elt Ideal))
    (x6 : (⟨S32x128x8, .f32⟩ : BufTy).Contents (Elt Ideal)) (x7 : (⟨S32x128x8x64, .f32⟩ : BufTy).Contents (Elt Ideal)) : Prop where
  q : ∀ i, x0 i = ((D.q (i 0).val (i 1).val (i 2).val : ℝ) : EReal)
  k : ∀ i, x1 i = ((D.k (i 0).val (i 1).val (i 2).val : ℝ) : EReal)
  v : ∀ i, x2 i = ((D.v (i 0).val (i 1).val (i 2).val : ℝ) : EReal)
  o1 : ∀ i, x3 i = ((D.o1 (i 0).val (i 1).val (i 2).val (i 3).val : ℝ) : EReal)
  l1 : ∀ i, x4 i = ((D.l1 (i 0).val (i 1).val (i 2).val : ℝ) : EReal)
  o4 : ∀ i, x5 i = ((D.o4 (i 0).val (i 1).val (i 2).val (i 3).val : ℝ) : EReal)
  l4 : ∀ i, x6 i = ((D.l4 (i 0).val (i 1).val (i 2).val : ℝ) : EReal)
  ct : ∀ i, x7 i = ((D.ct (i 0).val (i 1).val (i 2).val (i 3).val : ℝ) : EReal)

variable {D : Data} {x0 x1 x2 : (⟨S32x128x512, .f32⟩ : BufTy).Contents (Elt Ideal)} {x3 x5 x7 : (⟨S32x128x8x64, .f32⟩ : BufTy).Contents (Elt Ideal)}
  {x4 x6 : (⟨S32x128x8, .f32⟩ : BufTy).Contents (Elt Ideal)} (h : Is D x0 x1 x2 x3 x4 x5 x6 x7)

theorem r0 (i : S32x128x512.Idx) :
    val_main_v0 (F := Ideal) i = ((1 / 8 : ℝ) : EReal) := by
  rw [val_main_v0_apply, val_main_cst_apply]
  exact c18

include h in
theorem r1 (i : S32x128x512.Idx) :
    val_main_v1 (F := Ideal) x0 i = ((D.q (i 0).val (i 1).val (i 2).val * (1 / 8) : ℝ) : EReal) := by
  rw [val_main_v1_apply, h.q, r0]
  exact (EReal.coe_mul _ _).symm

include h in
theorem r2 (i : S32x128x8x64.Idx) :
    val_main_v2 (F := Ideal) x0 i = ((qs D (i 0).val (i 2).val (i 1).val (i 3).val : ℝ) : EReal) := by
  unfold val_main_v2
  refine (shapeCast_apply (val_main_v1 (F := Ideal) x0) _ i (ix3 ⟨(i 0).val, by have h0 : (i 0).val < 32 := (i 0).isLt; have h1 : (i 1).val < 128 := (i 1).isLt; have h2 : (i 2).val < 8 := (i 2).isLt; have h3 : (i 3).val < 64 := (i 3).isLt; omega⟩ ⟨(i 1).val, by have h0 : (i 0).val < 32 := (i 0).isLt; have h1 : (i 1).val < 128 := (i 1).isLt; have h2 : (i 2).val < 8 := (i 2).isLt; have h3 : (i 3).val < 64 := (i 3).isLt; omega⟩ ⟨(i 2).val * 64 + (i 3).val, by have h0 : (i 0).val < 32 := (i 0).isLt; have h1 : (i 1).val < 128 := (i 1).isLt; have h2 : (i 2).val < 8 := (i 2).isLt; have h3 : (i 3).val < 64 := (i 3).isLt; omega⟩) ?_).trans (r1 h _)
  rewrite [Shape.rowMajor_val_three, Shape.rowMajor_val_four]
  have h0 : (i 0).val < 32 := (i 0).isLt; have h1 : (i 1).val < 128 := (i 1).isLt; have h2 : (i 2).val < 8 := (i 2).isLt; have h3 : (i 3).val < 64 := (i 3).isLt
  show (((i 0).val * 128 + ((i 1).val)) * 512 + ((i 2).val * 64 + (i 3).val)) = ((((i 0).val * 128 + ((i 1).val)) * 8 + ((i 2).val)) * 64 + ((i 3).val))
  omega

include h in
theorem r3 (i : S32x128x8x64.Idx) :
    val_main_v3 (F := Ideal) x1 i = ((D.k (i 0).val (i 1).val ((i 2).val * 64 + (i 3).val) : ℝ) : EReal) := by
  unfold val_main_v3
  refine (shapeCast_apply x1 _ i (ix3 ⟨(i 0).val, by have h0 : (i 0).val < 32 := (i 0).isLt; have h1 : (i 1).val < 128 := (i 1).isLt; have h2 : (i 2).val < 8 := (i 2).isLt; have h3 : (i 3).val < 64 := (i 3).isLt; omega⟩ ⟨(i 1).val, by have h0 : (i 0).val < 32 := (i 0).isLt; have h1 : (i 1).val < 128 := (i 1).isLt; have h2 : (i 2).val < 8 := (i 2).isLt; have h3 : (i 3).val < 64 := (i 3).isLt; omega⟩ ⟨(i 2).val * 64 + (i 3).val, by have h0 : (i 0).val < 32 := (i 0).isLt; have h1 : (i 1).val < 128 := (i 1).isLt; have h2 : (i 2).val < 8 := (i 2).isLt; have h3 : (i 3).val < 64 := (i 3).isLt; omega⟩) ?_).trans (h.k _)
  rewrite [Shape.rowMajor_val_three, Shape.rowMajor_val_four]
  have h0 : (i 0).val < 32 := (i 0).isLt; have h1 : (i 1).val < 128 := (i 1).isLt; have h2 : (i 2).val < 8 := (i 2).isLt; have h3 : (i 3).val < 64 := (i 3).isLt
  show (((i 0).val * 128 + ((i 1).val)) * 512 + ((i 2).val * 64 + (i 3).val)) = ((((i 0).val * 128 + ((i 1).val)) * 8 + ((i 2).val)) * 64 + ((i 3).val))
  omega

include h in
theorem r4 (i : S32x128x8x64.Idx) :
    val_main_v4 (F := Ideal) x2 i = ((D.v (i 0).val (i 1).val ((i 2).val * 64 + (i 3).val) : ℝ) : EReal) := by
  unfold val_main_v4
  refine (shapeCast_apply x2 _ i (ix3 ⟨(i 0).val, by have h0 : (i 0).val < 32 := (i 0).isLt; have h1 : (i 1).val < 128 := (i 1).isLt; have h2 : (i 2).val < 8 := (i 2).isLt; have h3 : (i 3).val < 64 := (i 3).isLt; omega⟩ ⟨(i 1).val, by have h0 : (i 0).val < 32 := (i 0).isLt; have h1 : (i 1).val < 128 := (i 1).isLt; have h2 : (i 2).val < 8 := (i 2).isLt; have h3 : (i 3).val < 64 := (i 3).isLt; omega⟩ ⟨(i 2).val * 64 + (i 3).val, by have h0 : (i 0).val < 32 := (i 0).isLt; have h1 : (i 1).val < 128 := (i 1).isLt; have h2 : (i 2).val < 8 := (i 2).isLt; have h3 : (i 3).val < 64 := (i 3).isLt; omega⟩) ?_).trans (h.v _)
  rewrite [Shape.rowMajor_val_three, Shape.rowMajor_val_four]
  have h0 : (i 0).val < 32 := (i 0).isLt; have h1 : (i 1).val < 128 := (i 1).isLt; have h2 : (i 2).val < 8 := (i 2).isLt; have h3 : (i 3).val < 64 := (i 3).isLt
  show (((i 0).val * 128 + ((i 1).val)) * 512 + ((i 2).val * 64 + (i 3).val)) = ((((i 0).val * 128 + ((i 1).val)) * 8 + ((i 2).val)) * 64 + ((i 3).val))
  omega

theorem r5 (i : S32x128x8x64.Idx) :
    val_main_v5 (F := Ideal) i = ((0 : ℝ) : EReal) := by
  rw [val_main_v5_apply, val_main_cst_0_apply]
  exact c0

theorem r8 (i : S32x128x8x64.Idx) :
    val_main_v8 (F := Ideal) i = ((0 : ℝ) : EReal) := by
  rw [val_main_v8_apply, val_main_cst_2_apply]
  exact c0

include h in
theorem r6 (i : S32x256x8x64.Idx) :
    val_main_v6 (F := Ideal) x1 i = ((kc D (i 0).val (i 2).val (i 1).val (i 3).val : ℝ) : EReal) := by
  unfold val_main_v6 kc
  have h1 : (i 1).val < 256 := (i 1).isLt
  by_cases hj : (i 1).val < 128
  · rw [if_pos hj]
    refine (concatenate_pair_apply_left (s₁ := S32x128x8x64) (s₂ := S32x128x8x64) (t := S32x256x8x64) 1 (val_main_v5 (F := Ideal)) _ _ i rfl
      (ix4 (i 0) ⟨(i 1).val, hj⟩ (i 2) (i 3)) (fun b => ?_)).trans (r5 _)
    match b with
    | ⟨0, _⟩ => rfl
    | ⟨1, _⟩ => rfl
    | ⟨2, _⟩ => rfl
    | ⟨3, _⟩ => rfl
  · rw [if_neg hj]
    refine (concatenate_pair_apply_right (s₁ := S32x128x8x64) (s₂ := S32x128x8x64) (t := S32x256x8x64) 1 (val_main_v5 (F := Ideal)) _ _ i rfl rfl
      (ix4 (i 0) ⟨(i 1).val - 128, by omega⟩ (i 2) (i 3)) (fun b hb => ?_) ?_).trans (r3 h _)
    · match b with
      | ⟨0, _⟩ => rfl
      | ⟨1, _⟩ => exact absurd rfl hb
      | ⟨2, _⟩ => rfl
      | ⟨3, _⟩ => rfl
    · show (i 1).val - 128 + 128 = (i 1).val
      omega

include h in
theorem r9 (i : S32x256x8x64.Idx) :
    val_main_v9 (F := Ideal) x2 i = ((vc D (i 0).val (i 2).val (i 1).val (i 3).val : ℝ) : EReal) := by
  unfold val_main_v9 vc
  have h1 : (i 1).val < 256 := (i 1).isLt
  by_cases hj : (i 1).val < 128
  · rw [if_pos hj]
    refine (concatenate_pair_apply_left (s₁ := S32x128x8x64) (s₂ := S32x128x8x64) (t := S32x256x8x64) 1 (val_main_v8 (F := Ideal)) _ _ i rfl
      (ix4 (i 0) ⟨(i 1).val, hj⟩ (i 2) (i 3)) (fun b => ?_)).trans (r8 _)
    match b with
    | ⟨0, _⟩ => rfl
    | ⟨1, _⟩ => rfl
    | ⟨2, _⟩ => rfl
    | ⟨3, _⟩ => rfl
  · rw [if_neg hj]
    refine (concatenate_pair_apply_right (s₁ := S32x128x8x64) (s₂ := S32x128x8x64) (t := S32x256x8x64) 1 (val_main_v8 (F := Ideal)) _ _ i rfl rfl
      (ix4 (i 0) ⟨(i 1).val - 128, by omega⟩ (i 2) (i 3)) (fun b hb => ?_) ?_).trans (r4 h _)
    · match b with
      | ⟨0, _⟩ => rfl
      | ⟨1, _⟩ => exact absurd rfl hb
      | ⟨2, _⟩ => rfl
      | ⟨3, _⟩ => rfl
    · show (i 1).val - 128 + 128 = (i 1).val
      omega

include h in
theorem r11 (i : S32x8x128x256.Idx) :
    val_main_v11 (F := Ideal) x0 x1 i = ((sc D (i 0).val (i 1).val (i 2).val (i 3).val : ℝ) : EReal) := by
  rw [val_main_v11_apply]
  unfold sc
  rw [← coe_sum]
  refine Finset.sum_congr rfl fun k _ => ?_
  rw [r2 h, r6 h, mul_comm]
  exact (EReal.coe_mul _ _).symm

set_option maxRecDepth 100000 in
theorem mask_word (a : Fin 128) (b : Fin 256) :
    IntOp.andi (IntOp.andi (IntOp.cmpi .sge (IntOp.subi (BitVec.ofNat 32 a.val) (IntOp.subi (BitVec.ofNat 32 b.val) 128#32)) 0#32)
      (IntOp.cmpi .sle (IntOp.subi (BitVec.ofNat 32 a.val) (IntOp.subi (BitVec.ofNat 32 b.val) 128#32)) 128#32))
      (IntOp.cmpi .sge (IntOp.subi (BitVec.ofNat 32 b.val) 128#32) 0#32)
      = if Ok a.val b.val then 1#1 else 0#1 := by
  revert a b
  decide +kernel

theorem r29 (i : S128x256.Idx) :
    val_main_v29 (F := Ideal) i = (if Ok (i 0).val (i 1).val then 1#1 else 0#1) := by
  simp only [val_main_v12_apply, val_main_v13_apply, val_main_v14_apply, val_main_v15_apply, val_main_c_apply, val_main_v16_apply, val_main_v17_apply, val_main_v18_apply, val_main_v19_apply, val_main_v20_apply, val_main_c_4_apply, val_main_v21_apply, val_main_v22_apply, val_main_c_5_apply, val_main_v23_apply, val_main_v24_apply, val_main_v25_apply, val_main_c_6_apply, val_main_v26_apply, val_main_v27_apply, val_main_v28_apply, val_main_v29_apply]
  exact mask_word (i 0) (i 1)

theorem r30_1 (i : S32x8x128x256.Idx) :
    val_main_v30_1 (F := Ideal) i = (if Ok (i 2).val (i 3).val then 1#1 else 0#1) := by
  rw [val_main_v30_1_apply]
  exact r29 _

include h in
theorem r30_0 (i : S32x8x128x256.Idx) :
    val_main_v30_0 (F := Ideal) x0 x1 i = sm D (i 0).val (i 1).val (i 2).val (i 3).val := by
  rw [val_main_v30_0_apply, r30_1, r11 h, val_main_call0_v2_apply, val_main_call0_v0_apply, val_main_cst_7_apply]
  unfold sm
  by_cases hj : Ok (i 2).val (i 3).val
  · rw [if_pos hj, if_pos hj]; rfl
  · rw [if_neg hj, if_neg hj]; exact cbot

include h in
theorem r31 (i : S32x8x128.Idx) :
    val_main_v31 (F := Ideal) x0 x1 i = ((top D (i 0).val (i 1).val (i 2).val : ℝ) : EReal) := by
  unfold val_main_v31
  refine (Host.reduce_eq_fold_single _ _ _ _ (by decide) _ i).trans ?_
  refine Eq.trans ?_ (fold_sm D (i 0).val (i 1).val (i 2).val (i 2).isLt)
  rw [show val_main_cst_8 (F := Ideal) (Shape.Idx.first h_S_) = (⊥ : EReal) from cbot]
  refine congrArg (Finset.fold max (⊥ : EReal) · Finset.univ) (funext fun k => ?_)
  exact r30_0 h _

include h in
theorem r32 (i : S32x8x128x1.Idx) :
    val_main_v32 (F := Ideal) x0 x1 i = ((top D (i 0).val (i 1).val (i 2).val : ℝ) : EReal) := by
  unfold val_main_v32
  refine (shapeCast_apply (val_main_v31 (F := Ideal) x0 x1) _ i (ix3 ⟨(i 0).val, by have h0 : (i 0).val < 32 := (i 0).isLt; have h1 : (i 1).val < 8 := (i 1).isLt; have h2 : (i 2).val < 128 := (i 2).isLt; have h3 : (i 3).val < 1 := (i 3).isLt; omega⟩ ⟨(i 1).val, by have h0 : (i 0).val < 32 := (i 0).isLt; have h1 : (i 1).val < 8 := (i 1).isLt; have h2 : (i 2).val < 128 := (i 2).isLt; have h3 : (i 3).val < 1 := (i 3).isLt; omega⟩ ⟨(i 2).val, by have h0 : (i 0).val < 32 := (i 0).isLt; have h1 : (i 1).val < 8 := (i 1).isLt; have h2 : (i 2).val < 128 := (i 2).isLt; have h3 : (i 3).val < 1 := (i 3).isLt; omega⟩) ?_).trans (r31 h _)
  rewrite [Shape.rowMajor_val_three, Shape.rowMajor_val_four]
  have h0 : (i 0).val < 32 := (i 0).isLt; have h1 : (i 1).val < 8 := (i 1).isLt; have h2 : (i 2).val < 128 := (i 2).isLt; have h3 : (i 3).val < 1 := (i 3).isLt
  show (((i 0).val * 8 + ((i 1).val)) * 128 + ((i 2).val)) = ((((i 0).val * 8 + ((i 1).val)) * 128 + ((i 2).val)) * 1 + ((i 3).val))
  omega

include h in
theorem r33 (i : S32x8x128x256.Idx) :
    val_main_v33 (F := Ideal) x0 x1 i = ((top D (i 0).val (i 1).val (i 2).val : ℝ) : EReal) := by
  rw [val_main_v33_apply]
  exact r32 h _

include h in
theorem r35 (i : S32x8x128x256.Idx) :
    val_main_v35 (F := Ideal) x0 x1 i = ((if sm D (i 0).val (i 1).val (i 2).val (i 3).val = ((top D (i 0).val (i 1).val (i 2).val : ℝ) : EReal) then 1 else 0 : ℝ) : EReal) := by
  rw [val_main_v35_apply, val_main_v34_apply, r30_0 h, r33 h]
  exact conv_eq _ _

include h in
theorem r36 (i : S32x8x128.Idx) :
    val_main_v36 (F := Ideal) x0 x1 i = ((∑ j : Fin 256, if sm D (i 0).val (i 1).val (i 2).val j = ((top D (i 0).val (i 1).val (i 2).val : ℝ) : EReal) then 1 else 0 : ℝ) : EReal) := by
  rw [val_main_v36_apply, val_main_cst_9_apply]

  rw [← coe_sum]
  refine (congrArg₂ (· + ·) c0 rfl).trans ((zero_add _).trans (Finset.sum_congr rfl fun k _ => ?_))
  exact r35 h _

include h in
theorem r37 (i : S32x8x128x1.Idx) :
    val_main_v37 (F := Ideal) x0 x1 i = ((top D (i 0).val (i 1).val (i 2).val : ℝ) : EReal) := by
  rw [val_main_v37_apply]
  exact r31 h _

include h in
theorem r38 (i : S32x8x128x256.Idx) :
    val_main_v38 (F := Ideal) x0 x1 i = ((top D (i 0).val (i 1).val (i 2).val : ℝ) : EReal) := by
  rw [val_main_v38_apply]
  exact r37 h _

include h in
theorem r39 (i : S32x8x128x256.Idx) :
    val_main_v39 (F := Ideal) x0 x1 i = sm D (i 0).val (i 1).val (i 2).val (i 3).val - ((top D (i 0).val (i 1).val (i 2).val : ℝ) : EReal) := by
  rw [val_main_v39_apply, r30_0 h, r38 h]
  rfl

include h in
theorem r40 (i : S32x8x128x256.Idx) :
    val_main_v40 (F := Ideal) x0 x1 i = ((ex D (i 0).val (i 1).val (i 2).val (i 3).val : ℝ) : EReal) := by
  rw [val_main_v40_apply, r39 h]
  exact exp_sm D _ _ _ _

include h in
theorem r41 (i : S32x8x128.Idx) :
    val_main_v41 (F := Ideal) x0 x1 i = ((zz D (i 0).val (i 1).val (i 2).val : ℝ) : EReal) := by
  rw [val_main_v41_apply, val_main_cst_10_apply]
  unfold zz
  rw [← coe_sum]
  refine (congrArg₂ (· + ·) c0 rfl).trans ((zero_add _).trans (Finset.sum_congr rfl fun k _ => ?_))
  exact r40 h _

include h in
theorem r42 (i : S32x8x128x1.Idx) :
    val_main_v42 (F := Ideal) x0 x1 i = ((zz D (i 0).val (i 1).val (i 2).val : ℝ) : EReal) := by
  rw [val_main_v42_apply]
  exact r41 h _

include h in
theorem r43 (i : S32x8x128x256.Idx) :
    val_main_v43 (F := Ideal) x0 x1 i = ((zz D (i 0).val (i 1).val (i 2).val : ℝ) : EReal) := by
  rw [val_main_v43_apply]
  exact r42 h _

include h in
theorem r44 (i : S32x8x128x256.Idx) :
    val_main_v44 (F := Ideal) x0 x1 i = ((ex D (i 0).val (i 1).val (i 2).val (i 3).val / zz D (i 0).val (i 1).val (i 2).val : ℝ) : EReal) := by
  rw [val_main_v44_apply, r40 h, r43 h]
  exact div_coe _ _ (zz_pos D _ _ _ (i 2).isLt).ne'

include h in
theorem r45 (i : S32x8x128x1.Idx) :
    val_main_v45 (F := Ideal) x0 x1 i = ((zz D (i 0).val (i 1).val (i 2).val * zz D (i 0).val (i 1).val (i 2).val : ℝ) : EReal) := by
  rw [val_main_v45_apply, r42 h]
  exact (EReal.coe_mul _ _).symm

theorem r46 (i : S32x8x128x1.Idx) :
    val_main_v46 (F := Ideal) i = ((1 : ℝ) : EReal) := by
  rw [val_main_v46_apply, val_main_cst_11_apply]
  exact c1

include h in
theorem r47 (i : S32x8x128x1.Idx) :
    val_main_v47 (F := Ideal) x0 x1 i = ((1 / (zz D (i 0).val (i 1).val (i 2).val * zz D (i 0).val (i 1).val (i 2).val) : ℝ) : EReal) := by
  rw [val_main_v47_apply, r46, r45 h]
  exact div_coe _ _ (mul_ne_zero (zz_pos D _ _ _ (i 2).isLt).ne' (zz_pos D _ _ _ (i 2).isLt).ne')

include h in
theorem r48 (i : S32x8x64x128.Idx) :
    val_main_v48 (F := Ideal) x0 x1 x2 i = ((oo D (i 0).val (i 1).val (i 3).val (i 2).val : ℝ) : EReal) := by
  rw [val_main_v48_apply]
  unfold oo
  rw [← coe_sum]
  refine Finset.sum_congr rfl fun k _ => ?_
  rw [r9 h, r44 h]
  exact (EReal.coe_mul _ _).symm

include h in
theorem r49 (i : S32x128x8x64.Idx) :
    val_main_v49 (F := Ideal) x0 x1 x2 i = ((oo D (i 0).val (i 2).val (i 1).val (i 3).val : ℝ) : EReal) := by
  rw [val_main_v49_apply]
  exact r48 h _

include h in
theorem r50 (i : S32x8x128x1.Idx) :
    val_main_v50 (F := Ideal) x0 x1 i = ((Real.log (zz D (i 0).val (i 1).val (i 2).val) : ℝ) : EReal) := by
  rw [val_main_v50_apply, r42 h]
  exact log_coe _ (zz_pos D _ _ _ (i 2).isLt)

include h in
theorem r51 (i : S32x8x128x1.Idx) :
    val_main_v51 (F := Ideal) x0 x1 i = ((ls D (i 0).val (i 1).val (i 2).val : ℝ) : EReal) := by
  rw [val_main_v51_apply, r37 h, r50 h]
  exact (EReal.coe_add _ _).symm

include h in
theorem r52 (i : S32x8x128.Idx) :
    val_main_v52 (F := Ideal) x0 x1 i = ((ls D (i 0).val (i 1).val (i 2).val : ℝ) : EReal) := by
  unfold val_main_v52
  refine (shapeCast_apply (val_main_v51 (F := Ideal) x0 x1) _ i (ix4 ⟨(i 0).val, by have h0 : (i 0).val < 32 := (i 0).isLt; have h1 : (i 1).val < 8 := (i 1).isLt; have h2 : (i 2).val < 128 := (i 2).isLt; omega⟩ ⟨(i 1).val, by have h0 : (i 0).val < 32 := (i 0).isLt; have h1 : (i 1).val < 8 := (i 1).isLt; have h2 : (i 2).val < 128 := (i 2).isLt; omega⟩ ⟨(i 2).val, by have h0 : (i 0).val < 32 := (i 0).isLt; have h1 : (i 1).val < 8 := (i 1).isLt; have h2 : (i 2).val < 128 := (i 2).isLt; omega⟩ ⟨0, by have h0 : (i 0).val < 32 := (i 0).isLt; have h1 : (i 1).val < 8 := (i 1).isLt; have h2 : (i 2).val < 128 := (i 2).isLt; omega⟩) ?_).trans (r51 h _)
  rewrite [Shape.rowMajor_val_four, Shape.rowMajor_val_three]
  have h0 : (i 0).val < 32 := (i 0).isLt; have h1 : (i 1).val < 8 := (i 1).isLt; have h2 : (i 2).val < 128 := (i 2).isLt
  show ((((i 0).val * 8 + ((i 1).val)) * 128 + ((i 2).val)) * 1 + (0)) = (((i 0).val * 8 + ((i 1).val)) * 128 + ((i 2).val))
  omega

include h in
theorem r53 (i : S32x128x8.Idx) :
    val_main_v53 (F := Ideal) x0 x1 i = ((ls D (i 0).val (i 2).val (i 1).val : ℝ) : EReal) := by
  rw [val_main_v53_apply]
  exact r52 h _

include h in
theorem r54 (i : S1x32x128x8.Idx) :
    val_main_v54 (F := Ideal) x4 i = ((D.l1 (i 1).val (i 2).val (i 3).val : ℝ) : EReal) := by
  rw [val_main_v54_apply]
  exact h.l1 _

include h in
theorem r55 (i : S1x32x128x8.Idx) :
    val_main_v55 (F := Ideal) x6 i = ((D.l4 (i 1).val (i 2).val (i 3).val : ℝ) : EReal) := by
  rw [val_main_v55_apply]
  exact h.l4 _

include h in
theorem r56 (i : S1x32x128x8.Idx) :
    val_main_v56 (F := Ideal) x0 x1 i = ((ls D (i 1).val (i 3).val (i 2).val : ℝ) : EReal) := by
  rw [val_main_v56_apply]
  exact r53 h _

include h in
theorem r89 (i : S1x32x128x8x64.Idx) :
    val_main_v89 (F := Ideal) x3 i = ((D.o1 (i 1).val (i 2).val (i 3).val (i 4).val : ℝ) : EReal) := by
  rw [val_main_v89_apply]
  exact h.o1 _

include h in
theorem r90 (i : S1x32x128x8x64.Idx) :
    val_main_v90 (F := Ideal) x5 i = ((D.o4 (i 1).val (i 2).val (i 3).val (i 4).val : ℝ) : EReal) := by
  rw [val_main_v90_apply]
  exact h.o4 _

include h in
theorem r91 (i : S1x32x128x8x64.Idx) :
    val_main_v91 (F := Ideal) x0 x1 x2 i = ((oo D (i 1).val (i 3).val (i 2).val (i 4).val : ℝ) : EReal) := by
  rw [val_main_v91_apply]
  exact r49 h _

include h in
theorem r57 (i : S3x32x128x8.Idx) :
    val_main_v57 (F := Ideal) x0 x1 x4 x6 i = ((lb D (i 1).val (i 3).val (i 2).val (i 0).val : ℝ) : EReal) := by
  unfold val_main_v57 lb
  have h0 : (i 0).val < 3 := (i 0).isLt
  obtain e | e | e : (i 0).val = 0 ∨ (i 0).val = 1 ∨ (i 0).val = 2 := by omega
  · rw [e]
    refine (concatenate_apply_piece (t := S3x32x128x8) 0 [⟨S1x32x128x8, val_main_v54 (F := Ideal) x4⟩, ⟨S1x32x128x8, val_main_v55 (F := Ideal) x6⟩, ⟨S1x32x128x8, val_main_v56 (F := Ideal) x0 x1⟩] _ i 0 (show 0 < 3 by omega) S1x32x128x8 (val_main_v54 (F := Ideal) x4) rfl rfl 0 rfl (ix4 0 (i 1) (i 2) (i 3)) (fun b hb => ?_) e.symm).trans ((r54 h _).trans rfl)
    match b with
    | ⟨0, _⟩ => exact absurd rfl hb
    | ⟨1, _⟩ => rfl
    | ⟨2, _⟩ => rfl
    | ⟨3, _⟩ => rfl
  · rw [e]
    refine (concatenate_apply_piece (t := S3x32x128x8) 0 [⟨S1x32x128x8, val_main_v54 (F := Ideal) x4⟩, ⟨S1x32x128x8, val_main_v55 (F := Ideal) x6⟩, ⟨S1x32x128x8, val_main_v56 (F := Ideal) x0 x1⟩] _ i 1 (show 1 < 3 by omega) S1x32x128x8 (val_main_v55 (F := Ideal) x6) rfl rfl 1 rfl (ix4 0 (i 1) (i 2) (i 3)) (fun b hb => ?_) e.symm).trans ((r55 h _).trans rfl)
    match b with
    | ⟨0, _⟩ => exact absurd rfl hb
    | ⟨1, _⟩ => rfl
    | ⟨2, _⟩ => rfl
    | ⟨3, _⟩ => rfl
  · rw [e]
    refine (concatenate_apply_piece (t := S3x32x128x8) 0 [⟨S1x32x128x8, val_main_v54 (F := Ideal) x4⟩, ⟨S1x32x128x8, val_main_v55 (F := Ideal) x6⟩, ⟨S1x32x128x8, val_main_v56 (F := Ideal) x0 x1⟩] _ i 2 (show 2 < 3 by omega) S1x32x128x8 (val_main_v56 (F := Ideal) x0 x1) rfl rfl 2 rfl (ix4 0 (i 1) (i 2) (i 3)) (fun b hb => ?_) e.symm).trans ((r56 h _).trans rfl)
    match b with
    | ⟨0, _⟩ => exact absurd rfl hb
    | ⟨1, _⟩ => rfl
    | ⟨2, _⟩ => rfl
    | ⟨3, _⟩ => rfl

include h in
theorem r92 (i : S3x32x128x8x64.Idx) :
    val_main_v92 (F := Ideal) x0 x1 x2 x3 x5 i = ((ob D (i 1).val (i 3).val (i 2).val (i 4).val (i 0).val : ℝ) : EReal) := by
  unfold val_main_v92 ob
  have h0 : (i 0).val < 3 := (i 0).isLt
  obtain e | e | e : (i 0).val = 0 ∨ (i 0).val = 1 ∨ (i 0).val = 2 := by omega
  · rw [e]
    refine (concatenate_apply_piece (t := S3x32x128x8x64) 0 [⟨S1x32x128x8x64, val_main_v89 (F := Ideal) x3⟩, ⟨S1x32x128x8x64, val_main_v90 (F := Ideal) x5⟩, ⟨S1x32x128x8x64, val_main_v91 (F := Ideal) x0 x1 x2⟩] _ i 0 (show 0 < 3 by omega) S1x32x128x8x64 (val_main_v89 (F := Ideal) x3) rfl rfl 0 rfl (ix5 0 (i 1) (i 2) (i 3) (i 4)) (fun b hb => ?_) e.symm).trans ((r89 h _).trans rfl)
    match b with
    | ⟨0, _⟩ => exact absurd rfl hb
    | ⟨1, _⟩ => rfl
    | ⟨2, _⟩ => rfl
    | ⟨3, _⟩ => rfl
    | ⟨4, _⟩ => rfl
  · rw [e]
    refine (concatenate_apply_piece (t := S3x32x128x8x64) 0 [⟨S1x32x128x8x64, val_main_v89 (F := Ideal) x3⟩, ⟨S1x32x128x8x64, val_main_v90 (F := Ideal) x5⟩, ⟨S1x32x128x8x64, val_main_v91 (F := Ideal) x0 x1 x2⟩] _ i 1 (show 1 < 3 by omega) S1x32x128x8x64 (val_main_v90 (F := Ideal) x5) rfl rfl 1 rfl (ix5 0 (i 1) (i 2) (i 3) (i 4)) (fun b hb => ?_) e.symm).trans ((r90 h _).trans rfl)
    match b with
    | ⟨0, _⟩ => exact absurd rfl hb
    | ⟨1, _⟩ => rfl
    | ⟨2, _⟩ => rfl
    | ⟨3, _⟩ => rfl
    | ⟨4, _⟩ => rfl
  · rw [e]
    refine (concatenate_apply_piece (t := S3x32x128x8x64) 0 [⟨S1x32x128x8x64, val_main_v89 (F := Ideal) x3⟩, ⟨S1x32x128x8x64, val_main_v90 (F := Ideal) x5⟩, ⟨S1x32x128x8x64, val_main_v91 (F := Ideal) x0 x1 x2⟩] _ i 2 (show 2 < 3 by omega) S1x32x128x8x64 (val_main_v91 (F := Ideal) x0 x1 x2) rfl rfl 2 rfl (ix5 0 (i 1) (i 2) (i 3) (i 4)) (fun b hb => ?_) e.symm).trans ((r91 h _).trans rfl)
    match b with
    | ⟨0, _⟩ => exact absurd rfl hb
    | ⟨1, _⟩ => rfl
    | ⟨2, _⟩ => rfl
    | ⟨3, _⟩ => rfl
    | ⟨4, _⟩ => rfl

include h in
theorem r60 (i : S32x128x8.Idx) :
    val_main_v60 (F := Ideal) x0 x1 x4 x6 i = ((m3 D (i 0).val (i 2).val (i 1).val : ℝ) : EReal) := by
  unfold val_main_v60
  refine (Host.reduce_eq_fold_single _ _ _ _ (by decide) _ i).trans ?_
  refine Eq.trans ?_ (fold_m3 D (i 0).val (i 2).val (i 1).val)
  rw [show val_main_cst_14 (F := Ideal) (Shape.Idx.first h_S_) = (⊥ : EReal) from cbot]
  refine congrArg (Finset.fold max (⊥ : EReal) · Finset.univ) (funext fun k => ?_)
  exact r57 h _

include h in
theorem r67 (i : S32x128x8.Idx) :
    val_main_v67 (F := Ideal) x0 x1 x4 x6 i = ((m3 D (i 0).val (i 2).val (i 1).val : ℝ) : EReal) := by
  rw [val_main_v67_apply, r60 h, val_main_v66_apply, val_main_cst_16_apply]
  refine (congrArg (max · _) cbot).trans ?_
  exact max_eq_right bot_le

include h in
theorem r77 (i : S1x32x128x8.Idx) :
    val_main_v77 (F := Ideal) x0 x1 x4 x6 i = ((m3 D (i 1).val (i 3).val (i 2).val : ℝ) : EReal) := by
  rw [val_main_v77_apply]
  exact r67 h _

include h in
theorem r78 (i : S3x32x128x8.Idx) :
    val_main_v78 (F := Ideal) x0 x1 x4 x6 i = ((m3 D (i 1).val (i 3).val (i 2).val : ℝ) : EReal) := by
  rw [val_main_v78_apply]
  exact r77 h _

include h in
theorem r79 (i : S3x32x128x8.Idx) :
    val_main_v79 (F := Ideal) x0 x1 x4 x6 i = ((lb D (i 1).val (i 3).val (i 2).val (i 0).val - m3 D (i 1).val (i 3).val (i 2).val : ℝ) : EReal) := by
  rw [val_main_v79_apply, r57 h, r78 h]
  exact (EReal.coe_sub _ _).symm

include h in
theorem r80 (i : S3x32x128x8.Idx) :
    val_main_v80 (F := Ideal) x0 x1 x4 x6 i = ((eb D (i 1).val (i 3).val (i 2).val (i 0).val : ℝ) : EReal) := by
  rw [val_main_v80_apply, r79 h]
  rfl

include h in
theorem r81 (i : S32x128x8.Idx) :
    val_main_v81 (F := Ideal) x0 x1 x4 x6 i = ((z3 D (i 0).val (i 2).val (i 1).val : ℝ) : EReal) := by
  rw [val_main_v81_apply, val_main_cst_22_apply]
  unfold z3
  rw [← coe_sum]
  refine (congrArg₂ (· + ·) c0 rfl).trans ((zero_add _).trans (Finset.sum_congr rfl fun k _ => ?_))
  exact r80 h _

include h in
theorem r82 (i : S1x32x128x8.Idx) :
    val_main_v82 (F := Ideal) x0 x1 x4 x6 i = ((z3 D (i 1).val (i 3).val (i 2).val : ℝ) : EReal) := by
  rw [val_main_v82_apply]
  exact r81 h _

include h in
theorem r83 (i : S3x32x128x8.Idx) :
    val_main_v83 (F := Ideal) x0 x1 x4 x6 i = ((z3 D (i 1).val (i 3).val (i 2).val : ℝ) : EReal) := by
  rw [val_main_v83_apply]
  exact r82 h _

include h in
theorem r84 (i : S3x32x128x8.Idx) :
    val_main_v84 (F := Ideal) x0 x1 x4 x6 i = ((wb D (i 1).val (i 3).val (i 2).val (i 0).val : ℝ) : EReal) := by
  rw [val_main_v84_apply, r80 h, r83 h]
  exact div_coe _ _ (z3_pos D _ _ _).ne'

include h in
theorem r85 (i : S1x32x128x8.Idx) :
    val_main_v85 (F := Ideal) x0 x1 x4 x6 i = ((z3 D (i 1).val (i 3).val (i 2).val * z3 D (i 1).val (i 3).val (i 2).val : ℝ) : EReal) := by
  rw [val_main_v85_apply, r82 h]
  exact (EReal.coe_mul _ _).symm

theorem r86 (i : S1x32x128x8.Idx) :
    val_main_v86 (F := Ideal) i = ((1 : ℝ) : EReal) := by
  rw [val_main_v86_apply, val_main_cst_23_apply]
  exact c1

include h in
theorem r87 (i : S1x32x128x8.Idx) :
    val_main_v87 (F := Ideal) x0 x1 x4 x6 i = ((1 / (z3 D (i 1).val (i 3).val (i 2).val * z3 D (i 1).val (i 3).val (i 2).val) : ℝ) : EReal) := by
  rw [val_main_v87_apply, r86, r85 h]
  exact div_coe _ _ (mul_ne_zero (z3_pos D _ _ _).ne' (z3_pos D _ _ _).ne')

include h in
theorem r88 (i : S3x32x128x8x1.Idx) :
    val_main_v88 (F := Ideal) x0 x1 x4 x6 i = ((wb D (i 1).val (i 3).val (i 2).val (i 0).val : ℝ) : EReal) := by
  rw [val_main_v88_apply]
  exact r84 h _

include h in
theorem r98 (i : S3x32x128x8x64.Idx) :
    val_main_v98 (F := Ideal) x7 i = ((D.ct (i 1).val (i 2).val (i 3).val (i 4).val : ℝ) : EReal) := by
  rw [val_main_v98_apply]
  exact h.ct _

include h in
theorem r99 (i : S3x32x128x8x64.Idx) :
    val_main_v99 (F := Ideal) x0 x1 x4 x6 i = ((wb D (i 1).val (i 3).val (i 2).val (i 0).val : ℝ) : EReal) := by
  rw [val_main_v99_apply]
  exact r88 h _

include h in
theorem r100 (i : S3x32x128x8x64.Idx) :
    val_main_v100 (F := Ideal) x0 x1 x4 x6 x7 i = ((wb D (i 1).val (i 3).val (i 2).val (i 0).val * D.ct (i 1).val (i 2).val (i 3).val (i 4).val : ℝ) : EReal) := by
  rw [val_main_v100_apply, r99 h, r98 h]
  exact (EReal.coe_mul _ _).symm

include h in
theorem r101 (i : S3x32x128x8x64.Idx) :
    val_main_v101 (F := Ideal) x0 x1 x2 x3 x5 x7 i = ((D.ct (i 1).val (i 2).val (i 3).val (i 4).val * ob D (i 1).val (i 3).val (i 2).val (i 4).val (i 0).val : ℝ) : EReal) := by
  rw [val_main_v101_apply, r98 h, r92 h]
  exact (EReal.coe_mul _ _).symm

include h in
theorem r102 (i : S3x32x128x8.Idx) :
    val_main_v102 (F := Ideal) x0 x1 x2 x3 x5 x7 i = ((ab D (i 1).val (i 3).val (i 2).val (i 0).val : ℝ) : EReal) := by
  rw [val_main_v102_apply, val_main_cst_27_apply]
  unfold ab
  rw [← coe_sum]
  refine (congrArg₂ (· + ·) c0 rfl).trans ((zero_add _).trans (Finset.sum_congr rfl fun k _ => ?_))
  exact r101 h _

include h in
theorem r103 (i : S3x32x128x8x1.Idx) :
    val_main_v103 (F := Ideal) x0 x1 x2 x3 x5 x7 i = ((ab D (i 1).val (i 3).val (i 2).val (i 0).val : ℝ) : EReal) := by
  unfold val_main_v103
  refine (shapeCast_apply (val_main_v102 (F := Ideal) x0 x1 x2 x3 x5 x7) _ i (ix4 ⟨(i 0).val, by have h0 : (i 0).val < 3 := (i 0).isLt; have h1 : (i 1).val < 32 := (i 1).isLt; have h2 : (i 2).val < 128 := (i 2).isLt; have h3 : (i 3).val < 8 := (i 3).isLt; have h4 : (i 4).val < 1 := (i 4).isLt; omega⟩ ⟨(i 1).val, by have h0 : (i 0).val < 3 := (i 0).isLt; have h1 : (i 1).val < 32 := (i 1).isLt; have h2 : (i 2).val < 128 := (i 2).isLt; have h3 : (i 3).val < 8 := (i 3).isLt; have h4 : (i 4).val < 1 := (i 4).isLt; omega⟩ ⟨(i 2).val, by have h0 : (i 0).val < 3 := (i 0).isLt; have h1 : (i 1).val < 32 := (i 1).isLt; have h2 : (i 2).val < 128 := (i 2).isLt; have h3 : (i 3).val < 8 := (i 3).isLt; have h4 : (i 4).val < 1 := (i 4).isLt; omega⟩ ⟨(i 3).val, by have h0 : (i 0).val < 3 := (i 0).isLt; have h1 : (i 1).val < 32 := (i 1).isLt; have h2 : (i 2).val < 128 := (i 2).isLt; have h3 : (i 3).val < 8 := (i 3).isLt; have h4 : (i 4).val < 1 := (i 4).isLt; omega⟩) ?_).trans (r102 h _)
  rewrite [Shape.rowMajor_val_four, Shape.rowMajor_val_five]
  have h0 : (i 0).val < 3 := (i 0).isLt; have h1 : (i 1).val < 32 := (i 1).isLt; have h2 : (i 2).val < 128 := (i 2).isLt; have h3 : (i 3).val < 8 := (i 3).isLt; have h4 : (i 4).val < 1 := (i 4).isLt
  show ((((i 0).val * 32 + ((i 1).val)) * 128 + ((i 2).val)) * 8 + ((i 3).val)) = (((((i 0).val * 32 + ((i 1).val)) * 128 + ((i 2).val)) * 8 + ((i 3).val)) * 1 + ((i 4).val))
  omega

include h in
theorem r110 (i : S3x32x128x8.Idx) :
    val_main_v110 (F := Ideal) x0 x1 x2 x3 x5 x7 i = ((ab D (i 1).val (i 3).val (i 2).val (i 0).val : ℝ) : EReal) := by
  rw [val_main_v110_apply, val_main_cst_28_apply]
  refine (congrArg₂ (· + ·) c0 rfl).trans ((zero_add _).trans ((Fin.sum_univ_one _).trans (r103 h _)))

include h in
theorem r108 (i : S1x32x128x8x64.Idx) :
    val_main_v108 (F := Ideal) x0 x1 x4 x6 x7 i = ((dob D (i 1).val (i 3).val (i 2).val (i 4).val : ℝ) : EReal) := by
  have h0 : (i 0).val < 1 := (i 0).isLt
  have e : 2 + (i 0).val = 2 := by omega
  rw [val_main_v108_apply, r100 h]
  show ((wb D _ _ _ (2 + (i 0).val) * _ : ℝ) : EReal) = _
  rw [e]
  rfl

include h in
theorem r109 (i : S32x128x8x64.Idx) :
    val_main_v109 (F := Ideal) x0 x1 x4 x6 x7 i = ((dob D (i 0).val (i 2).val (i 1).val (i 3).val : ℝ) : EReal) := by
  unfold val_main_v109
  refine (shapeCast_apply (val_main_v108 (F := Ideal) x0 x1 x4 x6 x7) _ i (ix5 ⟨0, by have h0 : (i 0).val < 32 := (i 0).isLt; have h1 : (i 1).val < 128 := (i 1).isLt; have h2 : (i 2).val < 8 := (i 2).isLt; have h3 : (i 3).val < 64 := (i 3).isLt; omega⟩ ⟨(i 0).val, by have h0 : (i 0).val < 32 := (i 0).isLt; have h1 : (i 1).val < 128 := (i 1).isLt; have h2 : (i 2).val < 8 := (i 2).isLt; have h3 : (i 3).val < 64 := (i 3).isLt; omega⟩ ⟨(i 1).val, by have h0 : (i 0).val < 32 := (i 0).isLt; have h1 : (i 1).val < 128 := (i 1).isLt; have h2 : (i 2).val < 8 := (i 2).isLt; have h3 : (i 3).val < 64 := (i 3).isLt; omega⟩ ⟨(i 2).val, by have h0 : (i 0).val < 32 := (i 0).isLt; have h1 : (i 1).val < 128 := (i 1).isLt; have h2 : (i 2).val < 8 := (i 2).isLt; have h3 : (i 3).val < 64 := (i 3).isLt; omega⟩ ⟨(i 3).val, by have h0 : (i 0).val < 32 := (i 0).isLt; have h1 : (i 1).val < 128 := (i 1).isLt; have h2 : (i 2).val < 8 := (i 2).isLt; have h3 : (i 3).val < 64 := (i 3).isLt; omega⟩) ?_).trans (r108 h _)
  rewrite [Shape.rowMajor_val_five, Shape.rowMajor_val_four]
  have h0 : (i 0).val < 32 := (i 0).isLt; have h1 : (i 1).val < 128 := (i 1).isLt; have h2 : (i 2).val < 8 := (i 2).isLt; have h3 : (i 3).val < 64 := (i 3).isLt
  show ((((0 * 32 + ((i 0).val)) * 128 + ((i 1).val)) * 8 + ((i 2).val)) * 64 + ((i 3).val)) = ((((i 0).val * 128 + ((i 1).val)) * 8 + ((i 2).val)) * 64 + ((i 3).val))
  omega

include h in
theorem r111 (i : S3x32x128x8.Idx) :
    val_main_v111 (F := Ideal) x0 x1 x4 x6 i = ((1 / (z3 D (i 1).val (i 3).val (i 2).val * z3 D (i 1).val (i 3).val (i 2).val) : ℝ) : EReal) := by
  rw [val_main_v111_apply]
  exact r87 h _

include h in
theorem r112 (i : S3x32x128x8.Idx) :
    val_main_v112 (F := Ideal) x0 x1 x2 x3 x4 x5 x6 x7 i = ((ab D (i 1).val (i 3).val (i 2).val (i 0).val * (1 / (z3 D (i 1).val (i 3).val (i 2).val * z3 D (i 1).val (i 3).val (i 2).val)) : ℝ) : EReal) := by
  rw [val_main_v112_apply, r110 h, r111 h]
  exact (EReal.coe_mul _ _).symm

include h in
theorem r113 (i : S3x32x128x8.Idx) :
    val_main_v113 (F := Ideal) x0 x1 x2 x3 x4 x5 x6 x7 i = ((ab D (i 1).val (i 3).val (i 2).val (i 0).val * (1 / (z3 D (i 1).val (i 3).val (i 2).val * z3 D (i 1).val (i 3).val (i 2).val)) * eb D (i 1).val (i 3).val (i 2).val (i 0).val : ℝ) : EReal) := by
  rw [val_main_v113_apply, r112 h, r80 h]
  exact (EReal.coe_mul _ _).symm

include h in
theorem r114 (i : S32x128x8.Idx) :
    val_main_v114 (F := Ideal) x0 x1 x2 x3 x4 x5 x6 x7 i = ((∑ b : Fin 3, ab D (i 0).val (i 2).val (i 1).val b * (1 / (z3 D (i 0).val (i 2).val (i 1).val * z3 D (i 0).val (i 2).val (i 1).val)) * eb D (i 0).val (i 2).val (i 1).val b : ℝ) : EReal) := by
  rw [val_main_v114_apply, val_main_cst_29_apply]

  rw [← coe_sum]
  refine (congrArg₂ (· + ·) c0 rfl).trans ((zero_add _).trans (Finset.sum_congr rfl fun k _ => ?_))
  exact r113 h _

include h in
theorem r115 (i : S1x32x128x8.Idx) :
    val_main_v115 (F := Ideal) x0 x1 x2 x3 x4 x5 x6 x7 i = ((∑ b : Fin 3, ab D (i 1).val (i 3).val (i 2).val b * (1 / (z3 D (i 1).val (i 3).val (i 2).val * z3 D (i 1).val (i 3).val (i 2).val)) * eb D (i 1).val (i 3).val (i 2).val b : ℝ) : EReal) := by
  unfold val_main_v115
  refine (shapeCast_apply (val_main_v114 (F := Ideal) x0 x1 x2 x3 x4 x5 x6 x7) _ i (ix3 ⟨(i 1).val, by have h0 : (i 0).val < 1 := (i 0).isLt; have h1 : (i 1).val < 32 := (i 1).isLt; have h2 : (i 2).val < 128 := (i 2).isLt; have h3 : (i 3).val < 8 := (i 3).isLt; omega⟩ ⟨(i 2).val, by have h0 : (i 0).val < 1 := (i 0).isLt; have h1 : (i 1).val < 32 := (i 1).isLt; have h2 : (i 2).val < 128 := (i 2).isLt; have h3 : (i 3).val < 8 := (i 3).isLt; omega⟩ ⟨(i 3).val, by have h0 : (i 0).val < 1 := (i 0).isLt; have h1 : (i 1).val < 32 := (i 1).isLt; have h2 : (i 2).val < 128 := (i 2).isLt; have h3 : (i 3).val < 8 := (i 3).isLt; omega⟩) ?_).trans (r114 h _)
  rewrite [Shape.rowMajor_val_three, Shape.rowMajor_val_four]
  have h0 : (i 0).val < 1 := (i 0).isLt; have h1 : (i 1).val < 32 := (i 1).isLt; have h2 : (i 2).val < 128 := (i 2).isLt; have h3 : (i 3).val < 8 := (i 3).isLt
  show (((i 1).val * 128 + ((i 2).val)) * 8 + ((i 3).val)) = ((((i 0).val * 32 + ((i 1).val)) * 128 + ((i 2).val)) * 8 + ((i 3).val))
  omega

include h in
theorem r116 (i : S1x32x128x8.Idx) :
    val_main_v116 (F := Ideal) x0 x1 x2 x3 x4 x5 x6 x7 i = ((-(∑ b : Fin 3, ab D (i 1).val (i 3).val (i 2).val b * (1 / (z3 D (i 1).val (i 3).val (i 2).val * z3 D (i 1).val (i 3).val (i 2).val)) * eb D (i 1).val (i 3).val (i 2).val b) : ℝ) : EReal) := by
  rw [val_main_v116_apply, r115 h]
  exact (EReal.coe_neg _).symm

include h in
theorem r117 (i : S3x32x128x8.Idx) :
    val_main_v117 (F := Ideal) x0 x1 x4 x6 i = ((z3 D (i 1).val (i 3).val (i 2).val : ℝ) : EReal) := by
  rw [val_main_v117_apply]
  exact r82 h _

include h in
theorem r118 (i : S3x32x128x8.Idx) :
    val_main_v118 (F := Ideal) x0 x1 x2 x3 x4 x5 x6 x7 i = ((ab D (i 1).val (i 3).val (i 2).val (i 0).val / z3 D (i 1).val (i 3).val (i 2).val : ℝ) : EReal) := by
  rw [val_main_v118_apply, r110 h, r117 h]
  exact div_coe _ _ (z3_pos D _ _ _).ne'

include h in
theorem r119 (i : S32x128x8.Idx) :
    val_main_v119 (F := Ideal) x0 x1 x2 x3 x4 x5 x6 x7 i = ((-(∑ b : Fin 3, ab D (i 0).val (i 2).val (i 1).val b * (1 / (z3 D (i 0).val (i 2).val (i 1).val * z3 D (i 0).val (i 2).val (i 1).val)) * eb D (i 0).val (i 2).val (i 1).val b) : ℝ) : EReal) := by
  rw [val_main_v119_apply, val_main_cst_30_apply]
  refine (congrArg₂ (· + ·) c0 rfl).trans ((zero_add _).trans ((Fin.sum_univ_one _).trans (r116 h _)))

include h in
theorem r120 (i : S3x32x128x8.Idx) :
    val_main_v120 (F := Ideal) x0 x1 x2 x3 x4 x5 x6 x7 i = ((-(∑ b : Fin 3, ab D (i 1).val (i 3).val (i 2).val b * (1 / (z3 D (i 1).val (i 3).val (i 2).val * z3 D (i 1).val (i 3).val (i 2).val)) * eb D (i 1).val (i 3).val (i 2).val b) : ℝ) : EReal) := by
  rw [val_main_v120_apply]
  exact r119 h _

include h in
theorem r121 (i : S3x32x128x8.Idx) :
    val_main_v121 (F := Ideal) x0 x1 x2 x3 x4 x5 x6 x7 i = ((ab D (i 1).val (i 3).val (i 2).val (i 0).val / z3 D (i 1).val (i 3).val (i 2).val + -(∑ b : Fin 3, ab D (i 1).val (i 3).val (i 2).val b * (1 / (z3 D (i 1).val (i 3).val (i 2).val * z3 D (i 1).val (i 3).val (i 2).val)) * eb D (i 1).val (i 3).val (i 2).val b) : ℝ) : EReal) := by
  rw [val_main_v121_apply, r118 h, r120 h]
  exact (EReal.coe_add _ _).symm

include h in
theorem r122 (i : S3x32x128x8.Idx) :
    val_main_v122 (F := Ideal) x0 x1 x2 x3 x4 x5 x6 x7 i = (((ab D (i 1).val (i 3).val (i 2).val (i 0).val / z3 D (i 1).val (i 3).val (i 2).val + -(∑ b : Fin 3, ab D (i 1).val (i 3).val (i 2).val b * (1 / (z3 D (i 1).val (i 3).val (i 2).val * z3 D (i 1).val (i 3).val (i 2).val)) * eb D (i 1).val (i 3).val (i 2).val b)) * eb D (i 1).val (i 3).val (i 2).val (i 0).val : ℝ) : EReal) := by
  rw [val_main_v122_apply, r121 h, r80 h]
  exact (EReal.coe_mul _ _).symm

include h in
theorem r127 (i : S1x32x128x8.Idx) :
    val_main_v127 (F := Ideal) x0 x1 x2 x3 x4 x5 x6 x7 i = ((dls D (i 1).val (i 3).val (i 2).val : ℝ) : EReal) := by
  have h0 : (i 0).val < 1 := (i 0).isLt
  have e : 2 + (i 0).val = 2 := by omega
  rw [val_main_v127_apply, r122 h]
  show (((ab D _ _ _ (2 + (i 0).val) / _ + _) * eb D _ _ _ (2 + (i 0).val) : ℝ) : EReal) = _
  rw [e]
  rfl

include h in
theorem r128 (i : S32x128x8.Idx) :
    val_main_v128 (F := Ideal) x0 x1 x2 x3 x4 x5 x6 x7 i = ((dls D (i 0).val (i 2).val (i 1).val : ℝ) : EReal) := by
  unfold val_main_v128
  refine (shapeCast_apply (val_main_v127 (F := Ideal) x0 x1 x2 x3 x4 x5 x6 x7) _ i (ix4 ⟨0, by have h0 : (i 0).val < 32 := (i 0).isLt; have h1 : (i 1).val < 128 := (i 1).isLt; have h2 : (i 2).val < 8 := (i 2).isLt; omega⟩ ⟨(i 0).val, by have h0 : (i 0).val < 32 := (i 0).isLt; have h1 : (i 1).val < 128 := (i 1).isLt; have h2 : (i 2).val < 8 := (i 2).isLt; omega⟩ ⟨(i 1).val, by have h0 : (i 0).val < 32 := (i 0).isLt; have h1 : (i 1).val < 128 := (i 1).isLt; have h2 : (i 2).val < 8 := (i 2).isLt; omega⟩ ⟨(i 2).val, by have h0 : (i 0).val < 32 := (i 0).isLt; have h1 : (i 1).val < 128 := (i 1).isLt; have h2 : (i 2).val < 8 := (i 2).isLt; omega⟩) ?_).trans (r127 h _)
  rewrite [Shape.rowMajor_val_four, Shape.rowMajor_val_three]
  have h0 : (i 0).val < 32 := (i 0).isLt; have h1 : (i 1).val < 128 := (i 1).isLt; have h2 : (i 2).val < 8 := (i 2).isLt
  show (((0 * 32 + ((i 0).val)) * 128 + ((i 1).val)) * 8 + ((i 2).val)) = (((i 0).val * 128 + ((i 1).val)) * 8 + ((i 2).val))
  omega

include h in
theorem r129 (i : S32x8x128.Idx) :
    val_main_v129 (F := Ideal) x0 x1 x2 x3 x4 x5 x6 x7 i = ((dls D (i 0).val (i 1).val (i 2).val : ℝ) : EReal) := by
  rw [val_main_v129_apply]
  exact r128 h _

include h in
theorem r130 (i : S32x8x128x1.Idx) :
    val_main_v130 (F := Ideal) x0 x1 x2 x3 x4 x5 x6 x7 i = ((dls D (i 0).val (i 1).val (i 2).val : ℝ) : EReal) := by
  rw [val_main_v130_apply]
  exact r129 h _

include h in
theorem r131 (i : S32x8x128x1.Idx) :
    val_main_v131 (F := Ideal) x0 x1 x2 x3 x4 x5 x6 x7 i = ((dls D (i 0).val (i 1).val (i 2).val / zz D (i 0).val (i 1).val (i 2).val : ℝ) : EReal) := by
  rw [val_main_v131_apply, r130 h, r42 h]
  exact div_coe _ _ (zz_pos D _ _ _ (i 2).isLt).ne'

include h in
theorem r132 (i : S32x8x64x128.Idx) :
    val_main_v132 (F := Ideal) x0 x1 x4 x6 x7 i = ((dob D (i 0).val (i 1).val (i 3).val (i 2).val : ℝ) : EReal) := by
  rw [val_main_v132_apply]
  exact r109 h _

include h in
theorem r133 (i : S32x8x128x256.Idx) :
    val_main_v133 (F := Ideal) x0 x1 x2 x4 x6 x7 i = ((dpw D (i 0).val (i 1).val (i 2).val (i 3).val : ℝ) : EReal) := by
  rw [val_main_v133_apply]
  unfold dpw
  rw [← coe_sum]
  refine Finset.sum_congr rfl fun k _ => ?_
  rw [r132 h, r9 h]
  exact (EReal.coe_mul _ _).symm

include h in
theorem r136 (i : S32x8x128x256.Idx) :
    val_main_v136 (F := Ideal) x0 x1 i = (((1 / (zz D (i 0).val (i 1).val (i 2).val * zz D (i 0).val (i 1).val (i 2).val)) : ℝ) : EReal) := by
  rw [val_main_v136_apply]
  exact r47 h _

include h in
theorem r137 (i : S32x8x128x256.Idx) :
    val_main_v137 (F := Ideal) x0 x1 x2 x4 x6 x7 i = ((dpw D (i 0).val (i 1).val (i 2).val (i 3).val * (1 / (zz D (i 0).val (i 1).val (i 2).val * zz D (i 0).val (i 1).val (i 2).val)) : ℝ) : EReal) := by
  rw [val_main_v137_apply, r133 h, r136 h]
  exact (EReal.coe_mul _ _).symm

include h in
theorem r138 (i : S32x8x128x256.Idx) :
    val_main_v138 (F := Ideal) x0 x1 x2 x4 x6 x7 i = ((dpw D (i 0).val (i 1).val (i 2).val (i 3).val * (1 / (zz D (i 0).val (i 1).val (i 2).val * zz D (i 0).val (i 1).val (i 2).val)) * ex D (i 0).val (i 1).val (i 2).val (i 3).val : ℝ) : EReal) := by
  rw [val_main_v138_apply, r137 h, r40 h]
  exact (EReal.coe_mul _ _).symm

include h in
theorem r139 (i : S32x8x128.Idx) :
    val_main_v139 (F := Ideal) x0 x1 x2 x4 x6 x7 i = ((∑ j : Fin 256, dpw D (i 0).val (i 1).val (i 2).val j * (1 / (zz D (i 0).val (i 1).val (i 2).val * zz D (i 0).val (i 1).val (i 2).val)) * ex D (i 0).val (i 1).val (i 2).val j : ℝ) : EReal) := by
  rw [val_main_v139_apply, val_main_cst_31_apply]

  rw [← coe_sum]
  refine (congrArg₂ (· + ·) c0 rfl).trans ((zero_add _).trans (Finset.sum_congr rfl fun k _ => ?_))
  exact r138 h _

include h in
theorem r140 (i : S32x8x128x1.Idx) :
    val_main_v140 (F := Ideal) x0 x1 x2 x4 x6 x7 i = ((∑ j : Fin 256, dpw D (i 0).val (i 1).val (i 2).val j * (1 / (zz D (i 0).val (i 1).val (i 2).val * zz D (i 0).val (i 1).val (i 2).val)) * ex D (i 0).val (i 1).val (i 2).val j : ℝ) : EReal) := by
  unfold val_main_v140
  refine (shapeCast_apply (val_main_v139 (F := Ideal) x0 x1 x2 x4 x6 x7) _ i (ix3 ⟨(i 0).val, by have h0 : (i 0).val < 32 := (i 0).isLt; have h1 : (i 1).val < 8 := (i 1).isLt; have h2 : (i 2).val < 128 := (i 2).isLt; have h3 : (i 3).val < 1 := (i 3).isLt; omega⟩ ⟨(i 1).val, by have h0 : (i 0).val < 32 := (i 0).isLt; have h1 : (i 1).val < 8 := (i 1).isLt; have h2 : (i 2).val < 128 := (i 2).isLt; have h3 : (i 3).val < 1 := (i 3).isLt; omega⟩ ⟨(i 2).val, by have h0 : (i 0).val < 32 := (i 0).isLt; have h1 : (i 1).val < 8 := (i 1).isLt; have h2 : (i 2).val < 128 := (i 2).isLt; have h3 : (i 3).val < 1 := (i 3).isLt; omega⟩) ?_).trans (r139 h _)
  rewrite [Shape.rowMajor_val_three, Shape.rowMajor_val_four]
  have h0 : (i 0).val < 32 := (i 0).isLt; have h1 : (i 1).val < 8 := (i 1).isLt; have h2 : (i 2).val < 128 := (i 2).isLt; have h3 : (i 3).val < 1 := (i 3).isLt
  show (((i 0).val * 8 + ((i 1).val)) * 128 + ((i 2).val)) = ((((i 0).val * 8 + ((i 1).val)) * 128 + ((i 2).val)) * 1 + ((i 3).val))
  omega

include h in
theorem r141 (i : S32x8x128x1.Idx) :
    val_main_v141 (F := Ideal) x0 x1 x2 x4 x6 x7 i = ((-(∑ j : Fin 256, dpw D (i 0).val (i 1).val (i 2).val j * (1 / (zz D (i 0).val (i 1).val (i 2).val * zz D (i 0).val (i 1).val (i 2).val)) * ex D (i 0).val (i 1).val (i 2).val j) : ℝ) : EReal) := by
  rw [val_main_v141_apply, r140 h]
  exact (EReal.coe_neg _).symm

include h in
theorem r142 (i : S32x8x128x1.Idx) :
    val_main_v142 (F := Ideal) x0 x1 x2 x3 x4 x5 x6 x7 i = ((dzz D (i 0).val (i 1).val (i 2).val : ℝ) : EReal) := by
  rw [val_main_v142_apply, r131 h, r141 h]
  exact (EReal.coe_add _ _).symm

include h in
theorem r143 (i : S32x8x128x256.Idx) :
    val_main_v143 (F := Ideal) x0 x1 i = ((zz D (i 0).val (i 1).val (i 2).val : ℝ) : EReal) := by
  rw [val_main_v143_apply]
  exact r42 h _

include h in
theorem r144 (i : S32x8x128x256.Idx) :
    val_main_v144 (F := Ideal) x0 x1 x2 x4 x6 x7 i = ((dpw D (i 0).val (i 1).val (i 2).val (i 3).val / zz D (i 0).val (i 1).val (i 2).val : ℝ) : EReal) := by
  rw [val_main_v144_apply, r133 h, r143 h]
  exact div_coe _ _ (zz_pos D _ _ _ (i 2).isLt).ne'

include h in
theorem r145 (i : S32x8x128.Idx) :
    val_main_v145 (F := Ideal) x0 x1 x2 x3 x4 x5 x6 x7 i = ((dzz D (i 0).val (i 1).val (i 2).val : ℝ) : EReal) := by
  rw [val_main_v145_apply, val_main_cst_32_apply]
  refine (congrArg₂ (· + ·) c0 rfl).trans ((zero_add _).trans ((Fin.sum_univ_one _).trans (r142 h _)))

include h in
theorem r146 (i : S32x8x128x256.Idx) :
    val_main_v146 (F := Ideal) x0 x1 x2 x3 x4 x5 x6 x7 i = ((dzz D (i 0).val (i 1).val (i 2).val : ℝ) : EReal) := by
  rw [val_main_v146_apply]
  exact r145 h _

include h in
theorem r147 (i : S32x8x128x256.Idx) :
    val_main_v147 (F := Ideal) x0 x1 x2 x3 x4 x5 x6 x7 i = ((dpw D (i 0).val (i 1).val (i 2).val (i 3).val / zz D (i 0).val (i 1).val (i 2).val + dzz D (i 0).val (i 1).val (i 2).val : ℝ) : EReal) := by
  rw [val_main_v147_apply, r144 h, r146 h]
  exact (EReal.coe_add _ _).symm

include h in
theorem r148 (i : S32x8x128x256.Idx) :
    val_main_v148 (F := Ideal) x0 x1 x2 x3 x4 x5 x6 x7 i = ((dsr D (i 0).val (i 1).val (i 2).val (i 3).val : ℝ) : EReal) := by
  rw [val_main_v148_apply, r147 h, r40 h]
  exact (EReal.coe_mul _ _).symm

include h in
theorem r149 (i : S32x8x128x256.Idx) :
    val_main_v149 (F := Ideal) x0 x1 x2 x3 x4 x5 x6 x7 i = ((-dsr D (i 0).val (i 1).val (i 2).val (i 3).val : ℝ) : EReal) := by
  rw [val_main_v149_apply, r148 h]
  exact (EReal.coe_neg _).symm

include h in
theorem r150 (i : S32x8x128.Idx) :
    val_main_v150 (F := Ideal) x0 x1 x2 x3 x4 x5 x6 x7 i = ((∑ j : Fin 256, -dsr D (i 0).val (i 1).val (i 2).val j : ℝ) : EReal) := by
  rw [val_main_v150_apply, val_main_cst_33_apply]

  rw [← coe_sum]
  refine (congrArg₂ (· + ·) c0 rfl).trans ((zero_add _).trans (Finset.sum_congr rfl fun k _ => ?_))
  exact r149 h _

include h in
theorem r151 (i : S32x8x128x1.Idx) :
    val_main_v151 (F := Ideal) x0 x1 x2 x3 x4 x5 x6 x7 i = ((∑ j : Fin 256, -dsr D (i 0).val (i 1).val (i 2).val j : ℝ) : EReal) := by
  unfold val_main_v151
  refine (shapeCast_apply (val_main_v150 (F := Ideal) x0 x1 x2 x3 x4 x5 x6 x7) _ i (ix3 ⟨(i 0).val, by have h0 : (i 0).val < 32 := (i 0).isLt; have h1 : (i 1).val < 8 := (i 1).isLt; have h2 : (i 2).val < 128 := (i 2).isLt; have h3 : (i 3).val < 1 := (i 3).isLt; omega⟩ ⟨(i 1).val, by have h0 : (i 0).val < 32 := (i 0).isLt; have h1 : (i 1).val < 8 := (i 1).isLt; have h2 : (i 2).val < 128 := (i 2).isLt; have h3 : (i 3).val < 1 := (i 3).isLt; omega⟩ ⟨(i 2).val, by have h0 : (i 0).val < 32 := (i 0).isLt; have h1 : (i 1).val < 8 := (i 1).isLt; have h2 : (i 2).val < 128 := (i 2).isLt; have h3 : (i 3).val < 1 := (i 3).isLt; omega⟩) ?_).trans (r150 h _)
  rewrite [Shape.rowMajor_val_three, Shape.rowMajor_val_four]
  have h0 : (i 0).val < 32 := (i 0).isLt; have h1 : (i 1).val < 8 := (i 1).isLt; have h2 : (i 2).val < 128 := (i 2).isLt; have h3 : (i 3).val < 1 := (i 3).isLt
  show (((i 0).val * 8 + ((i 1).val)) * 128 + ((i 2).val)) = ((((i 0).val * 8 + ((i 1).val)) * 128 + ((i 2).val)) * 1 + ((i 3).val))
  omega

include h in
theorem r152 (i : S32x8x128x1.Idx) :
    val_main_v152 (F := Ideal) x0 x1 x2 x3 x4 x5 x6 x7 i = ((0 : ℝ) : EReal) := by
  rw [val_main_v152_apply, r130 h, r151 h]
  refine (EReal.coe_add _ _).symm.trans (congrArg _ (dmax_eq D _ _ _ (i 2).isLt))

include h in
theorem r153 (i : S32x8x128.Idx) :
    val_main_v153 (F := Ideal) x0 x1 x2 x3 x4 x5 x6 x7 i = ((0 : ℝ) : EReal) := by
  rw [val_main_v153_apply, val_main_cst_34_apply]
  refine (congrArg₂ (· + ·) c0 rfl).trans ((zero_add _).trans ((Fin.sum_univ_one _).trans (r152 h _)))

include h in
theorem r154 (i : S32x8x128.Idx) :
    val_main_v154 (F := Ideal) x0 x1 x2 x3 x4 x5 x6 x7 i = ((0 : ℝ) : EReal) := by
  rw [val_main_v154_apply, r153 h, r36 h]
  exact (div_coe _ _ (count_pos D _ _ _ (i 2).isLt).ne').trans (congrArg _ (zero_div _))

include h in
theorem r155 (i : S32x8x128x256.Idx) :
    val_main_v155 (F := Ideal) x0 x1 x2 x3 x4 x5 x6 x7 i = ((0 : ℝ) : EReal) := by
  rw [val_main_v155_apply]
  exact r154 h _

include h in
theorem r156 (i : S32x8x128x256.Idx) :
    val_main_v156 (F := Ideal) x0 x1 x2 x3 x4 x5 x6 x7 i = ((0 : ℝ) : EReal) := by
  rw [val_main_v156_apply, r155 h, r35 h]
  exact (EReal.coe_mul _ _).symm.trans (congrArg _ (zero_mul _))

include h in
theorem r157 (i : S32x8x128x256.Idx) :
    val_main_v157 (F := Ideal) x0 x1 x2 x3 x4 x5 x6 x7 i = ((dsr D (i 0).val (i 1).val (i 2).val (i 3).val : ℝ) : EReal) := by
  rw [val_main_v157_apply, r148 h, r156 h]
  exact (EReal.coe_add _ _).symm.trans (congrArg _ (add_zero _))

include h in
theorem r158 (i : S32x8x128x256.Idx) :
    val_main_v158 (F := Ideal) x0 x1 x2 x3 x4 x5 x6 x7 i = ((dsr D (i 0).val (i 1).val (i 2).val (i 3).val : ℝ) : EReal) := by
  rw [val_main_v158_apply, r30_1, r157 h]
  by_cases hj : Ok (i 2).val (i 3).val
  · rw [if_pos hj]; rfl
  · rw [if_neg hj]
    refine Eq.trans (b := val_main_call1_v0 (F := Ideal) i) rfl ?_
    rw [val_main_call1_v0_apply, val_main_call1_cst_apply]
    unfold dsr ex
    rw [if_neg hj, mul_zero]
    exact c0

include h in
theorem r134 (i : S32x8x64x256.Idx) :
    val_main_v134 (F := Ideal) x0 x1 x4 x6 x7 i = ((∑ k : Fin 128, dob D (i 0).val (i 1).val k (i 2).val * (ex D (i 0).val (i 1).val k (i 3).val / zz D (i 0).val (i 1).val k) : ℝ) : EReal) := by
  rw [val_main_v134_apply]

  rw [← coe_sum]
  refine Finset.sum_congr rfl fun k _ => ?_
  rw [r132 h, r44 h]
  exact (EReal.coe_mul _ _).symm

include h in
theorem r135 (i : S32x256x8x64.Idx) :
    val_main_v135 (F := Ideal) x0 x1 x4 x6 x7 i = ((∑ k : Fin 128, dob D (i 0).val (i 2).val k (i 3).val * (ex D (i 0).val (i 2).val k (i 1).val / zz D (i 0).val (i 2).val k) : ℝ) : EReal) := by
  rw [val_main_v135_apply]
  exact r134 h _

include h in
theorem r159 (i : S32x8x256x64.Idx) :
    val_main_v159 (F := Ideal) x0 x1 x2 x3 x4 x5 x6 x7 i = ((∑ k : Fin 128, dsr D (i 0).val (i 1).val k (i 2).val * qs D (i 0).val (i 1).val k (i 3).val : ℝ) : EReal) := by
  rw [val_main_v159_apply]

  rw [← coe_sum]
  refine Finset.sum_congr rfl fun k _ => ?_
  rw [r158 h, r2 h]
  exact (EReal.coe_mul _ _).symm

include h in
theorem r160 (i : S32x256x8x64.Idx) :
    val_main_v160 (F := Ideal) x0 x1 x2 x3 x4 x5 x6 x7 i = ((∑ k : Fin 128, dsr D (i 0).val (i 2).val k (i 1).val * qs D (i 0).val (i 2).val k (i 3).val : ℝ) : EReal) := by
  rw [val_main_v160_apply]
  exact r159 h _

include h in
theorem r161 (i : S32x8x128x64.Idx) :
    val_main_v161 (F := Ideal) x0 x1 x2 x3 x4 x5 x6 x7 i = ((∑ j : Fin 256, dsr D (i 0).val (i 1).val (i 2).val j * kc D (i 0).val (i 1).val j (i 3).val : ℝ) : EReal) := by
  rw [val_main_v161_apply]

  rw [← coe_sum]
  refine Finset.sum_congr rfl fun k _ => ?_
  rw [r158 h, r6 h]
  exact (EReal.coe_mul _ _).symm

include h in
theorem r162 (i : S32x128x8x64.Idx) :
    val_main_v162 (F := Ideal) x0 x1 x2 x3 x4 x5 x6 x7 i = ((∑ j : Fin 256, dsr D (i 0).val (i 2).val (i 1).val j * kc D (i 0).val (i 2).val j (i 3).val : ℝ) : EReal) := by
  rw [val_main_v162_apply]
  exact r161 h _

include h in
theorem r164 (i : S32x128x8x64.Idx) :
    val_main_v164 (F := Ideal) x0 x1 x4 x6 x7 i = ((gv D (i 0).val (i 2).val (i 1).val (i 3).val : ℝ) : EReal) := by
  rw [val_main_v164_apply, r135 h]
  unfold gv
  refine congrArg _ (Finset.sum_congr rfl fun k _ => ?_)
  rw [← pr_eq D _ _ _ _ k.isLt, mul_comm]

include h in
theorem r166 (i : S32x128x8x64.Idx) :
    val_main_v166 (F := Ideal) x0 x1 x2 x3 x4 x5 x6 x7 i = ((gk D (i 0).val (i 2).val (i 1).val (i 3).val : ℝ) : EReal) := by
  rw [val_main_v166_apply, r160 h]
  unfold gk
  refine congrArg _ (Finset.sum_congr rfl fun k _ => ?_)
  rw [← dsr_eq D _ _ _ _ k.isLt]

include h in
theorem r167 (i : S32x128x512.Idx) :
    val_main_v167 (F := Ideal) x0 x1 x4 x6 x7 i = ((gv D (i 0).val ((i 2).val / 64) (i 1).val ((i 2).val % 64) : ℝ) : EReal) := by
  unfold val_main_v167
  refine (shapeCast_apply (val_main_v164 (F := Ideal) x0 x1 x4 x6 x7) _ i (ix4 (i 0) (i 1) ⟨(i 2).val / 64, by have h2 : (i 2).val < 512 := (i 2).isLt; omega⟩ ⟨(i 2).val % 64, by omega⟩) ?_).trans (r164 h _)
  rewrite [Shape.rowMajor_val_four, Shape.rowMajor_val_three]
  show (((i 0).val * 128 + (i 1).val) * 8 + (i 2).val / 64) * 64 + (i 2).val % 64 = ((i 0).val * 128 + (i 1).val) * 512 + (i 2).val
  omega

include h in
theorem r168 (i : S32x128x512.Idx) :
    val_main_v168 (F := Ideal) x0 x1 x2 x3 x4 x5 x6 x7 i = ((gk D (i 0).val ((i 2).val / 64) (i 1).val ((i 2).val % 64) : ℝ) : EReal) := by
  unfold val_main_v168
  refine (shapeCast_apply (val_main_v166 (F := Ideal) x0 x1 x2 x3 x4 x5 x6 x7) _ i (ix4 (i 0) (i 1) ⟨(i 2).val / 64, by have h2 : (i 2).val < 512 := (i 2).isLt; omega⟩ ⟨(i 2).val % 64, by omega⟩) ?_).trans (r166 h _)
  rewrite [Shape.rowMajor_val_four, Shape.rowMajor_val_three]
  show (((i 0).val * 128 + (i 1).val) * 8 + (i 2).val / 64) * 64 + (i 2).val % 64 = ((i 0).val * 128 + (i 1).val) * 512 + (i 2).val
  omega

include h in
theorem r169 (i : S32x128x512.Idx) :
    val_main_v169 (F := Ideal) x0 x1 x2 x3 x4 x5 x6 x7 i = ((gq D (i 0).val ((i 2).val / 64) (i 1).val ((i 2).val % 64) : ℝ) : EReal) := by
  rw [← gq_eq D (i 0).val _ (i 1).val _ (i 1).isLt]
  unfold val_main_v169
  refine (shapeCast_apply (val_main_v162 (F := Ideal) x0 x1 x2 x3 x4 x5 x6 x7) _ i (ix4 (i 0) (i 1) ⟨(i 2).val / 64, by have h2 : (i 2).val < 512 := (i 2).isLt; omega⟩ ⟨(i 2).val % 64, by omega⟩) ?_).trans (r162 h _)
  rewrite [Shape.rowMajor_val_four, Shape.rowMajor_val_three]
  show (((i 0).val * 128 + (i 1).val) * 8 + (i 2).val / 64) * 64 + (i 2).val % 64 = ((i 0).val * 128 + (i 1).val) * 512 + (i 2).val
  omega

end Cert.Branch.Ref
-- ==== Proof.Host.lean ====
/- What the kernel's operands hold when the region is entered. -/
module

public import proofs.«01_k».proof.Proof.KVal
public import proofs.«01_k».proof.Proof.RefRead
public import Idealize.ShloMosaic.Lib.StableHlo.RunRead
public import Idealize.ShloMosaic.Lib.KernelVsHost

@[expose] public section

set_option maxRecDepth 16384

noncomputable section

namespace Cert.Branch.Kern

open Cert.KernelIdeal Cert.KernelIdeal.Gen Idealize.ShloMosaic Idealize.ShloMosaic.ValueIdx Idealize.ShloMosaic.TcCoe Idealize.SL.Sem Idealize.ShloMosaic.StableHlo

section
variable {F : FTy → Type} [FloatOps F] [Named F] (W : Valuation τ sig (Elt F))

/-- The host's operations up to the forward pass's two results. -/
abbrev lineA : List (HloOp τ sig (Elt F)) := hostOps0 ++ (hostOps0_1 ++ hostOps0_2.take 17)
/-- The host's operations after them. -/
abbrev lineB : List (HloOp τ sig (Elt F)) := hostOps0_2.drop 17 ++ (hostOps0_3 ++ (hostOps0_4 ++ hostOps0_5))

theorem line_eq : (List.flatten [hostOps0, hostOps0_1, hostOps0_2, hostOps0_3, hostOps0_4, hostOps0_5] : List (HloOp τ sig (Elt F))) = lineA ++ lineB := rfl

theorem A_v45 : after lineA W (Proc.devRef .tc main_v45) = Cert.ReferenceIdeal.Read.val_main_v53 (W (Proc.devRef .tc main_arg0)) (W (Proc.devRef .tc main_arg1)) := by
  simp only [lineA, List.take_succ_cons, List.take_zero, List.cons_append, List.nil_append, hostOps0, hostOps0_1, hostOps0_2]
  after_reads_simp
  rfl

theorem A_v41 : after lineA W (Proc.devRef .tc main_v41) = Cert.ReferenceIdeal.Read.val_main_v49 (W (Proc.devRef .tc main_arg0)) (W (Proc.devRef .tc main_arg1)) (W (Proc.devRef .tc main_arg2)) := by
  simp only [lineA, List.take_succ_cons, List.take_zero, List.cons_append, List.nil_append, hostOps0, hostOps0_1, hostOps0_2]
  after_reads_simp
  rfl

theorem A_v3 : after lineA W (Proc.devRef .tc main_v3)
    = mulf (W (Proc.devRef .tc main_arg0)) (broadcastInDim S32x128x512 ![] bcast_S_S32x128x512 (constant S_ .f32 0x3E000000#32)) := by
  simp only [lineA, List.take_succ_cons, List.take_zero, List.cons_append, List.nil_append, hostOps0, hostOps0_1, hostOps0_2]
  after_reads_simp

theorem A_v0 : after lineA W (Proc.devRef .tc main_v0) = truncf (F := F) .bf16 (W (Proc.devRef .tc main_arg1)) bitsLt_bf16_f32 := by
  simp only [lineA, List.take_succ_cons, List.take_zero, List.cons_append, List.nil_append, hostOps0, hostOps0_1, hostOps0_2]
  after_reads_simp

theorem A_v1 : after lineA W (Proc.devRef .tc main_v1) = truncf (F := F) .bf16 (W (Proc.devRef .tc main_arg2)) bitsLt_bf16_f32 := by
  simp only [lineA, List.take_succ_cons, List.take_zero, List.cons_append, List.nil_append, hostOps0, hostOps0_1, hostOps0_2]
  after_reads_simp

theorem A_arg (n : Fin 8) : after lineA W (Proc.devRef .tc (![main_arg0, main_arg1, main_arg2, main_arg3, main_arg4, main_arg5, main_arg6, main_arg7] n))
    = W (Proc.devRef .tc (![main_arg0, main_arg1, main_arg2, main_arg3, main_arg4, main_arg5, main_arg6, main_arg7] n)) := by
  simp only [lineA, List.take_succ_cons, List.take_zero, List.cons_append, List.nil_append, hostOps0, hostOps0_1, hostOps0_2]
  fin_cases n <;> after_reads_simp

/-! ## The mixture's lines -/

variable (l1 l4 l : FVec F S32x128x8 .f32) (o1 o4 o ct : FVec F S32x128x8x64 .f32)

def hM : FVec F S32x128x8 .f32 := maximumf (maximumf l1 l4) l
def hE (a m : FVec F S32x128x8 .f32) : FVec F S32x128x8 .f32 := Host.exp (subf a m)
def hZ : FVec F S32x128x8 .f32 := addf (addf (hE l1 (hM l1 l4 l)) (hE l4 (hM l1 l4 l))) (hE l (hM l1 l4 l))
def hW (a : FVec F S32x128x8 .f32) : FVec F S32x128x8 .f32 := Host.divf (hE a (hM l1 l4 l)) (hZ l1 l4 l)
def b1 (w : FVec F S32x128x8 .f32) : FVec F S32x128x8x1 .f32 := broadcastInDim S32x128x8x1 ![0, 1, 2] bcast_S32x128x8_S32x128x8x1_0_1_2 w
def bb (w : FVec F S32x128x8x1 .f32) : FVec F S32x128x8x64 .f32 := broadcastInDim S32x128x8x64 ![0, 1, 2, 3] bcast_S32x128x8x1_S32x128x8x64_0_1_2_3 w
/-- One less the two other branches' weights. -/
def hR : FVec F S32x128x8x1 .f32 :=
  subf (subf (broadcastInDim S32x128x8x1 ![] bcast_S_S32x128x8x1 (constant S_ .f32 0x3F800000#32)) (b1 (hW l1 l4 l l1))) (b1 (hW l1 l4 l l4))
def hO : FVec F S32x128x8x64 .f32 := addf (addf (mulf (bb (b1 (hW l1 l4 l l1))) o1) (mulf (bb (b1 (hW l1 l4 l l4))) o4)) (mulf (bb (hR l1 l4 l)) o)
def hD : FVec F S32x128x8 .f32 := Host.reduceAdd (mulf ct (hO l1 l4 l o1 o4 o)) (constant S_ .f32 0x00000000#32) reducesTo_S32x128x8x64_S32x128x8_d3 h_S_
/-- Zero beyond the eight heads' lanes. -/
def hP (x : FVec F S32x128x8 .f32) : FVec F S32x128x128 .f32 :=
  pad S32x128x128 ![0, 0, 0] ![0, 0, 120] ![0, 0, 0] x (sitofp .f32 (constantI S_ 32 0#32)) pads_S32x128x8_S32x128x128_000_000_01200 h_S_
def hG : FVec F S32x128x512 .f32 := shapeCast S32x128x512 (mulf (bb (hR l1 l4 l)) ct) shapeCasts_S32x128x8x64_S32x128x512

theorem B_v79 : after lineB W (Proc.devRef .tc main_v79) = truncf (F := F) .bf16 (W (Proc.devRef .tc main_v3)) bitsLt_bf16_f32 := by
  simp only [lineB, List.drop_succ_cons, List.drop_zero, List.cons_append, List.nil_append, hostOps0_2, hostOps0_3, hostOps0_4, hostOps0_5]
  after_reads_simp

theorem B_v0 : after lineB W (Proc.devRef .tc main_v0) = W (Proc.devRef .tc main_v0) := by
  simp only [lineB, List.drop_succ_cons, List.drop_zero, List.cons_append, List.nil_append, hostOps0_2, hostOps0_3, hostOps0_4, hostOps0_5]
  after_reads_simp

theorem B_v1 : after lineB W (Proc.devRef .tc main_v1) = W (Proc.devRef .tc main_v1) := by
  simp only [lineB, List.drop_succ_cons, List.drop_zero, List.cons_append, List.nil_append, hostOps0_2, hostOps0_3, hostOps0_4, hostOps0_5]
  after_reads_simp

theorem B_v81 : after lineB W (Proc.devRef .tc main_v81) = truncf (F := F) .bf16 (hG (W (Proc.devRef .tc main_arg4)) (W (Proc.devRef .tc main_arg6)) (W (Proc.devRef .tc main_v45))
    (W (Proc.devRef .tc main_arg7))) bitsLt_bf16_f32 := by
  simp only [lineB, List.drop_succ_cons, List.drop_zero, List.cons_append, List.nil_append, hostOps0_2, hostOps0_3, hostOps0_4, hostOps0_5]
  after_reads_simp
  rfl

theorem B_v84 : after lineB W (Proc.devRef .tc main_v84) = hP (F := F) (W (Proc.devRef .tc main_v45)) := by
  simp only [lineB, List.drop_succ_cons, List.drop_zero, List.cons_append, List.nil_append, hostOps0_2, hostOps0_3, hostOps0_4, hostOps0_5]
  after_reads_simp
  rfl

theorem B_v83 : after lineB W (Proc.devRef .tc main_v83) = hP (F := F) (mulf (hW (W (Proc.devRef .tc main_arg4)) (W (Proc.devRef .tc main_arg6)) (W (Proc.devRef .tc main_v45)) (W (Proc.devRef .tc main_v45)))
    (hD (W (Proc.devRef .tc main_arg4)) (W (Proc.devRef .tc main_arg6)) (W (Proc.devRef .tc main_v45)) (W (Proc.devRef .tc main_arg3)) (W (Proc.devRef .tc main_arg5)) (W (Proc.devRef .tc main_v41)) (W (Proc.devRef .tc main_arg7)))) := by
  simp only [lineB, List.drop_succ_cons, List.drop_zero, List.cons_append, List.nil_append, hostOps0_2, hostOps0_3, hostOps0_4, hostOps0_5]
  after_reads_simp
  rfl

end

/-! ## At exact values -/

section Exact
variable {D : Data} {l1 l4 l : FVec Ideal S32x128x8 .f32} {o1 o4 o ct : FVec Ideal S32x128x8x64 .f32}
  (h1 : ∀ i, l1 i = ((D.l1 (i 0).val (i 1).val (i 2).val : ℝ) : EReal)) (h4 : ∀ i, l4 i = ((D.l4 (i 0).val (i 1).val (i 2).val : ℝ) : EReal))
  (hl : ∀ i, l i = ((ls D (i 0).val (i 2).val (i 1).val : ℝ) : EReal))
  (k1 : ∀ i, o1 i = ((D.o1 (i 0).val (i 1).val (i 2).val (i 3).val : ℝ) : EReal)) (k4 : ∀ i, o4 i = ((D.o4 (i 0).val (i 1).val (i 2).val (i 3).val : ℝ) : EReal))
  (kl : ∀ i, o i = ((oo D (i 0).val (i 2).val (i 1).val (i 3).val : ℝ) : EReal)) (kc' : ∀ i, ct i = ((D.ct (i 0).val (i 1).val (i 2).val (i 3).val : ℝ) : EReal))

include h1 h4 hl

theorem hM_real (i : S32x128x8.Idx) : hM l1 l4 l i = ((m3 D (i 0).val (i 2).val (i 1).val : ℝ) : EReal) := by
  show max (max (l1 i) (l4 i)) (l i) = _
  rw [h1, h4, hl, ← EReal.coe_strictMono.monotone.map_max, ← EReal.coe_strictMono.monotone.map_max]
  rfl

theorem hE_real (b : Fin 3) (i : S32x128x8.Idx) : hE (![l1, l4, l] b) (hM l1 l4 l) i = ((eb D (i 0).val (i 2).val (i 1).val b : ℝ) : EReal) := by
  show Ideal.exp (![l1, l4, l] b i - hM l1 l4 l i) = _
  rw [hM_real h1 h4 hl, show (![l1, l4, l] b i : EReal) = ((lb D (i 0).val (i 2).val (i 1).val b : ℝ) : EReal) by
    fin_cases b
    · exact h1 i
    · exact h4 i
    · exact hl i, ← EReal.coe_sub]
  rfl

theorem hZ_real (i : S32x128x8.Idx) : hZ l1 l4 l i = ((z3 D (i 0).val (i 2).val (i 1).val : ℝ) : EReal) := by
  show hE (![l1, l4, l] 0) (hM l1 l4 l) i + hE (![l1, l4, l] 1) (hM l1 l4 l) i + hE (![l1, l4, l] 2) (hM l1 l4 l) i = _
  rw [hE_real h1 h4 hl, hE_real h1 h4 hl, hE_real h1 h4 hl, ← EReal.coe_add, ← EReal.coe_add]
  refine congrArg _ ?_
  unfold z3
  rw [Fin.sum_univ_three]

theorem hW_real (b : Fin 3) (i : S32x128x8.Idx) : hW l1 l4 l (![l1, l4, l] b) i = ((wb D (i 0).val (i 2).val (i 1).val b : ℝ) : EReal) := by
  show Ideal.div (hE (![l1, l4, l] b) (hM l1 l4 l) i) (hZ l1 l4 l i) = _
  rw [hE_real h1 h4 hl, hZ_real h1 h4 hl, div_coe _ _ (z3_pos D _ _ _).ne']
  rfl

theorem bb1_real (b : Fin 3) (i : S32x128x8x64.Idx) :
    bb (b1 (hW l1 l4 l (![l1, l4, l] b))) i = ((wb D (i 0).val (i 2).val (i 1).val b : ℝ) : EReal) := by
  refine (broadcastInDim_apply _ _ _ i (ix4 (n0 := 32) (n1 := 128) (n2 := 8) (n3 := 1) (i 0) (i 1) (i 2) 0) (fun a => by fin_cases a <;> rfl)).trans ?_
  refine (broadcastInDim_apply _ _ _ _ (ix3 (n0 := 32) (n1 := 128) (n2 := 8) (i 0) (i 1) (i 2)) (fun a => by fin_cases a <;> rfl)).trans ?_
  exact hW_real h1 h4 hl b _

theorem bbR_real (i : S32x128x8x64.Idx) : bb (hR l1 l4 l) i = ((wb D (i 0).val (i 2).val (i 1).val 2 : ℝ) : EReal) := by
  rw [wb_two]
  refine (broadcastInDim_apply _ _ _ i (ix4 (n0 := 32) (n1 := 128) (n2 := 8) (n3 := 1) (i 0) (i 1) (i 2) 0) (fun a => by fin_cases a <;> rfl)).trans ?_
  show FloatOps.ofBits (F := Ideal) .f32 0x3F800000#32 - b1 (hW l1 l4 l (![l1, l4, l] 0)) _ - b1 (hW l1 l4 l (![l1, l4, l] 1)) _ = _
  rw [c1]
  have e (b : Fin 3) : b1 (hW l1 l4 l (![l1, l4, l] b)) (ix4 (n0 := 32) (n1 := 128) (n2 := 8) (n3 := 1) (i 0) (i 1) (i 2) 0)
      = ((wb D (i 0).val (i 2).val (i 1).val b : ℝ) : EReal) :=
    (broadcastInDim_apply _ _ _ _ (ix3 (n0 := 32) (n1 := 128) (n2 := 8) (i 0) (i 1) (i 2)) (fun a => by fin_cases a <;> rfl)).trans
      (hW_real h1 h4 hl b _)
  rw [e 0, e 1, ← EReal.coe_sub, ← EReal.coe_sub]
  rfl

include k1 k4 kl kc' in
theorem hD_real (i : S32x128x8.Idx) :
    hD l1 l4 l o1 o4 o ct i = ((∑ b : Fin 3, wb D (i 0).val (i 2).val (i 1).val b * ab D (i 0).val (i 2).val (i 1).val b : ℝ) : EReal) := by
  have e (j : S32x128x8x64.Idx) : mulf ct (hO l1 l4 l o1 o4 o) j
      = ((∑ b : Fin 3, wb D (j 0).val (j 2).val (j 1).val b * (D.ct (j 0).val (j 1).val (j 2).val (j 3).val * ob D (j 0).val (j 2).val (j 1).val (j 3).val b) : ℝ) : EReal) := by
    show ct j * (bb (b1 (hW l1 l4 l (![l1, l4, l] 0))) j * o1 j + bb (b1 (hW l1 l4 l (![l1, l4, l] 1))) j * o4 j + bb (hR l1 l4 l) j * o j) = _
    rw [bb1_real h1 h4 hl, bb1_real h1 h4 hl, bbR_real h1 h4 hl, k1, k4, kl, kc', ← EReal.coe_mul, ← EReal.coe_mul, ← EReal.coe_mul, ← EReal.coe_add, ← EReal.coe_add,
      ← EReal.coe_mul]
    refine congrArg _ ?_
    rw [Fin.sum_univ_three]
    show _ * (wb D _ _ _ 0 * _ + wb D _ _ _ 1 * _ + wb D _ _ _ 2 * _) = wb D _ _ _ 0 * (_ * D.o1 _ _ _ _) + wb D _ _ _ 1 * (_ * D.o4 _ _ _ _) + wb D _ _ _ 2 * (_ * oo D _ _ _ _)
    ring
  unfold hD
  simp only [Host.reduceAdd, Ideal.hostReduceAdd_def]
  rw [Ideal.hostReduceAdd_single reducesTo_S32x128x8x64_S32x128x8_d3 (by decide)]
  refine (congrArg₂ (· + ·) c0 rfl).trans ((zero_add _).trans ?_)
  unfold ab
  simp only [Finset.mul_sum]
  rw [Finset.sum_comm, ← coe_sum]
  refine Finset.sum_congr rfl fun d _ => ?_
  exact e _

omit h1 h4 hl in
theorem hP_real (x : FVec Ideal S32x128x8 .f32) (i : S32x128x128.Idx) (h : (i 2).val < 8) :
    hP x i = x (ix3 (n0 := 32) (n1 := 128) (n2 := 8) (i 0) (i 1) ⟨(i 2).val, h⟩) := by
  refine pad_apply_of_inside _ _ _ _ _ _ _ i (ix3 (n0 := 32) (n1 := 128) (n2 := 8) (i 0) (i 1) ⟨(i 2).val, h⟩) (fun a => ?_)
  fin_cases a
  · show (i 0).val = 0 + (i 0).val * (0 + 1); omega
  · show (i 1).val = 0 + (i 1).val * (0 + 1); omega
  · show (i 2).val = 0 + (i 2).val * (0 + 1); omega

include kc' in
theorem hG_real (i : S32x128x512.Idx) :
    hG l1 l4 l ct i = ((dob D (i 0).val ((i 2).val / 64) (i 1).val ((i 2).val % 64) : ℝ) : EReal) := by
  have b2 : (i 2).val < 512 := (i 2).isLt
  refine (shapeCast_apply _ _ i (ix4 (n0 := 32) (n1 := 128) (n2 := 8) (n3 := 64) (i 0) (i 1) ⟨(i 2).val / 64, by omega⟩ ⟨(i 2).val % 64, by omega⟩) ?_).trans ?_
  · rw [Shape.rowMajor_val_four, Shape.rowMajor_val_three]
    show (((i 0).val * 128 + (i 1).val) * 8 + (i 2).val / 64) * 64 + (i 2).val % 64 = ((i 0).val * 128 + (i 1).val) * 512 + (i 2).val
    omega
  show bb (hR l1 l4 l) _ * ct _ = _
  rw [bbR_real h1 h4 hl, kc', ← EReal.coe_mul]
  rfl

end Exact

end Cert.Branch.Kern
-- ==== Proof.Ends.lean ====
/- The kernel's arrays after the run: the operands as the region finds them, each block that is written back, and the
   three result arrays whole. -/
module

public import proofs.«01_k».proof.Proof.Host
public import proofs.«01_k».proof.Proof.Gen.KernelIdeal.Value
public import Idealize.ShloMosaic.Lib.Pipeline.Value
public import Idealize.ShloMosaic.Lib.Pipeline.ValueKit.Geometry

@[expose] public section

set_option maxRecDepth 16384

noncomputable section

namespace Cert.Branch.Kern

open Cert.KernelIdeal Cert.KernelIdeal.Gen Cert.KernelIdeal.Value Idealize.ShloMosaic Idealize.ShloMosaic.ValueIdx Idealize.ShloMosaic.TcCoe Idealize.SL.Sem
open Idealize.ShloMosaic.StableHlo
open Idealize.ShloMosaic.Pipeline (Dat)

/-! ## The kernel's sums are the branch's -/

section Bridge
variable (D : Data) (n : ℕ)

/-- The kernel's operands of unit `n`, by (row, lane) or (row, head). -/
abbrev Qn (r c : ℕ) : ℝ := D.q n r c * (1 / 8)
abbrev Gn (r c : ℕ) : ℝ := dob D n (c / 64) r (c % 64)
abbrev En (r h : ℕ) : ℝ := dl D n h r
abbrev Ln (r h : ℕ) : ℝ := ls D n h r

theorem hd_sc (e i j : ℕ) : hd (Qn D n) (D.k n) e i j = sc D n e i (128 + j) := by
  unfold hd sc
  refine Finset.sum_congr rfl fun d _ => ?_
  unfold kc qs Qn
  rw [if_neg (by omega), Nat.add_sub_cancel_left, mul_comm]

theorem wt_pr (e i j : ℕ) : wt (Qn D n) (D.k n) (Ln D n) e i j = pr D n e i j := by
  unfold wt pr Ln
  rw [hd_sc]

theorem hd_dpw (e i j : ℕ) : hd (Gn D n) (D.v n) e i j = dpw D n e i (128 + j) := by
  unfold hd dpw
  refine Finset.sum_congr rfl fun d _ => ?_
  unfold vc Gn
  have hd : d.val < 64 := d.isLt
  rw [if_neg (by omega), Nat.add_sub_cancel_left, show (e * 64 + d.val) / 64 = e by omega, show (e * 64 + d.val) % 64 = d.val by omega]

theorem sg_ds (e i j : ℕ) : sg (Qn D n) (D.k n) (Ln D n) (Gn D n) (D.v n) (En D n) e i j = ds D n e i j := by
  unfold sg ds En
  rw [wt_pr, hd_dpw]

theorem sum_q (r c : ℕ) : ∑ j : Fin 128, sg (Qn D n) (D.k n) (Ln D n) (Gn D n) (D.v n) (En D n) (c / 64) r j * D.k n j c = gq D n (c / 64) r (c % 64) := by
  unfold gq
  refine Finset.sum_congr rfl fun j _ => ?_
  rw [sg_ds, show c / 64 * 64 + c % 64 = c by omega]

theorem sum_k (j c : ℕ) : ∑ r : Fin 128, sg (Qn D n) (D.k n) (Ln D n) (Gn D n) (D.v n) (En D n) (c / 64) r j * Qn D n r c = gk D n (c / 64) j (c % 64) := by
  unfold gk
  refine Finset.sum_congr rfl fun r _ => ?_
  unfold qs
  rw [sg_ds, show c / 64 * 64 + c % 64 = c by omega]

theorem sum_v (j c : ℕ) : ∑ r : Fin 128, wt (Qn D n) (D.k n) (Ln D n) (c / 64) r j * Gn D n r c = gv D n (c / 64) j (c % 64) := by
  unfold gv
  refine Finset.sum_congr rfl fun r _ => ?_
  rw [wt_pr]

end Bridge

/-! ## The operands as the region finds them -/

section Operands
variable (m : (ℓ : Loc nD τ sig) → Buf (Elt Ideal) ℓ) (c : Dev nD) {D : Data}

/-- The launch memory's arguments hold the real numbers that `D` lists. -/
abbrev IsM (D : Data) : Prop :=
  Ref.Is D (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The launch memory of a device. -/
abbrev W0 : Valuation τ sig (Elt Ideal) := fun b => m (c, b)

theorem V_split (b : Ref sig .tc) : V m c b = after lineB (after lineA (W0 m c)) (Proc.devRef .tc b) := by
  show after (List.flatten [hostOps0, hostOps0_1, hostOps0_2, hostOps0_3, hostOps0_4, hostOps0_5]) (W0 m c) (Proc.devRef .tc b) = _
  rw [line_eq, after_append]

variable (h : IsM m c D)
include h

theorem v79 (i : S32x128x512.Idx) : (V m c main_v79 : S32x128x512.Idx → EReal) i = ((Qn D (i 0).val (i 1).val (i 2).val : ℝ) : EReal) := by
  rw [V_split, B_v79, A_v3]
  refine (congrArg₂ (· * ·) (h.q i) c18).trans ?_
  exact (EReal.coe_mul _ _).symm

theorem v0 (i : S32x128x512.Idx) : (V m c main_v0 : S32x128x512.Idx → EReal) i = ((D.k (i 0).val (i 1).val (i 2).val : ℝ) : EReal) := by
  rw [V_split, B_v0, A_v0]
  exact h.k i

theorem v1 (i : S32x128x512.Idx) : (V m c main_v1 : S32x128x512.Idx → EReal) i = ((D.v (i 0).val (i 1).val (i 2).val : ℝ) : EReal) := by
  rw [V_split, B_v1, A_v1]
  exact h.v i

theorem a45 (i : S32x128x8.Idx) : (after lineA (W0 m c) (Proc.devRef .tc main_v45) : S32x128x8.Idx → EReal) i = ((ls D (i 0).val (i 2).val (i 1).val : ℝ) : EReal) := by
  rw [A_v45]
  exact Ref.r53 h i

theorem a41 (i : S32x128x8x64.Idx) : (after lineA (W0 m c) (Proc.devRef .tc main_v41) : S32x128x8x64.Idx → EReal) i = ((oo D (i 0).val (i 2).val (i 1).val (i 3).val : ℝ) : EReal) := by
  rw [A_v41]
  exact Ref.r49 h i

theorem v81 (i : S32x128x512.Idx) : (V m c main_v81 : S32x128x512.Idx → EReal) i = ((Gn D (i 0).val (i 1).val (i 2).val : ℝ) : EReal) := by
  rw [V_split, B_v81]
  exact hG_real (fun i => (congrFun (A_arg (W0 m c) 4) i).trans (h.l1 i)) (fun i => (congrFun (A_arg (W0 m c) 6) i).trans (h.l4 i)) (a45 m c h)
    (fun i => (congrFun (A_arg (W0 m c) 7) i).trans (h.ct i)) i

theorem v84 (i : S32x128x128.Idx) (hi : (i 2).val < 8) : (V m c main_v84 : S32x128x128.Idx → EReal) i = ((Ln D (i 0).val (i 1).val (i 2).val : ℝ) : EReal) := by
  rw [V_split, B_v84]
  exact (hP_real _ i hi).trans (a45 m c h _)

theorem v83 (i : S32x128x128.Idx) (hi : (i 2).val < 8) : (V m c main_v83 : S32x128x128.Idx → EReal) i = ((En D (i 0).val (i 1).val (i 2).val : ℝ) : EReal) := by
  rw [V_split, B_v83]
  refine (hP_real _ i hi).trans ?_
  have g1 := fun i => (congrFun (A_arg (W0 m c) 4) i).trans (h.l1 i)
  have g4 := fun i => (congrFun (A_arg (W0 m c) 6) i).trans (h.l4 i)
  refine (congrArg₂ (· * ·) (hW_real g1 g4 (a45 m c h) 2 _)
    (hD_real g1 g4 (a45 m c h) (fun i => (congrFun (A_arg (W0 m c) 3) i).trans (h.o1 i)) (fun i => (congrFun (A_arg (W0 m c) 5) i).trans (h.o4 i)) (a41 m c h)
      (fun i => (congrFun (A_arg (W0 m c) 7) i).trans (h.ct i)) _)).trans ?_
  exact (EReal.coe_mul _ _).symm

end Operands

/-! ## The blocks -/

theorem idx_facts : ∀ t : Fin cfg0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0) ∧ (win0_5.index t 0 = t.val ∧ win0_5.index t 1 = 0 ∧ win0_5.index t 2 = 0)
    ∧ (win0_6.index t 0 = t.val ∧ win0_6.index t 1 = 0 ∧ win0_6.index t 2 = 0) ∧ (win0_7.index t 0 = t.val ∧ win0_7.index t 1 = 0 ∧ win0_7.index t 2 = 0)
    ∧ (win0_8.index t 0 = t.val ∧ win0_8.index t 1 = 0 ∧ win0_8.index t 2 = 0) :=
  (by decide +kernel : ∀ t : Fin grid0.N, _)

section Blocks
variable (m : (ℓ : Loc nD τ sig) → Buf (Elt Ideal) ℓ) (c : Dev nD) (t : Fin cfg0.N) {D : Data}

/-- A function of three coordinates at three numbers that are equal. -/
theorem at3 (X : ℕ → ℕ → ℕ → ℝ) {a b d a' b' d' : ℕ} (ha : a = a') (hb : b = b') (hd : d = d') : ((X a b d : ℝ) : EReal) = ((X a' b' d' : ℝ) : EReal) := by
  rw [ha, hb, hd]

theorem emb0 (i : S4x128x512.Idx) : ((win0_0.rect t).emb i 0 : ℕ) = 4 * t.val + (i 0).val ∧ ((win0_0.rect t).emb i 1 : ℕ) = (i 1).val ∧ ((win0_0.rect t).emb i 2 : ℕ) = (i 2).val := by
  obtain ⟨e0, e1, e2⟩ := (idx_facts t).1
  refine ⟨(Pipeline.Window.rect_emb_val win0_0 t i 0).trans ?_, (Pipeline.Window.rect_emb_val win0_0 t i 1).trans ?_, (Pipeline.Window.rect_emb_val win0_0 t i 2).trans ?_⟩
  · rw [e0]; show t.val * 4 + (i 0).val = _; omega
  · rw [e1]; show 0 * 128 + (i 1).val = _; omega
  · rw [e2]; show 0 * 512 + (i 2).val = _; omega

theorem emb1 (i : S4x128x512.Idx) : ((win0_1.rect t).emb i 0 : ℕ) = 4 * t.val + (i 0).val ∧ ((win0_1.rect t).emb i 1 : ℕ) = (i 1).val ∧ ((win0_1.rect t).emb i 2 : ℕ) = (i 2).val := by
  obtain ⟨e0, e1, e2⟩ := (idx_facts t).2.1
  refine ⟨(Pipeline.Window.rect_emb_val win0_1 t i 0).trans ?_, (Pipeline.Window.rect_emb_val win0_1 t i 1).trans ?_, (Pipeline.Window.rect_emb_val win0_1 t i 2).trans ?_⟩
  · rw [e0]; show t.val * 4 + (i 0).val = _; omega
  · rw [e1]; show 0 * 128 + (i 1).val = _; omega
  · rw [e2]; show 0 * 512 + (i 2).val = _; omega

theorem emb2 (i : S4x128x512.Idx) : ((win0_2.rect t).emb i 0 : ℕ) = 4 * t.val + (i 0).val ∧ ((win0_2.rect t).emb i 1 : ℕ) = (i 1).val ∧ ((win0_2.rect t).emb i 2 : ℕ) = (i 2).val := by
  obtain ⟨e0, e1, e2⟩ := (idx_facts t).2.2.1
  refine ⟨(Pipeline.Window.rect_emb_val win0_2 t i 0).trans ?_, (Pipeline.Window.rect_emb_val win0_2 t i 1).trans ?_, (Pipeline.Window.rect_emb_val win0_2 t i 2).trans ?_⟩
  · rw [e0]; show t.val * 4 + (i 0).val = _; omega
  · rw [e1]; show 0 * 128 + (i 1).val = _; omega
  · rw [e2]; show 0 * 512 + (i 2).val = _; omega

theorem emb3 (i : S4x128x512.Idx) : ((win0_3.rect t).emb i 0 : ℕ) = 4 * t.val + (i 0).val ∧ ((win0_3.rect t).emb i 1 : ℕ) = (i 1).val ∧ ((win0_3.rect t).emb i 2 : ℕ) = (i 2).val := by
  obtain ⟨e0, e1, e2⟩ := (idx_facts t).2.2.2.1
  refine ⟨(Pipeline.Window.rect_emb_val win0_3 t i 0).trans ?_, (Pipeline.Window.rect_emb_val win0_3 t i 1).trans ?_, (Pipeline.Window.rect_emb_val win0_3 t i 2).trans ?_⟩
  · rw [e0]; show t.val * 4 + (i 0).val = _; omega
  · rw [e1]; show 0 * 128 + (i 1).val = _; omega
  · rw [e2]; show 0 * 512 + (i 2).val = _; omega

theorem emb4 (i : S4x128x128.Idx) : ((win0_4.rect t).emb i 0 : ℕ) = 4 * t.val + (i 0).val ∧ ((win0_4.rect t).emb i 1 : ℕ) = (i 1).val ∧ ((win0_4.rect t).emb i 2 : ℕ) = (i 2).val := by
  obtain ⟨e0, e1, e2⟩ := (idx_facts t).2.2.2.2.1
  refine ⟨(Pipeline.Window.rect_emb_val win0_4 t i 0).trans ?_, (Pipeline.Window.rect_emb_val win0_4 t i 1).trans ?_, (Pipeline.Window.rect_emb_val win0_4 t i 2).trans ?_⟩
  · rw [e0]; show t.val * 4 + (i 0).val = _; omega
  · rw [e1]; show 0 * 128 + (i 1).val = _; omega
  · rw [e2]; show 0 * 128 + (i 2).val = _; omega

theorem emb5 (i : S4x128x128.Idx) : ((win0_5.rect t).emb i 0 : ℕ) = 4 * t.val + (i 0).val ∧ ((win0_5.rect t).emb i 1 : ℕ) = (i 1).val ∧ ((win0_5.rect t).emb i 2 : ℕ) = (i 2).val := by
  obtain ⟨e0, e1, e2⟩ := (idx_facts t).2.2.2.2.2.1
  refine ⟨(Pipeline.Window.rect_emb_val win0_5 t i 0).trans ?_, (Pipeline.Window.rect_emb_val win0_5 t i 1).trans ?_, (Pipeline.Window.rect_emb_val win0_5 t i 2).trans ?_⟩
  · rw [e0]; show t.val * 4 + (i 0).val = _; omega
  · rw [e1]; show 0 * 128 + (i 1).val = _; omega
  · rw [e2]; show 0 * 128 + (i 2).val = _; omega

theorem emb6 (i : S4x128x512.Idx) : ((win0_6.rect t).emb i 0 : ℕ) = 4 * t.val + (i 0).val ∧ ((win0_6.rect t).emb i 1 : ℕ) = (i 1).val ∧ ((win0_6.rect t).emb i 2 : ℕ) = (i 2).val := by
  obtain ⟨e0, e1, e2⟩ := (idx_facts t).2.2.2.2.2.2.1
  refine ⟨(Pipeline.Window.rect_emb_val win0_6 t i 0).trans ?_, (Pipeline.Window.rect_emb_val win0_6 t i 1).trans ?_, (Pipeline.Window.rect_emb_val win0_6 t i 2).trans ?_⟩
  · rw [e0]; show t.val * 4 + (i 0).val = _; omega
  · rw [e1]; show 0 * 128 + (i 1).val = _; omega
  · rw [e2]; show 0 * 512 + (i 2).val = _; omega

theorem emb7 (i : S4x128x512.Idx) : ((win0_7.rect t).emb i 0 : ℕ) = 4 * t.val + (i 0).val ∧ ((win0_7.rect t).emb i 1 : ℕ) = (i 1).val ∧ ((win0_7.rect t).emb i 2 : ℕ) = (i 2).val := by
  obtain ⟨e0, e1, e2⟩ := (idx_facts t).2.2.2.2.2.2.2.1
  refine ⟨(Pipeline.Window.rect_emb_val win0_7 t i 0).trans ?_, (Pipeline.Window.rect_emb_val win0_7 t i 1).trans ?_, (Pipeline.Window.rect_emb_val win0_7 t i 2).trans ?_⟩
  · rw [e0]; show t.val * 4 + (i 0).val = _; omega
  · rw [e1]; show 0 * 128 + (i 1).val = _; omega
  · rw [e2]; show 0 * 512 + (i 2).val = _; omega

theorem emb8 (i : S4x128x512.Idx) : ((win0_8.rect t).emb i 0 : ℕ) = 4 * t.val + (i 0).val ∧ ((win0_8.rect t).emb i 1 : ℕ) = (i 1).val ∧ ((win0_8.rect t).emb i 2 : ℕ) = (i 2).val := by
  obtain ⟨e0, e1, e2⟩ := (idx_facts t).2.2.2.2.2.2.2.2
  refine ⟨(Pipeline.Window.rect_emb_val win0_8 t i 0).trans ?_, (Pipeline.Window.rect_emb_val win0_8 t i 1).trans ?_, (Pipeline.Window.rect_emb_val win0_8 t i 2).trans ?_⟩
  · rw [e0]; show t.val * 4 + (i 0).val = _; omega
  · rw [e1]; show 0 * 128 + (i 1).val = _; omega
  · rw [e2]; show 0 * 512 + (i 2).val = _; omega

variable (h : IsM m c D)

include h in
theorem ib0 (i : S4x128x512.Idx) : (iblk m c 0 t : S4x128x512.Idx → EReal) i = ((Qn D (4 * t.val + (i 0).val) (i 1).val (i 2).val : ℝ) : EReal) := by
  obtain ⟨f0, f1, f2⟩ := emb0 t i
  exact (v79 m c h ((win0_0.rect t).emb i)).trans (at3 (Qn D) f0 f1 f2)

include h in
theorem ib1 (i : S4x128x512.Idx) : (iblk m c 1 t : S4x128x512.Idx → EReal) i = ((D.k (4 * t.val + (i 0).val) (i 1).val (i 2).val : ℝ) : EReal) := by
  obtain ⟨f0, f1, f2⟩ := emb1 t i
  exact (v0 m c h ((win0_1.rect t).emb i)).trans (at3 (D.k) f0 f1 f2)

include h in
theorem ib2 (i : S4x128x512.Idx) : (iblk m c 2 t : S4x128x512.Idx → EReal) i = ((D.v (4 * t.val + (i 0).val) (i 1).val (i 2).val : ℝ) : EReal) := by
  obtain ⟨f0, f1, f2⟩ := emb2 t i
  exact (v1 m c h ((win0_2.rect t).emb i)).trans (at3 (D.v) f0 f1 f2)

include h in
theorem ib3 (i : S4x128x512.Idx) : (iblk m c 3 t : S4x128x512.Idx → EReal) i = ((Gn D (4 * t.val + (i 0).val) (i 1).val (i 2).val : ℝ) : EReal) := by
  obtain ⟨f0, f1, f2⟩ := emb3 t i
  exact (v81 m c h ((win0_3.rect t).emb i)).trans (at3 (Gn D) f0 f1 f2)

include h in
theorem ib4 (i : S4x128x128.Idx) (hi : (i 2).val < 8) : (iblk m c 4 t : S4x128x128.Idx → EReal) i = ((En D (4 * t.val + (i 0).val) (i 1).val (i 2).val : ℝ) : EReal) := by
  obtain ⟨f0, f1, f2⟩ := emb4 t i
  exact (v83 m c h ((win0_4.rect t).emb i) (lt_of_eq_of_lt f2 hi)).trans (at3 (En D) f0 f1 f2)

include h in
theorem ib5 (i : S4x128x128.Idx) (hi : (i 2).val < 8) : (iblk m c 5 t : S4x128x128.Idx → EReal) i = ((Ln D (4 * t.val + (i 0).val) (i 1).val (i 2).val : ℝ) : EReal) := by
  obtain ⟨f0, f1, f2⟩ := emb5 t i
  exact (v84 m c h ((win0_5.rect t).emb i) (lt_of_eq_of_lt f2 hi)).trans (at3 (Ln D) f0 f1 f2)

/-- The gradient of the scaled query, whole. -/
def Gq (D : Data) : S32x128x512.Idx → EReal := fun i => ((gq D (i 0).val ((i 2).val / 64) (i 1).val ((i 2).val % 64) : ℝ) : EReal)

include h in
theorem flushed_q : (dats m 0 c).flushed 6 t = ((cfg0.win 6).blk t).view.read (Elt Ideal) (Gq D) := by
  rw [flushed6_A, out_q]
  funext i
  obtain ⟨f0, f1, f2⟩ := emb6 t i
  refine (q_real (Q := fun u => Qn D (4 * t.val + u)) (K := fun u => D.k (4 * t.val + u)) (G := fun u => Gn D (4 * t.val + u)) (L := fun u => Ln D (4 * t.val + u)) (V := fun u => D.v (4 * t.val + u)) (E := fun u => En D (4 * t.val + u)) (ms0_0 t) (hs0_0 t) (ms0_1 t) (hs0_1 t) (ms0_2 t) (hs0_2 t) (ms0_3 t) (hs0_3 t) (ms0_4 t) (hs0_4 t) (ms0_5 t) (hs0_5 t) (ib0 m c t h) (ib1 m c t h) (ib2 m c t h) (ib3 m c t h) (ib4 m c t h) (ib5 m c t h) i).trans ?_
  refine (congrArg (fun x : ℝ => (x : EReal)) (sum_q D (4 * t.val + (i 0).val) (i 1).val (i 2).val)).trans ?_
  exact at3 (fun a b d => gq D a (d / 64) b (d % 64)) f0.symm f1.symm f2.symm

/-- The gradient of the key, whole. -/
def Gk (D : Data) : S32x128x512.Idx → EReal := fun i => ((gk D (i 0).val ((i 2).val / 64) (i 1).val ((i 2).val % 64) : ℝ) : EReal)

include h in
theorem flushed_k : (dats m 0 c).flushed 7 t = ((cfg0.win 7).blk t).view.read (Elt Ideal) (Gk D) := by
  rw [flushed7_A, out_k]
  funext i
  obtain ⟨f0, f1, f2⟩ := emb7 t i
  refine (k_real (Q := fun u => Qn D (4 * t.val + u)) (K := fun u => D.k (4 * t.val + u)) (G := fun u => Gn D (4 * t.val + u)) (L := fun u => Ln D (4 * t.val + u)) (V := fun u => D.v (4 * t.val + u)) (E := fun u => En D (4 * t.val + u)) (ms0_0 t) (hs0_0 t) (ms0_1 t) (hs0_1 t) (ms0_2 t) (hs0_2 t) (ms0_3 t) (hs0_3 t) (ms0_4 t) (hs0_4 t) (ms0_5 t) (hs0_5 t) (ib0 m c t h) (ib1 m c t h) (ib2 m c t h) (ib3 m c t h) (ib4 m c t h) (ib5 m c t h) i).trans ?_
  refine (congrArg (fun x : ℝ => (x : EReal)) (sum_k D (4 * t.val + (i 0).val) (i 1).val (i 2).val)).trans ?_
  exact at3 (fun a b d => gk D a (d / 64) b (d % 64)) f0.symm f1.symm f2.symm

/-- The gradient of the value, whole. -/
def Gv (D : Data) : S32x128x512.Idx → EReal := fun i => ((gv D (i 0).val ((i 2).val / 64) (i 1).val ((i 2).val % 64) : ℝ) : EReal)

include h in
theorem flushed_v : (dats m 0 c).flushed 8 t = ((cfg0.win 8).blk t).view.read (Elt Ideal) (Gv D) := by
  rw [flushed8_A, out_v]
  funext i
  obtain ⟨f0, f1, f2⟩ := emb8 t i
  refine (v_real (Q := fun u => Qn D (4 * t.val + u)) (K := fun u => D.k (4 * t.val + u)) (G := fun u => Gn D (4 * t.val + u)) (L := fun u => Ln D (4 * t.val + u)) (ms0_0 t) (hs0_0 t) (ms0_1 t) (hs0_1 t) (ms0_3 t) (hs0_3 t) (ms0_5 t) (hs0_5 t) (ib0 m c t h) (ib1 m c t h) (ib3 m c t h) (ib5 m c t h) i).trans ?_
  refine (congrArg (fun x : ℝ => (x : EReal)) (sum_v D (4 * t.val + (i 0).val) (i 1).val (i 2).val)).trans ?_
  exact at3 (fun a b d => gv D a (d / 64) b (d % 64)) f0.symm f1.symm f2.symm

include h in
theorem final_q : (dats m 0 c).arrAt 6 cfg0.N = Gq D :=
  (dats m 0 c).arrAt_eq_of_cover 6 (Gq D) (fun t _ => flushed_q m c t h) ((by decide +kernel : win0_6.Covers).cover _ (Memref.isWhole_whole _))

include h in
theorem final_k : (dats m 0 c).arrAt 7 cfg0.N = Gk D :=
  (dats m 0 c).arrAt_eq_of_cover 7 (Gk D) (fun t _ => flushed_k m c t h) ((by decide +kernel : win0_7.Covers).cover _ (Memref.isWhole_whole _))

include h in
theorem final_v : (dats m 0 c).arrAt 8 cfg0.N = Gv D :=
  (dats m 0 c).arrAt_eq_of_cover 8 (Gv D) (fun t _ => flushed_v m c t h) ((by decide +kernel : win0_8.Covers).cover _ (Memref.isWhole_whole _))

end Blocks

end Cert.Branch.Kern
-- ==== Proof.Finite.lean ====
/- Arguments whose every element is finite are arrays of real numbers. -/
module

public import proofs.«01_k».proof.Proof.Gen.Pre_finite
public import proofs.«01_k».proof.Proof.RefRead
public import Idealize.ShloMosaic.Lib.ReduceAll
public import Idealize.ShloMosaic.Lib.Affine

@[expose] public section

set_option maxRecDepth 16384

noncomputable section

namespace Cert.Branch.Pre

open Cert.Pre_finite Cert.Pre_finite.Gen Cert.Branch
open Idealize.ShloMosaic Idealize.ShloMosaic.ValueIdx

theorem cinf : (FloatOps.ofBits (F := Ideal) .f32 0x7F800000#32) = (⊤ : EReal) := by
  show Ideal.ofBits .f32 0x7F800000#32 = _
  simp [Ideal.ofBits, Ideal.ieee, -EReal.coe_mul]

instance : Subsingleton S_.Idx := ⟨fun a b => funext fun k => k.elim0⟩

/-- An extended real below infinity in absolute value is a real number. -/
theorem real_of_abs (x : EReal) (h : FloatOps.cmpf (F := Ideal) (φ := .f32) .olt (FloatOps.hostAbsf (F := Ideal) (φ := .f32) x) (⊤ : EReal) = 1#1) :
    x = ((x.toReal : ℝ) : EReal) := by
  have h' : max x (-x) < ⊤ := by
    by_contra hn
    have : Ideal.cmp .olt (max x (-x)) ⊤ = 1#1 := h
    unfold Ideal.cmp at this
    simp [hn] at this
  refine (EReal.coe_toReal ?_ ?_).symm
  · rintro rfl; simp at h'
  · rintro rfl; simp at h'

/-- Every element of an array whose test is one is a real number. -/
theorem real_of_all {s : Shape} {ax : List (Fin s.rank)} (x : FVec Ideal s .f32) (hb : S_.BroadcastsInDim s (![] : Fin 0 → Fin s.rank)) (hr : s.ReducesTo ax S_) (hu : 0 < S_.numel)
    (j : S_.Idx) (e : Host.reduce IntOp.andi (cmpf .olt (Host.absf x) (broadcastInDim s ![] hb (constant (F := Ideal) S_ .f32 0x7F800000#32))) (constantI S_ 1 1#1) hr hu j = 1#1) (i : s.Idx) :
    x i = (((x i).toReal : ℝ) : EReal) := by
  have := Host.reduce_andi_all _ _ hr hu j e i
  refine real_of_abs _ ((congrArg (fun y : EReal => FloatOps.cmpf (F := Ideal) (φ := .f32) .olt (FloatOps.hostAbsf (F := Ideal) (φ := .f32) (x i)) y) ?_).trans this)
  exact cinf.symm

/-- The real numbers of an array, by coordinates. -/
def r3 (a b d : ℕ) (ha : 0 < a) (hb : 0 < b) (hd : 0 < d) (x : (⟨3, ![a, b, d]⟩ : Shape).Idx → EReal) (i j k : ℕ) : ℝ :=
  (x (ix3 (n0 := a) (n1 := b) (n2 := d) ⟨i % a, Nat.mod_lt _ ha⟩ ⟨j % b, Nat.mod_lt _ hb⟩ ⟨k % d, Nat.mod_lt _ hd⟩)).toReal
def r4 (a b d e : ℕ) (ha : 0 < a) (hb : 0 < b) (hd : 0 < d) (he : 0 < e) (x : (⟨4, ![a, b, d, e]⟩ : Shape).Idx → EReal) (i j k l : ℕ) : ℝ :=
  (x (ix4 (n0 := a) (n1 := b) (n2 := d) (n3 := e) ⟨i % a, Nat.mod_lt _ ha⟩ ⟨j % b, Nat.mod_lt _ hb⟩ ⟨k % d, Nat.mod_lt _ hd⟩ ⟨l % e, Nat.mod_lt _ he⟩)).toReal

theorem r3_at {a b d : ℕ} (ha : 0 < a) (hb : 0 < b) (hd : 0 < d) (x : (⟨3, ![a, b, d]⟩ : Shape).Idx → EReal) (i : (⟨3, ![a, b, d]⟩ : Shape).Idx) :
    r3 a b d ha hb hd x (i 0).val (i 1).val (i 2).val = (x i).toReal := by
  unfold r3
  refine congrArg (fun k => (x k).toReal) (funext fun k => Fin.ext ?_)
  match k with
  | ⟨0, _⟩ => exact Nat.mod_eq_of_lt (i 0).isLt
  | ⟨1, _⟩ => exact Nat.mod_eq_of_lt (i 1).isLt
  | ⟨2, _⟩ => exact Nat.mod_eq_of_lt (i 2).isLt

theorem r4_at {a b d e : ℕ} (ha : 0 < a) (hb : 0 < b) (hd : 0 < d) (he : 0 < e) (x : (⟨4, ![a, b, d, e]⟩ : Shape).Idx → EReal) (i : (⟨4, ![a, b, d, e]⟩ : Shape).Idx) :
    r4 a b d e ha hb hd he x (i 0).val (i 1).val (i 2).val (i 3).val = (x i).toReal := by
  unfold r4
  refine congrArg (fun k => (x k).toReal) (funext fun k => Fin.ext ?_)
  match k with
  | ⟨0, _⟩ => exact Nat.mod_eq_of_lt (i 0).isLt
  | ⟨1, _⟩ => exact Nat.mod_eq_of_lt (i 1).isLt
  | ⟨2, _⟩ => exact Nat.mod_eq_of_lt (i 2).isLt
  | ⟨3, _⟩ => exact Nat.mod_eq_of_lt (i 3).isLt

variable (x0 x1 x2 : FVec Ideal S32x128x512 .f32) (x3 : FVec Ideal S32x128x8x64 .f32) (x4 : FVec Ideal S32x128x8 .f32) (x5 : FVec Ideal S32x128x8x64 .f32)
  (x6 : FVec Ideal S32x128x8 .f32) (x7 : FVec Ideal S32x128x8x64 .f32)

/-- The arguments' real numbers. -/
def data : Data where
  q := r3 32 128 512 (by decide) (by decide) (by decide) x0
  k := r3 32 128 512 (by decide) (by decide) (by decide) x1
  v := r3 32 128 512 (by decide) (by decide) (by decide) x2
  o1 := r4 32 128 8 64 (by decide) (by decide) (by decide) (by decide) x3
  l1 := r3 32 128 8 (by decide) (by decide) (by decide) x4
  o4 := r4 32 128 8 64 (by decide) (by decide) (by decide) (by decide) x5
  l4 := r3 32 128 8 (by decide) (by decide) (by decide) x6
  ct := r4 32 128 8 64 (by decide) (by decide) (by decide) (by decide) x7

theorem is_data (h : fn (F := Ideal) x0 x1 x2 x3 x4 x5 x6 x7 = fun _ => 1#1) : Ref.Is (data x0 x1 x2 x3 x4 x5 x6 x7) x0 x1 x2 x3 x4 x5 x6 x7 := by
  have e := congrFun h (Shape.Idx.first h_S_)
  dsimp only [fn, fn_part1, fn_part2] at e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  clear * - e0 e1 e2 e3 e4 e5 e6 e7
  have f0 := fun i => (real_of_all x0 _ _ _ _ e0 i).trans (congrArg (fun y : ℝ => (y : EReal)) (r3_at (by decide) (by decide) (by decide) x0 i).symm)
  have f1 := fun i => (real_of_all x1 _ _ _ _ e1 i).trans (congrArg (fun y : ℝ => (y : EReal)) (r3_at (by decide) (by decide) (by decide) x1 i).symm)
  have f2 := fun i => (real_of_all x2 _ _ _ _ e2 i).trans (congrArg (fun y : ℝ => (y : EReal)) (r3_at (by decide) (by decide) (by decide) x2 i).symm)
  have f3 := fun i => (real_of_all x3 _ _ _ _ e3 i).trans (congrArg (fun y : ℝ => (y : EReal)) (r4_at (by decide) (by decide) (by decide) (by decide) x3 i).symm)
  have f4 := fun i => (real_of_all x4 _ _ _ _ e4 i).trans (congrArg (fun y : ℝ => (y : EReal)) (r3_at (by decide) (by decide) (by decide) x4 i).symm)
  have f5 := fun i => (real_of_all x5 _ _ _ _ e5 i).trans (congrArg (fun y : ℝ => (y : EReal)) (r4_at (by decide) (by decide) (by decide) (by decide) x5 i).symm)
  have f6 := fun i => (real_of_all x6 _ _ _ _ e6 i).trans (congrArg (fun y : ℝ => (y : EReal)) (r3_at (by decide) (by decide) (by decide) x6 i).symm)
  have f7 := fun i => (real_of_all x7 _ _ _ _ e7 i).trans (congrArg (fun y : ℝ => (y : EReal)) (r4_at (by decide) (by decide) (by decide) (by decide) x7 i).symm)
  clear * - f0 f1 f2 f3 f4 f5 f6 f7
  exact ⟨f0, f1, f2, f3, f4, f5, f6, f7⟩

end Cert.Branch.Pre
-- ==== Proof.MlpMath.lean ====
/- What the second call computes for one row: the gradient through the squared rectifier, the two weight matrices and the
   normalisation, over the extended reals. Coordinates are natural numbers; the arrays are functions of them. -/
module

public import proofs.«01_k».proof.Proof.Consts

@[expose] public section

noncomputable section

namespace Cert.Mlp

open Finset Idealize.ShloMosaic

/-- The arguments as functions of their coordinates: `dy u x gx` by (image, row, lane), `wd` by (hidden, lane), `wu` by
    (lane, hidden), `md` by (image, modulation, lane), `g` by lane. -/
structure Data where
  dy : ℕ → ℕ → ℕ → EReal
  u : ℕ → ℕ → ℕ → EReal
  wd : ℕ → ℕ → EReal
  wu : ℕ → ℕ → EReal
  x : ℕ → ℕ → ℕ → EReal
  gx : ℕ → ℕ → ℕ → EReal
  md : ℕ → ℕ → ℕ → EReal
  g : ℕ → EReal

/-- The constants: the number under the root, the row's length, two, and minus a half. -/
def eps : EReal := ((8796093 / 8796093022208 : ℝ) : EReal)
def len : EReal := ((1024 : ℝ) : EReal)
def two : EReal := ((2 : ℝ) : EReal)
def mhalf : EReal := ((-(1 / 2) : ℝ) : EReal)

theorem ceps : (FloatOps.ofBits (F := Ideal) .f32 0x358637BD#32) = eps := by
  show Ideal.ofBits .f32 0x358637BD#32 = _
  unfold eps
  simp [Ideal.ofBits, Ideal.ieee, -EReal.coe_mul]; norm_num
theorem clen : (FloatOps.ofBits (F := Ideal) .f32 0x44800000#32) = len := by
  show Ideal.ofBits .f32 0x44800000#32 = _
  unfold len
  simp [Ideal.ofBits, Ideal.ieee, -EReal.coe_mul]; norm_num
theorem ctwo : (FloatOps.ofBits (F := Ideal) .f32 0x40000000#32) = two := by
  show Ideal.ofBits .f32 0x40000000#32 = _
  unfold two
  simp [Ideal.ofBits, Ideal.ieee, -EReal.coe_mul]; norm_num
theorem cmhalf : (FloatOps.ofBits (F := Ideal) .f32 0xBF000000#32) = mhalf := by
  show Ideal.ofBits .f32 0xBF000000#32 = _
  unfold mhalf
  simp [Ideal.ofBits, Ideal.ieee, -EReal.coe_mul]; norm_num
theorem czero : (FloatOps.ofBits (F := Ideal) .f32 0x00000000#32) = (0 : EReal) := Ideal.ofBits_zero_f32

/-! ## Extended reals -/

/-- A finite factor that isn't negative moves into a sum, whatever the summands are. -/
theorem sum_mul_coe {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih => rw [sum_insert ha, sum_insert ha, ← ih, EReal.right_distrib_of_nonneg_of_ne_top (EReal.coe_nonneg.mpr hr) (EReal.coe_ne_top r)]

/-- Twice a multiple is the double multiple. -/
theorem twice (z : EReal) (k : ℝ) : z * (k : EReal) + z * (k : EReal) = z * ((2 * k : ℝ) : EReal) := by
  induction z using EReal.rec with
  | coe z => rw [← EReal.coe_mul, ← EReal.coe_mul, ← EReal.coe_add]; congr 1; ring
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl

theorem sq_nonneg' (z : EReal) : 0 ≤ z * z := by
  induction z using EReal.rec with
  | coe z => rw [← EReal.coe_mul]; exact EReal.coe_nonneg.mpr (mul_self_nonneg z)
  | bot => simp
  | top => simp

theorem div_len (z : EReal) : Ideal.div z len = z * ((1 / 1024 : ℝ) : EReal) := Ideal.div_coe (by norm_num) z

/-! ## One row -/

section Row
variable (w : ℕ → ℕ → EReal) (dy u x gx d n g s : ℕ → EReal) (e : ℕ)

/-- The cotangent of the hidden value `e`. -/
def du : EReal := (∑ k : Fin 1024, dy k * w e k) * (two * max (u e) 0)
/-- The cotangent of the modulated lane `e`. -/
def dh : EReal := ∑ k : Fin 4096, d k * w e k
/-- The row's mean square, and its inverse root. -/
def ms : EReal := Ideal.div (∑ k : Fin 1024, x k * x k) len + eps
def rr : EReal := Ideal.rsqrt (ms x)
/-- The normalised row. -/
def xn : EReal := x e * rr x
/-- The cotangent of the scaled lane. -/
def dn : EReal := d e * (1 + s e)
/-- The gradient of the row. -/
def gxo : EReal := gx e + rr x * (n e * g e - xn x e * Ideal.div (∑ k : Fin 1024, n k * g k * xn x k) len)

/-- A row with an infinite lane has an infinite mean square; a row without one is a row of real numbers. -/
theorem row_cases : (ms x = ⊤ ∧ rr x = 0) ∨ ∃ (y : ℕ → ℝ) (m r : ℝ), (∀ k : Fin 1024, x k = (y k : EReal)) ∧ ms x = (m : EReal) ∧ rr x = (r : EReal)
    ∧ 0 < m ∧ 0 < r ∧ r * r = 1 / m := by
  by_cases h : ∀ k : Fin 1024, x k ≠ ⊤ ∧ x k ≠ ⊥
  · right
    have hm : ms x = (((∑ k : Fin 1024, (x k).toReal * (x k).toReal) * (1 / 1024) + 8796093 / 8796093022208 : ℝ) : EReal) := by
      unfold ms eps
      rw [div_len, EReal.coe_add, EReal.coe_mul, ← Cert.Branch.coe_sum]
      refine congrArg (fun t : EReal => t * _ + _) (sum_congr rfl fun k _ => ?_)
      rw [EReal.coe_mul, EReal.coe_toReal (h k).1 (h k).2]
    have hp : 0 < (∑ k : Fin 1024, (x k).toReal * (x k).toReal) * (1 / 1024) + 8796093 / 8796093022208 := by
      have : 0 ≤ ∑ k : Fin 1024, (x k).toReal * (x k).toReal := sum_nonneg fun k _ => mul_self_nonneg _
      positivity
    refine ⟨fun k => (x k).toReal, _, _, fun k => (EReal.coe_toReal (h k).1 (h k).2).symm, hm, ?_, hp, inv_pos.mpr (Real.sqrt_pos.mpr hp), ?_⟩
    · unfold rr
      rw [hm, Ideal.rsqrt_coe, if_neg (not_lt.mpr hp.le), if_neg hp.ne']
    · rw [← mul_inv, Real.mul_self_sqrt hp.le]; exact (one_div _).symm
  · left
    push Not at h
    obtain ⟨k, hk⟩ := h
    have hk2 : x k * x k = ⊤ := by
      by_cases ht : x k = ⊤
      · rw [ht]; rfl
      · rw [hk ht]; rfl
    have hs : (∑ k : Fin 1024, x k * x k) = ⊤ :=
      top_le_iff.mp (hk2 ▸ single_le_sum (f := fun k : Fin 1024 => x k * x k) (fun k _ => sq_nonneg' (x k)) (mem_univ k))
    have hm : ms x = ⊤ := by
      unfold ms eps
      rw [hs, div_len, EReal.top_mul_coe_of_pos (by norm_num)]; rfl
    exact ⟨hm, by unfold rr; rw [hm, Ideal.rsqrt_top]⟩

/-- The hidden sum in four parts. -/
theorem dh_parts : (∑ k : Fin 1024, d (0 + k) * w e (0 + k)) + (∑ k : Fin 1024, d (1024 + k) * w e (1024 + k))
    + (∑ k : Fin 1024, d (2048 + k) * w e (2048 + k)) + (∑ k : Fin 1024, d (3072 + k) * w e (3072 + k)) = dh w d e := by
  have h := fun c : ℕ => Fin.sum_univ_eq_sum_range (fun k => d (c + k) * w e (c + k)) 1024
  rw [h 0, h 1024, h 2048, h 3072]
  unfold dh
  rw [Fin.sum_univ_eq_sum_range (fun k => d k * w e k) 4096, show (4096 : ℕ) = 1024 + 1024 + 1024 + 1024 from rfl,
    sum_range_add, sum_range_add, sum_range_add]
  simp only [Nat.zero_add]

/-- The factor that the lane multiplies twice in the differentiated forward pass. -/
def tt : EReal := Ideal.div ((∑ k : Fin 1024, x k * (n k * g k)) * (mhalf * Ideal.div (rr x) (ms x))) len

/-- The row's gradient as the differentiated forward pass writes it. -/
theorem gxo_eq (he : e < 1024) : gx e + n e * g e * rr x + x e * tt x n g + tt x n g * x e = gxo x gx n g e := by
  rcases row_cases x with ⟨hm, hr⟩ | ⟨y, m, r, hx, hm, hr, m0, r0, hrr⟩
  · have ht : tt x n g = 0 := by
      unfold tt
      rw [hm, hr, show Ideal.div 0 ⊤ = (0 : EReal) from by unfold Ideal.div; simp, mul_zero, mul_zero, div_len, zero_mul]
    unfold gxo
    rw [ht, hr, mul_zero, mul_zero, zero_mul, zero_mul, add_zero, add_zero]
  · have hxe : x e = (y e : EReal) := hx ⟨e, he⟩
    have hS : (∑ k : Fin 1024, n k * g k * xn x k) = (∑ k : Fin 1024, x k * (n k * g k)) * (r : EReal) := by
      rw [sum_mul_coe _ _ r0.le]
      refine sum_congr rfl fun k _ => ?_
      unfold xn
      rw [hr, mul_comm (x k) (n k * g k), mul_assoc (n k * g k)]
    have ht : x e * tt x n g = (∑ k : Fin 1024, x k * (n k * g k)) * ((-(1 / 2) * (r / m) * (1 / 1024) * y e : ℝ) : EReal) := by
      unfold tt mhalf
      rw [div_len, hm, hr, hxe, Cert.Branch.div_coe _ _ m0.ne', ← EReal.coe_mul, mul_assoc, ← EReal.coe_mul, mul_comm, mul_assoc, ← EReal.coe_mul]
    unfold gxo
    rw [add_assoc, mul_comm (tt x n g), ht, twice, add_assoc, hS, div_len]
    refine congrArg (gx e + ·) ?_
    rw [EReal.mul_sub_of_nonneg_of_ne_top (by rw [hr]; exact EReal.coe_nonneg.mpr r0.le) (by rw [hr]; exact EReal.coe_ne_top r), sub_eq_add_neg, mul_comm (n e * g e)]
    refine congrArg (rr x * (n e * g e) + ·) ?_
    have hR (S : EReal) : (r : EReal) * ((y e : EReal) * (r : EReal) * (S * (r : EReal) * ((1 / 1024 : ℝ) : EReal))) = S * ((r * (y e * r * (r * (1 / 1024))) : ℝ) : EReal) := by
      rw [EReal.coe_mul, EReal.coe_mul, EReal.coe_mul, EReal.coe_mul]
      ac_rfl
    unfold xn
    rw [hr, hxe, hR, ← mul_neg, ← EReal.coe_neg]
    refine congrArg (fun t : ℝ => (∑ k : Fin 1024, x k * (n k * g k)) * (t : EReal)) ?_
    rw [show r / m = r * (r * r) by rw [hrr]; ring]
    ring

end Row

/-! ## The call -/

variable (D : Data) (b s e : ℕ)

def DU : EReal := du D.wd (D.dy b s) (D.u b s) e
def DH : EReal := dh D.wu (DU D b s) e
def XN : EReal := xn (D.x b s) e
def DN : EReal := dn (DH D b s) (D.md b 4) e
def GX : EReal := gxo (D.x b s) (D.gx b s) (DN D b s) D.g e
/-- The gradients of the modulation's scale and shift. -/
def SC : EReal := ∑ s : Fin 2048, DH D b s e * (XN D b s e * D.g e)
def SH : EReal := ∑ s : Fin 2048, DH D b s e
/-- The gradient of the scale. -/
def GG : EReal := ∑ b : Fin 2, ∑ s : Fin 2048, DN D b s e * XN D b s e

/-- A sum over rows taken 512 at a time. -/
theorem step (f : ℕ → EReal) (c : ℕ) : (∑ r ∈ range (c * 512), f r) + ∑ r : Fin 512, f (c * 512 + r) = ∑ r ∈ range ((c + 1) * 512), f r := by
  rw [Fin.sum_univ_eq_sum_range (fun r => f (c * 512 + r)) 512, Nat.add_mul, one_mul, sum_range_add]

/-- The two images' rows in one list. -/
theorem GG_eq : (∑ r ∈ range (8 * 512), DN D (r / 2048) (r % 2048) e * XN D (r / 2048) (r % 2048) e) = GG D e := by
  unfold GG
  rw [show 8 * 512 = 2048 + 2048 from rfl, sum_range_add, Fin.sum_univ_two,
    Fin.sum_univ_eq_sum_range (fun s => DN D ((0 : Fin 2) : ℕ) s e * XN D ((0 : Fin 2) : ℕ) s e) 2048,
    Fin.sum_univ_eq_sum_range (fun s => DN D ((1 : Fin 2) : ℕ) s e * XN D ((1 : Fin 2) : ℕ) s e) 2048]
  refine congrArg₂ (· + ·) (sum_congr rfl fun r hr => ?_) (sum_congr rfl fun r hr => ?_)
  · have := mem_range.mp hr
    rw [show r / 2048 = 0 by omega, show r % 2048 = r by omega]; rfl
  · have := mem_range.mp hr
    rw [show (2048 + r) / 2048 = 1 by omega, show (2048 + r) % 2048 = r by omega]; rfl

end Cert.Mlp
-- ==== Proof.MlpVal.lean ====
/- The second call's stored values at exact arithmetic: each as a function of the coordinates of what was loaded. -/
module

public import proofs.«01_k».proof.Proof.Gen.Kernel2Ideal.Value
public import proofs.«01_k».proof.Proof.MlpMath
public import Idealize.ShloMosaic.Lib.ValueIdx
public import Idealize.ShloMosaic.Lib.Pipeline.Value

@[expose] public section

set_option maxRecDepth 16384

noncomputable section

namespace Cert.Mlp.Kern

open Cert.Kernel2Ideal Cert.Kernel2Ideal.Gen Cert.Branch Idealize.ShloMosaic Idealize.ShloMosaic.ValueIdx Idealize.ShloMosaic.TcCoe Idealize.SL.Sem

/-- A matrix, or a stack of them, holds the numbers that `f` lists. -/
def Is2 {φ : FTy} {n m : ℕ} (v : FVec Ideal ⟨2, ![n, m]⟩ φ) (f : ℕ → ℕ → EReal) : Prop := ∀ i, v i = f (i 0).val (i 1).val
def Is3 {φ : FTy} {l n m : ℕ} (v : FVec Ideal ⟨3, ![l, n, m]⟩ φ) (f : ℕ → ℕ → ℕ → EReal) : Prop :=
  ∀ i, v i = f (i 0).val (i 1).val (i 2).val

section Ops
variable {n m : ℕ} {φ : FTy} {a b : FVec Ideal ⟨2, ![n, m]⟩ φ} {f g : ℕ → ℕ → EReal}

theorem Is2.mul (ha : Is2 a f) (hb : Is2 b g) : Is2 (mulf a b) fun i j => f i j * g i j := fun i => by
  show a i * b i = _; rw [ha, hb]
theorem Is2.add (ha : Is2 a f) (hb : Is2 b g) : Is2 (addf a b) fun i j => f i j + g i j := fun i => by
  show a i + b i = _; rw [ha, hb]
theorem Is2.sub (ha : Is2 a f) (hb : Is2 b g) : Is2 (subf a b) fun i j => f i j - g i j := fun i => by
  show a i - b i = _; rw [ha, hb]
theorem Is2.max (ha : Is2 a f) (hb : Is2 b g) : Is2 (maximumf a b) fun i j => Max.max (f i j) (g i j) := fun i => by
  show Max.max (a i) (b i) = _; rw [ha, hb]
theorem Is2.divc (ha : Is2 a f) (hb : Is2 b g) : Is2 (divf a b) fun i j => Ideal.div (f i j) (g i j) := fun i => by
  show Ideal.div (a i) (b i) = _; rw [ha, hb]
theorem Is2.rsqrt (ha : Is2 a f) : Is2 (Idealize.ShloMosaic.rsqrt a) fun i j => Ideal.rsqrt (f i j) := fun i => by
  show Ideal.rsqrt (a i) = _; rw [ha]
theorem Is2.const {x : Ideal φ} {r : EReal} (h : x = r) : Is2 (broadcast (⟨2, ![n, m]⟩ : Shape) x) fun _ _ => r := fun _ => h

theorem Is2.rows {v : FVec Ideal ⟨2, ![1, m]⟩ φ} (hv : Is2 v f) (h) (hm : m ≠ 1) : Is2 (broadcastTo (⟨2, ![n, m]⟩ : Shape) v h) fun _ j => f 0 j := fun i => by
  refine (broadcastTo_apply v h i (ix2 (n0 := 1) (n1 := m) 0 (i 1)) (fun b => ?_)).trans (hv _)
  match b with
  | ⟨0, _⟩ => exact (if_pos rfl).symm
  | ⟨1, _⟩ => exact (if_neg hm).symm
theorem Is2.cols {v : FVec Ideal ⟨2, ![n, 1]⟩ φ} (hv : Is2 v f) (h) (hn : n ≠ 1) : Is2 (broadcastTo (⟨2, ![n, m]⟩ : Shape) v h) fun i _ => f i 0 := fun i => by
  refine (broadcastTo_apply v h i (ix2 (n0 := n) (n1 := 1) (i 0) 0) (fun b => ?_)).trans (hv _)
  match b with
  | ⟨0, _⟩ => exact (if_neg hn).symm
  | ⟨1, _⟩ => exact (if_pos rfl).symm

theorem Is3.drop {v : FVec Ideal ⟨3, ![1, n, m]⟩ φ} {f : ℕ → ℕ → ℕ → EReal} (hv : Is3 v f) (h) : Is2 (shapeCast (⟨2, ![n, m]⟩ : Shape) v h) (f 0) := fun i => by
  refine (shapeCast_apply v h i (ix3 (n0 := 1) (n1 := n) (n2 := m) 0 (i 0) (i 1)) ?_).trans (hv _)
  rw [Shape.rowMajor_val_two, Shape.rowMajor_val_three]
  show (0 * n + (i 0).val) * m + (i 1).val = (i 0).val * m + (i 1).val
  rw [Nat.zero_mul, Nat.zero_add]
theorem Is2.lift (hv : Is2 a f) (h) : Is3 (shapeCast (⟨3, ![1, n, m]⟩ : Shape) a h) fun _ => f := fun i => by
  refine (shapeCast_apply a h i (ix2 (n0 := n) (n1 := m) (i 1) (i 2)) ?_).trans (hv _)
  have h0 : (i 0).val < 1 := (i 0).isLt
  rw [Shape.rowMajor_val_two, Shape.rowMajor_val_three]
  show (i 1).val * m + (i 2).val = ((i 0).val * n + (i 1).val) * m + (i 2).val
  rw [show (i 0).val = 0 by omega, Nat.zero_mul, Nat.zero_add]

end Ops

section Sums
variable {f g : ℕ → ℕ → EReal}

theorem mm {a : FVec Ideal S512x1024 .bf16} {b : FVec Ideal S1024x1024 .bf16} (ha : Is2 a f) (hb : Is2 b g) :
    Is2 (matmul dot_S512x1024_S1024x1024_S512x1024_1_1_0_0_n_n none a b (constant S512x1024 .f32 0x00000000#32))
      fun i j => ∑ k : Fin 1024, f i k * g j k := fun i => by
  show FloatOps.matmul dot_S512x1024_S1024x1024_S512x1024_1_1_0_0_n_n none a b (constant S512x1024 .f32 0x00000000#32) i = _
  rw [Ideal.matmul_apply, show constant (F := Ideal) S512x1024 .f32 0x00000000#32 i = 0 from Ideal.ofBits_zero_f32, zero_add,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  rw [show dot_S512x1024_S1024x1024_S512x1024_1_1_0_0_n_n.lhsIdx i ((contrEquiv1 dot_S512x1024_S1024x1024_S512x1024_1_1_0_0_n_n 1024 rfl rfl).symm k)
      = ix2 (n0 := 512) (n1 := 1024) (i 0) k from funext fun a => Fin.ext (by match a with | ⟨0, _⟩ => rfl | ⟨1, _⟩ => exact hk),
    show dot_S512x1024_S1024x1024_S512x1024_1_1_0_0_n_n.rhsIdx i ((contrEquiv1 dot_S512x1024_S1024x1024_S512x1024_1_1_0_0_n_n 1024 rfl rfl).symm k)
      = ix2 (n0 := 1024) (n1 := 1024) (i 1) k from funext fun a => Fin.ext (by match a with | ⟨0, _⟩ => rfl | ⟨1, _⟩ => exact hk),
    ha, hb]

/-- A row's sum, kept as a column; a column's sum, kept as a row. -/
theorem rowsum {a : FVec Ideal S512x1024 .f32} (ha : Is2 a f) (h : S512x1024.Reduces [1] S512) (hφ) (hc) (hs) :
    Is2 (shapeCast S512x1 (multiReduction .add [1] S512 a 0x00000000#32 h hφ hc) hs) fun i _ => ∑ k : Fin 1024, f i k := fun i => by
  refine (shapeCast_apply _ hs i (ix1 (n := 512) (i 0)) ?_).trans ?_
  · have h1 : (i 1).val < 1 := (i 1).isLt
    rw [Shape.rowMajor_val_one, Shape.rowMajor_val_two]
    show (i 0).val = (i 0).val * 1 + (i 1).val
    omega
  · rw [Ideal.multiReduction_add_single]
    exact Finset.sum_congr rfl fun k _ => ha _
theorem colsum {a : FVec Ideal S512x1024 .f32} (ha : Is2 a f) (h : S512x1024.Reduces [0] S1024) (hφ) (hc) (hs) :
    Is2 (shapeCast S1x1024 (multiReduction .add [0] S1024 a 0x00000000#32 h hφ hc) hs) fun _ j => ∑ k : Fin 512, f k j := fun i => by
  refine (shapeCast_apply _ hs i (ix1 (n := 1024) (i 1)) ?_).trans ?_
  · have h0 : (i 0).val < 1 := (i 0).isLt
    rw [Shape.rowMajor_val_one, Shape.rowMajor_val_two]
    show (i 1).val = (i 0).val * 1024 + (i 1).val
    omega
  · rw [Ideal.multiReduction_add_single]
    exact Finset.sum_congr rfl fun k _ => ha _

end Sums

/-! ## The stored values -/

section Pay
variable {A B : ℕ → ℕ → EReal} {C : ℕ → ℕ → ℕ → EReal}

/-- One quarter of the hidden row's cotangent. -/
def duf (A B : ℕ → ℕ → EReal) (C : ℕ → ℕ → ℕ → EReal) (i j : ℕ) : EReal := (∑ k : Fin 1024, A i k * B j k) * (two * max (C 0 i j) 0)

theorem p3 {v : Vec Ideal S1x512x1024 .bf16} (hv : Is3 (φ := .bf16) v C) : Is2 (k0_pay3 v) (C 0) := Is3.drop hv _

theorem p5 {v14 : FVec Ideal S512x1024 .bf16} {v29 : Vec Ideal S1024x1024 .bf16} {v31 : Vec Ideal S1x512x1024 .bf16}
    (h14 : Is2 v14 A) (h29 : Is2 (φ := .bf16) v29 B) (h31 : Is3 (φ := .bf16) v31 C) : Is3 (k0_pay5 v14 v29 v31) fun _ => duf A B C :=
  ((mm h14 h29).mul ((Is2.const ctwo).mul (Is2.max (φ := .f32) (Is3.drop h31 _) (Is2.const czero)))).lift _

theorem p6 {v14 : FVec Ideal S512x1024 .bf16} {v29 : Vec Ideal S1024x1024 .bf16} {v31 : Vec Ideal S1x512x1024 .bf16}
    (h14 : Is2 v14 A) (h29 : Is2 (φ := .bf16) v29 B) (h31 : Is3 (φ := .bf16) v31 C) : Is3 (k0_pay6 v14 v29 v31) fun _ => duf A B C :=
  p5 h14 h29 h31
theorem p8 {v14 : FVec Ideal S512x1024 .bf16} {v29 : Vec Ideal S1024x1024 .bf16} {v31 : Vec Ideal S1x512x1024 .bf16}
    (h14 : Is2 v14 A) (h29 : Is2 (φ := .bf16) v29 B) (h31 : Is3 (φ := .bf16) v31 C) : Is3 (k0_pay8 (k0_pay7 v14 v29) v31) fun _ => duf A B C :=
  p5 h14 h29 h31
theorem p4 {v14 : Vec Ideal S1x512x1024 .bf16} {v29 : Vec Ideal S1024x1024 .bf16} {v31 : Vec Ideal S1x512x1024 .bf16} {A : ℕ → ℕ → ℕ → EReal}
    (h14 : Is3 (φ := .bf16) v14 A) (h29 : Is2 (φ := .bf16) v29 B) (h31 : Is3 (φ := .bf16) v31 C) : Is3 (k0_pay4 v14 v29 v31) fun _ => duf (A 0) B C :=
  p5 (p3 h14) h29 h31

/-- The cotangent of the modulated row: four quarters of the hidden sum. -/
theorem p12 {v74 v80 v86 v92 : Vec Ideal S1x512x1024 .bf16} {v76 v82 v88 v94 : Vec Ideal S1x1024x1024 .bf16}
    {d0 d1 d2 d3 w0 w1 w2 w3 : ℕ → ℕ → ℕ → EReal}
    (h0 : Is3 (φ := .bf16) v74 d0) (h1 : Is3 (φ := .bf16) v80 d1) (h2 : Is3 (φ := .bf16) v86 d2) (h3 : Is3 (φ := .bf16) v92 d3)
    (k0 : Is3 (φ := .bf16) v76 w0) (k1 : Is3 (φ := .bf16) v82 w1) (k2 : Is3 (φ := .bf16) v88 w2) (k3 : Is3 (φ := .bf16) v94 w3) :
    Is2 (k0_pay12 (k0_pay9 v74 v76 v80 v82) (k0_pay10 v86) (k0_pay11 v88) v92 v94)
      fun i j => 0 + (∑ k : Fin 1024, d0 0 i k * w0 0 j k) + (∑ k : Fin 1024, d1 0 i k * w1 0 j k) + (∑ k : Fin 1024, d2 0 i k * w2 0 j k)
        + ∑ k : Fin 1024, d3 0 i k * w3 0 j k :=
  ((((Is2.const czero).add (mm (h0.drop _) (k0.drop _))).add (mm (h1.drop _) (k1.drop _))).add (mm (h2.drop _) (k2.drop _))).add (mm (h3.drop _) (k3.drop _))

variable {x : Vec Ideal S1x512x1024 .f32} {X : ℕ → ℕ → ℕ → EReal}

theorem p14 (hx : Is3 (φ := .f32) x X) : Is2 (k0_pay14 x) fun i _ => rr (X 0 i) :=
  have h : Is2 (k0_pay13 x) (X 0) := hx.drop _
  ((rowsum (h.mul h) _ _ _ _).divc (Is2.const clen)).add (Is2.const ceps) |>.rsqrt
theorem p15 (hx : Is3 (φ := .f32) x X) : Is2 (k0_pay15 x) fun i j => xn (X 0 i) j :=
  (Is3.drop hx _).mul ((p14 hx).cols _ (by decide))
theorem p16 {g : Vec Ideal S1x1024 .f32} {G : ℕ → ℕ → EReal} (hx : Is3 (φ := .f32) x X) (hg : Is2 (φ := .f32) g G) :
    Is2 (k0_pay16 x g) fun i j => xn (X 0 i) j * G 0 j :=
  (p15 hx).mul (Is2.rows hg _ (by decide))

variable {v85 : FVec Ideal S512x1024 .f32} {v87 : FVec Ideal S512x1024 .bf16} {v89 : FVec Ideal S1024x1024 .bf16} {v92 : Vec Ideal S1x512x1024 .bf16}
  {v94 : Vec Ideal S1x1024x1024 .bf16} {H : ℕ → ℕ → EReal} {s : Vec Ideal S1x1x1024 .f32} {S : ℕ → ℕ → ℕ → EReal} {g : Vec Ideal S1x1024 .f32} {G : ℕ → ℕ → EReal}

theorem p17 (hH : Is2 (k0_pay12 v85 v87 v89 v92 v94) H) (hs : Is3 (φ := .f32) s S) :
    Is2 (k0_pay17 v85 v87 v89 v92 v94 s) fun i j => dn (H i) (S 0 0) j :=
  hH.mul (Is2.rows ((Is2.const (c1.trans EReal.coe_one)).add (Is3.drop hs _)) _ (by decide))
theorem p19 (hH : Is2 (k0_pay12 v85 v87 v89 v92 v94) H) (hs : Is3 (φ := .f32) s S) (hg : Is2 (φ := .f32) g G) :
    Is2 (k0_pay19 v85 v87 v89 v92 v94 g s) fun i j => dn (H i) (S 0 0) j * G 0 j :=
  (p17 hH hs).mul (Is2.rows hg _ (by decide))
theorem p20 (hH : Is2 (k0_pay12 v85 v87 v89 v92 v94) H) (hs : Is3 (φ := .f32) s S) (hg : Is2 (φ := .f32) g G) (hx : Is3 (φ := .f32) x X) :
    Is2 (k0_pay20 v85 v87 v89 v92 v94 x g s) fun i _ => ∑ k : Fin 1024, dn (H i) (S 0 0) k * G 0 k * xn (X 0 i) k :=
  rowsum ((p19 hH hs hg).mul (p15 hx)) _ _ _ _

/-- The gradient of the rows. -/
theorem p21 {y : Vec Ideal S1x512x1024 .f32} {Y : ℕ → ℕ → ℕ → EReal} (hH : Is2 (k0_pay12 v85 v87 v89 v92 v94) H) (hs : Is3 (φ := .f32) s S)
    (hg : Is2 (φ := .f32) g G) (hx : Is3 (φ := .f32) x X) (hy : Is3 (φ := .f32) y Y) :
    Is3 (k0_pay21 (k0_pay14 x) (k0_pay15 x) (k0_pay18 y) (k0_pay19 v85 v87 v89 v92 v94 g s) (k0_pay20 v85 v87 v89 v92 v94 x g s))
      fun _ i j => gxo (X 0 i) (Y 0 i) (dn (H i) (S 0 0)) (G 0) j :=
  ((Is3.drop hy _).add (((p14 hx).cols _ (by decide)).mul ((p19 hH hs hg).sub ((p15 hx).mul
    (((p20 hH hs hg hx).divc (Is2.const clen)).cols _ (by decide)))))).lift _

/-- The three sums over rows, each added to what was stored. -/
theorem p22 {v : FVec Ideal S512x1024 .f32} {w : FVec Ideal S512x1024 .f32} {V W : ℕ → ℕ → EReal} {r : Vec Ideal S1x1x1024 .f32} {R : ℕ → ℕ → ℕ → EReal}
    (hv : Is2 v V) (hw : Is2 w W) (hr : Is3 (φ := .f32) r R) : Is3 (k0_pay22 v w r) fun _ _ j => R 0 0 j + ∑ k : Fin 512, V k j * W k j := by
  intro i
  have h1 : (i 1).val = 0 := by have h : (i 1).val < 1 := (i 1).isLt; omega
  have h := (((Is3.drop hr shapeCasts_S1x1x1024_S1x1024).add (colsum (hv.mul hw) reduces_S512x1024_S1024 (.inl rfl) rfl shapeCasts_S1024_S1x1024)).lift shapeCasts_S1x1024_S1x1x1024) i
  rw [h1] at h
  exact h
theorem p23 {v : FVec Ideal S512x1024 .f32} {V : ℕ → ℕ → EReal} {r : Vec Ideal S1x1x1024 .f32} {R : ℕ → ℕ → ℕ → EReal}
    (hv : Is2 v V) (hr : Is3 (φ := .f32) r R) : Is3 (k0_pay23 v r) fun _ _ j => R 0 0 j + ∑ k : Fin 512, V k j := by
  intro i
  have h1 : (i 1).val = 0 := by have h : (i 1).val < 1 := (i 1).isLt; omega
  have h := (((Is3.drop hr shapeCasts_S1x1x1024_S1x1024).add (colsum hv reduces_S512x1024_S1024 (.inl rfl) rfl shapeCasts_S1024_S1x1024)).lift shapeCasts_S1x1024_S1x1x1024) i
  rw [h1] at h
  exact h
theorem p24 {v w : FVec Ideal S512x1024 .f32} {V W : ℕ → ℕ → EReal} {r : Vec Ideal S1x1024 .f32} {R : ℕ → ℕ → EReal}
    (hv : Is2 v V) (hw : Is2 w W) (hr : Is2 (φ := .f32) r R) : Is2 (k0_pay24 v w r) fun i j => R i j + ∑ k : Fin 512, W k j * V k j := by
  refine Is2.add (g := fun _ j => ∑ k : Fin 512, W k j * V k j) (fun i => ?_) (colsum (hw.mul hv) reduces_S512x1024_S1024 (.inl rfl) rfl shapeCasts_S1024_S1x1024)
  exact (shapeCast_apply _ _ _ _ rfl).trans (hr _)

theorem p1 : Is3 (k0_pay1 (F := Ideal)) fun _ _ _ => 0 := (Is2.const czero).lift _
theorem p2 : Is2 (k0_pay2 (F := Ideal)) fun _ _ => 0 := Is2.const czero

end Pay

end Cert.Mlp.Kern
-- ==== Proof.MlpArgs.lean ====
/- The second call's arguments as functions of their coordinates. -/
module

public import proofs.«01_k».proof.Proof.MlpVal

@[expose] public section

noncomputable section

namespace Cert.Mlp

open Idealize.ShloMosaic Cert.Mlp.Kern

/-- The eight arguments hold the numbers that `D` lists. -/
structure Is (D : Data) (x0 : FVec Ideal ⟨3, ![2, 2048, 1024]⟩ .bf16) (x1 : FVec Ideal ⟨3, ![2, 2048, 4096]⟩ .bf16) (x2 : FVec Ideal ⟨2, ![4096, 1024]⟩ .f32)
    (x3 : FVec Ideal ⟨2, ![1024, 4096]⟩ .f32) (x4 x5 : FVec Ideal ⟨3, ![2, 2048, 1024]⟩ .f32) (x6 : FVec Ideal ⟨3, ![2, 6, 1024]⟩ .f32)
    (x7 : FVec Ideal ⟨2, ![1, 1024]⟩ .f32) : Prop where
  dy : Is3 x0 D.dy
  u : Is3 x1 D.u
  wd : Is2 x2 D.wd
  wu : Is2 x3 D.wu
  x : Is3 x4 D.x
  gx : Is3 x5 D.gx
  md : Is3 x6 D.md
  g : Is2 x7 fun _ => D.g

/-- An array by coordinates. -/
def r2 (a b : ℕ) (ha : 0 < a) (hb : 0 < b) (x : (⟨2, ![a, b]⟩ : Shape).Idx → EReal) (i j : ℕ) : EReal :=
  (x (ValueIdx.ix2 (n0 := a) (n1 := b) ⟨i % a, Nat.mod_lt _ ha⟩ ⟨j % b, Nat.mod_lt _ hb⟩))
def r3 (a b d : ℕ) (ha : 0 < a) (hb : 0 < b) (hd : 0 < d) (x : (⟨3, ![a, b, d]⟩ : Shape).Idx → EReal) (i j k : ℕ) : EReal :=
  (x (ValueIdx.ix3 (n0 := a) (n1 := b) (n2 := d) ⟨i % a, Nat.mod_lt _ ha⟩ ⟨j % b, Nat.mod_lt _ hb⟩ ⟨k % d, Nat.mod_lt _ hd⟩))

theorem r2_at {a b : ℕ} (ha : 0 < a) (hb : 0 < b) (x : (⟨2, ![a, b]⟩ : Shape).Idx → EReal) (i : (⟨2, ![a, b]⟩ : Shape).Idx) :
    r2 a b ha hb x (i 0).val (i 1).val = (x i) := by
  unfold r2
  refine congrArg x (funext fun k => Fin.ext ?_)
  match k with
  | ⟨0, _⟩ => exact Nat.mod_eq_of_lt (i 0).isLt
  | ⟨1, _⟩ => exact Nat.mod_eq_of_lt (i 1).isLt

theorem r3_at {a b d : ℕ} (ha : 0 < a) (hb : 0 < b) (hd : 0 < d) (x : (⟨3, ![a, b, d]⟩ : Shape).Idx → EReal) (i : (⟨3, ![a, b, d]⟩ : Shape).Idx) :
    r3 a b d ha hb hd x (i 0).val (i 1).val (i 2).val = (x i) := by
  unfold r3
  refine congrArg x (funext fun k => Fin.ext ?_)
  match k with
  | ⟨0, _⟩ => exact Nat.mod_eq_of_lt (i 0).isLt
  | ⟨1, _⟩ => exact Nat.mod_eq_of_lt (i 1).isLt
  | ⟨2, _⟩ => exact Nat.mod_eq_of_lt (i 2).isLt

/-- The scale is a row: its first coordinate is zero. -/
theorem row_at (x : (⟨2, ![1, 1024]⟩ : Shape).Idx → EReal) (i : (⟨2, ![1, 1024]⟩ : Shape).Idx) :
    r2 1 1024 (by decide) (by decide) x 0 (i 1).val = (x i) := by
  rw [← r2_at (by decide) (by decide) x i]
  refine congrArg (fun k => r2 1 1024 (by decide) (by decide) x k (i 1).val) ?_
  have h : (i 0).val < 1 := (i 0).isLt
  omega

variable (x0 : FVec Ideal ⟨3, ![2, 2048, 1024]⟩ .bf16) (x1 : FVec Ideal ⟨3, ![2, 2048, 4096]⟩ .bf16) (x2 : FVec Ideal ⟨2, ![4096, 1024]⟩ .f32) (x3 : FVec Ideal ⟨2, ![1024, 4096]⟩ .f32)
  (x4 x5 : FVec Ideal ⟨3, ![2, 2048, 1024]⟩ .f32) (x6 : FVec Ideal ⟨3, ![2, 6, 1024]⟩ .f32) (x7 : FVec Ideal ⟨2, ![1, 1024]⟩ .f32)

/-- The arguments by coordinates. -/
def data : Data where
  dy := r3 2 2048 1024 (by decide) (by decide) (by decide) x0
  u := r3 2 2048 4096 (by decide) (by decide) (by decide) x1
  wd := r2 4096 1024 (by decide) (by decide) x2
  wu := r2 1024 4096 (by decide) (by decide) x3
  x := r3 2 2048 1024 (by decide) (by decide) (by decide) x4
  gx := r3 2 2048 1024 (by decide) (by decide) (by decide) x5
  md := r3 2 6 1024 (by decide) (by decide) (by decide) x6
  g := r2 1 1024 (by decide) (by decide) x7 0

theorem is_data : Is (data x0 x1 x2 x3 x4 x5 x6 x7) x0 x1 x2 x3 x4 x5 x6 x7 where
  dy := fun i => (r3_at (by decide) (by decide) (by decide) x0 i).symm
  u := fun i => (r3_at (by decide) (by decide) (by decide) x1 i).symm
  wd := fun i => (r2_at (by decide) (by decide) x2 i).symm
  wu := fun i => (r2_at (by decide) (by decide) x3 i).symm
  x := fun i => (r3_at (by decide) (by decide) (by decide) x4 i).symm
  gx := fun i => (r3_at (by decide) (by decide) (by decide) x5 i).symm
  md := fun i => (r3_at (by decide) (by decide) (by decide) x6 i).symm
  g := fun i => (row_at x7 i).symm

end Cert.Mlp
-- ==== Proof.MlpLoad.lean ====
/- Loads from and stores to the second call's blocks, read as functions of the coordinates. -/
module

public import proofs.«01_k».proof.Proof.MlpVal
public import Idealize.ShloMosaic.Lib.WritesUnit

@[expose] public section

set_option maxRecDepth 16384

noncomputable section

namespace Cert.Mlp.Kern

open Cert.Kernel2Ideal Cert.Kernel2Ideal.Gen Cert.Branch Idealize.ShloMosaic Idealize.ShloMosaic.ValueIdx Idealize.ShloMosaic.TcCoe Idealize.SL.Sem

/-! ## Loads and stored pieces -/

section Loads
variable {sig : RefSig} {φ : FTy} {l n m : ℕ} {sp : Space}

theorem Is3.congr {v : FVec Ideal ⟨3, ![l, n, m]⟩ φ} {f g : ℕ → ℕ → ℕ → EReal} (h : Is3 v f) (e : ∀ a b c, f a b c = g a b c) : Is3 v g :=
  fun i => (h i).trans (by rw [e])
theorem Is2.congr {v : FVec Ideal ⟨2, ![n, m]⟩ φ} {f g : ℕ → ℕ → EReal} (h : Is2 v f) (e : ∀ a b, f a b = g a b) : Is2 v g :=
  fun i => (h i).trans (by rw [e])

/-! At half width. -/

/-- A load of a box reads at the box's offsets. -/
theorem Is3.boxh (v : View sig .tc sp ⟨3, ![l, n, m]⟩ .bf16) {X : v.ty.Contents (Elt Ideal)} {f : ℕ → ℕ → ℕ → EReal} (h : Is3 (φ := .bf16) (v.read (Elt Ideal) X) f)
    {o0 o1 o2 l' n' m' : ℕ} (inb) : Is3 (φ := .bf16) (v.readAt (Elt Ideal) (Rect.unit (s := ⟨3, ![l, n, m]⟩) ![o0, o1, o2] ![l', n', m'] inb).toLoadRect X)
      fun a b c => f (o0 + a) (o1 + b) (o2 + c) := fun i => by
  refine (h _).trans ?_
  show (f (o0 + 1 * (i 0).val) (o1 + 1 * (i 1).val) (o2 + 1 * (i 2).val)) = _
  simp only [Nat.one_mul]
theorem Is2.boxh (v : View sig .tc sp ⟨2, ![n, m]⟩ .bf16) {X : v.ty.Contents (Elt Ideal)} {f : ℕ → ℕ → EReal} (h : Is2 (φ := .bf16) (v.read (Elt Ideal) X) f)
    {o0 o1 n' m' : ℕ} (inb) : Is2 (φ := .bf16) (v.readAt (Elt Ideal) (Rect.unit (s := ⟨2, ![n, m]⟩) ![o0, o1] ![n', m'] inb).toLoadRect X)
      fun a b => f (o0 + a) (o1 + b) := fun i => by
  refine (h _).trans ?_
  show (f (o0 + 1 * (i 0).val) (o1 + 1 * (i 1).val)) = _
  simp only [Nat.one_mul]

theorem Is3.unh {a : Memref sig .tc sp ⟨3, ![l, n, m]⟩ .bf16} (ha : a.IsWhole) {x : Vec Ideal ⟨3, ![l, n, m]⟩ .bf16} {f : ℕ → ℕ → ℕ → EReal}
    (h : Is3 (φ := .bf16) x f) : Is3 (φ := .bf16) (a.view.read (Elt Ideal) (ha.unread x)) f := fun i => (congrFun (ha.read_unread x) i).trans (h i)
theorem Is2.unh {a : Memref sig .tc sp ⟨2, ![n, m]⟩ .bf16} (ha : a.IsWhole) {x : Vec Ideal ⟨2, ![n, m]⟩ .bf16} {f : ℕ → ℕ → EReal}
    (h : Is2 (φ := .bf16) x f) : Is2 (φ := .bf16) (a.view.read (Elt Ideal) (ha.unread x)) f := fun i => (congrFun (ha.read_unread x) i).trans (h i)

/-- One stored piece that is the whole buffer. -/
theorem Is3.wholeh (v : View sig .tc sp ⟨3, ![l, n, m]⟩ .bf16) (X : v.ty.Contents (Elt Ideal)) {w : Vec Ideal ⟨3, ![l, n, m]⟩ .bf16} {f : ℕ → ℕ → ℕ → EReal}
    (h : Is3 (φ := .bf16) w f) (inb) : Is3 (φ := .bf16) (v.read (Elt Ideal) (v.writes (Elt Ideal) X [⟨Rect.unit (s := ⟨3, ![l, n, m]⟩) ![0, 0, 0] ![l, n, m] inb, w⟩])) f :=
  fun i => (View.read_writes_cons_unit_of_mem v X inb w [] i i rfl (fun a => by match a with | ⟨0, _⟩ => exact (Nat.zero_add _).symm | ⟨1, _⟩ => exact (Nat.zero_add _).symm | ⟨2, _⟩ => exact (Nat.zero_add _).symm)).trans (h i)
theorem Is2.wholeh (v : View sig .tc sp ⟨2, ![n, m]⟩ .bf16) (X : v.ty.Contents (Elt Ideal)) {w : Vec Ideal ⟨2, ![n, m]⟩ .bf16} {f : ℕ → ℕ → EReal}
    (h : Is2 (φ := .bf16) w f) (inb) : Is2 (φ := .bf16) (v.read (Elt Ideal) (v.writes (Elt Ideal) X [⟨Rect.unit (s := ⟨2, ![n, m]⟩) ![0, 0] ![n, m] inb, w⟩])) f :=
  fun i => (View.read_writes_cons_unit_of_mem v X inb w [] i i rfl (fun a => by match a with | ⟨0, _⟩ => exact (Nat.zero_add _).symm | ⟨1, _⟩ => exact (Nat.zero_add _).symm)).trans (h i)
theorem Is3.allh (v : View sig .tc sp ⟨3, ![l, n, m]⟩ .bf16) (X : v.ty.Contents (Elt Ideal)) {w : Vec Ideal ⟨3, ![l, n, m]⟩ .bf16} {f : ℕ → ℕ → ℕ → EReal}
    (h : Is3 (φ := .bf16) w f) : Is3 (φ := .bf16) (v.read (Elt Ideal) (v.writes (Elt Ideal) X [⟨Rect.whole ⟨3, ![l, n, m]⟩, w⟩])) f :=
  fun i => (View.read_writes_cons_unit_of_mem (off' := fun _ => 0) v X _ w [] i i rfl (fun a => (Nat.zero_add _).symm)).trans (h i)
theorem Is2.allh (v : View sig .tc sp ⟨2, ![n, m]⟩ .bf16) (X : v.ty.Contents (Elt Ideal)) {w : Vec Ideal ⟨2, ![n, m]⟩ .bf16} {f : ℕ → ℕ → EReal}
    (h : Is2 (φ := .bf16) w f) : Is2 (φ := .bf16) (v.read (Elt Ideal) (v.writes (Elt Ideal) X [⟨Rect.whole ⟨2, ![n, m]⟩, w⟩])) f :=
  fun i => (View.read_writes_cons_unit_of_mem (off' := fun _ => 0) v X _ w [] i i rfl (fun a => (Nat.zero_add _).symm)).trans (h i)

/-! At full width. -/

/-- A load of a box reads at the box's offsets. -/
theorem Is3.box (v : View sig .tc sp ⟨3, ![l, n, m]⟩ .f32) {X : v.ty.Contents (Elt Ideal)} {f : ℕ → ℕ → ℕ → EReal} (h : Is3 (φ := .f32) (v.read (Elt Ideal) X) f)
    {o0 o1 o2 l' n' m' : ℕ} (inb) : Is3 (φ := .f32) (v.readAt (Elt Ideal) (Rect.unit (s := ⟨3, ![l, n, m]⟩) ![o0, o1, o2] ![l', n', m'] inb).toLoadRect X)
      fun a b c => f (o0 + a) (o1 + b) (o2 + c) := fun i => by
  refine (h _).trans ?_
  show (f (o0 + 1 * (i 0).val) (o1 + 1 * (i 1).val) (o2 + 1 * (i 2).val)) = _
  simp only [Nat.one_mul]
theorem Is2.box (v : View sig .tc sp ⟨2, ![n, m]⟩ .f32) {X : v.ty.Contents (Elt Ideal)} {f : ℕ → ℕ → EReal} (h : Is2 (φ := .f32) (v.read (Elt Ideal) X) f)
    {o0 o1 n' m' : ℕ} (inb) : Is2 (φ := .f32) (v.readAt (Elt Ideal) (Rect.unit (s := ⟨2, ![n, m]⟩) ![o0, o1] ![n', m'] inb).toLoadRect X)
      fun a b => f (o0 + a) (o1 + b) := fun i => by
  refine (h _).trans ?_
  show (f (o0 + 1 * (i 0).val) (o1 + 1 * (i 1).val)) = _
  simp only [Nat.one_mul]

theorem Is3.un {a : Memref sig .tc sp ⟨3, ![l, n, m]⟩ .f32} (ha : a.IsWhole) {x : Vec Ideal ⟨3, ![l, n, m]⟩ .f32} {f : ℕ → ℕ → ℕ → EReal}
    (h : Is3 (φ := .f32) x f) : Is3 (φ := .f32) (a.view.read (Elt Ideal) (ha.unread x)) f := fun i => (congrFun (ha.read_unread x) i).trans (h i)
theorem Is2.un {a : Memref sig .tc sp ⟨2, ![n, m]⟩ .f32} (ha : a.IsWhole) {x : Vec Ideal ⟨2, ![n, m]⟩ .f32} {f : ℕ → ℕ → EReal}
    (h : Is2 (φ := .f32) x f) : Is2 (φ := .f32) (a.view.read (Elt Ideal) (ha.unread x)) f := fun i => (congrFun (ha.read_unread x) i).trans (h i)

/-- One stored piece that is the whole buffer. -/
theorem Is3.whole (v : View sig .tc sp ⟨3, ![l, n, m]⟩ .f32) (X : v.ty.Contents (Elt Ideal)) {w : Vec Ideal ⟨3, ![l, n, m]⟩ .f32} {f : ℕ → ℕ → ℕ → EReal}
    (h : Is3 (φ := .f32) w f) (inb) : Is3 (φ := .f32) (v.read (Elt Ideal) (v.writes (Elt Ideal) X [⟨Rect.unit (s := ⟨3, ![l, n, m]⟩) ![0, 0, 0] ![l, n, m] inb, w⟩])) f :=
  fun i => (View.read_writes_cons_unit_of_mem v X inb w [] i i rfl (fun a => by match a with | ⟨0, _⟩ => exact (Nat.zero_add _).symm | ⟨1, _⟩ => exact (Nat.zero_add _).symm | ⟨2, _⟩ => exact (Nat.zero_add _).symm)).trans (h i)
theorem Is2.whole (v : View sig .tc sp ⟨2, ![n, m]⟩ .f32) (X : v.ty.Contents (Elt Ideal)) {w : Vec Ideal ⟨2, ![n, m]⟩ .f32} {f : ℕ → ℕ → EReal}
    (h : Is2 (φ := .f32) w f) (inb) : Is2 (φ := .f32) (v.read (Elt Ideal) (v.writes (Elt Ideal) X [⟨Rect.unit (s := ⟨2, ![n, m]⟩) ![0, 0] ![n, m] inb, w⟩])) f :=
  fun i => (View.read_writes_cons_unit_of_mem v X inb w [] i i rfl (fun a => by match a with | ⟨0, _⟩ => exact (Nat.zero_add _).symm | ⟨1, _⟩ => exact (Nat.zero_add _).symm)).trans (h i)
theorem Is3.all (v : View sig .tc sp ⟨3, ![l, n, m]⟩ .f32) (X : v.ty.Contents (Elt Ideal)) {w : Vec Ideal ⟨3, ![l, n, m]⟩ .f32} {f : ℕ → ℕ → ℕ → EReal}
    (h : Is3 (φ := .f32) w f) : Is3 (φ := .f32) (v.read (Elt Ideal) (v.writes (Elt Ideal) X [⟨Rect.whole ⟨3, ![l, n, m]⟩, w⟩])) f :=
  fun i => (View.read_writes_cons_unit_of_mem (off' := fun _ => 0) v X _ w [] i i rfl (fun a => (Nat.zero_add _).symm)).trans (h i)
theorem Is2.all (v : View sig .tc sp ⟨2, ![n, m]⟩ .f32) (X : v.ty.Contents (Elt Ideal)) {w : Vec Ideal ⟨2, ![n, m]⟩ .f32} {f : ℕ → ℕ → EReal}
    (h : Is2 (φ := .f32) w f) : Is2 (φ := .f32) (v.read (Elt Ideal) (v.writes (Elt Ideal) X [⟨Rect.whole ⟨2, ![n, m]⟩, w⟩])) f :=
  fun i => (View.read_writes_cons_unit_of_mem (off' := fun _ => 0) v X _ w [] i i rfl (fun a => (Nat.zero_add _).symm)).trans (h i)

/-- A stored row over what the buffer held. -/
theorem Is3.row (v : View sig .tc sp ⟨3, ![1, n, m]⟩ .f32) (X : v.ty.Contents (Elt Ideal)) (L : List (View.Piece (Elt Ideal) ⟨3, ![1, n, m]⟩ .f32)) {o : ℕ}
    {w : Vec Ideal ⟨3, ![1, 1, m]⟩ .f32} {f g : ℕ → ℕ → ℕ → EReal}
    (hg : Is3 (φ := .f32) w g) (hf : Is3 (φ := .f32) (v.read (Elt Ideal) (v.writes (Elt Ideal) X L)) f) (inb) :
    Is3 (φ := .f32) (v.read (Elt Ideal) (v.writes (Elt Ideal) X (⟨Rect.unit (s := ⟨3, ![1, n, m]⟩) ![0, o, 0] ![1, 1, m] inb, w⟩ :: L)))
      fun a b c => if b = o then g 0 0 c else f a b c := fun i => by
  have h0 : (i 0).val < 1 := (i 0).isLt
  by_cases hb : (i 1).val = o
  · refine (View.read_writes_cons_unit_of_mem v X inb w L i (ix3 (n0 := 1) (n1 := 1) (n2 := m) 0 0 (i 2)) rfl (fun a => ?_)).trans ((hg _).trans ?_)
    · match a with
      | ⟨0, _⟩ => show (i 0).val = 0 + 0; omega
      | ⟨1, _⟩ => show (i 1).val = o + 0; omega
      | ⟨2, _⟩ => exact (Nat.zero_add _).symm
    · exact (if_pos hb).symm
  · refine (View.read_writes_cons_unit_of_not_mem v X inb w L i rfl 1 ?_).trans ((hf _).trans ?_)
    · show (i 1).val < o ∨ o + 1 ≤ (i 1).val
      omega
    · exact (if_neg hb).symm
theorem Is2.row (v : View sig .tc sp ⟨2, ![n, m]⟩ .f32) (X : v.ty.Contents (Elt Ideal)) (L : List (View.Piece (Elt Ideal) ⟨2, ![n, m]⟩ .f32)) {o : ℕ}
    {w : Vec Ideal ⟨2, ![1, m]⟩ .f32} {f g : ℕ → ℕ → EReal}
    (hg : Is2 (φ := .f32) w g) (hf : Is2 (φ := .f32) (v.read (Elt Ideal) (v.writes (Elt Ideal) X L)) f) (inb) :
    Is2 (φ := .f32) (v.read (Elt Ideal) (v.writes (Elt Ideal) X (⟨Rect.unit (s := ⟨2, ![n, m]⟩) ![o, 0] ![1, m] inb, w⟩ :: L)))
      fun b c => if b = o then g 0 c else f b c := fun i => by
  by_cases hb : (i 0).val = o
  · refine (View.read_writes_cons_unit_of_mem v X inb w L i (ix2 (n0 := 1) (n1 := m) 0 (i 1)) rfl (fun a => ?_)).trans ((hg _).trans ?_)
    · match a with
      | ⟨0, _⟩ => show (i 0).val = o + 0; omega
      | ⟨1, _⟩ => exact (Nat.zero_add _).symm
    · exact (if_pos hb).symm
  · refine (View.read_writes_cons_unit_of_not_mem v X inb w L i rfl 0 ?_).trans ((hf _).trans ?_)
    · show (i 0).val < o ∨ o + 1 ≤ (i 0).val
      omega
    · exact (if_neg hb).symm

end Loads

/-! ## One point -/

section Point
variable {dy u : ℕ → ℕ → EReal} {wd wu : ℕ → ℕ → EReal}

abbrev Lane (o : ℕ) (inb : ∀ a, (![0, 0, o] : Fin 3 → Nat) a + S1x512x1024.size a ≤ S1x512x4096.size a) : Rect S1x512x4096 := Rect.unit (s := S1x512x4096) ![0, 0, o] S1x512x1024.size inb

/-- A stored quarter lies in the whole hidden block. -/
theorem quarter {o : ℕ} {w : Vec Ideal S1x512x1024 .bf16} {g : ℕ → ℕ → EReal} (inb) {f : ℕ → ℕ → ℕ → EReal} (h : Is3 (φ := .bf16) w f)
    (e : ∀ a b c, f a b c = g b (o + c)) (x : S1x512x1024.Idx) :
    w x = (g ((Lane o inb).emb x 1).val ((Lane o inb).emb x 2).val) := by
  rw [h x, e]
  show _ = (g (0 + 1 * (x 1).val) (o + 1 * (x 2).val))
  rw [Nat.one_mul, Nat.one_mul, Nat.zero_add]

/-- The four stored quarters of the hidden block's cotangent. -/
theorem quarters {x0 : Vec Ideal S1x512x1024 .bf16} {r : FVec Ideal S512x1024 .bf16} {w0 w1 w2 w3 : Vec Ideal S1024x1024 .bf16}
    {u0 u1 u2 u3 : Vec Ideal S1x512x1024 .bf16} {i0 i1 i2 i3}
    (hx : Is3 (φ := .bf16) x0 fun _ => dy) (hr : Is2 r dy)
    (hw0 : Is2 (φ := .bf16) w0 fun n k => wd (0 + n) (0 + k)) (hw1 : Is2 (φ := .bf16) w1 fun n k => wd (1024 + n) (0 + k))
    (hw2 : Is2 (φ := .bf16) w2 fun n k => wd (2048 + n) (0 + k)) (hw3 : Is2 (φ := .bf16) w3 fun n k => wd (3072 + n) (0 + k))
    (hu0 : Is3 (φ := .bf16) u0 fun _ i n => u (0 + i) (0 + n)) (hu1 : Is3 (φ := .bf16) u1 fun _ i n => u (0 + i) (1024 + n))
    (hu2 : Is3 (φ := .bf16) u2 fun _ i n => u (0 + i) (2048 + n)) (hu3 : Is3 (φ := .bf16) u3 fun _ i n => u (0 + i) (3072 + n)) :
    ∀ p ∈ ([⟨Lane 3072 i3, k0_pay8 (k0_pay7 r w3) u3⟩, ⟨Lane 2048 i2, k0_pay6 r w2 u2⟩, ⟨Lane 1024 i1, k0_pay5 r w1 u1⟩, ⟨Lane 0 i0, k0_pay4 x0 w0 u0⟩] :
      List (View.Piece (Elt Ideal) S1x512x4096 .bf16)),
      ∀ x : p.1.shape.Idx, p.2 x = (du wd (dy (p.1.emb x 1).val) (u (p.1.emb x 1).val) (p.1.emb x 2).val) := by
  have e : ∀ o a b c : ℕ, duf dy (fun n k => wd (o + n) (0 + k)) (fun _ i n => u (0 + i) (o + n)) b c = du wd (dy b) (u b) (o + c) := fun o a b c => by
    unfold duf du; simp only [Nat.zero_add]
  intro p hp
  simp only [List.mem_cons, List.not_mem_nil, or_false] at hp
  rcases hp with rfl | rfl | rfl | rfl
  · exact quarter (g := fun b n => du wd (dy b) (u b) n) i3 (p8 hr hw3 hu3) (e 3072)
  · exact quarter (g := fun b n => du wd (dy b) (u b) n) i2 (p6 hr hw2 hu2) (e 2048)
  · exact quarter (g := fun b n => du wd (dy b) (u b) n) i1 (p5 hr hw1 hu1) (e 1024)
  · exact quarter (g := fun b n => du wd (dy b) (u b) n) i0 (p4 hx hw0 hu0) (e 0)

/-- The cotangent of the modulated rows from the four quarters. -/
theorem four {d : ℕ → ℕ → EReal} {v74 v80 v86 v92 : Vec Ideal S1x512x1024 .bf16} {v76 v82 v88 v94 : Vec Ideal S1x1024x1024 .bf16}
    (h0 : Is3 (φ := .bf16) v74 fun _ i n => d (0 + i) (0 + n)) (h1 : Is3 (φ := .bf16) v80 fun _ i n => d (0 + i) (1024 + n))
    (h2 : Is3 (φ := .bf16) v86 fun _ i n => d (0 + i) (2048 + n)) (h3 : Is3 (φ := .bf16) v92 fun _ i n => d (0 + i) (3072 + n))
    (k0 : Is3 (φ := .bf16) v76 fun a e n => wu (0 + e) ((0 + a) * 1024 + (0 + n))) (k1 : Is3 (φ := .bf16) v82 fun a e n => wu (0 + e) ((1 + a) * 1024 + (0 + n)))
    (k2 : Is3 (φ := .bf16) v88 fun a e n => wu (0 + e) ((2 + a) * 1024 + (0 + n))) (k3 : Is3 (φ := .bf16) v94 fun a e n => wu (0 + e) ((3 + a) * 1024 + (0 + n))) :
    Is2 (k0_pay12 (k0_pay9 v74 v76 v80 v82) (k0_pay10 v86) (k0_pay11 v88) v92 v94) fun i j => dh wu (d i) j :=
  (p12 h0 h1 h2 h3 k0 k1 k2 k3).congr fun i j => by
    rw [← dh_parts]
    simp only [Nat.zero_add, Nat.add_zero, zero_add, Nat.zero_mul, Nat.one_mul, Nat.reduceMul]

end Point

end Cert.Mlp.Kern
-- ==== Proof.MlpKern.lean ====
/- What one grid point of the second call leaves in its output blocks and scratch, as functions of what it loads. -/
module

public import proofs.«01_k».proof.Proof.MlpLoad

@[expose] public section

set_option maxRecDepth 16384

noncomputable section

namespace Cert.Mlp.Kern

open Cert.Kernel2Ideal Cert.Kernel2Ideal.Gen Cert.Branch Idealize.ShloMosaic Idealize.ShloMosaic.ValueIdx Idealize.ShloMosaic.TcCoe Idealize.SL.Sem

/-- One point's parts of the three accumulated sums. -/
def T8 (dy u x : ℕ → ℕ → EReal) (g : ℕ → EReal) (wd wu : ℕ → ℕ → EReal) (j e : ℕ) : EReal :=
  if j = 0 then ∑ r : Fin 512, dh wu (du wd (dy r) (u r)) e * (xn (x r) e * g e) else if j = 1 then ∑ r : Fin 512, dh wu (du wd (dy r) (u r)) e else 0
def T9 (dy u x : ℕ → ℕ → EReal) (md : ℕ → ℕ → EReal) (wd wu : ℕ → ℕ → EReal) (j e : ℕ) : EReal :=
  if j = 0 then ∑ r : Fin 512, dn (dh wu (du wd (dy r) (u r))) (md 4) e * xn (x r) e else 0

variable {dy u x gx : ℕ → ℕ → EReal} {md : ℕ → ℕ → EReal} {g : ℕ → EReal} {wd wu : ℕ → ℕ → EReal} {o8 o9 : ℕ → ℕ → EReal}

theorem pointA (c : Dev nD) (i : grid0.Coords) (arg2 : Memref sig .tc .vmem S1x512x1024 .bf16) (harg2 : arg2.IsWhole) (arg3 : Memref sig .tc .vmem S1x512x4096 .bf16) (harg3 : arg3.IsWhole) (arg6 : Memref sig .tc .vmem S1x512x1024 .f32) (harg6 : arg6.IsWhole) (arg7 : Memref sig .tc .vmem S1x512x1024 .f32) (harg7 : arg7.IsWhole) (arg8 : Memref sig .tc .vmem S1x6x1024 .f32) (harg8 : arg8.IsWhole) (arg9 : Memref sig .tc .vmem S1x1024 .f32) (harg9 : arg9.IsWhole) (arg10 : Memref sig .tc .vmem S1x512x4096 .bf16) (harg10 : arg10.IsWhole) (arg11 : Memref sig .tc .vmem S1x512x1024 .f32) (harg11 : arg11.IsWhole) (arg12 : Memref sig .tc .vmem S1x8x1024 .f32) (harg12 : arg12.IsWhole) (arg13 : Memref sig .tc .vmem S8x1024 .f32) (harg13 : arg13.IsWhole) (arg14 : Memref sig .tc .vmem S4096x1024 .bf16) (harg14 : arg14.IsWhole) (arg15 : Memref sig .tc .vmem S4x1024x1024 .bf16) (harg15 : arg15.IsWhole) (hc0 : cond0_0 i) (hc1 : cond0_1 i) (hc2 : cond0_2 i) (hc3 : cond0_3 i)
    (x0 : Vec Ideal S1x512x1024 .bf16) (x1 : Vec Ideal S1x512x4096 .bf16) (x2 : Vec Ideal S1x512x1024 .f32) (x3 : Vec Ideal S1x512x1024 .f32) (x4 : Vec Ideal S1x6x1024 .f32) (x5 : Vec Ideal S1x1024 .f32) (fh0 : HbBuf0 (F := Ideal) c hbM0_0) (fh1 : HbBuf0 (F := Ideal) c hbM0_1)
    (h0 : Is3 (φ := .bf16) x0 fun _ r k => dy r k)
    (h1 : Is3 (φ := .bf16) x1 fun _ r n => u r n)
    (h2 : Is3 (φ := .f32) x2 fun _ r e => x r e)
    (h3 : Is3 (φ := .f32) x3 fun _ r e => gx r e)
    (h4 : Is3 (φ := .f32) x4 fun _ m e => md m e)
    (h5 : Is2 (φ := .f32) x5 fun _ e => g e)
    (hs0 : Is2 (φ := .bf16) (n := 4096) (m := 1024) fh0 wd)
    (hs1 : Is3 (φ := .bf16) (l := 4) (n := 1024) (m := 1024) fh1 fun a e n => wu e (a * 1024 + n)) :
    (Is3 (φ := .bf16) (out0_A_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) fun _ r n => du wd (dy r) (u r) n)
    ∧ (Is3 (φ := .f32) (out0_A_7 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) fun _ r e => gxo (x r) (gx r) (dn (dh wu (du wd (dy r) (u r))) (md 4)) g e)
    ∧ (Is3 (φ := .f32) (out0_A_8 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) fun _ j e => T8 dy u x g wd wu j e)
    ∧ (Is2 (φ := .f32) (out0_A_9 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) fun j e => T9 dy u x md wd wu j e) := by
  have hx0 : Is3 (φ := .bf16) (View.readAt (Elt Ideal) arg2.view (Rect.unit (s := S1x512x1024) ![0, 0, 0] S1x512x1024.size inb_S1x512x1024_S1x512x1024_0_0_0).toLoadRect (harg2.unread x0))
      fun _ => dy := ((h0.unh harg2).boxh _ _).congr fun a b c => by simp only [Nat.zero_add]
  have hd : ∀ p ∈ (kernelRun0_A (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1).1, ∀ y : p.1.shape.Idx,
      p.2 y = (du wd (dy (p.1.emb y 1).val) (u (p.1.emb y 1).val) (p.1.emb y 2).val) :=
    quarters hx0 (p3 hx0) ((Is2.allh _ _ hs0).boxh _ _) ((Is2.allh _ _ hs0).boxh _ _) ((Is2.allh _ _ hs0).boxh _ _) ((Is2.allh _ _ hs0).boxh _ _)
      ((h1.unh harg3).boxh _ _) ((h1.unh harg3).boxh _ _) ((h1.unh harg3).boxh _ _) ((h1.unh harg3).boxh _ _)
  have hD : ∀ (v : View sig .tc .vmem S1x512x4096 .bf16) (X : v.ty.Contents (Elt Ideal)),
      Is3 (φ := .bf16) (v.read (Elt Ideal) (v.writes (Elt Ideal) X (kernelRun0_A (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1).1)) fun _ r n => du wd (dy r) (u r) n :=
    fun v X y => View.read_writes_apply_of_pieces v X (fun y : S1x512x4096.Idx => (du wd (dy (y 1).val) (u (y 1).val) (y 2).val)) _ hd y
      (cover0_A_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1 y)
  have hH : Is2 (kernelRun0_A.sl.r_6 (F := Ideal) c arg2 harg2 arg3 harg3 arg10 arg14 arg15 x0 x1 fh0 fh1) fun r e => dh wu (du wd (dy r) (u r)) e :=
    four (d := fun r n => du wd (dy r) (u r) n) ((hD _ _).boxh _ _) ((hD _ _).boxh _ _) ((hD _ _).boxh _ _) ((hD _ _).boxh _ _)
      ((Is3.allh _ _ hs1).boxh _ _) ((Is3.allh _ _ hs1).boxh _ _) ((Is3.allh _ _ hs1).boxh _ _) ((Is3.allh _ _ hs1).boxh _ _)
  have hX : Is3 (φ := .f32) (View.readAt (Elt Ideal) arg6.view (Rect.unit (s := S1x512x1024) ![0, 0, 0] S1x512x1024.size inb_S1x512x1024_S1x512x1024_0_0_0).toLoadRect (harg6.unread x2))
      fun _ => x := ((h2.un harg6).box _ _).congr fun a b c => by simp only [Nat.zero_add]
  have hY : Is3 (φ := .f32) (View.readAt (Elt Ideal) arg7.view (Rect.unit (s := S1x512x1024) ![0, 0, 0] S1x512x1024.size inb_S1x512x1024_S1x512x1024_0_0_0).toLoadRect (harg7.unread x3))
      fun _ => gx := ((h3.un harg7).box _ _).congr fun a b c => by simp only [Nat.zero_add]
  have hM : Is3 (φ := .f32) (View.readAt (Elt Ideal) arg8.view (Rect.unit (s := S1x6x1024) ![0, 4, 0] S1x1x1024.size inb_S1x6x1024_S1x1x1024_0_4_0).toLoadRect (harg8.unread x4))
      fun _ b => md (4 + b) := ((h4.un harg8).box _ _).congr fun a b c => by simp only [Nat.zero_add]
  have hG : Is2 (φ := .f32) (View.readAt (Elt Ideal) arg9.view (Rect.unit (s := S1x1024) ![0, 0] S1x1024.size inb_S1x1024_S1x1024_0_0).toLoadRect (harg9.unread x5))
      fun _ => g := ((h5.un harg9).box _ _).congr fun a b => by simp only [Nat.zero_add]
  have hN : Is2 (kernelRun0_A.sl.r_10 (F := Ideal) c arg2 harg2 arg3 harg3 arg8 harg8 arg10 arg14 arg15 x0 x1 x4 fh0 fh1) fun r e => dn (dh wu (du wd (dy r) (u r))) (md 4) e := p17 hH hM
  have a8 : ∀ (v : View sig .tc .vmem S1x8x1024 .f32) (X : v.ty.Contents (Elt Ideal)), Is3 (φ := .f32)
      (v.read (Elt Ideal) (v.writes (Elt Ideal) X (kernelRun0_A (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1).2.2.1)) fun _ j e => T8 dy u x g wd wu j e := fun v X  => by
    have z : Is3 (φ := .f32) (arg12.view.read (Elt Ideal) (arg12.view.writes (Elt Ideal) arg12.view.junk (kernelRun0_A.sl.H8_1 (F := Ideal)))) fun _ j e => (fun _ _ => (0:EReal)) j e := (p1.whole _ _ _)
    have a0 : Is3 (φ := .f32) (k0_pay22 (kernelRun0_A.sl.r_6 (F := Ideal) c arg2 harg2 arg3 harg3 arg10 arg14 arg15 x0 x1 fh0 fh1) (kernelRun0_A.sl.r_9 (F := Ideal) c arg6 harg6 arg9 harg9 x2 x5) (kernelRun0_A.sl.v137 (F := Ideal) c arg12)) fun _ _ e => (fun _ _ => (0:EReal)) 0 e + ∑ r : Fin 512, dh wu (du wd (dy r) (u r)) e * (xn (x r) e * g e) :=
      (p22 hH (p16 hX hG) (z.box (o0 := 0) (o1 := 0) (o2 := 0) _ inb_S1x8x1024_S1x1x1024_0_0_0)).congr fun a b c => by simp only [Nat.zero_add]
    have a1 := (p23 hH ((Is3.row (o := 0) _ _ _ a0 z inb_S1x8x1024_S1x1x1024_0_0_0).box (o0 := 0) (o1 := 1) (o2 := 0) (l' := 1) (n' := 1) (m' := 1024) _ inb_S1x8x1024_S1x1x1024_0_1_0)).congr
      (g := fun _ _ e => (fun _ _ => (0:EReal)) 1 e + ∑ r : Fin 512, dh wu (du wd (dy r) (u r)) e) fun a b c => by simp only [Nat.zero_add, Nat.add_zero, if_neg Nat.one_ne_zero]
    refine (Is3.row (o := 1) v X _ a1 (Is3.row (o := 0) v X _ a0 (p1.whole _ _ _) _) _).congr fun a j e => ?_
    unfold T8
    by_cases j0 : j = 0
    · subst j0; simp
    · by_cases j1 : j = 1
      · subst j1; simp
      · simp [j0, j1]
  have a9 : ∀ (v : View sig .tc .vmem S8x1024 .f32) (X : v.ty.Contents (Elt Ideal)), Is2 (φ := .f32)
      (v.read (Elt Ideal) (v.writes (Elt Ideal) X (kernelRun0_A (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1).2.2.2.1)) fun j e => T9 dy u x md wd wu j e := fun v X  => by
    have z : Is2 (φ := .f32) (arg13.view.read (Elt Ideal) (arg13.view.writes (Elt Ideal) arg13.view.junk (kernelRun0_A.sl.H9_1 (F := Ideal)))) (fun _ _ => (0:EReal)) := (p2.whole _ _ _)
    refine (Is2.row _ _ _ (p24 (p15 hX) hN (z.box (o0 := 0) (o1 := 0) _ _)) (p2.whole _ _ _) _).congr fun j e => ?_
    unfold T9
    by_cases j0 : j = 0
    · subst j0; simp
    · simp [j0]
  exact ⟨hD _ _, Is3.whole _ _ (p21 hH hM hG hX hY) _, a8 _ _, a9 _ _⟩

theorem pointB (c : Dev nD) (i : grid0.Coords) (arg2 : Memref sig .tc .vmem S1x512x1024 .bf16) (harg2 : arg2.IsWhole) (arg3 : Memref sig .tc .vmem S1x512x4096 .bf16) (harg3 : arg3.IsWhole) (arg6 : Memref sig .tc .vmem S1x512x1024 .f32) (harg6 : arg6.IsWhole) (arg7 : Memref sig .tc .vmem S1x512x1024 .f32) (harg7 : arg7.IsWhole) (arg8 : Memref sig .tc .vmem S1x6x1024 .f32) (harg8 : arg8.IsWhole) (arg9 : Memref sig .tc .vmem S1x1024 .f32) (harg9 : arg9.IsWhole) (arg10 : Memref sig .tc .vmem S1x512x4096 .bf16) (harg10 : arg10.IsWhole) (arg11 : Memref sig .tc .vmem S1x512x1024 .f32) (harg11 : arg11.IsWhole) (arg12 : Memref sig .tc .vmem S1x8x1024 .f32) (harg12 : arg12.IsWhole) (arg13 : Memref sig .tc .vmem S8x1024 .f32) (harg13 : arg13.IsWhole) (arg14 : Memref sig .tc .vmem S4096x1024 .bf16) (harg14 : arg14.IsWhole) (arg15 : Memref sig .tc .vmem S4x1024x1024 .bf16) (harg15 : arg15.IsWhole) (hc0 : ¬cond0_0 i) (hc1 : ¬cond0_1 i) (hc2 : ¬cond0_2 i) (hc3 : ¬cond0_3 i)
    (x0 : Vec Ideal S1x512x1024 .bf16) (x1 : Vec Ideal S1x512x4096 .bf16) (x2 : Vec Ideal S1x512x1024 .f32) (x3 : Vec Ideal S1x512x1024 .f32) (x4 : Vec Ideal S1x6x1024 .f32) (x5 : Vec Ideal S1x1024 .f32) (xo8 : Vec Ideal S1x8x1024 .f32) (xo9 : Vec Ideal S8x1024 .f32) (xs0 : Vec Ideal S4096x1024 .bf16) (xs1 : Vec Ideal S4x1024x1024 .bf16) (fh0 : HbBuf0 (F := Ideal) c hbM0_0) (fh1 : HbBuf0 (F := Ideal) c hbM0_1)
    (h0 : Is3 (φ := .bf16) x0 fun _ r k => dy r k)
    (h1 : Is3 (φ := .bf16) x1 fun _ r n => u r n)
    (h2 : Is3 (φ := .f32) x2 fun _ r e => x r e)
    (h3 : Is3 (φ := .f32) x3 fun _ r e => gx r e)
    (h4 : Is3 (φ := .f32) x4 fun _ m e => md m e)
    (h5 : Is2 (φ := .f32) x5 fun _ e => g e)
    (hs0 : Is2 (φ := .bf16) xs0 wd)
    (hs1 : Is3 (φ := .bf16) xs1 fun a e n => wu e (a * 1024 + n))
    (ho9 : Is2 (φ := .f32) xo9 o9)
    (ho8 : Is3 (φ := .f32) xo8 fun _ j e => o8 j e) :
    (Is3 (φ := .bf16) (out0_B_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1) fun _ r n => du wd (dy r) (u r) n)
    ∧ (Is3 (φ := .f32) (out0_B_7 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1) fun _ r e => gxo (x r) (gx r) (dn (dh wu (du wd (dy r) (u r))) (md 4)) g e)
    ∧ (Is3 (φ := .f32) (out0_B_8 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1) fun _ j e => o8 j e + T8 dy u x g wd wu j e)
    ∧ (Is2 (φ := .f32) (out0_B_9 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1) fun j e => o9 j e + T9 dy u x md wd wu j e) := by
  have hx0 : Is3 (φ := .bf16) (View.readAt (Elt Ideal) arg2.view (Rect.unit (s := S1x512x1024) ![0, 0, 0] S1x512x1024.size inb_S1x512x1024_S1x512x1024_0_0_0).toLoadRect (harg2.unread x0))
      fun _ => dy := ((h0.unh harg2).boxh _ _).congr fun a b c => by simp only [Nat.zero_add]
  have hd : ∀ p ∈ (kernelRun0_B (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1).1, ∀ y : p.1.shape.Idx,
      p.2 y = (du wd (dy (p.1.emb y 1).val) (u (p.1.emb y 1).val) (p.1.emb y 2).val) :=
    quarters hx0 (p3 hx0) ((hs0.unh harg14).boxh _ _) ((hs0.unh harg14).boxh _ _) ((hs0.unh harg14).boxh _ _) ((hs0.unh harg14).boxh _ _)
      ((h1.unh harg3).boxh _ _) ((h1.unh harg3).boxh _ _) ((h1.unh harg3).boxh _ _) ((h1.unh harg3).boxh _ _)
  have hD : ∀ (v : View sig .tc .vmem S1x512x4096 .bf16) (X : v.ty.Contents (Elt Ideal)),
      Is3 (φ := .bf16) (v.read (Elt Ideal) (v.writes (Elt Ideal) X (kernelRun0_B (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1).1)) fun _ r n => du wd (dy r) (u r) n :=
    fun v X y => View.read_writes_apply_of_pieces v X (fun y : S1x512x4096.Idx => (du wd (dy (y 1).val) (u (y 1).val) (y 2).val)) _ hd y
      (cover0_B_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1 y)
  have hH : Is2 (kernelRun0_B.sl.r_6 (F := Ideal) c arg2 harg2 arg3 harg3 arg10 arg14 harg14 arg15 harg15 x0 x1 xs0 xs1) fun r e => dh wu (du wd (dy r) (u r)) e :=
    four (d := fun r n => du wd (dy r) (u r) n) ((hD _ _).boxh _ _) ((hD _ _).boxh _ _) ((hD _ _).boxh _ _) ((hD _ _).boxh _ _)
      ((hs1.unh harg15).boxh _ _) ((hs1.unh harg15).boxh _ _) ((hs1.unh harg15).boxh _ _) ((hs1.unh harg15).boxh _ _)
  have hX : Is3 (φ := .f32) (View.readAt (Elt Ideal) arg6.view (Rect.unit (s := S1x512x1024) ![0, 0, 0] S1x512x1024.size inb_S1x512x1024_S1x512x1024_0_0_0).toLoadRect (harg6.unread x2))
      fun _ => x := ((h2.un harg6).box _ _).congr fun a b c => by simp only [Nat.zero_add]
  have hY : Is3 (φ := .f32) (View.readAt (Elt Ideal) arg7.view (Rect.unit (s := S1x512x1024) ![0, 0, 0] S1x512x1024.size inb_S1x512x1024_S1x512x1024_0_0_0).toLoadRect (harg7.unread x3))
      fun _ => gx := ((h3.un harg7).box _ _).congr fun a b c => by simp only [Nat.zero_add]
  have hM : Is3 (φ := .f32) (View.readAt (Elt Ideal) arg8.view (Rect.unit (s := S1x6x1024) ![0, 4, 0] S1x1x1024.size inb_S1x6x1024_S1x1x1024_0_4_0).toLoadRect (harg8.unread x4))
      fun _ b => md (4 + b) := ((h4.un harg8).box _ _).congr fun a b c => by simp only [Nat.zero_add]
  have hG : Is2 (φ := .f32) (View.readAt (Elt Ideal) arg9.view (Rect.unit (s := S1x1024) ![0, 0] S1x1024.size inb_S1x1024_S1x1024_0_0).toLoadRect (harg9.unread x5))
      fun _ => g := ((h5.un harg9).box _ _).congr fun a b => by simp only [Nat.zero_add]
  have hN : Is2 (kernelRun0_B.sl.r_10 (F := Ideal) c arg2 harg2 arg3 harg3 arg8 harg8 arg10 arg14 harg14 arg15 harg15 x0 x1 x4 xs0 xs1) fun r e => dn (dh wu (du wd (dy r) (u r))) (md 4) e := p17 hH hM
  have a8 : ∀ (v : View sig .tc .vmem S1x8x1024 .f32) (X : v.ty.Contents (Elt Ideal)) (hv : Is3 (φ := .f32) (v.read (Elt Ideal) X) fun _ j e => o8 j e), Is3 (φ := .f32)
      (v.read (Elt Ideal) (v.writes (Elt Ideal) X (kernelRun0_B (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1).2.2.1)) fun _ j e => o8 j e + T8 dy u x g wd wu j e := fun v X hv => by
    have z : Is3 (φ := .f32) (arg12.view.read (Elt Ideal) (harg12.unread xo8)) fun _ j e => o8 j e := ho8.un harg12
    have a0 : Is3 (φ := .f32) (k0_pay22 (kernelRun0_B.sl.r_6 (F := Ideal) c arg2 harg2 arg3 harg3 arg10 arg14 harg14 arg15 harg15 x0 x1 xs0 xs1) (kernelRun0_B.sl.r_9 (F := Ideal) c arg6 harg6 arg9 harg9 x2 x5) _) fun _ _ e => o8 0 e + ∑ r : Fin 512, dh wu (du wd (dy r) (u r)) e * (xn (x r) e * g e) :=
      (p22 hH (p16 hX hG) (z.box (o0 := 0) (o1 := 0) (o2 := 0) _ inb_S1x8x1024_S1x1x1024_0_0_0)).congr fun a b c => by simp only [Nat.zero_add]
    have a1 := (p23 hH (z.box (o0 := 0) (o1 := 1) (o2 := 0) (l' := 1) (n' := 1) (m' := 1024) _ inb_S1x8x1024_S1x1x1024_0_1_0)).congr
      (g := fun _ _ e => o8 1 e + ∑ r : Fin 512, dh wu (du wd (dy r) (u r)) e) fun a b c => by simp only [Nat.zero_add, Nat.add_zero]
    refine (Is3.row (o := 1) _ _ _ a1 (Is3.row (o := 0) _ _ _ a0 (hv) _) _).congr fun a j e => ?_
    unfold T8
    by_cases j0 : j = 0
    · subst j0; simp
    · by_cases j1 : j = 1
      · subst j1; simp
      · simp [j0, j1]
  have a9 : ∀ (v : View sig .tc .vmem S8x1024 .f32) (X : v.ty.Contents (Elt Ideal)) (hv : Is2 (φ := .f32) (v.read (Elt Ideal) X) o9), Is2 (φ := .f32)
      (v.read (Elt Ideal) (v.writes (Elt Ideal) X (kernelRun0_B (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo8 xo9 xs0 xs1 fh0 fh1).2.2.2.1)) fun j e => o9 j e + T9 dy u x md wd wu j e := fun v X hv => by
    have z : Is2 (φ := .f32) (arg13.view.read (Elt Ideal) (harg13.unread xo9)) o9 := ho9.un harg13
    refine (Is2.row _ _ _ (p24 (p15 hX) hN (z.box (o0 := 0) (o1 := 0) _ _)) (hv) _).congr fun j e => ?_
    unfold T9
    by_cases j0 : j = 0
    · subst j0; simp
    · simp [j0]
  exact ⟨hD _ _, Is3.whole _ _ (p21 hH hM hG hX hY) _, a8 _ _ (ho8.un harg12), a9 _ _ (ho9.un harg13)⟩

theorem pointC (c : Dev nD) (i : grid0.Coords) (arg2 : Memref sig .tc .vmem S1x512x1024 .bf16) (harg2 : arg2.IsWhole) (arg3 : Memref sig .tc .vmem S1x512x4096 .bf16) (harg3 : arg3.IsWhole) (arg6 : Memref sig .tc .vmem S1x512x1024 .f32) (harg6 : arg6.IsWhole) (arg7 : Memref sig .tc .vmem S1x512x1024 .f32) (harg7 : arg7.IsWhole) (arg8 : Memref sig .tc .vmem S1x6x1024 .f32) (harg8 : arg8.IsWhole) (arg9 : Memref sig .tc .vmem S1x1024 .f32) (harg9 : arg9.IsWhole) (arg10 : Memref sig .tc .vmem S1x512x4096 .bf16) (harg10 : arg10.IsWhole) (arg11 : Memref sig .tc .vmem S1x512x1024 .f32) (harg11 : arg11.IsWhole) (arg12 : Memref sig .tc .vmem S1x8x1024 .f32) (harg12 : arg12.IsWhole) (arg13 : Memref sig .tc .vmem S8x1024 .f32) (harg13 : arg13.IsWhole) (arg14 : Memref sig .tc .vmem S4096x1024 .bf16) (harg14 : arg14.IsWhole) (arg15 : Memref sig .tc .vmem S4x1024x1024 .bf16) (harg15 : arg15.IsWhole) (hc0 : cond0_0 i) (hc1 : ¬cond0_1 i) (hc2 : ¬cond0_2 i) (hc3 : ¬cond0_3 i)
    (x0 : Vec Ideal S1x512x1024 .bf16) (x1 : Vec Ideal S1x512x4096 .bf16) (x2 : Vec Ideal S1x512x1024 .f32) (x3 : Vec Ideal S1x512x1024 .f32) (x4 : Vec Ideal S1x6x1024 .f32) (x5 : Vec Ideal S1x1024 .f32) (xo9 : Vec Ideal S8x1024 .f32) (xs0 : Vec Ideal S4096x1024 .bf16) (xs1 : Vec Ideal S4x1024x1024 .bf16) (fh0 : HbBuf0 (F := Ideal) c hbM0_0) (fh1 : HbBuf0 (F := Ideal) c hbM0_1)
    (h0 : Is3 (φ := .bf16) x0 fun _ r k => dy r k)
    (h1 : Is3 (φ := .bf16) x1 fun _ r n => u r n)
    (h2 : Is3 (φ := .f32) x2 fun _ r e => x r e)
    (h3 : Is3 (φ := .f32) x3 fun _ r e => gx r e)
    (h4 : Is3 (φ := .f32) x4 fun _ m e => md m e)
    (h5 : Is2 (φ := .f32) x5 fun _ e => g e)
    (hs0 : Is2 (φ := .bf16) xs0 wd)
    (hs1 : Is3 (φ := .bf16) xs1 fun a e n => wu e (a * 1024 + n))
    (ho9 : Is2 (φ := .f32) xo9 o9) :
    (Is3 (φ := .bf16) (out0_C_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1) fun _ r n => du wd (dy r) (u r) n)
    ∧ (Is3 (φ := .f32) (out0_C_7 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1) fun _ r e => gxo (x r) (gx r) (dn (dh wu (du wd (dy r) (u r))) (md 4)) g e)
    ∧ (Is3 (φ := .f32) (out0_C_8 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1) fun _ j e => T8 dy u x g wd wu j e)
    ∧ (Is2 (φ := .f32) (out0_C_9 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1) fun j e => o9 j e + T9 dy u x md wd wu j e) := by
  have hx0 : Is3 (φ := .bf16) (View.readAt (Elt Ideal) arg2.view (Rect.unit (s := S1x512x1024) ![0, 0, 0] S1x512x1024.size inb_S1x512x1024_S1x512x1024_0_0_0).toLoadRect (harg2.unread x0))
      fun _ => dy := ((h0.unh harg2).boxh _ _).congr fun a b c => by simp only [Nat.zero_add]
  have hd : ∀ p ∈ (kernelRun0_C (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1).1, ∀ y : p.1.shape.Idx,
      p.2 y = (du wd (dy (p.1.emb y 1).val) (u (p.1.emb y 1).val) (p.1.emb y 2).val) :=
    quarters hx0 (p3 hx0) ((hs0.unh harg14).boxh _ _) ((hs0.unh harg14).boxh _ _) ((hs0.unh harg14).boxh _ _) ((hs0.unh harg14).boxh _ _)
      ((h1.unh harg3).boxh _ _) ((h1.unh harg3).boxh _ _) ((h1.unh harg3).boxh _ _) ((h1.unh harg3).boxh _ _)
  have hD : ∀ (v : View sig .tc .vmem S1x512x4096 .bf16) (X : v.ty.Contents (Elt Ideal)),
      Is3 (φ := .bf16) (v.read (Elt Ideal) (v.writes (Elt Ideal) X (kernelRun0_C (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1).1)) fun _ r n => du wd (dy r) (u r) n :=
    fun v X y => View.read_writes_apply_of_pieces v X (fun y : S1x512x4096.Idx => (du wd (dy (y 1).val) (u (y 1).val) (y 2).val)) _ hd y
      (cover0_C_6 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1 y)
  have hH : Is2 (kernelRun0_C.sl.r_6 (F := Ideal) c arg2 harg2 arg3 harg3 arg10 arg14 harg14 arg15 harg15 x0 x1 xs0 xs1) fun r e => dh wu (du wd (dy r) (u r)) e :=
    four (d := fun r n => du wd (dy r) (u r) n) ((hD _ _).boxh _ _) ((hD _ _).boxh _ _) ((hD _ _).boxh _ _) ((hD _ _).boxh _ _)
      ((hs1.unh harg15).boxh _ _) ((hs1.unh harg15).boxh _ _) ((hs1.unh harg15).boxh _ _) ((hs1.unh harg15).boxh _ _)
  have hX : Is3 (φ := .f32) (View.readAt (Elt Ideal) arg6.view (Rect.unit (s := S1x512x1024) ![0, 0, 0] S1x512x1024.size inb_S1x512x1024_S1x512x1024_0_0_0).toLoadRect (harg6.unread x2))
      fun _ => x := ((h2.un harg6).box _ _).congr fun a b c => by simp only [Nat.zero_add]
  have hY : Is3 (φ := .f32) (View.readAt (Elt Ideal) arg7.view (Rect.unit (s := S1x512x1024) ![0, 0, 0] S1x512x1024.size inb_S1x512x1024_S1x512x1024_0_0_0).toLoadRect (harg7.unread x3))
      fun _ => gx := ((h3.un harg7).box _ _).congr fun a b c => by simp only [Nat.zero_add]
  have hM : Is3 (φ := .f32) (View.readAt (Elt Ideal) arg8.view (Rect.unit (s := S1x6x1024) ![0, 4, 0] S1x1x1024.size inb_S1x6x1024_S1x1x1024_0_4_0).toLoadRect (harg8.unread x4))
      fun _ b => md (4 + b) := ((h4.un harg8).box _ _).congr fun a b c => by simp only [Nat.zero_add]
  have hG : Is2 (φ := .f32) (View.readAt (Elt Ideal) arg9.view (Rect.unit (s := S1x1024) ![0, 0] S1x1024.size inb_S1x1024_S1x1024_0_0).toLoadRect (harg9.unread x5))
      fun _ => g := ((h5.un harg9).box _ _).congr fun a b => by simp only [Nat.zero_add]
  have hN : Is2 (kernelRun0_C.sl.r_10 (F := Ideal) c arg2 harg2 arg3 harg3 arg8 harg8 arg10 arg14 harg14 arg15 harg15 x0 x1 x4 xs0 xs1) fun r e => dn (dh wu (du wd (dy r) (u r))) (md 4) e := p17 hH hM
  have a8 : ∀ (v : View sig .tc .vmem S1x8x1024 .f32) (X : v.ty.Contents (Elt Ideal)), Is3 (φ := .f32)
      (v.read (Elt Ideal) (v.writes (Elt Ideal) X (kernelRun0_C (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1).2.2.1)) fun _ j e => T8 dy u x g wd wu j e := fun v X  => by
    have z : Is3 (φ := .f32) (arg12.view.read (Elt Ideal) (arg12.view.writes (Elt Ideal) arg12.view.junk (kernelRun0_C.sl.H8_1 (F := Ideal)))) fun _ j e => (fun _ _ => (0:EReal)) j e := (p1.whole _ _ _)
    have a0 : Is3 (φ := .f32) (k0_pay22 (kernelRun0_C.sl.r_6 (F := Ideal) c arg2 harg2 arg3 harg3 arg10 arg14 harg14 arg15 harg15 x0 x1 xs0 xs1) (kernelRun0_C.sl.r_9 (F := Ideal) c arg6 harg6 arg9 harg9 x2 x5) (kernelRun0_C.sl.v137 (F := Ideal) c arg12)) fun _ _ e => (fun _ _ => (0:EReal)) 0 e + ∑ r : Fin 512, dh wu (du wd (dy r) (u r)) e * (xn (x r) e * g e) :=
      (p22 hH (p16 hX hG) (z.box (o0 := 0) (o1 := 0) (o2 := 0) _ inb_S1x8x1024_S1x1x1024_0_0_0)).congr fun a b c => by simp only [Nat.zero_add]
    have a1 := (p23 hH ((Is3.row (o := 0) _ _ _ a0 z inb_S1x8x1024_S1x1x1024_0_0_0).box (o0 := 0) (o1 := 1) (o2 := 0) (l' := 1) (n' := 1) (m' := 1024) _ inb_S1x8x1024_S1x1x1024_0_1_0)).congr
      (g := fun _ _ e => (fun _ _ => (0:EReal)) 1 e + ∑ r : Fin 512, dh wu (du wd (dy r) (u r)) e) fun a b c => by simp only [Nat.zero_add, Nat.add_zero, if_neg Nat.one_ne_zero]
    refine (Is3.row (o := 1) v X _ a1 (Is3.row (o := 0) v X _ a0 (p1.whole _ _ _) _) _).congr fun a j e => ?_
    unfold T8
    by_cases j0 : j = 0
    · subst j0; simp
    · by_cases j1 : j = 1
      · subst j1; simp
      · simp [j0, j1]
  have a9 : ∀ (v : View sig .tc .vmem S8x1024 .f32) (X : v.ty.Contents (Elt Ideal)) (hv : Is2 (φ := .f32) (v.read (Elt Ideal) X) o9), Is2 (φ := .f32)
      (v.read (Elt Ideal) (v.writes (Elt Ideal) X (kernelRun0_C (F := Ideal) c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 xo9 xs0 xs1 fh0 fh1).2.2.2.1)) fun j e => o9 j e + T9 dy u x md wd wu j e := fun v X hv => by
    have z : Is2 (φ := .f32) (arg13.view.read (Elt Ideal) (harg13.unread xo9)) o9 := ho9.un harg13
    refine (Is2.row _ _ _ (p24 (p15 hX) hN (z.box (o0 := 0) (o1 := 0) _ _)) (hv) _).congr fun j e => ?_
    unfold T9
    by_cases j0 : j = 0
    · subst j0; simp
    · simp [j0]
  exact ⟨hD _ _, Is3.whole _ _ (p21 hH hM hG hX hY) _, a8 _ _, a9 _ _ (ho9.un harg13)⟩

/-- The first point's scratch: the two weight matrices. -/
theorem scratchA (c : Dev nD) (i : grid0.Coords) (arg2 : Memref sig .tc .vmem S1x512x1024 .bf16) (harg2 : arg2.IsWhole) (arg3 : Memref sig .tc .vmem S1x512x4096 .bf16) (harg3 : arg3.IsWhole) (arg6 : Memref sig .tc .vmem S1x512x1024 .f32) (harg6 : arg6.IsWhole) (arg7 : Memref sig .tc .vmem S1x512x1024 .f32) (harg7 : arg7.IsWhole) (arg8 : Memref sig .tc .vmem S1x6x1024 .f32) (harg8 : arg8.IsWhole) (arg9 : Memref sig .tc .vmem S1x1024 .f32) (harg9 : arg9.IsWhole) (arg10 : Memref sig .tc .vmem S1x512x4096 .bf16) (harg10 : arg10.IsWhole) (arg11 : Memref sig .tc .vmem S1x512x1024 .f32) (harg11 : arg11.IsWhole) (arg12 : Memref sig .tc .vmem S1x8x1024 .f32) (harg12 : arg12.IsWhole) (arg13 : Memref sig .tc .vmem S8x1024 .f32) (harg13 : arg13.IsWhole) (arg14 : Memref sig .tc .vmem S4096x1024 .bf16) (harg14 : arg14.IsWhole) (arg15 : Memref sig .tc .vmem S4x1024x1024 .bf16) (harg15 : arg15.IsWhole) (hc0 : cond0_0 i) (hc1 : cond0_1 i) (hc2 : cond0_2 i) (hc3 : cond0_3 i)
    (x0 : Vec Ideal S1x512x1024 .bf16) (x1 : Vec Ideal S1x512x4096 .bf16) (x2 : Vec Ideal S1x512x1024 .f32) (x3 : Vec Ideal S1x512x1024 .f32) (x4 : Vec Ideal S1x6x1024 .f32) (x5 : Vec Ideal S1x1024 .f32) (fh0 : HbBuf0 (F := Ideal) c hbM0_0) (fh1 : HbBuf0 (F := Ideal) c hbM0_1)
    (hs0 : Is2 (φ := .bf16) (n := 4096) (m := 1024) fh0 wd) (hs1 : Is3 (φ := .bf16) (l := 4) (n := 1024) (m := 1024) fh1 fun a e n => wu e (a * 1024 + n)) :
    Is2 (φ := .bf16) (sout0_A_0 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) wd ∧ Is3 (φ := .bf16) (sout0_A_1 c i arg2 harg2 arg3 harg3 arg6 harg6 arg7 harg7 arg8 harg8 arg9 harg9 arg10 harg10 arg11 harg11 arg12 harg12 arg13 harg13 arg14 harg14 arg15 harg15 hc0 hc1 hc2 hc3 x0 x1 x2 x3 x4 x5 fh0 fh1) fun a e n => wu e (a * 1024 + n) :=
  ⟨Is2.allh _ _ hs0, Is3.allh _ _ hs1⟩

end Cert.Mlp.Kern
-- ==== Proof.MlpOps.lean ====
/- The second call's arrays after its run: its operands as the region finds them, what each grid point leaves, and the four
   result arrays whole. -/
module

public import proofs.«01_k».proof.Proof.MlpArgs
public import proofs.«01_k».proof.Proof.MlpKern
public import proofs.«01_k».proof.Proof.Gen.Kernel2Ideal.Value
public import Idealize.ShloMosaic.Lib.StableHlo.RunRead
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Mlp.Kern

open Cert.Kernel2Ideal Cert.Kernel2Ideal.Gen Cert.Kernel2Ideal.Value Idealize.ShloMosaic Idealize.ShloMosaic.ValueIdx Idealize.ShloMosaic.TcCoe Idealize.SL.Sem
open Idealize.ShloMosaic.StableHlo
open Idealize.ShloMosaic.Pipeline (Dat)
open Finset (range sum_congr)

/-! ## The operands as the region finds them -/

section Operands
variable (m : (ℓ : Loc nD τ sig) → Buf (Elt Ideal) ℓ) (c : Dev nD) {D : Data}

/-- The launch memory's arguments hold the numbers that `D` lists. -/
abbrev IsM (D : Data) : Prop :=
  Is D (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The launch memory of a device. -/
abbrev W0 : Valuation τ sig (Elt Ideal) := fun b => m (c, b)

theorem V_args (n : Fin 8) : V m c (![main_arg0, main_arg1, main_arg2, main_arg3, main_arg4, main_arg5, main_arg6, main_arg7] n)
    = W0 m c (Proc.devRef .tc (![main_arg0, main_arg1, main_arg2, main_arg3, main_arg4, main_arg5, main_arg6, main_arg7] n)) := by
  show after (List.flatten [hostOps0]) (W0 m c) (Proc.devRef .tc _) = _
  simp only [List.flatten_cons, List.flatten_nil, List.append_nil, hostOps0]
  fin_cases n <;> after_reads_simp

theorem V_v2 : V m c main_v2 = truncf (F := Ideal) .bf16 (W0 m c (Proc.devRef .tc main_arg2)) bitsLt_bf16_f32 := by
  show after (List.flatten [hostOps0]) (W0 m c) (Proc.devRef .tc _) = _
  simp only [List.flatten_cons, List.flatten_nil, List.append_nil, hostOps0]
  after_reads_simp

theorem V_v3 : V m c main_v3 = truncf (F := Ideal) .bf16 (transpose S4x1024x1024 [1, 0, 2]
    (shapeCast S1024x4x1024 (W0 m c (Proc.devRef .tc main_arg3)) shapeCasts_S1024x4096_S1024x4x1024) transposes_S1024x4x1024_S4x1024x1024_1_0_2) bitsLt_bf16_f32 := by
  show after (List.flatten [hostOps0]) (W0 m c) (Proc.devRef .tc _) = _
  simp only [List.flatten_cons, List.flatten_nil, List.append_nil, hostOps0]
  after_reads_simp
  rfl

variable (h : IsM m c D)
include h

theorem v2 : Is2 (φ := .bf16) (n := 4096) (m := 1024) (V m c main_v2) D.wd := fun i => by
  rw [V_v2]
  exact h.wd i

theorem v3 : Is3 (φ := .bf16) (l := 4) (n := 1024) (m := 1024) (V m c main_v3) fun a e n => D.wu e (a * 1024 + n) := fun i => by
  rw [V_v3]
  have b0 : (i 0).val < 4 := (i 0).isLt
  have b2 : (i 2).val < 1024 := (i 2).isLt
  show transpose S4x1024x1024 [1, 0, 2] (shapeCast S1024x4x1024 (W0 m c (Proc.devRef .tc main_arg3)) shapeCasts_S1024x4096_S1024x4x1024) transposes_S1024x4x1024_S4x1024x1024_1_0_2 i = _
  refine (transpose_apply _ _ transposes_S1024x4x1024_S4x1024x1024_1_0_2 i (ix3 (n0 := 1024) (n1 := 4) (n2 := 1024) (i 1) (i 0) (i 2)) (fun b => match b with | ⟨0, _⟩ => rfl | ⟨1, _⟩ => rfl | ⟨2, _⟩ => rfl)).trans ?_
  refine (shapeCast_apply _ _ _ (ix2 (n0 := 1024) (n1 := 4096) (i 1) ⟨(i 0).val * 1024 + (i 2).val, by omega⟩) ?_).trans ?_
  · rw [Shape.rowMajor_val_two, Shape.rowMajor_val_three]
    show (i 1).val * 4096 + ((i 0).val * 1024 + (i 2).val) = ((i 1).val * 4 + (i 0).val) * 1024 + (i 2).val
    omega
  exact h.wu _

end Operands

/-! ## The blocks -/

theorem idx_facts : ∀ t : Fin cfg0.N,
    (win0_0.index t 0 = t.val / 4 ∧ win0_0.index t 1 = t.val % 4 ∧ win0_0.index t 2 = 0) ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0) ∧ (win0_3.index t 0 = t.val / 4 ∧ win0_3.index t 1 = t.val % 4 ∧ win0_3.index t 2 = 0)
    ∧ (win0_4.index t 0 = t.val / 4 ∧ win0_4.index t 1 = 0 ∧ win0_4.index t 2 = 0) ∧ (win0_5.index t 0 = 0 ∧ win0_5.index t 1 = 0)
    ∧ (win0_6.index t 0 = t.val / 4 ∧ win0_6.index t 1 = t.val % 4 ∧ win0_6.index t 2 = 0) ∧ (win0_7.index t 0 = t.val / 4 ∧ win0_7.index t 1 = t.val % 4 ∧ win0_7.index t 2 = 0)
    ∧ (win0_8.index t 0 = t.val / 4 ∧ win0_8.index t 1 = 0 ∧ win0_8.index t 2 = 0) ∧ (win0_9.index t 0 = 0 ∧ win0_9.index t 1 = 0) :=
  (by decide +kernel : ∀ t : Fin grid0.N, _)

section Blocks
variable (m : (ℓ : Loc nD τ sig) → Buf (Elt Ideal) ℓ) (c : Dev nD) (t : Fin cfg0.N) {D : Data}

/-- A function of coordinates at numbers that are equal. -/
theorem at3 (X : ℕ → ℕ → ℕ → EReal) {a b d a' b' d' : ℕ} (ha : a = a') (hb : b = b') (hd : d = d') : (X a b d) = (X a' b' d') := by
  rw [ha, hb, hd]
theorem at2 (X : ℕ → ℕ → EReal) {a b a' b' : ℕ} (ha : a = a') (hb : b = b') : (X a b) = (X a' b') := by
  rw [ha, hb]

theorem emb0 (i : S1x512x1024.Idx) : ((win0_0.rect t).emb i 0 : ℕ) = t.val / 4 ∧ ((win0_0.rect t).emb i 1 : ℕ) = t.val % 4 * 512 + (i 1).val ∧ ((win0_0.rect t).emb i 2 : ℕ) = (i 2).val := by
  obtain ⟨e0, e1, e2⟩ := (idx_facts t).1
  have b0 : (i 0).val < 1 := (i 0).isLt
  refine ⟨(Pipeline.Window.rect_emb_val win0_0 t i 0).trans ?_, (Pipeline.Window.rect_emb_val win0_0 t i 1).trans ?_, (Pipeline.Window.rect_emb_val win0_0 t i 2).trans ?_⟩
  · rw [e0]; show t.val / 4 * 1 + (i 0).val = _; omega
  · rw [e1]; show t.val % 4 * 512 + (i 1).val = _; omega
  · rw [e2]; show 0 * 1024 + (i 2).val = _; omega

theorem emb1 (i : S1x512x4096.Idx) : ((win0_1.rect t).emb i 0 : ℕ) = t.val / 4 ∧ ((win0_1.rect t).emb i 1 : ℕ) = t.val % 4 * 512 + (i 1).val ∧ ((win0_1.rect t).emb i 2 : ℕ) = (i 2).val := by
  obtain ⟨e0, e1, e2⟩ := (idx_facts t).2.1
  have b0 : (i 0).val < 1 := (i 0).isLt
  refine ⟨(Pipeline.Window.rect_emb_val win0_1 t i 0).trans ?_, (Pipeline.Window.rect_emb_val win0_1 t i 1).trans ?_, (Pipeline.Window.rect_emb_val win0_1 t i 2).trans ?_⟩
  · rw [e0]; show t.val / 4 * 1 + (i 0).val = _; omega
  · rw [e1]; show t.val % 4 * 512 + (i 1).val = _; omega
  · rw [e2]; show 0 * 4096 + (i 2).val = _; omega

theorem emb2 (i : S1x512x1024.Idx) : ((win0_2.rect t).emb i 0 : ℕ) = t.val / 4 ∧ ((win0_2.rect t).emb i 1 : ℕ) = t.val % 4 * 512 + (i 1).val ∧ ((win0_2.rect t).emb i 2 : ℕ) = (i 2).val := by
  obtain ⟨e0, e1, e2⟩ := (idx_facts t).2.2.1
  have b0 : (i 0).val < 1 := (i 0).isLt
  refine ⟨(Pipeline.Window.rect_emb_val win0_2 t i 0).trans ?_, (Pipeline.Window.rect_emb_val win0_2 t i 1).trans ?_, (Pipeline.Window.rect_emb_val win0_2 t i 2).trans ?_⟩
  · rw [e0]; show t.val / 4 * 1 + (i 0).val = _; omega
  · rw [e1]; show t.val % 4 * 512 + (i 1).val = _; omega
  · rw [e2]; show 0 * 1024 + (i 2).val = _; omega

theorem emb3 (i : S1x512x1024.Idx) : ((win0_3.rect t).emb i 0 : ℕ) = t.val / 4 ∧ ((win0_3.rect t).emb i 1 : ℕ) = t.val % 4 * 512 + (i 1).val ∧ ((win0_3.rect t).emb i 2 : ℕ) = (i 2).val := by
  obtain ⟨e0, e1, e2⟩ := (idx_facts t).2.2.2.1
  have b0 : (i 0).val < 1 := (i 0).isLt
  refine ⟨(Pipeline.Window.rect_emb_val win0_3 t i 0).trans ?_, (Pipeline.Window.rect_emb_val win0_3 t i 1).trans ?_, (Pipeline.Window.rect_emb_val win0_3 t i 2).trans ?_⟩
  · rw [e0]; show t.val / 4 * 1 + (i 0).val = _; omega
  · rw [e1]; show t.val % 4 * 512 + (i 1).val = _; omega
  · rw [e2]; show 0 * 1024 + (i 2).val = _; omega

theorem emb4 (i : S1x6x1024.Idx) : ((win0_4.rect t).emb i 0 : ℕ) = t.val / 4 ∧ ((win0_4.rect t).emb i 1 : ℕ) = (i 1).val ∧ ((win0_4.rect t).emb i 2 : ℕ) = (i 2).val := by
  obtain ⟨e0, e1, e2⟩ := (idx_facts t).2.2.2.2.1
  have b0 : (i 0).val < 1 := (i 0).isLt
  refine ⟨(Pipeline.Window.rect_emb_val win0_4 t i 0).trans ?_, (Pipeline.Window.rect_emb_val win0_4 t i 1).trans ?_, (Pipeline.Window.rect_emb_val win0_4 t i 2).trans ?_⟩
  · rw [e0]; show t.val / 4 * 1 + (i 0).val = _; omega
  · rw [e1]; show 0 * 6 + (i 1).val = _; omega
  · rw [e2]; show 0 * 1024 + (i 2).val = _; omega

theorem emb6 (i : S1x512x4096.Idx) : ((win0_6.rect t).emb i 0 : ℕ) = t.val / 4 ∧ ((win0_6.rect t).emb i 1 : ℕ) = t.val % 4 * 512 + (i 1).val ∧ ((win0_6.rect t).emb i 2 : ℕ) = (i 2).val := by
  obtain ⟨e0, e1, e2⟩ := (idx_facts t).2.2.2.2.2.2.1
  have b0 : (i 0).val < 1 := (i 0).isLt
  refine ⟨(Pipeline.Window.rect_emb_val win0_6 t i 0).trans ?_, (Pipeline.Window.rect_emb_val win0_6 t i 1).trans ?_, (Pipeline.Window.rect_emb_val win0_6 t i 2).trans ?_⟩
  · rw [e0]; show t.val / 4 * 1 + (i 0).val = _; omega
  · rw [e1]; show t.val % 4 * 512 + (i 1).val = _; omega
  · rw [e2]; show 0 * 4096 + (i 2).val = _; omega

theorem emb7 (i : S1x512x1024.Idx) : ((win0_7.rect t).emb i 0 : ℕ) = t.val / 4 ∧ ((win0_7.rect t).emb i 1 : ℕ) = t.val % 4 * 512 + (i 1).val ∧ ((win0_7.rect t).emb i 2 : ℕ) = (i 2).val := by
  obtain ⟨e0, e1, e2⟩ := (idx_facts t).2.2.2.2.2.2.2.1
  have b0 : (i 0).val < 1 := (i 0).isLt
  refine ⟨(Pipeline.Window.rect_emb_val win0_7 t i 0).trans ?_, (Pipeline.Window.rect_emb_val win0_7 t i 1).trans ?_, (Pipeline.Window.rect_emb_val win0_7 t i 2).trans ?_⟩
  · rw [e0]; show t.val / 4 * 1 + (i 0).val = _; omega
  · rw [e1]; show t.val % 4 * 512 + (i 1).val = _; omega
  · rw [e2]; show 0 * 1024 + (i 2).val = _; omega

theorem emb8 (i : S1x8x1024.Idx) : ((win0_8.rect t).emb i 0 : ℕ) = t.val / 4 ∧ ((win0_8.rect t).emb i 1 : ℕ) = (i 1).val ∧ ((win0_8.rect t).emb i 2 : ℕ) = (i 2).val := by
  obtain ⟨e0, e1, e2⟩ := (idx_facts t).2.2.2.2.2.2.2.2.1
  have b0 : (i 0).val < 1 := (i 0).isLt
  refine ⟨(Pipeline.Window.rect_emb_val win0_8 t i 0).trans ?_, (Pipeline.Window.rect_emb_val win0_8 t i 1).trans ?_, (Pipeline.Window.rect_emb_val win0_8 t i 2).trans ?_⟩
  · rw [e0]; show t.val / 4 * 1 + (i 0).val = _; omega
  · rw [e1]; show 0 * 8 + (i 1).val = _; omega
  · rw [e2]; show 0 * 1024 + (i 2).val = _; omega

theorem emb5 (i : S1x1024.Idx) : ((win0_5.rect t).emb i 0 : ℕ) = (i 0).val ∧ ((win0_5.rect t).emb i 1 : ℕ) = (i 1).val := by
  obtain ⟨e0, e1⟩ := (idx_facts t).2.2.2.2.2.1
  refine ⟨(Pipeline.Window.rect_emb_val win0_5 t i 0).trans ?_, (Pipeline.Window.rect_emb_val win0_5 t i 1).trans ?_⟩
  · rw [e0]; show 0 * 1 + (i 0).val = _; omega
  · rw [e1]; show 0 * 1024 + (i 1).val = _; omega

theorem emb9 (i : S8x1024.Idx) : ((win0_9.rect t).emb i 0 : ℕ) = (i 0).val ∧ ((win0_9.rect t).emb i 1 : ℕ) = (i 1).val := by
  obtain ⟨e0, e1⟩ := (idx_facts t).2.2.2.2.2.2.2.2.2
  refine ⟨(Pipeline.Window.rect_emb_val win0_9 t i 0).trans ?_, (Pipeline.Window.rect_emb_val win0_9 t i 1).trans ?_⟩
  · rw [e0]; show 0 * 8 + (i 0).val = _; omega
  · rw [e1]; show 0 * 1024 + (i 1).val = _; omega

variable (h : IsM m c D)

include h in
theorem ib0 : Is3 (φ := .bf16) (l := 1) (n := 512) (m := 1024) (iblk m c 0 t) fun _ r k => D.dy (t.val / 4) (t.val % 4 * 512 + r) k := fun i => by
  obtain ⟨f0, f1, f2⟩ := emb0 t i
  exact (congrFun (V_args m c 0) ((win0_0.rect t).emb i)).trans ((h.dy ((win0_0.rect t).emb i)).trans (at3 D.dy f0 f1 f2))

include h in
theorem ib1 : Is3 (φ := .bf16) (l := 1) (n := 512) (m := 4096) (iblk m c 1 t) fun _ r k => D.u (t.val / 4) (t.val % 4 * 512 + r) k := fun i => by
  obtain ⟨f0, f1, f2⟩ := emb1 t i
  exact (congrFun (V_args m c 1) ((win0_1.rect t).emb i)).trans ((h.u ((win0_1.rect t).emb i)).trans (at3 D.u f0 f1 f2))

include h in
theorem ib2 : Is3 (φ := .f32) (l := 1) (n := 512) (m := 1024) (iblk m c 2 t) fun _ r k => D.x (t.val / 4) (t.val % 4 * 512 + r) k := fun i => by
  obtain ⟨f0, f1, f2⟩ := emb2 t i
  exact (congrFun (V_args m c 4) ((win0_2.rect t).emb i)).trans ((h.x ((win0_2.rect t).emb i)).trans (at3 D.x f0 f1 f2))

include h in
theorem ib3 : Is3 (φ := .f32) (l := 1) (n := 512) (m := 1024) (iblk m c 3 t) fun _ r k => D.gx (t.val / 4) (t.val % 4 * 512 + r) k := fun i => by
  obtain ⟨f0, f1, f2⟩ := emb3 t i
  exact (congrFun (V_args m c 5) ((win0_3.rect t).emb i)).trans ((h.gx ((win0_3.rect t).emb i)).trans (at3 D.gx f0 f1 f2))

include h in
theorem ib4 : Is3 (φ := .f32) (l := 1) (n := 6) (m := 1024) (iblk m c 4 t) fun _ r k => D.md (t.val / 4) r k := fun i => by
  obtain ⟨f0, f1, f2⟩ := emb4 t i
  exact (congrFun (V_args m c 6) ((win0_4.rect t).emb i)).trans ((h.md ((win0_4.rect t).emb i)).trans (at3 D.md f0 f1 f2))

include h in
theorem ib5 : Is2 (φ := .f32) (n := 1) (m := 1024) (iblk m c 5 t) fun _ k => D.g k := fun i => by
  obtain ⟨f0, f1⟩ := emb5 t i
  exact (congrFun (V_args m c 7) ((win0_5.rect t).emb i)).trans ((h.g ((win0_5.rect t).emb i)).trans (at2 (fun _ => D.g) f0 f1))

end Blocks

end Cert.Mlp.Kern
-- ==== Proof.MlpEnds.lean ====
/- What the second call's grid points leave, one after another, and its four result arrays whole. -/
module

public import proofs.«01_k».proof.Proof.MlpOps

@[expose] public section

set_option maxRecDepth 16384

noncomputable section

namespace Cert.Mlp.Kern

open Cert.Kernel2Ideal Cert.Kernel2Ideal.Gen Cert.Kernel2Ideal.Value Idealize.ShloMosaic Idealize.ShloMosaic.ValueIdx Idealize.ShloMosaic.TcCoe Idealize.SL.Sem
open Idealize.ShloMosaic.StableHlo
open Idealize.ShloMosaic.Pipeline (Dat)
open Finset (range sum_congr)

/-! ## The running sums -/

section Sums
variable (D : Data)

/-- The modulation's two gradients over image `b`'s first `N` rows. -/
def A8 (b N j e : ℕ) : EReal :=
  if j = 0 then ∑ s ∈ range N, DH D b s e * (XN D b s e * D.g e) else if j = 1 then ∑ s ∈ range N, DH D b s e else 0
/-- The scale's gradient over the first `N` rows. -/
def A9 (N j e : ℕ) : EReal := if j = 0 then ∑ r ∈ range N, DN D (r / 2048) (r % 2048) e * XN D (r / 2048) (r % 2048) e else 0

/-- The parts that point (b, q) adds. -/
abbrev P8 (b q : ℕ) : ℕ → ℕ → EReal := T8 (fun r => D.dy b (q * 512 + r)) (fun r => D.u b (q * 512 + r)) (fun r => D.x b (q * 512 + r)) D.g D.wd D.wu
abbrev P9 (b q : ℕ) : ℕ → ℕ → EReal := T9 (fun r => D.dy b (q * 512 + r)) (fun r => D.u b (q * 512 + r)) (fun r => D.x b (q * 512 + r)) (D.md b) D.wd D.wu

theorem A8_step (b q j e : ℕ) : A8 D b (q * 512) j e + P8 D b q j e = A8 D b ((q + 1) * 512) j e := by
  unfold A8 P8 T8
  by_cases j0 : j = 0
  · simp only [if_pos j0]
    exact step (fun s => DH D b s e * (XN D b s e * D.g e)) q
  · by_cases j1 : j = 1
    · simp only [if_neg j0, if_pos j1]
      exact step (fun s => DH D b s e) q
    · simp only [if_neg j0, if_neg j1, add_zero]

theorem A8_first (b j e : ℕ) : P8 D b 0 j e = A8 D b ((0 + 1) * 512) j e := by
  rw [← A8_step]
  unfold A8
  simp

theorem A9_step (t j e : ℕ) : A9 D (t * 512) j e + P9 D (t / 4) (t % 4) j e = A9 D ((t + 1) * 512) j e := by
  unfold A9 P9 T9
  by_cases j0 : j = 0
  · simp only [if_pos j0]
    rw [← step (fun r => DN D (r / 2048) (r % 2048) e * XN D (r / 2048) (r % 2048) e) t]
    refine congrArg₂ (· + ·) rfl (sum_congr rfl fun r _ => ?_)
    have hr : r.val < 512 := r.isLt
    rw [show (t * 512 + r.val) / 2048 = t / 4 by omega, show (t * 512 + r.val) % 2048 = t % 4 * 512 + r.val by omega]
    rfl
  · simp only [if_neg j0, add_zero]

theorem A9_first (j e : ℕ) : P9 D 0 0 j e = A9 D ((0 + 1) * 512) j e := by
  rw [← A9_step D 0]
  unfold A9
  simp

end Sums

/-! ## The points in order -/

/-- What the buffers hold after point `t`. -/
structure St (D : Data) (t : ℕ) (o : Vec Ideal S1x512x4096 .bf16 × Vec Ideal S1x512x1024 .f32 × Vec Ideal S1x8x1024 .f32 × Vec Ideal S8x1024 .f32
    × Vec Ideal S4096x1024 .bf16 × Vec Ideal S4x1024x1024 .bf16) : Prop where
  d : Is3 (φ := .bf16) o.1 fun _ r n => DU D (t / 4) (t % 4 * 512 + r) n
  x : Is3 (φ := .f32) o.2.1 fun _ r e => GX D (t / 4) (t % 4 * 512 + r) e
  a : Is3 (φ := .f32) o.2.2.1 fun _ j e => A8 D (t / 4) ((t % 4 + 1) * 512) j e
  b : Is2 (φ := .f32) o.2.2.2.1 fun j e => A9 D ((t + 1) * 512) j e
  s : Is2 (φ := .bf16) o.2.2.2.2.1 D.wd
  w : Is3 (φ := .bf16) o.2.2.2.2.2 fun a e n => D.wu e (a * 1024 + n)

theorem St.of {D : Data} {t : ℕ} {o6 : Vec Ideal S1x512x4096 .bf16} {o7 : Vec Ideal S1x512x1024 .f32} {o8 : Vec Ideal S1x8x1024 .f32} {o9 : Vec Ideal S8x1024 .f32}
    {s0 : Vec Ideal S4096x1024 .bf16} {s1 : Vec Ideal S4x1024x1024 .bf16} {f8 f9 : ℕ → ℕ → EReal}
    (h : (Is3 (φ := .bf16) o6 fun _ r n => du D.wd (D.dy (t / 4) (t % 4 * 512 + r)) (D.u (t / 4) (t % 4 * 512 + r)) n)
      ∧ (Is3 (φ := .f32) o7 fun _ r e => gxo (D.x (t / 4) (t % 4 * 512 + r)) (D.gx (t / 4) (t % 4 * 512 + r))
          (dn (dh D.wu (du D.wd (D.dy (t / 4) (t % 4 * 512 + r)) (D.u (t / 4) (t % 4 * 512 + r)))) (D.md (t / 4) 4)) D.g e)
      ∧ (Is3 (φ := .f32) o8 fun _ j e => f8 j e) ∧ (Is2 (φ := .f32) o9 fun j e => f9 j e))
    (h8 : ∀ j e, f8 j e = A8 D (t / 4) ((t % 4 + 1) * 512) j e) (h9 : ∀ j e, f9 j e = A9 D ((t + 1) * 512) j e)
    (hs : Is2 (φ := .bf16) s0 D.wd) (hw : Is3 (φ := .bf16) s1 fun a e n => D.wu e (a * 1024 + n)) : St D t (o6, o7, o8, o9, s0, s1) :=
  ⟨h.1, h.2.1, h.2.2.1.congr fun _ j e => h8 j e, h.2.2.2.congr h9, hs, hw⟩

section Points
variable (m : (ℓ : Loc nD τ sig) → Buf (Elt Ideal) ℓ) (c : Dev nD) {D : Data} (h : IsM m c D)
include h

theorem st_A (t : Fin cfg0.N) (t0 : t.val = 0) : St D t.val (outsAt0 m c t.val t.isLt) := by
  have h0 : t.val % 4 = 0 := by omega
  have h1 : t.val % 8 = 0 := by omega
  rw [outsAt0_A m c t h0 h1 h1 h1]
  refine St.of (pointA _ _ _ _ _ _ _ _ _ _ _ _ _ _ _ _ _ _ _ _ _ _ _ _ _ _ _ _ _ _ _ _ _ _ _ _ _ _ (dy := fun r => D.dy (t.val / 4) (t.val % 4 * 512 + r)) (u := fun r => D.u (t.val / 4) (t.val % 4 * 512 + r)) (x := fun r => D.x (t.val / 4) (t.val % 4 * 512 + r)) (gx := fun r => D.gx (t.val / 4) (t.val % 4 * 512 + r)) (md := D.md (t.val / 4)) (g := D.g) (wd := D.wd) (wu := D.wu)
    (ib0 m c t h) (ib1 m c t h) (ib2 m c t h) (ib3 m c t h) (ib4 m c t h) (ib5 m c t h) (v2 m c h) (v3 m c h)) (fun j e => ?_) (fun j e => ?_)
    (scratchA _ _ _ _ _ _ _ _ _ _ _ _ _ _ _ _ _ _ _ _ _ _ _ _ _ _ _ _ _ _ _ _ _ _ _ _ _ _ (wd := D.wd) (wu := D.wu) (v2 m c h) (v3 m c h)).1 (scratchA _ _ _ _ _ _ _ _ _ _ _ _ _ _ _ _ _ _ _ _ _ _ _ _ _ _ _ _ _ _ _ _ _ _ _ _ _ _ (wd := D.wd) (wu := D.wu) (v2 m c h) (v3 m c h)).2
  · rw [t0]; exact A8_first D _ j e
  · rw [t0]; exact A9_first D j e

theorem st_B (t : Fin cfg0.N) (h0 : ¬t.val % 4 = 0) (hp : St D (t.val - 1) (outsAt0 m c (t.val - 1) (Nat.lt_of_le_of_lt (Nat.sub_le _ _) t.isLt))) : St D t.val (outsAt0 m c t.val t.isLt) := by
  have h1 : ¬t.val % 8 = 0 := by omega
  rw [outsAt0_B m c t h0 h1 h1 h1]
  refine St.of (pointB _ _ _ _ _ _ _ _ _ _ _ _ _ _ _ _ _ _ _ _ _ _ _ _ _ _ _ _ _ _ _ _ _ _ _ _ _ _ _ _ _ _ (dy := fun r => D.dy (t.val / 4) (t.val % 4 * 512 + r)) (u := fun r => D.u (t.val / 4) (t.val % 4 * 512 + r)) (x := fun r => D.x (t.val / 4) (t.val % 4 * 512 + r)) (gx := fun r => D.gx (t.val / 4) (t.val % 4 * 512 + r)) (md := D.md (t.val / 4)) (g := D.g) (wd := D.wd) (wu := D.wu) (o8 := A8 D (t.val / 4) (t.val % 4 * 512)) (o9 := A9 D (t.val * 512))
    (ib0 m c t h) (ib1 m c t h) (ib2 m c t h) (ib3 m c t h) (ib4 m c t h) (ib5 m c t h) hp.s hp.w (hp.b.congr fun j e => ?_) (hp.a.congr fun _ j e => ?_)) (fun j e => ?_) (fun j e => ?_) hp.s hp.w
  · rw [show t.val - 1 + 1 = t.val by omega]
  · rw [show (t.val - 1) / 4 = t.val / 4 by omega, show (t.val - 1) % 4 + 1 = t.val % 4 by omega]
  · exact A8_step D _ _ j e
  · exact A9_step D _ j e

theorem st_C (t : Fin cfg0.N) (h0 : t.val % 4 = 0) (h1 : ¬t.val % 8 = 0) (hp : St D (t.val - 1) (outsAt0 m c (t.val - 1) (Nat.lt_of_le_of_lt (Nat.sub_le _ _) t.isLt))) : St D t.val (outsAt0 m c t.val t.isLt) := by
  rw [outsAt0_C m c t h0 h1 h1 h1]
  refine St.of (pointC _ _ _ _ _ _ _ _ _ _ _ _ _ _ _ _ _ _ _ _ _ _ _ _ _ _ _ _ _ _ _ _ _ _ _ _ _ _ _ _ _ (dy := fun r => D.dy (t.val / 4) (t.val % 4 * 512 + r)) (u := fun r => D.u (t.val / 4) (t.val % 4 * 512 + r)) (x := fun r => D.x (t.val / 4) (t.val % 4 * 512 + r)) (gx := fun r => D.gx (t.val / 4) (t.val % 4 * 512 + r)) (md := D.md (t.val / 4)) (g := D.g) (wd := D.wd) (wu := D.wu) (o9 := A9 D (t.val * 512))
    (ib0 m c t h) (ib1 m c t h) (ib2 m c t h) (ib3 m c t h) (ib4 m c t h) (ib5 m c t h) hp.s hp.w (hp.b.congr fun j e => ?_)) (fun j e => ?_) (fun j e => ?_) hp.s hp.w
  · rw [show t.val - 1 + 1 = t.val by omega]
  · rw [h0]; exact A8_first D _ j e
  · exact A9_step D _ j e

theorem st : ∀ (n : ℕ) (hn : n < cfg0.N), St D n (outsAt0 m c n hn)
  | 0, hn => st_A m c h ⟨0, hn⟩ rfl
  | n + 1, hn => by
    have hN : n + 1 < 8 := lt_of_lt_of_eq hn (show cfg0.N = 8 from N_0)
    have hp := st n (Nat.lt_of_succ_lt hn)
    by_cases h0 : (n + 1) % 4 = 0
    · exact st_C m c h ⟨n + 1, hn⟩ h0 (by show ¬(n + 1) % 8 = 0; omega) hp
    · exact st_B m c h ⟨n + 1, hn⟩ h0 hp

end Points

/-! ## The result arrays -/

section Finals
variable (m : (ℓ : Loc nD τ sig) → Buf (Elt Ideal) ℓ) (c : Dev nD) (t : Fin cfg0.N) {D : Data} (h : IsM m c D)

/-- The cotangent of the hidden values, whole; the rows' gradient; the modulation's and the scale's gradients in their first rows. -/
def Gdu (D : Data) : S2x2048x4096.Idx → EReal := fun i => (DU D (i 0).val (i 1).val (i 2).val)
def Ggx (D : Data) : S2x2048x1024.Idx → EReal := fun i => (GX D (i 0).val (i 1).val (i 2).val)
def Gmod (D : Data) : S2x8x1024.Idx → EReal := fun i => (A8 D (i 0).val (4 * 512) (i 1).val (i 2).val)
def Gg (D : Data) : S8x1024.Idx → EReal := fun i => (A9 D (8 * 512) (i 0).val (i 1).val)

include h in
theorem flushed_du : (dats m 0 c).flushed 6 t = ((cfg0.win 6).blk t).view.read (Elt Ideal) (Gdu D) := by
  rw [flushed6]
  funext i
  obtain ⟨f0, f1, f2⟩ := emb6 t i
  exact ((st m c h t.val t.isLt).d i).trans (at3 (DU D) f0.symm f1.symm f2.symm)

include h in
theorem flushed_gx : (dats m 0 c).flushed 7 t = ((cfg0.win 7).blk t).view.read (Elt Ideal) (Ggx D) := by
  rw [flushed7]
  funext i
  obtain ⟨f0, f1, f2⟩ := emb7 t i
  exact ((st m c h t.val t.isLt).x i).trans (at3 (GX D) f0.symm f1.symm f2.symm)

include h in
theorem flushed_mod (hf : (cfg0.win 8).flush t = true) : (dats m 0 c).flushed 8 t = ((cfg0.win 8).blk t).view.read (Elt Ideal) (Gmod D) := by
  have ht : t.val % 4 = 3 := (by decide +kernel : ∀ t : Fin grid0.N, win0_8.flush t = true → t.val % 4 = 3) t hf
  rw [flushed8]
  funext i
  obtain ⟨f0, f1, f2⟩ := emb8 t i
  refine ((st m c h t.val t.isLt).a i).trans ?_
  rw [ht]
  exact at3 (fun b j e => A8 D b (4 * 512) j e) f0.symm f1.symm f2.symm

include h in
theorem flushed_g (hf : (cfg0.win 9).flush t = true) : (dats m 0 c).flushed 9 t = ((cfg0.win 9).blk t).view.read (Elt Ideal) (Gg D) := by
  have ht : t.val = 7 := (by decide +kernel : ∀ t : Fin grid0.N, win0_9.flush t = true → t.val = 7) t hf
  rw [flushed9]
  funext i
  obtain ⟨f0, f1⟩ := emb9 t i
  refine ((st m c h t.val t.isLt).b i).trans ?_
  rw [ht]
  exact at2 (fun j e => A9 D (8 * 512) j e) f0.symm f1.symm

include h in
theorem final_du : (dats m 0 c).arrAt 6 cfg0.N = Gdu D :=
  (dats m 0 c).arrAt_eq_of_cover 6 (Gdu D) (fun t _ => flushed_du m c t h) ((by decide +kernel : win0_6.Covers).cover _ (Memref.isWhole_whole _))

include h in
theorem final_gx : (dats m 0 c).arrAt 7 cfg0.N = Ggx D :=
  (dats m 0 c).arrAt_eq_of_cover 7 (Ggx D) (fun t _ => flushed_gx m c t h) ((by decide +kernel : win0_7.Covers).cover _ (Memref.isWhole_whole _))

include h in
theorem final_mod : (dats m 0 c).arrAt 8 cfg0.N = Gmod D :=
  (dats m 0 c).arrAt_eq_of_cover 8 (Gmod D) (fun t hf => flushed_mod m c t h hf) ((by decide +kernel : win0_8.Covers).cover _ (Memref.isWhole_whole _))

include h in
theorem final_g : (dats m 0 c).arrAt 9 cfg0.N = Gg D :=
  (dats m 0 c).arrAt_eq_of_cover 9 (Gg D) (fun t hf => flushed_g m c t h hf) ((by decide +kernel : win0_9.Covers).cover _ (Memref.isWhole_whole _))

end Finals

/-- The three sums over all rows. -/
theorem A8_eq (D : Data) (b j e : ℕ) : A8 D b (4 * 512) j e = if j = 0 then SC D b e else if j = 1 then SH D b e else 0 := by
  unfold A8 SC SH
  rw [Fin.sum_univ_eq_sum_range (fun s => DH D b s e * (XN D b s e * D.g e)) 2048, Fin.sum_univ_eq_sum_range (fun s => DH D b s e) 2048]
theorem A9_eq (D : Data) (j e : ℕ) : A9 D (8 * 512) j e = if j = 0 then GG D e else 0 := by
  unfold A9
  rw [GG_eq]

end Cert.Mlp.Kern
-- ==== Proof.MlpRef.lean ====
/- The second reference's operations read one at a time as functions of the coordinates. -/
module

public import proofs.«01_k».proof.Proof.Gen.Reference2Ideal.Read
public import proofs.«01_k».proof.Proof.MlpArgs

@[expose] public section

set_option maxRecDepth 16384

noncomputable section

namespace Cert.Mlp.Ref

open Cert.Reference2Ideal Cert.Reference2Ideal.Gen Cert.Reference2Ideal.Read Cert.Branch Cert.Mlp Cert.Mlp.Kern
open Idealize.ShloMosaic Idealize.ShloMosaic.ValueIdx Idealize.ShloMosaic.StableHlo

/-- A sum over the entries whose last coordinate is given is a double sum over the two others. -/
theorem sum01 {n m l : ℕ} (hr : (⟨3, ![n, m, l]⟩ : Shape).ReducesTo [0, 1] ⟨1, ![l]⟩) (x : (⟨3, ![n, m, l]⟩ : Shape).Idx → EReal)
    (j : (⟨1, ![l]⟩ : Shape).Idx) :
    (∑ i ∈ Finset.univ.filter (fun i => hr.drop i = j), x i) = ∑ b : Fin n, ∑ s : Fin m, x (ix3 b s (j 0)) := by
  have hd : ∀ i : (⟨3, ![n, m, l]⟩ : Shape).Idx, ((hr.drop i) 0).val = (i 2).val := fun i => rfl
  rw [← Finset.sum_product']
  refine Finset.sum_bij' (fun i _ => ((i 0 : Fin n), (i 1 : Fin m))) (fun p _ => ix3 p.1 p.2 (j 0)) ?_ ?_ ?_ ?_ ?_
  · exact fun _ _ => Finset.mem_product.mpr ⟨Finset.mem_univ _, Finset.mem_univ _⟩
  · refine fun p _ => Finset.mem_filter.mpr ⟨Finset.mem_univ _, funext fun a => ?_⟩
    match a with
    | ⟨0, _⟩ => exact Fin.ext (hd _)
  · intro i hi
    have h2 : (i 2).val = (j 0).val := by rw [← (Finset.mem_filter.mp hi).2]; exact (hd i).symm
    funext a
    match a with
    | ⟨0, _⟩ => rfl
    | ⟨1, _⟩ => rfl
    | ⟨2, _⟩ => exact Fin.ext h2.symm
  · exact fun _ _ => rfl
  · intro i hi
    have h2 : (i 2).val = (j 0).val := by rw [← (Finset.mem_filter.mp hi).2]; exact (hd i).symm
    refine congrArg x (funext fun a => ?_)
    match a with
    | ⟨0, _⟩ => rfl
    | ⟨1, _⟩ => rfl
    | ⟨2, _⟩ => exact Fin.ext h2

/-- The constant zero is no summand. -/
theorem zadd (r : EReal) : (FloatOps.ofBits (F := Ideal) .f32 0x00000000#32 : EReal) + r = r := by
  rw [czero, zero_add]

variable {D : Data} {x0 : (⟨S2x2048x1024, .bf16⟩ : BufTy).Contents (Elt Ideal)} {x1 : (⟨S2x2048x4096, .bf16⟩ : BufTy).Contents (Elt Ideal)}
  {x2 : (⟨S4096x1024, .f32⟩ : BufTy).Contents (Elt Ideal)} {x3 : (⟨S1024x4096, .f32⟩ : BufTy).Contents (Elt Ideal)}
  {x4 x5 : (⟨S2x2048x1024, .f32⟩ : BufTy).Contents (Elt Ideal)} {x6 : (⟨S2x6x1024, .f32⟩ : BufTy).Contents (Elt Ideal)}
  {x7 : (⟨S1x1024, .f32⟩ : BufTy).Contents (Elt Ideal)} (h : Is D x0 x1 x2 x3 x4 x5 x6 x7)

include h in
theorem r15 (i : S2x2048x4096.Idx) : val_main_v15 (F := Ideal) x0 x1 x2 i = (DU D (i 0).val (i 1).val (i 2).val) := by
  have h12 : val_main_v12 (F := Ideal) x0 x2 i = (∑ k : Fin 1024, D.dy (i 0).val (i 1).val k * D.wd (i 2).val k) := by
    rw [val_main_v12_apply]
    refine Finset.sum_congr rfl fun k _ => ?_
    have e : val_main_v11 (F := Ideal) x0 (lidx_main_v12 i k) = (D.dy (i 0).val (i 1).val k) := h.dy _
    have e' : x2 (ridx_main_v12 i k) = (D.wd (i 2).val k) := h.wd _
    rw [e, e']
  have h2 : val_main_v2 (F := Ideal) x1 i = (D.u (i 0).val (i 1).val (i 2).val) := h.u i
  have h9 : val_main_v9 (F := Ideal) x1 i = (two * max (D.u (i 0).val (i 1).val (i 2).val) 0) := by
    have e8 : val_main_v8 (F := Ideal) i = two := by rw [val_main_v8_apply, val_main_cst_1_apply]; exact ctwo
    have e3 : val_main_v3 (F := Ideal) x1 i = (max (D.u (i 0).val (i 1).val (i 2).val) 0) := by
      have e : val_main_v3 (F := Ideal) x1 i = max (val_main_v2 (F := Ideal) x1 i) (FloatOps.ofBits (F := Ideal) .f32 0x00000000#32) := rfl
      rw [e, h2, czero]
    rw [val_main_v9_apply, e8, e3]; rfl
  have h13 : val_main_v13 (F := Ideal) x0 x1 x2 i = (DU D (i 0).val (i 1).val (i 2).val) := by
    rw [val_main_v13_apply, h12, h9]; rfl
  have h14 : val_main_v14 (F := Ideal) i = (0) := by rw [val_main_v14_apply, val_main_cst_2_apply]; exact czero
  have h5 : val_main_v5 (F := Ideal) x1 i = Ideal.cmp .ogt (D.u (i 0).val (i 1).val (i 2).val) (0) := by
    rw [val_main_v5_apply, h2, val_main_v4_apply, val_main_cst_apply, czero]; rfl
  rw [val_main_v15_apply, h13, h14, h5]
  by_cases hu : 0 < D.u (i 0).val (i 1).val (i 2).val
  · have e : Ideal.cmp .ogt (D.u (i 0).val (i 1).val (i 2).val) (0) = 1 := by
      unfold Ideal.cmp; simp only [gt_iff_lt]; rw [decide_eq_true hu]; rfl
    rw [e]; rfl
  · have e : Ideal.cmp .ogt (D.u (i 0).val (i 1).val (i 2).val) (0) = 0 := by
      unfold Ideal.cmp; simp only [gt_iff_lt]; rw [decide_eq_false hu]; rfl
    have z : DU D (i 0).val (i 1).val (i 2).val = 0 := by
      unfold DU du; rw [max_eq_right (not_lt.mp hu), mul_zero, mul_zero]
    rw [e, z]; rfl

include h in
theorem r69 (i : S2x2048x4096.Idx) : val_main_v69 (F := Ideal) x0 x1 x2 i = (DU D (i 0).val (i 1).val (i 2).val) := r15 h i

include h in
theorem r39 (i : S2x2048x1024.Idx) : val_main_v39 (F := Ideal) x0 x1 x2 x3 i = (DH D (i 0).val (i 1).val (i 2).val) := by
  rw [val_main_v39_apply]
  unfold DH dh
  refine Finset.sum_congr rfl fun k _ => ?_
  have e' : x3 (ridx_main_v39 i k) = (D.wu (i 2).val k) := h.wu _
  rw [r15 h, e']

include h in
theorem r22 (i : S2x2048x1.Idx) : val_main_v22 (F := Ideal) x4 i = (ms (D.x (i 0).val (i 1).val)) := by
  have e21 : val_main_v21 (F := Ideal) i = (eps) := by rw [val_main_v21_apply, val_main_cst_5_apply]; exact ceps
  have e19 : val_main_v19 (F := Ideal) i = len := by rw [val_main_v19_apply, val_main_cst_4_apply]; exact clen
  have e18 : val_main_v18 (F := Ideal) x4 i = (∑ k : Fin 1024, D.x (i 0).val (i 1).val k * D.x (i 0).val (i 1).val k) := by
    rw [val_main_v18_apply, val_main_v17_apply, val_main_cst_3_apply]
    refine (zadd _).trans ?_
    refine Finset.sum_congr rfl fun k _ => ?_
    have e : x4 (idx_main_v17 (idx_main_v18 i) k) = (D.x (i 0).val (i 1).val k) := h.x _
    rw [val_main_v16_apply, e]; rfl
  have e20 : val_main_v20 (F := Ideal) x4 i = Ideal.div (∑ k : Fin 1024, D.x (i 0).val (i 1).val k * D.x (i 0).val (i 1).val k) len := by
    rw [val_main_v20_apply, e18, e19]; rfl
  rw [val_main_v22_apply, e20, e21]; rfl

include h in
theorem r23 (i : S2x2048x1.Idx) : val_main_v23 (F := Ideal) x4 i = (rr (D.x (i 0).val (i 1).val)) := by
  rw [val_main_v23_apply, r22 h]
  rfl

include h in
theorem r26 (i : S2x2048x1.Idx) : val_main_v26 (F := Ideal) x4 i = (mhalf * Ideal.div (rr (D.x (i 0).val (i 1).val)) (ms (D.x (i 0).val (i 1).val))) := by
  have e25 : val_main_v25 (F := Ideal) i = mhalf := by rw [val_main_v25_apply, val_main_cst_6_apply]; exact cmhalf
  have e24 : val_main_v24 (F := Ideal) x4 i = (Ideal.div (rr (D.x (i 0).val (i 1).val)) (ms (D.x (i 0).val (i 1).val))) := by
    rw [val_main_v24_apply, r23 h, r22 h]
    rfl
  rw [val_main_v26_apply, e25, e24]; rfl

include h in
theorem r28 (i : S2x2048x1024.Idx) : val_main_v28 (F := Ideal) x4 i = (XN D (i 0).val (i 1).val (i 2).val) := by
  have e : x4 i = (D.x (i 0).val (i 1).val (i 2).val) := h.x i
  rw [val_main_v28_apply, val_main_v27_apply, r23 h, e]; rfl

include h in
theorem r31 (i : S2x2048x1024.Idx) : val_main_v31 (F := Ideal) x4 x7 i = (XN D (i 0).val (i 1).val (i 2).val * D.g (i 2).val) := by
  have e : x7 (idx_main_v29 (idx_main_v30 i)) = (D.g (i 2).val) := h.g _
  rw [val_main_v31_apply, r28 h, val_main_v30_apply, val_main_v29_apply, e]; rfl

include h in
theorem r45 (i : S2x2048x1024.Idx) : val_main_v45 (F := Ideal) x6 i = (1 + D.md (i 0).val 4 (i 2).val) := by
  have e : x6 (idx_main_v1 (idx_main_v45 i)) = (D.md (i 0).val 4 (i 2).val) := h.md _
  have e32 : val_main_v32 (F := Ideal) (idx_main_v45 i) = (1) := by rw [val_main_v32_apply, val_main_cst_7_apply]; exact c1.trans EReal.coe_one
  rw [val_main_v45_apply, val_main_v33_apply, val_main_v1_apply, e, e32]; rfl

include h in
theorem r46 (i : S2x2048x1024.Idx) : val_main_v46 (F := Ideal) x0 x1 x2 x3 x6 i = (DN D (i 0).val (i 1).val (i 2).val) := by
  rw [val_main_v46_apply, r39 h, r45 h]; rfl

include h in
theorem r41 (i : S2x1x1024.Idx) : val_main_v41 (F := Ideal) x0 x1 x2 x3 i = (SH D (i 0).val (i 2).val) := by
  have h0 : (i 0).val < 2 := (i 0).isLt
  have h1 : (i 1).val < 1 := (i 1).isLt
  have h2 : (i 2).val < 1024 := (i 2).isLt
  rw [val_main_v41_apply, val_main_v40_apply, val_main_cst_8_apply]
  refine (zadd _).trans ?_
  unfold SH
  refine Finset.sum_congr rfl fun k _ => ?_
  rw [r39 h]
  refine (congrArg₂ (fun a b => DH D a k b) ?_ ?_)
  · show (((i 0).val * 1 + (i 1).val) * 1024 + (i 2).val) / 1024 = (i 0).val
    omega
  · show (((i 0).val * 1 + (i 1).val) * 1024 + (i 2).val) % 1024 = (i 2).val
    omega

include h in
theorem r44 (i : S2x1x1024.Idx) : val_main_v44 (F := Ideal) x0 x1 x2 x3 x4 x7 i = (SC D (i 0).val (i 2).val) := by
  have h0 : (i 0).val < 2 := (i 0).isLt
  have h1 : (i 1).val < 1 := (i 1).isLt
  have h2 : (i 2).val < 1024 := (i 2).isLt
  rw [val_main_v44_apply, val_main_v43_apply, val_main_cst_9_apply]
  refine (zadd _).trans ?_
  unfold SC
  refine Finset.sum_congr rfl fun k _ => ?_
  rw [val_main_v42_apply, r31 h, r39 h]
  refine (mul_comm _ _).trans ?_
  refine congrArg₂ (fun a b => DH D a k b * (XN D a k b * D.g b)) ?_ ?_
  · show (((i 0).val * 1 + (i 1).val) * 1024 + (i 2).val) / 1024 = (i 0).val
    omega
  · show (((i 0).val * 1 + (i 1).val) * 1024 + (i 2).val) % 1024 = (i 2).val
    omega

include h in
theorem r47 (i : S2x2048x1024.Idx) : val_main_v47 (F := Ideal) x0 x1 x2 x3 x4 x6 i = (DN D (i 0).val (i 1).val (i 2).val * XN D (i 0).val (i 1).val (i 2).val) := by
  rw [val_main_v47_apply, r28 h, r46 h, mul_comm (DN D _ _ _)]; rfl

include h in
theorem r48 (i : S1024.Idx) : val_main_v48 (F := Ideal) x0 x1 x2 x3 x4 x6 i = (GG D (i 0).val) := by
  have e : val_main_v48 (F := Ideal) x0 x1 x2 x3 x4 x6 i = (val_main_cst_10 (F := Ideal)) (Shape.Idx.first h_S_)
      + ∑ b : Fin 2, ∑ s : Fin 2048, val_main_v47 (F := Ideal) x0 x1 x2 x3 x4 x6 (ix3 b s (i 0)) := by
    rw [← sum01 reducesTo_S2x2048x1024_S1024_d0_1]; rfl
  rw [e, val_main_cst_10_apply]
  refine (zadd _).trans ?_
  unfold GG
  refine Finset.sum_congr rfl fun b _ => ?_
  exact Finset.sum_congr rfl fun s _ => r47 h _

include h in
theorem r53 (i : S1x1024.Idx) : val_main_v53 (F := Ideal) x0 x1 x2 x3 x4 x6 i = (GG D (i 1).val) := by
  have e : val_main_v52 (F := Ideal) x0 x1 x2 x3 x4 x6 (idx_main_v53 i) = (val_main_cst_11 (F := Ideal)) (Shape.Idx.first h_S_)
      + ∑ b : Fin 1, ∑ s : Fin 1, val_main_v49 (F := Ideal) x0 x1 x2 x3 x4 x6 (ix3 b s ((idx_main_v53 i) 0)) := by
    rw [← sum01 (j := idx_main_v53 i) reducesTo_S1x1x1024_S1024_d0_1]; rfl
  rw [val_main_v53_apply, e, val_main_cst_11_apply, Fin.sum_univ_one, Fin.sum_univ_one, val_main_v49_apply, r48 h, zadd]
  refine congrArg (GG D) ?_
  have h2 : (i 1).val < 1024 := (i 1).isLt
  show (0 * 1 + 0) * 1024 + (i 1).val = (i 1).val
  omega

include h in
theorem r51 (i : S2x2048x1024.Idx) : val_main_v51 (F := Ideal) x0 x1 x2 x3 x6 x7 i = (DN D (i 0).val (i 1).val (i 2).val * D.g (i 2).val) := by
  have e : x7 (idx_main_v29 (idx_main_v50 i)) = (D.g (i 2).val) := h.g _
  rw [val_main_v51_apply, r46 h, val_main_v50_apply, val_main_v29_apply, e]; rfl

include h in
theorem r62 (i : S2x2048x1.Idx) : val_main_v62 (F := Ideal) x0 x1 x2 x3 x4 x6 x7 i = tt (D.x (i 0).val (i 1).val) (DN D (i 0).val (i 1).val) D.g := by
  have h0 : (i 0).val < 2 := (i 0).isLt
  have h1 : (i 1).val < 2048 := (i 1).isLt
  have h2 : (i 2).val < 1 := (i 2).isLt
  have e56 : val_main_v56 (F := Ideal) x0 x1 x2 x3 x4 x6 x7 i = ((∑ k : Fin 1024, D.x (i 0).val (i 1).val k * (DN D (i 0).val (i 1).val k * D.g k))) := by
    rw [val_main_v56_apply, val_main_v55_apply, val_main_cst_12_apply]
    refine (zadd _).trans ?_
    refine Finset.sum_congr rfl fun k _ => ?_
    have e : x4 (idx_main_v55 (idx_main_v56 i) k) = (D.x ((idx_main_v56 i) 0).val ((idx_main_v56 i) 1).val k) := h.x _
    rw [val_main_v54_apply, r51 h, e]
    refine congrArg₂ (fun a b => D.x a b k * (DN D a b k * D.g k)) ?_ ?_
    · show (((i 0).val * 2048 + (i 1).val) * 1 + (i 2).val) / 2048 = (i 0).val
      omega
    · show (((i 0).val * 2048 + (i 1).val) * 1 + (i 2).val) % 2048 = (i 1).val
      omega
  have e61 : val_main_v61 (F := Ideal) i = len := by rw [val_main_v61_apply, val_main_cst_13_apply]; exact clen
  have e60 : val_main_v60 (F := Ideal) x0 x1 x2 x3 x4 x6 x7 i = ((∑ k : Fin 1024, D.x (i 0).val (i 1).val k * (DN D (i 0).val (i 1).val k * D.g k)) * (mhalf * Ideal.div (rr (D.x (i 0).val (i 1).val)) (ms (D.x (i 0).val (i 1).val)))) := by
    rw [val_main_v60_apply, e56, r26 h]; rfl
  rw [val_main_v62_apply, e60, e61]; rfl

include h in
theorem r64 (i : S2x2048x1024.Idx) : val_main_v64 (F := Ideal) x0 x1 x2 x3 x4 x6 x7 i = tt (D.x (i 0).val (i 1).val) (DN D (i 0).val (i 1).val) D.g := by
  rw [val_main_v64_apply, val_main_v63_apply, val_main_cst_14_apply, Fin.sum_univ_one, r62 h, zadd]

include h in
theorem r68 (i : S2x2048x1024.Idx) : val_main_v68 (F := Ideal) x0 x1 x2 x3 x4 x5 x6 x7 i = (GX D (i 0).val (i 1).val (i 2).val) := by
  have ex : x4 i = (D.x (i 0).val (i 1).val (i 2).val) := h.x i
  have eg : x5 i = (D.gx (i 0).val (i 1).val (i 2).val) := h.gx i
  have e58 : val_main_v58 (F := Ideal) x0 x1 x2 x3 x4 x6 x7 i = (DN D (i 0).val (i 1).val (i 2).val * D.g (i 2).val * rr (D.x (i 0).val (i 1).val)) := by
    rw [val_main_v58_apply, r51 h, val_main_v57_apply, r23 h]; rfl
  unfold GX
  rw [← gxo_eq _ _ _ _ _ (i 2).isLt, ← ex, ← eg, ← e58, ← r64 h i]
  rfl

theorem r70 (i : S2x6x1024.Idx) : val_main_v70 (F := Ideal)  i = (0) := by
  rw [val_main_v70_apply, val_main_cst_15_apply]; exact czero

theorem r72 (i : S7x1024.Idx) : val_main_v72 (F := Ideal)  i = (0) := by
  rw [val_main_v72_apply, val_main_cst_16_apply]; exact czero

include h in
theorem r71 (i : S2x8x1024.Idx) : val_main_v71 (F := Ideal) x0 x1 x2 x3 x4 x7 i = (if (i 1).val = 0 then SC D (i 0).val (i 2).val else if (i 1).val = 1 then SH D (i 0).val (i 2).val else 0) := by
  have h1 : (i 1).val < 8 := (i 1).isLt
  unfold val_main_v71
  by_cases j0 : (i 1).val = 0
  · rw [if_pos j0]
    refine (concatenate_apply_piece 1 _ _ i 0 (by show 0 < 3; decide) S2x1x1024 (val_main_v44 (F := Ideal) x0 x1 x2 x3 x4 x7) rfl rfl 0 rfl (ix3 (i 0) 0 (i 2)) (fun b hb => ?_) ?_).trans (r44 h _)
    · match b with
      | ⟨0, _⟩ => rfl
      | ⟨1, _⟩ => exact absurd rfl hb
      | ⟨2, _⟩ => rfl
    · show 0 + 0 = (i 1).val
      omega
  rw [if_neg j0]
  by_cases j1 : (i 1).val = 1
  · rw [if_pos j1]
    refine (concatenate_apply_piece 1 _ _ i 1 (by show 1 < 3; decide) S2x1x1024 (val_main_v41 (F := Ideal) x0 x1 x2 x3) rfl rfl 1 rfl (ix3 (i 0) 0 (i 2)) (fun b hb => ?_) ?_).trans (r41 h _)
    · match b with
      | ⟨0, _⟩ => rfl
      | ⟨1, _⟩ => exact absurd rfl hb
      | ⟨2, _⟩ => rfl
    · show 1 + 0 = (i 1).val
      omega
  rw [if_neg j1]
  refine (concatenate_apply_piece 1 _ _ i 2 (by show 2 < 3; decide) S2x6x1024 (val_main_v70 (F := Ideal)) rfl rfl 2 rfl (ix3 (i 0) ⟨(i 1).val - 2, by omega⟩ (i 2)) (fun b hb => ?_) ?_).trans (r70 _)
  · match b with
    | ⟨0, _⟩ => rfl
    | ⟨1, _⟩ => exact absurd rfl hb
    | ⟨2, _⟩ => rfl
  · show 2 + ((i 1).val - 2) = (i 1).val
    omega

include h in
theorem r73 (i : S8x1024.Idx) : val_main_v73 (F := Ideal) x0 x1 x2 x3 x4 x6 i = (if (i 0).val = 0 then GG D (i 1).val else 0) := by
  have h0 : (i 0).val < 8 := (i 0).isLt
  unfold val_main_v73
  by_cases j0 : (i 0).val = 0
  · rw [if_pos j0]
    refine (concatenate_apply_piece 0 _ _ i 0 (by show 0 < 2; decide) S1x1024 (val_main_v53 (F := Ideal) x0 x1 x2 x3 x4 x6) rfl rfl 0 rfl (ix2 0 (i 1)) (fun b hb => ?_) ?_).trans (r53 h _)
    · match b with
      | ⟨0, _⟩ => exact absurd rfl hb
      | ⟨1, _⟩ => rfl
    · show 0 + 0 = (i 0).val
      omega
  rw [if_neg j0]
  refine (concatenate_apply_piece 0 _ _ i 1 (by show 1 < 2; decide) S7x1024 (val_main_v72 (F := Ideal)) rfl rfl 1 rfl (ix2 ⟨(i 0).val - 1, by omega⟩ (i 1)) (fun b hb => ?_) ?_).trans (r72 _)
  · match b with
    | ⟨0, _⟩ => exact absurd rfl hb
    | ⟨1, _⟩ => rfl
  · show 1 + ((i 0).val - 1) = (i 0).val
    omega

end Cert.Mlp.Ref
-- ==== Proof.WgCommon.lean ====
/- Pieces that the two weight gradients of the channel mixer share: a stored piece that is the whole buffer, a sum in two halves,
   and an array read by its coordinates. -/
module

public import proofs.«01_k».proof.Proof.MlpLoad
public import proofs.«01_k».proof.Proof.MlpArgs
public import Idealize.ShloMosaic.Lib.TwoAxisContraction

@[expose] public section

set_option maxRecDepth 16384

noncomputable section

namespace Cert.Wg

open Cert.Mlp Cert.Mlp.Kern Idealize.ShloMosaic Idealize.ShloMosaic.ValueIdx Idealize.ShloMosaic.TcCoe Idealize.SL.Sem

/-- A matrix that holds what `f` lists, reshaped to its own shape. -/
theorem same {φ : FTy} {n m : ℕ} {a : FVec Ideal ⟨2, ![n, m]⟩ φ} {f : ℕ → ℕ → EReal} (ha : Is2 a f) (h) : Is2 (shapeCast (⟨2, ![n, m]⟩ : Shape) a h) f :=
  fun i => (shapeCast_apply a h i i rfl).trans (ha i)

/-- A stored piece that is the whole buffer, over whatever was stored before. -/
theorem over {sp : Space} {sig : RefSig} {n m : ℕ} (v : View sig .tc sp ⟨2, ![n, m]⟩ .f32) (X : v.ty.Contents (Elt Ideal)) (L : List (View.Piece (Elt Ideal) ⟨2, ![n, m]⟩ .f32))
    {w : Vec Ideal ⟨2, ![n, m]⟩ .f32} {f : ℕ → ℕ → EReal} (h : Is2 (φ := .f32) w f) (inb) :
    Is2 (φ := .f32) (v.read (Elt Ideal) (v.writes (Elt Ideal) X (⟨Rect.unit (s := ⟨2, ![n, m]⟩) ![0, 0] ![n, m] inb, w⟩ :: L))) f :=
  fun i => (View.read_writes_cons_unit_of_mem v X inb w L i i rfl (fun a => by match a with | ⟨0, _⟩ => exact (Nat.zero_add _).symm | ⟨1, _⟩ => exact (Nat.zero_add _).symm)).trans (h i)
theorem over2 {sp : Space} {sig : RefSig} {n m : ℕ} (v : View sig .tc sp ⟨2, ![n, m]⟩ .bf16) (X : v.ty.Contents (Elt Ideal)) (L : List (View.Piece (Elt Ideal) ⟨2, ![n, m]⟩ .bf16))
    {w : Vec Ideal ⟨2, ![n, m]⟩ .bf16} {f : ℕ → ℕ → EReal} (h : Is2 (φ := .bf16) w f) (inb) :
    Is2 (φ := .bf16) (v.read (Elt Ideal) (v.writes (Elt Ideal) X (⟨Rect.unit (s := ⟨2, ![n, m]⟩) ![0, 0] ![n, m] inb, w⟩ :: L))) f :=
  fun i => (View.read_writes_cons_unit_of_mem v X inb w L i i rfl (fun a => by match a with | ⟨0, _⟩ => exact (Nat.zero_add _).symm | ⟨1, _⟩ => exact (Nat.zero_add _).symm)).trans (h i)
theorem over3 {sp : Space} {sig : RefSig} {l n m : ℕ} (v : View sig .tc sp ⟨3, ![l, n, m]⟩ .bf16) (X : v.ty.Contents (Elt Ideal)) (L : List (View.Piece (Elt Ideal) ⟨3, ![l, n, m]⟩ .bf16))
    {w : Vec Ideal ⟨3, ![l, n, m]⟩ .bf16} {f : ℕ → ℕ → ℕ → EReal} (h : Is3 (φ := .bf16) w f) (inb) :
    Is3 (φ := .bf16) (v.read (Elt Ideal) (v.writes (Elt Ideal) X (⟨Rect.unit (s := ⟨3, ![l, n, m]⟩) ![0, 0, 0] ![l, n, m] inb, w⟩ :: L))) f :=
  fun i => (View.read_writes_cons_unit_of_mem v X inb w L i i rfl (fun a => by match a with | ⟨0, _⟩ => exact (Nat.zero_add _).symm | ⟨1, _⟩ => exact (Nat.zero_add _).symm | ⟨2, _⟩ => exact (Nat.zero_add _).symm)).trans (h i)

/-- A load of a whole buffer. -/
theorem wholeLoad {sp : Space} {sig : RefSig} {n m : ℕ} (v : View sig .tc sp ⟨2, ![n, m]⟩ .f32) {X : v.ty.Contents (Elt Ideal)} {f : ℕ → ℕ → EReal} (h : Is2 (φ := .f32) (v.read (Elt Ideal) X) f) (inb) :
    Is2 (φ := .f32) (v.readAt (Elt Ideal) (Rect.unit (s := ⟨2, ![n, m]⟩) ![0, 0] ![n, m] inb).toLoadRect X) f := fun i => by
  refine (h _).trans ?_
  show (f (0 + 1 * (i 0).val) (0 + 1 * (i 1).val)) = _
  simp only [Nat.one_mul, Nat.zero_add]
theorem wholeLoad2 {sp : Space} {sig : RefSig} {n m : ℕ} (v : View sig .tc sp ⟨2, ![n, m]⟩ .bf16) {X : v.ty.Contents (Elt Ideal)} {f : ℕ → ℕ → EReal} (h : Is2 (φ := .bf16) (v.read (Elt Ideal) X) f) (inb) :
    Is2 (φ := .bf16) (v.readAt (Elt Ideal) (Rect.unit (s := ⟨2, ![n, m]⟩) ![0, 0] ![n, m] inb).toLoadRect X) f := fun i => by
  refine (h _).trans ?_
  show (f (0 + 1 * (i 0).val) (0 + 1 * (i 1).val)) = _
  simp only [Nat.one_mul, Nat.zero_add]
theorem un {sp : Space} {sig : RefSig} {n m : ℕ} {a : Memref sig .tc sp ⟨2, ![n, m]⟩ .f32} (ha : a.IsWhole) {x : Vec Ideal ⟨2, ![n, m]⟩ .f32} {f : ℕ → ℕ → EReal}
    (h : Is2 (φ := .f32) x f) : Is2 (φ := .f32) (a.view.read (Elt Ideal) (ha.unread x)) f := fun i => (congrFun (ha.read_unread x) i).trans (h i)
theorem un2 {sp : Space} {sig : RefSig} {n m : ℕ} {a : Memref sig .tc sp ⟨2, ![n, m]⟩ .bf16} (ha : a.IsWhole) {x : Vec Ideal ⟨2, ![n, m]⟩ .bf16} {f : ℕ → ℕ → EReal}
    (h : Is2 (φ := .bf16) x f) : Is2 (φ := .bf16) (a.view.read (Elt Ideal) (ha.unread x)) f := fun i => (congrFun (ha.read_unread x) i).trans (h i)

theorem fstOf {φ ψ : FTy} {S : Shape} {n m : ℕ} {o : FVec Ideal ⟨2, ![n, m]⟩ φ} {r : FVec Ideal S ψ} {f : ℕ → ℕ → EReal} (h : Is2 o f) : Is2 (φ := φ) (o, r).1 f := h
theorem fstOf3 {φ ψ : FTy} {S : Shape} {l n m : ℕ} {o : FVec Ideal ⟨3, ![l, n, m]⟩ φ} {r : FVec Ideal S ψ} {f : ℕ → ℕ → ℕ → EReal} (h : Is3 o f) : Is3 (φ := φ) (o, r).1 f := h
theorem sndOf {φ ψ : FTy} {S : Shape} {n m : ℕ} {o : FVec Ideal S φ} {r : FVec Ideal ⟨2, ![n, m]⟩ ψ} {f : ℕ → ℕ → EReal} (h : Is2 r f) : Is2 (φ := ψ) (o, r).2 f := h

/-- A sum over 4096 tokens is the sum of its two halves. -/
theorem halves (f : ℕ → EReal) : (∑ k : Fin 2048, f (0 * 2048 + k)) + (∑ k : Fin 2048, f (1 * 2048 + k)) = ∑ k : Fin 4096, f k := by
  rw [Fin.sum_univ_eq_sum_range (fun k => f (0 * 2048 + k)) 2048, Fin.sum_univ_eq_sum_range (fun k => f (1 * 2048 + k)) 2048, Fin.sum_univ_eq_sum_range f 4096,
    show (4096 : ℕ) = 2048 + 2048 from rfl, Finset.sum_range_add]
  simp only [Nat.zero_mul, Nat.zero_add, Nat.one_mul]

end Cert.Wg
-- ==== Proof.WgDown.lean ====
/- The gradient of the second weight: what its grid points leave and its result array whole, as sums over the tokens of its two operands. -/
module

public import proofs.«01_k».proof.Proof.WgCommon
public import proofs.«01_k».proof.Proof.Gen.Kernel3Ideal.Value
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Wg.K3

open Cert.Kernel3Ideal Cert.Kernel3Ideal.Gen Cert.Kernel3Ideal.Value Cert.Mlp Cert.Mlp.Kern Cert.Branch Idealize.ShloMosaic Idealize.ShloMosaic.ValueIdx Idealize.ShloMosaic.TcCoe Idealize.SL.Sem
open Idealize.ShloMosaic.Pipeline (Dat)

variable {f A B : ℕ → ℕ → EReal}

/-- The product contracts the tokens of both operands. -/
theorem mmt {a b : FVec Ideal S2048x1024 .bf16} (ha : Is2 a A) (hb : Is2 b B) :
    Is2 (matmul dot_S2048x1024_S2048x1024_S1024x1024_0_0_1_1_n_n none a b (constant S1024x1024 .f32 0x00000000#32)) fun i j => ∑ k : Fin 2048, A k i * B k j := fun i => by
  show FloatOps.matmul dot_S2048x1024_S2048x1024_S1024x1024_0_0_1_1_n_n none a b (constant S1024x1024 .f32 0x00000000#32) i = _
  rw [Ideal.matmul_apply, show constant (F := Ideal) S1024x1024 .f32 0x00000000#32 i = 0 from Ideal.ofBits_zero_f32, zero_add,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  rw [show dot_S2048x1024_S2048x1024_S1024x1024_0_0_1_1_n_n.lhsIdx i ((contrEquiv1 dot_S2048x1024_S2048x1024_S1024x1024_0_0_1_1_n_n 2048 rfl rfl).symm k)
      = ix2 (n0 := 2048) (n1 := 1024) k (i 0) from funext fun a => Fin.ext (by match a with | ⟨0, _⟩ => exact hk | ⟨1, _⟩ => rfl),
    show dot_S2048x1024_S2048x1024_S1024x1024_0_0_1_1_n_n.rhsIdx i ((contrEquiv1 dot_S2048x1024_S2048x1024_S1024x1024_0_0_1_1_n_n 2048 rfl rfl).symm k)
      = ix2 (n0 := 2048) (n1 := 1024) k (i 1) from funext fun a => Fin.ext (by match a with | ⟨0, _⟩ => exact hk | ⟨1, _⟩ => rfl),
    ha, hb]

theorem p1 : Is2 (φ := .f32) (k0_pay1 (F := Ideal)) fun _ _ => 0 := same (Is2.const czero) _
theorem p2 {v3 : Vec Ideal S1024x1024 .f32} {v4 v6 : Vec Ideal S2048x1024 .bf16} (h3 : Is2 (φ := .f32) v3 f) (h4 : Is2 (φ := .bf16) v4 A) (h6 : Is2 (φ := .bf16) v6 B) :
    Is2 (φ := .f32) (k0_pay2 v3 v4 v6) fun i j => f i j + ∑ k : Fin 2048, A k i * B k j :=
  same (Is2.add (φ := .f32) h3 (mmt (same h4 _) h6)) _
theorem p3 {v : Vec Ideal S1024x1024 .f32} (h : Is2 (φ := .f32) v f) : Is2 (φ := .bf16) (k0_pay3 v) f := h

/-- The first point of a pair leaves the first half of the sum in the scratch. -/
theorem pointA (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec Ideal S2048x1024 .bf16) (x1 : Vec Ideal S2048x1024 .bf16)
    (h0 : Is2 (φ := .bf16) x0 A) (h1 : Is2 (φ := .bf16) x1 B) :
    Is2 (φ := .f32) (sout0_A_0 c i arg3 harg3 arg4 harg4 arg5 harg5 arg6 harg6 hc0 hc1 x0 x1) fun i j => ∑ k : Fin 2048, A k i * B k j :=
  (Is2.congr (f := fun i j => 0 + ∑ k : Fin 2048, A k i * B k j) (over _ _ _ (p2 (wholeLoad _ (over _ _ _ p1 _) _) (wholeLoad2 _ (un2 harg3 h0) _) (wholeLoad2 _ (un2 harg4 h1) _)) _) fun i j => zero_add _)

/-- The second point adds the second half and stores the sum. -/
theorem pointB (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32)
    (h0 : Is2 (φ := .bf16) x0 A) (h1 : Is2 (φ := .bf16) x1 B) (hs : Is2 (φ := .f32) xs0 f) :
    Is2 (φ := .bf16) (out0_B_2 c i arg3 harg3 arg4 harg4 arg5 harg5 arg6 harg6 hc0 hc1 x0 x1 xs0) fun i j => f i j + ∑ k : Fin 2048, A k i * B k j :=
  over2 _ _ _ (p3 (wholeLoad _ (over _ _ _ (p2 (wholeLoad _ (un harg6 hs) _) (wholeLoad2 _ (un2 harg3 h0) _) (wholeLoad2 _ (un2 harg4 h1) _)) _) _)) _

/-! ## The blocks -/

theorem idx_facts : ∀ t : Fin cfg0.N, (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N, _)

section Blocks
variable (m : (ℓ : Loc nD τ sig) → Buf (Elt Ideal) ℓ) (c : Dev nD) (t : Fin cfg0.N)

/-- The two operands as the region finds them, by their coordinates. -/
def fA : ℕ → ℕ → EReal := r2 4096 4096 (by decide) (by decide) (V m c main_v3)
def fB : ℕ → ℕ → EReal := r2 4096 1024 (by decide) (by decide) (V m c main_arg1)

theorem ib0 (t : Fin cfg0.N) : Is2 (φ := .bf16) (n := 2048) (m := 1024) (iblk m c 0 t) fun k i => fA m c (t.val % 2 * 2048 + k) (t.val / 2 * 1024 + i) := fun i => by
  obtain ⟨e0, e1⟩ := (idx_facts t).1
  refine (r2_at (a := 4096) (b := 4096) (by decide) (by decide) (V m c main_v3) ((win0_0.rect t).emb i)).symm.trans (congrArg₂ (fA m c) ?_ ?_)
  · refine (Pipeline.Window.rect_emb_val win0_0 t i 0).trans ?_
    rw [e0]; rfl
  · refine (Pipeline.Window.rect_emb_val win0_0 t i 1).trans ?_
    rw [e1]; rfl
theorem ib1 (t : Fin cfg0.N) : Is2 (φ := .bf16) (n := 2048) (m := 1024) (iblk m c 1 t) fun k i => fB m c (t.val % 2 * 2048 + k) (0 * 1024 + i) := fun i => by
  obtain ⟨e0, e1⟩ := (idx_facts t).2.1
  refine (r2_at (a := 4096) (b := 1024) (by decide) (by decide) (V m c main_arg1) ((win0_1.rect t).emb i)).symm.trans (congrArg₂ (fB m c) ?_ ?_)
  · refine (Pipeline.Window.rect_emb_val win0_1 t i 0).trans ?_
    rw [e0]; rfl
  · refine (Pipeline.Window.rect_emb_val win0_1 t i 1).trans ?_
    rw [e1]; rfl

/-- The scratch after the first point of a pair. -/
theorem first (t : Fin cfg0.N) (h0 : t.val % 2 = 0) : Is2 (φ := .f32) (outsAt0 m c t.val t.isLt).2 fun i j => ∑ k : Fin 2048, fA m c (0 * 2048 + k) (t.val / 2 * 1024 + i) * fB m c (0 * 2048 + k) (0 * 1024 + j) := by
  have h1 : ¬t.val % 2 = 1 := by omega
  rw [outsAt0_A m c t h0 h1]
  refine sndOf (φ := .bf16) (ψ := .f32) ((pointA _ _ _ _ _ _ _ _ _ _ _ _ _ _ (A := fun k i => fA m c (t.val % 2 * 2048 + k) (t.val / 2 * 1024 + i)) (B := fun k i => fB m c (t.val % 2 * 2048 + k) (0 * 1024 + i)) (ib0 m c t) (ib1 m c t)).congr fun i j => ?_)
  rw [h0]

/-- What the second point of a pair writes back. -/
theorem second (h1 : t.val % 2 = 1) : Is2 (φ := .bf16) (outsAt0 m c t.val t.isLt).1 fun i j => ∑ k : Fin 4096, fA m c k (t.val / 2 * 1024 + i) * fB m c k (0 * 1024 + j) := by
  have h0 : ¬t.val % 2 = 0 := by omega
  have hl : t.val - 1 < cfg0.N := Nat.lt_of_le_of_lt (Nat.sub_le _ _) t.isLt
  have hp : Is2 (φ := .f32) (outsAt0 m c (t.val - 1) hl).2 fun i j => ∑ k : Fin 2048, fA m c (0 * 2048 + k) ((t.val - 1) / 2 * 1024 + i) * fB m c (0 * 2048 + k) (0 * 1024 + j) := first m c ⟨t.val - 1, hl⟩ (by show (t.val - 1) % 2 = 0; omega)
  rw [outsAt0_B m c t h0 h1]
  refine fstOf (φ := .bf16) (ψ := .f32) ((pointB _ _ _ _ _ _ _ _ _ _ _ _ _ _ _ (A := fun k i => fA m c (t.val % 2 * 2048 + k) (t.val / 2 * 1024 + i)) (B := fun k i => fB m c (t.val % 2 * 2048 + k) (0 * 1024 + i))
    (f := fun i j => ∑ k : Fin 2048, fA m c (0 * 2048 + k) ((t.val - 1) / 2 * 1024 + i) * fB m c (0 * 2048 + k) (0 * 1024 + j)) (ib0 m c t) (ib1 m c t) hp).congr fun i j => ?_)
  rw [h1, show (t.val - 1) / 2 = t.val / 2 by omega]
  exact halves fun k => fA m c k (t.val / 2 * 1024 + i) * fB m c k (0 * 1024 + j)

/-- The result array. -/
def G : S4096x1024.Idx → EReal := fun i => ∑ k : Fin 4096, fA m c k ((i 0).val) * fB m c k ((i 1).val)

theorem flushed_G (hf : (cfg0.win 2).flush t = true) : (dats m 0 c).flushed 2 t = ((cfg0.win 2).blk t).view.read (Elt Ideal) (G m c) := by
  have h1 : t.val % 2 = 1 := (by decide +kernel : ∀ t : Fin grid0.N, win0_2.flush t = true → t.val % 2 = 1) t hf
  obtain ⟨e0, e1⟩ := (idx_facts t).2.2
  rw [flushed2]
  funext i
  have f0 := Pipeline.Window.rect_emb_val win0_2 t i 0
  have f1 := Pipeline.Window.rect_emb_val win0_2 t i 1
  rw [e0] at f0
  rw [e1] at f1
  have g0 : ((win0_2.rect t).emb i 0 : ℕ) = t.val / 2 * 1024 + (i 0).val := f0
  have g1 : ((win0_2.rect t).emb i 1 : ℕ) = 0 * 1024 + (i 1).val := f1
  refine (second m c t h1 i).trans ?_
  show _ = ∑ k : Fin 4096, fA m c k ((win0_2.rect t).emb i 0).val * fB m c k ((win0_2.rect t).emb i 1).val
  rw [g0, g1]

theorem final_G : (dats m 0 c).arrAt 2 cfg0.N = G m c :=
  (dats m 0 c).arrAt_eq_of_cover 2 (G m c) (fun t hf => flushed_G m c t hf) ((by decide +kernel : win0_2.Covers).cover _ (Memref.isWhole_whole _))

end Blocks

end Cert.Wg.K3
-- ==== Proof.WgUp.lean ====
/- The gradient of the first weight: what its grid points leave and its result array whole, as sums over the tokens of its two operands. -/
module

public import proofs.«01_k».proof.Proof.WgCommon
public import proofs.«01_k».proof.Proof.Gen.Kernel4Ideal.Value
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Wg.K4

open Cert.Kernel4Ideal Cert.Kernel4Ideal.Gen Cert.Kernel4Ideal.Value Cert.Mlp Cert.Mlp.Kern Cert.Branch Idealize.ShloMosaic Idealize.ShloMosaic.ValueIdx Idealize.ShloMosaic.TcCoe Idealize.SL.Sem
open Idealize.ShloMosaic.Pipeline (Dat)

variable {f A B : ℕ → ℕ → EReal}

/-- The product contracts the tokens of both operands. -/
theorem mmt {a b : FVec Ideal S2048x1024 .bf16} (ha : Is2 a A) (hb : Is2 b B) :
    Is2 (matmul dot_S2048x1024_S2048x1024_S1024x1024_0_0_1_1_n_n none a b (constant S1024x1024 .f32 0x00000000#32)) fun i j => ∑ k : Fin 2048, A k i * B k j := fun i => by
  show FloatOps.matmul dot_S2048x1024_S2048x1024_S1024x1024_0_0_1_1_n_n none a b (constant S1024x1024 .f32 0x00000000#32) i = _
  rw [Ideal.matmul_apply, show constant (F := Ideal) S1024x1024 .f32 0x00000000#32 i = 0 from Ideal.ofBits_zero_f32, zero_add,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  rw [show dot_S2048x1024_S2048x1024_S1024x1024_0_0_1_1_n_n.lhsIdx i ((contrEquiv1 dot_S2048x1024_S2048x1024_S1024x1024_0_0_1_1_n_n 2048 rfl rfl).symm k)
      = ix2 (n0 := 2048) (n1 := 1024) k (i 0) from funext fun a => Fin.ext (by match a with | ⟨0, _⟩ => exact hk | ⟨1, _⟩ => rfl),
    show dot_S2048x1024_S2048x1024_S1024x1024_0_0_1_1_n_n.rhsIdx i ((contrEquiv1 dot_S2048x1024_S2048x1024_S1024x1024_0_0_1_1_n_n 2048 rfl rfl).symm k)
      = ix2 (n0 := 2048) (n1 := 1024) k (i 1) from funext fun a => Fin.ext (by match a with | ⟨0, _⟩ => exact hk | ⟨1, _⟩ => rfl),
    ha, hb]

theorem p1 : Is2 (φ := .f32) (k0_pay1 (F := Ideal)) fun _ _ => 0 := same (Is2.const czero) _
theorem p2 {v3 : Vec Ideal S1024x1024 .f32} {v4 v6 : Vec Ideal S2048x1024 .bf16} (h3 : Is2 (φ := .f32) v3 f) (h4 : Is2 (φ := .bf16) v4 A) (h6 : Is2 (φ := .bf16) v6 B) :
    Is2 (φ := .f32) (k0_pay2 v3 v4 v6) fun i j => f i j + ∑ k : Fin 2048, A k i * B k j :=
  same (Is2.add (φ := .f32) h3 (mmt (same h4 _) (same h6 _))) _
theorem p3 {v : Vec Ideal S1024x1024 .f32} (h : Is2 (φ := .f32) v f) : Is3 (φ := .bf16) (k0_pay3 v) fun _ => f := Is2.lift (φ := .bf16) (a := v) h _

/-- The first point of a pair leaves the first half of the sum in the scratch. -/
theorem pointA (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i)
    (x0 : Vec Ideal S2048x1024 .bf16) (x1 : Vec Ideal S2048x1024 .bf16)
    (h0 : Is2 (φ := .bf16) x0 A) (h1 : Is2 (φ := .bf16) x1 B) :
    Is2 (φ := .f32) (sout0_A_0 c i arg3 harg3 arg4 harg4 arg5 harg5 arg6 harg6 hc0 hc1 x0 x1) fun i j => ∑ k : Fin 2048, A k i * B k j :=
  (Is2.congr (f := fun i j => 0 + ∑ k : Fin 2048, A k i * B k j) (over _ _ _ (p2 (wholeLoad _ (over _ _ _ p1 _) _) (wholeLoad2 _ (un2 harg3 h0) _) (wholeLoad2 _ (un2 harg4 h1) _)) _) fun i j => zero_add _)

/-- The second point adds the second half and stores the sum. -/
theorem pointB (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32)
    (h0 : Is2 (φ := .bf16) x0 A) (h1 : Is2 (φ := .bf16) x1 B) (hs : Is2 (φ := .f32) xs0 f) :
    Is3 (φ := .bf16) (out0_B_2 c i arg3 harg3 arg4 harg4 arg5 harg5 arg6 harg6 hc0 hc1 x0 x1 xs0) fun _ i j => f i j + ∑ k : Fin 2048, A k i * B k j :=
  over3 _ _ _ (p3 (wholeLoad _ (over _ _ _ (p2 (wholeLoad _ (un harg6 hs) _) (wholeLoad2 _ (un2 harg3 h0) _) (wholeLoad2 _ (un2 harg4 h1) _)) _) _)) _

/-! ## The blocks -/

theorem idx_facts : ∀ t : Fin cfg0.N, (win0_0.index t 0 = t.val % 2 ∧ win0_0.index t 1 = 0) ∧ (win0_1.index t 0 = t.val % 2 ∧ win0_1.index t 1 = t.val / 2)
    ∧ (win0_2.index t 0 = t.val / 2 ∧ win0_2.index t 1 = 0 ∧ win0_2.index t 2 = 0) :=
  (by decide +kernel : ∀ t : Fin grid0.N, _)

section Blocks
variable (m : (ℓ : Loc nD τ sig) → Buf (Elt Ideal) ℓ) (c : Dev nD) (t : Fin cfg0.N)

/-- The two operands as the region finds them, by their coordinates. -/
def fA : ℕ → ℕ → EReal := r2 4096 1024 (by decide) (by decide) (V m c main_v22)
def fB : ℕ → ℕ → EReal := r2 4096 4096 (by decide) (by decide) (V m c main_v23)

theorem ib0 (t : Fin cfg0.N) : Is2 (φ := .bf16) (n := 2048) (m := 1024) (iblk m c 0 t) fun k i => fA m c (t.val % 2 * 2048 + k) (0 * 1024 + i) := fun i => by
  obtain ⟨e0, e1⟩ := (idx_facts t).1
  refine (r2_at (a := 4096) (b := 1024) (by decide) (by decide) (V m c main_v22) ((win0_0.rect t).emb i)).symm.trans (congrArg₂ (fA m c) ?_ ?_)
  · refine (Pipeline.Window.rect_emb_val win0_0 t i 0).trans ?_
    rw [e0]; rfl
  · refine (Pipeline.Window.rect_emb_val win0_0 t i 1).trans ?_
    rw [e1]; rfl
theorem ib1 (t : Fin cfg0.N) : Is2 (φ := .bf16) (n := 2048) (m := 1024) (iblk m c 1 t) fun k i => fB m c (t.val % 2 * 2048 + k) (t.val / 2 * 1024 + i) := fun i => by
  obtain ⟨e0, e1⟩ := (idx_facts t).2.1
  refine (r2_at (a := 4096) (b := 4096) (by decide) (by decide) (V m c main_v23) ((win0_1.rect t).emb i)).symm.trans (congrArg₂ (fB m c) ?_ ?_)
  · refine (Pipeline.Window.rect_emb_val win0_1 t i 0).trans ?_
    rw [e0]; rfl
  · refine (Pipeline.Window.rect_emb_val win0_1 t i 1).trans ?_
    rw [e1]; rfl

/-- The scratch after the first point of a pair. -/
theorem first (t : Fin cfg0.N) (h0 : t.val % 2 = 0) : Is2 (φ := .f32) (outsAt0 m c t.val t.isLt).2 fun i j => ∑ k : Fin 2048, fA m c (0 * 2048 + k) (0 * 1024 + i) * fB m c (0 * 2048 + k) (t.val / 2 * 1024 + j) := by
  have h1 : ¬t.val % 2 = 1 := by omega
  rw [outsAt0_A m c t h0 h1]
  refine sndOf (φ := .bf16) (ψ := .f32) ((pointA _ _ _ _ _ _ _ _ _ _ _ _ _ _ (A := fun k i => fA m c (t.val % 2 * 2048 + k) (0 * 1024 + i)) (B := fun k i => fB m c (t.val % 2 * 2048 + k) (t.val / 2 * 1024 + i)) (ib0 m c t) (ib1 m c t)).congr fun i j => ?_)
  rw [h0]

/-- What the second point of a pair writes back. -/
theorem second (h1 : t.val % 2 = 1) : Is3 (φ := .bf16) (outsAt0 m c t.val t.isLt).1 fun _ i j => ∑ k : Fin 4096, fA m c k (0 * 1024 + i) * fB m c k (t.val / 2 * 1024 + j) := by
  have h0 : ¬t.val % 2 = 0 := by omega
  have hl : t.val - 1 < cfg0.N := Nat.lt_of_le_of_lt (Nat.sub_le _ _) t.isLt
  have hp : Is2 (φ := .f32) (outsAt0 m c (t.val - 1) hl).2 fun i j => ∑ k : Fin 2048, fA m c (0 * 2048 + k) (0 * 1024 + i) * fB m c (0 * 2048 + k) ((t.val - 1) / 2 * 1024 + j) := first m c ⟨t.val - 1, hl⟩ (by show (t.val - 1) % 2 = 0; omega)
  rw [outsAt0_B m c t h0 h1]
  refine fstOf3 (φ := .bf16) (ψ := .f32) ((pointB _ _ _ _ _ _ _ _ _ _ _ _ _ _ _ (A := fun k i => fA m c (t.val % 2 * 2048 + k) (0 * 1024 + i)) (B := fun k i => fB m c (t.val % 2 * 2048 + k) (t.val / 2 * 1024 + i))
    (f := fun i j => ∑ k : Fin 2048, fA m c (0 * 2048 + k) (0 * 1024 + i) * fB m c (0 * 2048 + k) ((t.val - 1) / 2 * 1024 + j)) (ib0 m c t) (ib1 m c t) hp).congr fun _ i j => ?_)
  rw [h1, show (t.val - 1) / 2 = t.val / 2 by omega]
  exact halves fun k => fA m c k (0 * 1024 + i) * fB m c k (t.val / 2 * 1024 + j)

/-- The result array. -/
def G : S4x1024x1024.Idx → EReal := fun i => ∑ k : Fin 4096, fA m c k ((i 1).val) * fB m c k ((i 0).val * 1024 + (i 2).val)

theorem flushed_G (hf : (cfg0.win 2).flush t = true) : (dats m 0 c).flushed 2 t = ((cfg0.win 2).blk t).view.read (Elt Ideal) (G m c) := by
  have h1 : t.val % 2 = 1 := (by decide +kernel : ∀ t : Fin grid0.N, win0_2.flush t = true → t.val % 2 = 1) t hf
  obtain ⟨e0, e1, e2⟩ := (idx_facts t).2.2
  rw [flushed2]
  funext i
  have f0 := Pipeline.Window.rect_emb_val win0_2 t i 0
  have f1 := Pipeline.Window.rect_emb_val win0_2 t i 1
  have f2 := Pipeline.Window.rect_emb_val win0_2 t i 2
  rw [e0] at f0
  rw [e1] at f1
  rw [e2] at f2
  have g0 : ((win0_2.rect t).emb i 0 : ℕ) = t.val / 2 := f0.trans (by have h : (i 0).val < 1 := (i 0).isLt; show t.val / 2 * 1 + (i 0).val = _; omega)
  have g1 : ((win0_2.rect t).emb i 1 : ℕ) = 0 * 1024 + (i 1).val := f1
  have g2 : ((win0_2.rect t).emb i 2 : ℕ) = (i 2).val := f2.trans (by show 0 * 1024 + (i 2).val = _; omega)
  refine (second m c t h1 i).trans ?_
  show _ = ∑ k : Fin 4096, fA m c k ((win0_2.rect t).emb i 1).val * fB m c k (((win0_2.rect t).emb i 0).val * 1024 + ((win0_2.rect t).emb i 2).val)
  rw [g0, g1, g2]

theorem final_G : (dats m 0 c).arrAt 2 cfg0.N = G m c :=
  (dats m 0 c).arrAt_eq_of_cover 2 (G m c) (fun t hf => flushed_G m c t hf) ((by decide +kernel : win0_2.Covers).cover _ (Memref.isWhole_whole _))

end Blocks

end Cert.Wg.K4
-- ==== Proof.WgRef.lean ====
/- The two weight gradients of the channel mixer end as their references do: the sums are over the same tokens. -/
module

public import proofs.«01_k».proof.Proof.WgDown
public import proofs.«01_k».proof.Proof.WgUp
public import proofs.«01_k».proof.Proof.Gen.Reference3Ideal.Read
public import proofs.«01_k».proof.Proof.Gen.Reference4Ideal.Read
public import Idealize.ShloMosaic.Lib.StableHlo.RunRead

@[expose] public section

set_option maxRecDepth 16384

noncomputable section

namespace Cert.Wg

open Cert.Mlp Cert.Mlp.Kern Idealize.ShloMosaic Idealize.ShloMosaic.ValueIdx Idealize.ShloMosaic.TcCoe Idealize.ShloMosaic.StableHlo Idealize.SL.Sem

/-- An array read by its coordinates, where it is known by them. -/
theorem r2_of {a b : ℕ} (ha : 0 < a) (hb : 0 < b) {x : FVec Ideal ⟨2, ![a, b]⟩ .bf16} {f : ℕ → ℕ → EReal} (h : Is2 x f) {i j : ℕ} (hi : i < a) (hj : j < b) :
    r2 a b ha hb x i j = f i j := by
  unfold r2
  refine (h _).trans ?_
  show f (i % a) (j % b) = _
  rw [Nat.mod_eq_of_lt hi, Nat.mod_eq_of_lt hj]

/-- The token `k` of the two sequences laid end to end. -/
theorem flat {n : ℕ} (hn : 0 < n) (x : FVec Ideal ⟨3, ![2, 2048, n]⟩ .bf16) (h) :
    Is2 (n := 4096) (m := n) (shapeCast (⟨2, ![4096, n]⟩ : Shape) x h) fun k j => r3 2 2048 n (by decide) (by decide) hn x (k / 2048) (k % 2048) j := fun i => by
  have h0 : (i 0).val < 4096 := (i 0).isLt
  have h1 : (i 1).val < n := (i 1).isLt
  have e0 : (i 0).val / 2048 < 2 := by omega
  have e1 : (i 0).val % 2048 < 2048 := Nat.mod_lt _ (by decide)
  refine (shapeCast_apply x h i (ix3 (n0 := 2) (n1 := 2048) (n2 := n) ⟨(i 0).val / 2048, e0⟩ ⟨(i 0).val % 2048, e1⟩ ⟨(i 1).val, h1⟩) ?_).trans
    (r3_at (by decide) (by decide) hn x _).symm
  rw [Shape.rowMajor_val_two, Shape.rowMajor_val_three]
  show ((i 0).val / 2048 * 2048 + (i 0).val % 2048) * n + (i 1).val = (i 0).val * n + (i 1).val
  rw [Nat.div_add_mod']

namespace K3
open Cert.Kernel3Ideal Cert.Kernel3Ideal.Gen Cert.Kernel3Ideal.Value

variable (m : (ℓ : Loc nD τ sig) → Buf (Elt Ideal) ℓ) (c : Dev nD)

abbrev W0 : Valuation τ sig (Elt Ideal) := fun b => m (c, b)

theorem V_v3 : V m c main_v3 = Cert.Reference3Ideal.Read.val_main_v2 (F := Ideal) (W0 m c (Proc.devRef .tc main_arg0)) := by
  show after (List.flatten [hostOps0]) (W0 m c) (Proc.devRef .tc _) = _
  simp only [List.flatten_cons, List.flatten_nil, List.append_nil, hostOps0]
  after_reads_simp
  rfl

theorem G_eq : G m c = Cert.Reference3Ideal.Read.val_main_v7 (F := Ideal) (W0 m c (Proc.devRef .tc main_arg0)) (W0 m c (Proc.devRef .tc main_arg1)) := by
  funext i
  have ha : ∀ k : Fin 4096, fA m c k (i 0).val = Cert.Reference3Ideal.Read.val_main_v2 (F := Ideal) (W0 m c (Proc.devRef .tc main_arg0)) (ix2 (n0 := 4096) (n1 := 4096) k (i 0)) := fun k => by
    unfold fA
    rw [V_v3 m c]
    exact r2_at (by decide) (by decide) _ (ix2 (n0 := 4096) (n1 := 4096) k (i 0))
  have hb : ∀ k : Fin 4096, fB m c k (i 1).val = W0 m c (Proc.devRef .tc main_arg1) (ix2 (n0 := 4096) (n1 := 1024) k (i 1)) := fun k => by
    unfold fB
    rw [V_main_arg1 m c]
    exact r2_at (by decide) (by decide) _ (ix2 (n0 := 4096) (n1 := 1024) k (i 1))
  rw [Cert.Reference3Ideal.Read.val_main_v7_apply, Cert.Reference3Ideal.Read.val_main_v6_apply, Cert.Reference3Ideal.Read.val_main_v5_apply]
  refine Finset.sum_congr rfl fun k _ => ?_
  rw [ha, hb, mul_comm]
  refine congrArg₂ (fun a b : EReal => a * b) ?_ ?_
  · exact congrArg (W0 m c (Proc.devRef .tc main_arg1)) (funext fun a => by match a with | ⟨0, _⟩ => rfl | ⟨1, _⟩ => rfl)
  · exact congrArg (Cert.Reference3Ideal.Read.val_main_v2 (F := Ideal) (W0 m c (Proc.devRef .tc main_arg0))) (funext fun a => by match a with | ⟨0, _⟩ => rfl | ⟨1, _⟩ => rfl)

/-- The second weight's gradient is its reference's. -/
theorem final : (dats m 0 c).arrAt 2 cfg0.N = Cert.Reference3Ideal.Read.val_main_v7 (F := Ideal) (W0 m c (Proc.devRef .tc main_arg0)) (W0 m c (Proc.devRef .tc main_arg1)) :=
  (final_G m c).trans (G_eq m c)

end K3

namespace K4
open Cert.Kernel4Ideal Cert.Kernel4Ideal.Gen Cert.Kernel4Ideal.Value

variable (m : (ℓ : Loc nD τ sig) → Buf (Elt Ideal) ℓ) (c : Dev nD)

abbrev W0 : Valuation τ sig (Elt Ideal) := fun b => m (c, b)

/-- The normalized, scaled and shifted input, as the reference has it. -/
abbrev hid : FVec Ideal ⟨3, ![2, 2048, 1024]⟩ .bf16 :=
  Cert.Reference4Ideal.Read.val_main_v21 (F := Ideal) (W0 m c (Proc.devRef .tc main_arg0)) (W0 m c (Proc.devRef .tc main_arg1)) (W0 m c (Proc.devRef .tc main_arg2))

theorem V_v22 : V m c main_v22 = shapeCast S4096x1024 (hid m c) shapeCasts_S2x2048x1024_S4096x1024 := by
  show after (List.flatten [hostOps0]) (W0 m c) (Proc.devRef .tc _) = _
  simp only [List.flatten_cons, List.flatten_nil, List.append_nil, hostOps0]
  after_reads_simp
  rfl

theorem V_v23 : V m c main_v23 = shapeCast S4096x4096 (W0 m c (Proc.devRef .tc main_arg3)) shapeCasts_S2x2048x4096_S4096x4096 := by
  show after (List.flatten [hostOps0]) (W0 m c) (Proc.devRef .tc _) = _
  simp only [List.flatten_cons, List.flatten_nil, List.append_nil, hostOps0]
  after_reads_simp
  rfl

end K4

namespace R4
open Cert.Reference4Ideal Cert.Reference4Ideal.Gen Cert.Reference4Ideal.Read

variable (x0 : (⟨S2x2048x1024, .f32⟩ : BufTy).Contents (Elt Ideal)) (x1 : (⟨S2x6x1024, .f32⟩ : BufTy).Contents (Elt Ideal)) (x2 : (⟨S1x1024, .f32⟩ : BufTy).Contents (Elt Ideal))
  (x3 : (⟨S2x2048x4096, .bf16⟩ : BufTy).Contents (Elt Ideal))

/-- The reference's product over the two sequences and their tokens. -/
theorem r24 (i : S4096x1024.Idx) : val_main_v24 (F := Ideal) x0 x1 x2 x3 i
    = ∑ a : Fin 2, ∑ b : Fin 2048, x3 (ix3 (n0 := 2) (n1 := 2048) (n2 := 4096) a b (i 0)) * val_main_v21 (F := Ideal) x0 x1 x2 (ix3 (n0 := 2) (n1 := 2048) (n2 := 1024) a b (i 1)) := by
  unfold val_main_v24 val_main_v23
  generalize val_main_v21 (F := Ideal) x0 x1 x2 = y
  simp only [Host.dotGeneral]
  rw [Ideal.dotGeneral_apply, sum_contr2 dot_S2x2048x4096_S2x2048x1024_S4096x1024_01_01_2_2_n_n 2 2048 rfl rfl rfl]
  refine Finset.sum_congr rfl fun a _ => Finset.sum_congr rfl fun b _ => ?_
  have h0 := contrEquiv2_symm_val0 dot_S2x2048x4096_S2x2048x1024_S4096x1024_01_01_2_2_n_n 2 2048 rfl rfl rfl (a, b)
  have h1 := contrEquiv2_symm_val1 dot_S2x2048x4096_S2x2048x1024_S4096x1024_01_01_2_2_n_n 2 2048 rfl rfl rfl (a, b)
  rw [show dot_S2x2048x4096_S2x2048x1024_S4096x1024_01_01_2_2_n_n.lhsIdx i ((contrEquiv2 dot_S2x2048x4096_S2x2048x1024_S4096x1024_01_01_2_2_n_n 2 2048 rfl rfl rfl).symm (a, b))
      = ix3 (n0 := 2) (n1 := 2048) (n2 := 4096) a b (i 0) from funext fun j => Fin.ext (by match j with | ⟨0, _⟩ => exact h0 | ⟨1, _⟩ => exact h1 | ⟨2, _⟩ => rfl),
    show dot_S2x2048x4096_S2x2048x1024_S4096x1024_01_01_2_2_n_n.rhsIdx i ((contrEquiv2 dot_S2x2048x4096_S2x2048x1024_S4096x1024_01_01_2_2_n_n 2 2048 rfl rfl rfl).symm (a, b))
      = ix3 (n0 := 2) (n1 := 2048) (n2 := 1024) a b (i 1) from funext fun j => Fin.ext (by match j with | ⟨0, _⟩ => exact h0 | ⟨1, _⟩ => exact h1 | ⟨2, _⟩ => rfl)]
  rfl

/-- The same, over the tokens of both sequences laid end to end. -/
theorem r24_flat (i : S4096x1024.Idx) : val_main_v24 (F := Ideal) x0 x1 x2 x3 i
    = ∑ k : Fin 4096, r3 2 2048 4096 (by decide) (by decide) (by decide) x3 (k.val / 2048) (k.val % 2048) (i 0).val
      * r3 2 2048 1024 (by decide) (by decide) (by decide) (val_main_v21 (F := Ideal) x0 x1 x2) (k.val / 2048) (k.val % 2048) (i 1).val := by
  rw [r24, Fin.sum_univ_two, ← halves fun k => r3 2 2048 4096 (by decide) (by decide) (by decide) x3 (k / 2048) (k % 2048) (i 0).val
      * r3 2 2048 1024 (by decide) (by decide) (by decide) (val_main_v21 (F := Ideal) x0 x1 x2) (k / 2048) (k % 2048) (i 1).val]
  have e : ∀ (a : Fin 2) (b : Fin 2048), (a.val * 2048 + b.val) / 2048 = a.val ∧ (a.val * 2048 + b.val) % 2048 = b.val := fun a b => by
    have hb := b.isLt
    omega
  have s : ∀ a : Fin 2, (∑ b : Fin 2048, x3 (ix3 (n0 := 2) (n1 := 2048) (n2 := 4096) a b (i 0)) * val_main_v21 (F := Ideal) x0 x1 x2 (ix3 (n0 := 2) (n1 := 2048) (n2 := 1024) a b (i 1)))
      = ∑ b : Fin 2048, r3 2 2048 4096 (by decide) (by decide) (by decide) x3 ((a.val * 2048 + b.val) / 2048) ((a.val * 2048 + b.val) % 2048) (i 0).val
        * r3 2 2048 1024 (by decide) (by decide) (by decide) (val_main_v21 (F := Ideal) x0 x1 x2) ((a.val * 2048 + b.val) / 2048) ((a.val * 2048 + b.val) % 2048) (i 1).val := fun a =>
    Finset.sum_congr rfl fun b _ => by
      rw [(e a b).1, (e a b).2]
      exact congrArg₂ (fun p q : EReal => p * q) (r3_at (by decide) (by decide) (by decide) x3 (ix3 (n0 := 2) (n1 := 2048) (n2 := 4096) a b (i 0))).symm
        (r3_at (by decide) (by decide) (by decide) (val_main_v21 (F := Ideal) x0 x1 x2) (ix3 (n0 := 2) (n1 := 2048) (n2 := 1024) a b (i 1))).symm
  rw [s 0, s 1]
  rfl

/-- The reference's result at a block, a row and a column of the block. -/
theorem r28 (i : S4x1024x1024.Idx) : val_main_v28 (F := Ideal) x0 x1 x2 x3 i
    = ∑ k : Fin 4096, r3 2 2048 4096 (by decide) (by decide) (by decide) x3 (k.val / 2048) (k.val % 2048) ((i 0).val * 1024 + (i 2).val)
      * r3 2 2048 1024 (by decide) (by decide) (by decide) (val_main_v21 (F := Ideal) x0 x1 x2) (k.val / 2048) (k.val % 2048) (i 1).val := by
  have h0 : (i 0).val < 4 := (i 0).isLt
  have h1 : (i 1).val < 1024 := (i 1).isLt
  have h2 : (i 2).val < 1024 := (i 2).isLt
  rw [val_main_v28_apply, val_main_v27_apply, val_main_v26_apply, val_main_v25_apply]
  refine (r24_flat x0 x1 x2 x3 _).trans (Finset.sum_congr rfl fun k _ => ?_)
  refine congrArg₂ (fun a b : EReal => a * b) (congrArg (r3 2 2048 4096 _ _ _ x3 _ _) ?_) (congrArg (r3 2 2048 1024 _ _ _ (val_main_v21 (F := Ideal) x0 x1 x2) _ _) ?_)
  · show (((i 1).val * 4 + (i 0).val) * 1024 + (i 2).val) % 4096 = _
    omega
  · show (((i 1).val * 4 + (i 0).val) * 1024 + (i 2).val) / 4096 = _
    omega

end R4

namespace K4
open Cert.Kernel4Ideal Cert.Kernel4Ideal.Gen Cert.Kernel4Ideal.Value

variable (m : (ℓ : Loc nD τ sig) → Buf (Elt Ideal) ℓ) (c : Dev nD)

theorem G_eq : G m c = Cert.Reference4Ideal.Read.val_main_v28 (F := Ideal) (W0 m c (Proc.devRef .tc main_arg0)) (W0 m c (Proc.devRef .tc main_arg1)) (W0 m c (Proc.devRef .tc main_arg2))
    (W0 m c (Proc.devRef .tc main_arg3)) := by
  funext i
  have h0 : (i 0).val < 4 := (i 0).isLt
  have h1 : (i 1).val < 1024 := (i 1).isLt
  have h2 : (i 2).val < 1024 := (i 2).isLt
  rw [R4.r28]
  refine Finset.sum_congr rfl fun k _ => ?_
  have ha : fA m c k (i 1).val = r3 2 2048 1024 (by decide) (by decide) (by decide) (hid m c) (k.val / 2048) (k.val % 2048) (i 1).val := by
    unfold fA
    rw [V_v22 m c]
    exact r2_of (by decide) (by decide) (flat (by decide) (hid m c) _) k.isLt h1
  have hj : (i 0).val * 1024 + (i 2).val < 4096 := by omega
  have hb : fB m c k ((i 0).val * 1024 + (i 2).val)
      = r3 2 2048 4096 (by decide) (by decide) (by decide) (W0 m c (Proc.devRef .tc main_arg3)) (k.val / 2048) (k.val % 2048) ((i 0).val * 1024 + (i 2).val) := by
    unfold fB
    rw [V_v23 m c]
    exact r2_of (by decide) (by decide) (flat (by decide) (W0 m c (Proc.devRef .tc main_arg3)) _) k.isLt hj
  rw [ha, hb]
  exact mul_comm _ _

/-- The first weight's gradient is its reference's. -/
theorem final : (dats m 0 c).arrAt 2 cfg0.N = Cert.Reference4Ideal.Read.val_main_v28 (F := Ideal) (W0 m c (Proc.devRef .tc main_arg0)) (W0 m c (Proc.devRef .tc main_arg1))
    (W0 m c (Proc.devRef .tc main_arg2)) (W0 m c (Proc.devRef .tc main_arg3)) :=
  (final_G m c).trans (G_eq m c)

end K4

end Cert.Wg
-- ==== Proof.WgOut.lean ====
/- The gradient of the output weight: what its grid points leave and its result array whole, as sums over the tokens of its two operands. -/
module

public import proofs.«01_k».proof.Proof.WgCommon
public import proofs.«01_k».proof.Proof.Gen.Kernel5Ideal.Value
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Wg.K5

open Cert.Kernel5Ideal Cert.Kernel5Ideal.Gen Cert.Kernel5Ideal.Value Cert.Mlp Cert.Mlp.Kern Cert.Branch Idealize.ShloMosaic Idealize.ShloMosaic.ValueIdx Idealize.ShloMosaic.TcCoe Idealize.SL.Sem
open Idealize.ShloMosaic.Pipeline (Dat)

variable {f A B : ℕ → ℕ → EReal}

/-- The product contracts the tokens of both operands. -/
theorem mmt {a b : FVec Ideal S2048x1024 .bf16} (ha : Is2 a A) (hb : Is2 b B) :
    Is2 (matmul dot_S2048x1024_S2048x1024_S1024x1024_0_0_1_1_n_n none a b (constant S1024x1024 .f32 0x00000000#32)) fun i j => ∑ k : Fin 2048, A k i * B k j := fun i => by
  show FloatOps.matmul dot_S2048x1024_S2048x1024_S1024x1024_0_0_1_1_n_n none a b (constant S1024x1024 .f32 0x00000000#32) i = _
  rw [Ideal.matmul_apply, show constant (F := Ideal) S1024x1024 .f32 0x00000000#32 i = 0 from Ideal.ofBits_zero_f32, zero_add,
    ← Equiv.sum_comp (contrEquiv1 dot_S2048x1024_S2048x1024_S1024x1024_0_0_1_1_n_n 2048 rfl rfl).symm]
  refine Finset.sum_congr rfl fun k _ => ?_
  have hk := contrEquiv1_symm_val dot_S2048x1024_S2048x1024_S1024x1024_0_0_1_1_n_n 2048 rfl rfl k
  rw [show dot_S2048x1024_S2048x1024_S1024x1024_0_0_1_1_n_n.lhsIdx i ((contrEquiv1 dot_S2048x1024_S2048x1024_S1024x1024_0_0_1_1_n_n 2048 rfl rfl).symm k)
      = ix2 (n0 := 2048) (n1 := 1024) k (i 0) from funext fun a => Fin.ext (by match a with | ⟨0, _⟩ => exact hk | ⟨1, _⟩ => rfl),
    show dot_S2048x1024_S2048x1024_S1024x1024_0_0_1_1_n_n.rhsIdx i ((contrEquiv1 dot_S2048x1024_S2048x1024_S1024x1024_0_0_1_1_n_n 2048 rfl rfl).symm k)
      = ix2 (n0 := 2048) (n1 := 1024) k (i 1) from funext fun a => Fin.ext (by match a with | ⟨0, _⟩ => exact hk | ⟨1, _⟩ => rfl),
    ha, hb]

theorem p1 : Is2 (φ := .f32) (k0_pay1 (F := Ideal)) fun _ _ => 0 := same (Is2.const czero) _
theorem p2 {v3 : Vec Ideal S1024x1024 .f32} {v4 v6 : Vec Ideal S2048x1024 .bf16} (h3 : Is2 (φ := .f32) v3 f) (h4 : Is2 (φ := .bf16) v4 A) (h6 : Is2 (φ := .bf16) v6 B) :
    Is2 (φ := .f32) (k0_pay2 v3 v4 v6) fun i j => f i j + ∑ k : Fin 2048, A k i * B k j :=
  same (Is2.add (φ := .f32) h3 (mmt (same h4 _) (same h6 _))) _
theorem p3 {v : Vec Ideal S1024x1024 .f32} (h : Is2 (φ := .f32) v f) : Is2 (φ := .bf16) (k0_pay3 v) f := h

/-- The first point of a pair leaves the first half of the sum in the scratch. -/
theorem pointA (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec Ideal S2048x1024 .bf16) (x1 : Vec Ideal S2048x1024 .bf16)
    (h0 : Is2 (φ := .bf16) x0 A) (h1 : Is2 (φ := .bf16) x1 B) :
    Is2 (φ := .f32) (sout0_A_0 c i arg3 harg3 arg4 harg4 arg5 harg5 arg6 harg6 hc0 hc1 x0 x1) fun i j => ∑ k : Fin 2048, A k i * B k j :=
  (Is2.congr (f := fun i j => 0 + ∑ k : Fin 2048, A k i * B k j) (over _ _ _ (p2 (wholeLoad _ (over _ _ _ p1 _) _) (wholeLoad2 _ (un2 harg3 h0) _) (wholeLoad2 _ (un2 harg4 h1) _)) _) fun i j => zero_add _)

/-- The second point adds the second half and stores the sum. -/
theorem pointB (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec Ideal S2048x1024 .bf16) (x1 : Vec Ideal S2048x1024 .bf16) (xs0 : Vec Ideal S1024x1024 .f32)
    (h0 : Is2 (φ := .bf16) x0 A) (h1 : Is2 (φ := .bf16) x1 B) (hs : Is2 (φ := .f32) xs0 f) :
    Is2 (φ := .bf16) (out0_B_2 c i arg3 harg3 arg4 harg4 arg5 harg5 arg6 harg6 hc0 hc1 x0 x1 xs0) fun i j => f i j + ∑ k : Fin 2048, A k i * B k j :=
  over2 _ _ _ (p3 (wholeLoad _ (over _ _ _ (p2 (wholeLoad _ (un harg6 hs) _) (wholeLoad2 _ (un2 harg3 h0) _) (wholeLoad2 _ (un2 harg4 h1) _)) _) _)) _

/-! ## The blocks -/

theorem idx_facts : ∀ t : Fin cfg0.N, (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N, _)

section Blocks
variable (m : (ℓ : Loc nD τ sig) → Buf (Elt Ideal) ℓ) (c : Dev nD) (t : Fin cfg0.N)

/-- The two operands as the region finds them, by their coordinates. -/
def fA : ℕ → ℕ → EReal := r2 4096 1024 (by decide) (by decide) (V m c main_v28)
def fB : ℕ → ℕ → EReal := r2 4096 1024 (by decide) (by decide) (V m c main_v29)

theorem ib0 (t : Fin cfg0.N) : Is2 (φ := .bf16) (n := 2048) (m := 1024) (iblk m c 0 t) fun k i => fA m c (t.val % 2 * 2048 + k) (t.val / 2 * 1024 + i) := fun i => by
  obtain ⟨e0, e1⟩ := (idx_facts t).1
  refine (r2_at (a := 4096) (b := 1024) (by decide) (by decide) (V m c main_v28) ((win0_0.rect t).emb i)).symm.trans (congrArg₂ (fA m c) ?_ ?_)
  · refine (Pipeline.Window.rect_emb_val win0_0 t i 0).trans ?_
    rw [e0]; rfl
  · refine (Pipeline.Window.rect_emb_val win0_0 t i 1).trans ?_
    rw [e1]; rfl
theorem ib1 (t : Fin cfg0.N) : Is2 (φ := .bf16) (n := 2048) (m := 1024) (iblk m c 1 t) fun k i => fB m c (t.val % 2 * 2048 + k) (0 * 1024 + i) := fun i => by
  obtain ⟨e0, e1⟩ := (idx_facts t).2.1
  refine (r2_at (a := 4096) (b := 1024) (by decide) (by decide) (V m c main_v29) ((win0_1.rect t).emb i)).symm.trans (congrArg₂ (fB m c) ?_ ?_)
  · refine (Pipeline.Window.rect_emb_val win0_1 t i 0).trans ?_
    rw [e0]; rfl
  · refine (Pipeline.Window.rect_emb_val win0_1 t i 1).trans ?_
    rw [e1]; rfl

/-- The scratch after the first point of a pair. -/
theorem first (t : Fin cfg0.N) (h0 : t.val % 2 = 0) : Is2 (φ := .f32) (outsAt0 m c t.val t.isLt).2 fun i j => ∑ k : Fin 2048, fA m c (0 * 2048 + k) (t.val / 2 * 1024 + i) * fB m c (0 * 2048 + k) (0 * 1024 + j) := by
  have h1 : ¬t.val % 2 = 1 := by omega
  rw [outsAt0_A m c t h0 h1]
  refine sndOf (φ := .bf16) (ψ := .f32) ((pointA _ _ _ _ _ _ _ _ _ _ _ _ _ _ (A := fun k i => fA m c (t.val % 2 * 2048 + k) (t.val / 2 * 1024 + i)) (B := fun k i => fB m c (t.val % 2 * 2048 + k) (0 * 1024 + i)) (ib0 m c t) (ib1 m c t)).congr fun i j => ?_)
  rw [h0]

/-- What the second point of a pair writes back. -/
theorem second (h1 : t.val % 2 = 1) : Is2 (φ := .bf16) (outsAt0 m c t.val t.isLt).1 fun i j => ∑ k : Fin 4096, fA m c k (t.val / 2 * 1024 + i) * fB m c k (0 * 1024 + j) := by
  have h0 : ¬t.val % 2 = 0 := by omega
  have hl : t.val - 1 < cfg0.N := Nat.lt_of_le_of_lt (Nat.sub_le _ _) t.isLt
  have hp : Is2 (φ := .f32) (outsAt0 m c (t.val - 1) hl).2 fun i j => ∑ k : Fin 2048, fA m c (0 * 2048 + k) ((t.val - 1) / 2 * 1024 + i) * fB m c (0 * 2048 + k) (0 * 1024 + j) := first m c ⟨t.val - 1, hl⟩ (by show (t.val - 1) % 2 = 0; omega)
  rw [outsAt0_B m c t h0 h1]
  refine fstOf (φ := .bf16) (ψ := .f32) ((pointB _ _ _ _ _ _ _ _ _ _ _ _ _ _ _ (A := fun k i => fA m c (t.val % 2 * 2048 + k) (t.val / 2 * 1024 + i)) (B := fun k i => fB m c (t.val % 2 * 2048 + k) (0 * 1024 + i))
    (f := fun i j => ∑ k : Fin 2048, fA m c (0 * 2048 + k) ((t.val - 1) / 2 * 1024 + i) * fB m c (0 * 2048 + k) (0 * 1024 + j)) (ib0 m c t) (ib1 m c t) hp).congr fun i j => ?_)
  rw [h1, show (t.val - 1) / 2 = t.val / 2 by omega]
  exact halves fun k => fA m c k (t.val / 2 * 1024 + i) * fB m c k (0 * 1024 + j)

/-- The result array. -/
def G : S1024x1024.Idx → EReal := fun i => ∑ k : Fin 4096, fA m c k ((i 0).val) * fB m c k ((i 1).val)

theorem flushed_G (hf : (cfg0.win 2).flush t = true) : (dats m 0 c).flushed 2 t = ((cfg0.win 2).blk t).view.read (Elt Ideal) (G m c) := by
  have h1 : t.val % 2 = 1 := (by decide +kernel : ∀ t : Fin grid0.N, win0_2.flush t = true → t.val % 2 = 1) t hf
  obtain ⟨e0, e1⟩ := (idx_facts t).2.2
  rw [flushed2]
  funext i
  have f0 := Pipeline.Window.rect_emb_val win0_2 t i 0
  have f1 := Pipeline.Window.rect_emb_val win0_2 t i 1
  rw [e0] at f0
  rw [e1] at f1
  have g0 : ((win0_2.rect t).emb i 0 : ℕ) = t.val / 2 * 1024 + (i 0).val := f0
  have g1 : ((win0_2.rect t).emb i 1 : ℕ) = 0 * 1024 + (i 1).val := f1
  refine (second m c t h1 i).trans ?_
  show _ = ∑ k : Fin 4096, fA m c k ((win0_2.rect t).emb i 0).val * fB m c k ((win0_2.rect t).emb i 1).val
  rw [g0, g1]

theorem final_G : (dats m 0 c).arrAt 2 cfg0.N = G m c :=
  (dats m 0 c).arrAt_eq_of_cover 2 (G m c) (fun t hf => flushed_G m c t hf) ((by decide +kernel : win0_2.Covers).cover _ (Memref.isWhole_whole _))

end Blocks

end Cert.Wg.K5
-- ==== Proof.WgIn.lean ====
/- The gradient of the input projection's weight: what its grid points leave and its result array whole, as sums over the tokens. -/
module

public import proofs.«01_k».proof.Proof.WgCommon
public import proofs.«01_k».proof.Proof.Gen.Kernel6Ideal.Value
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Wg.K6

open Cert.Kernel6Ideal Cert.Kernel6Ideal.Gen Cert.Kernel6Ideal.Value Cert.Mlp Cert.Mlp.Kern Cert.Branch Idealize.ShloMosaic Idealize.ShloMosaic.ValueIdx Idealize.ShloMosaic.TcCoe Idealize.SL.Sem
open Idealize.ShloMosaic.Pipeline (Dat)

variable {f A B : ℕ → ℕ → EReal}

/-- The product contracts the tokens of both operands. -/
theorem mmt {a : FVec Ideal S1024x1024 .bf16} {b : FVec Ideal S1024x2304 .bf16} (ha : Is2 a A) (hb : Is2 b B) :
    Is2 (matmul dot_S1024x1024_S1024x2304_S1024x2304_0_0_1_1_n_n none a b (constant S1024x2304 .f32 0x00000000#32)) fun i j => ∑ k : Fin 1024, A k i * B k j := fun i => by
  show FloatOps.matmul dot_S1024x1024_S1024x2304_S1024x2304_0_0_1_1_n_n none a b (constant S1024x2304 .f32 0x00000000#32) i = _
  rw [Ideal.matmul_apply, show constant (F := Ideal) S1024x2304 .f32 0x00000000#32 i = 0 from Ideal.ofBits_zero_f32, zero_add,
    ← Equiv.sum_comp (contrEquiv1 dot_S1024x1024_S1024x2304_S1024x2304_0_0_1_1_n_n 1024 rfl rfl).symm]
  refine Finset.sum_congr rfl fun k _ => ?_
  have hk := contrEquiv1_symm_val dot_S1024x1024_S1024x2304_S1024x2304_0_0_1_1_n_n 1024 rfl rfl k
  rw [show dot_S1024x1024_S1024x2304_S1024x2304_0_0_1_1_n_n.lhsIdx i ((contrEquiv1 dot_S1024x1024_S1024x2304_S1024x2304_0_0_1_1_n_n 1024 rfl rfl).symm k)
      = ix2 (n0 := 1024) (n1 := 1024) k (i 0) from funext fun a => Fin.ext (by match a with | ⟨0, _⟩ => exact hk | ⟨1, _⟩ => rfl),
    show dot_S1024x1024_S1024x2304_S1024x2304_0_0_1_1_n_n.rhsIdx i ((contrEquiv1 dot_S1024x1024_S1024x2304_S1024x2304_0_0_1_1_n_n 1024 rfl rfl).symm k)
      = ix2 (n0 := 1024) (n1 := 2304) k (i 1) from funext fun a => Fin.ext (by match a with | ⟨0, _⟩ => exact hk | ⟨1, _⟩ => rfl),
    ha, hb]

theorem p1 : Is2 (φ := .f32) (k0_pay1 (F := Ideal)) fun _ _ => 0 := same (Is2.const czero) _
theorem p2 {v3 : Vec Ideal S1024x2304 .f32} {v4 : Vec Ideal S1024x1024 .bf16} {v6 : Vec Ideal S1024x2304 .bf16} (h3 : Is2 (φ := .f32) v3 f) (h4 : Is2 (φ := .bf16) v4 A) (h6 : Is2 (φ := .bf16) v6 B) :
    Is2 (φ := .f32) (k0_pay2 v3 v4 v6) fun i j => f i j + ∑ k : Fin 1024, A k i * B k j :=
  same (Is2.add (φ := .f32) h3 (mmt (same h4 _) (same h6 _))) _
theorem p3 {v : Vec Ideal S1024x576 .f32} (h : Is2 (φ := .f32) v f) : Is3 (φ := .bf16) (k0_pay3 v) fun _ => f := Is2.lift (φ := .bf16) (a := v) h _
theorem p4 {v : Vec Ideal S1024x576 .f32} (h : Is2 (φ := .f32) v f) : Is3 (φ := .bf16) (k0_pay4 v) fun _ => f := p3 h
theorem p5 {v : Vec Ideal S1024x576 .f32} (h : Is2 (φ := .f32) v f) : Is3 (φ := .bf16) (k0_pay5 v) fun _ => f := p3 h
theorem p6 {v : Vec Ideal S1024x576 .f32} (h : Is2 (φ := .f32) v f) : Is3 (φ := .bf16) (k0_pay6 v) fun _ => f := p3 h

/-- The first point starts the sum. -/
theorem pointA (c : Dev nD) (i : grid0.Coords) (arg1 : Memref sig .tc .vmem S1024x1024 .bf16) (harg1 : arg1.IsWhole) (arg2 : Memref sig .tc .vmem S1024x2304 .bf16) (harg2 : arg2.IsWhole) (arg3 : Memref sig .tc .vmem S4x1024x576 .bf16) (harg3 : arg3.IsWhole) (arg4 : Memref sig .tc .vmem S1024x2304 .f32) (harg4 : arg4.IsWhole) (hc0 : cond0_0 i) (hc1 : ¬cond0_1 i)
    (x0 : Vec Ideal S1024x1024 .bf16) (x1 : Vec Ideal S1024x2304 .bf16)
    (h0 : Is2 (φ := .bf16) x0 A) (h1 : Is2 (φ := .bf16) x1 B) :
    Is2 (φ := .f32) (sout0_A_0 c i arg1 harg1 arg2 harg2 arg3 harg3 arg4 harg4 hc0 hc1 x0 x1) fun i j => ∑ k : Fin 1024, A k i * B k j :=
  (Is2.congr (f := fun i j => 0 + ∑ k : Fin 1024, A k i * B k j) (over _ _ _ (p2 (wholeLoad _ (over _ _ _ p1 _) _) (wholeLoad2 _ (un2 harg1 h0) _) (wholeLoad2 _ (un2 harg2 h1) _)) _) fun i j => zero_add _)

/-- A later point adds its part. -/
theorem pointB (c : Dev nD) (i : grid0.Coords) (arg1 : Memref sig .tc .vmem S1024x1024 .bf16) (harg1 : arg1.IsWhole) (arg2 : Memref sig .tc .vmem S1024x2304 .bf16) (harg2 : arg2.IsWhole) (arg3 : Memref sig .tc .vmem S4x1024x576 .bf16) (harg3 : arg3.IsWhole) (arg4 : Memref sig .tc .vmem S1024x2304 .f32) (harg4 : arg4.IsWhole) (hc0 : ¬cond0_0 i) (hc1 : ¬cond0_1 i)
    (x0 : Vec Ideal S1024x1024 .bf16) (x1 : Vec Ideal S1024x2304 .bf16) (xs0 : Vec Ideal S1024x2304 .f32)
    (h0 : Is2 (φ := .bf16) x0 A) (h1 : Is2 (φ := .bf16) x1 B) (hs : Is2 (φ := .f32) xs0 f) :
    Is2 (φ := .f32) (sout0_B_0 c i arg1 harg1 arg2 harg2 arg3 harg3 arg4 harg4 hc0 hc1 x0 x1 xs0) fun i j => f i j + ∑ k : Fin 1024, A k i * B k j :=
  over _ _ _ (p2 (wholeLoad _ (un harg4 hs) _) (wholeLoad2 _ (un2 harg1 h0) _) (wholeLoad2 _ (un2 harg2 h1) _)) _

/-- A stored slice lies in the whole block. -/
theorem slice {o p : ℕ} {w : Vec Ideal S1x1024x576 .bf16} (inb : ∀ a, (![o, 0, 0] : Fin 3 → Nat) a + S1x1024x576.size a ≤ S4x1024x576.size a) (g : ℕ → ℕ → EReal)
    (h : Is3 (φ := .bf16) w fun _ i j => g (0 + i) (p + j)) (hp : ∀ _ : Unit, o * 576 = p) (x : S1x1024x576.Idx) :
    w x = g ((Rect.unit (s := S4x1024x576) ![o, 0, 0] S1x1024x576.size inb).emb x 1).val (((Rect.unit (s := S4x1024x576) ![o, 0, 0] S1x1024x576.size inb).emb x 0).val * 576
      + ((Rect.unit (s := S4x1024x576) ![o, 0, 0] S1x1024x576.size inb).emb x 2).val) := by
  have h0 : (x 0).val < 1 := (x 0).isLt
  rw [h x, ← hp ()]
  show _ = g (0 + 1 * (x 1).val) ((o + 1 * (x 0).val) * 576 + (0 + 1 * (x 2).val))
  rw [show (x 0).val = 0 by omega]
  simp only [Nat.one_mul, Nat.zero_add, Nat.mul_zero, Nat.add_zero]

/-- The last point adds its part and stores the sum, cut into four slices of columns. -/
theorem pointC (c : Dev nD) (i : grid0.Coords) (arg1 : Memref sig .tc .vmem S1024x1024 .bf16) (harg1 : arg1.IsWhole) (arg2 : Memref sig .tc .vmem S1024x2304 .bf16) (harg2 : arg2.IsWhole) (arg3 : Memref sig .tc .vmem S4x1024x576 .bf16) (harg3 : arg3.IsWhole) (arg4 : Memref sig .tc .vmem S1024x2304 .f32) (harg4 : arg4.IsWhole) (hc0 : ¬cond0_0 i) (hc1 : cond0_1 i)
    (x0 : Vec Ideal S1024x1024 .bf16) (x1 : Vec Ideal S1024x2304 .bf16) (xs0 : Vec Ideal S1024x2304 .f32)
    (h0 : Is2 (φ := .bf16) x0 A) (h1 : Is2 (φ := .bf16) x1 B) (hs : Is2 (φ := .f32) xs0 f) :
    Is3 (φ := .bf16) (out0_C_2 c i arg1 harg1 arg2 harg2 arg3 harg3 arg4 harg4 hc0 hc1 x0 x1 xs0) fun a i j => f i (a * 576 + j) + ∑ k : Fin 1024, A k i * B k (a * 576 + j) := fun y => by
  have h := over arg4.view arg4.view.junk [] (p2 (wholeLoad arg4.view (un harg4 hs) inb_S1024x2304_S1024x2304_0_0) (wholeLoad2 arg1.view (un2 harg1 h0) inb_S1024x1024_S1024x1024_0_0) (wholeLoad2 arg2.view (un2 harg2 h1) inb_S1024x2304_S1024x2304_0_0)) inb_S1024x2304_S1024x2304_0_0
  generalize hg : (fun i j => f i j + ∑ k : Fin 1024, A k i * B k j) = g at h
  have w0 := p3 (h.box (o0 := 0) (o1 := 0) (n' := 1024) (m' := 576) arg4.view inb_S1024x2304_S1024x576_0_0)
  have w1 := p4 (h.box (o0 := 0) (o1 := 576) (n' := 1024) (m' := 576) arg4.view inb_S1024x2304_S1024x576_0_576)
  have w2 := p5 (h.box (o0 := 0) (o1 := 1152) (n' := 1024) (m' := 576) arg4.view inb_S1024x2304_S1024x576_0_1152)
  have w3 := p6 (h.box (o0 := 0) (o1 := 1728) (n' := 1024) (m' := 576) arg4.view inb_S1024x2304_S1024x576_0_1728)
  have hd : ∀ p ∈ (kernelRun0_C (F := Ideal) c i arg1 harg1 arg2 harg2 arg3 harg3 arg4 harg4 hc0 hc1 x0 x1 xs0).1, ∀ x : p.1.shape.Idx, p.2 x = g (p.1.emb x 1).val ((p.1.emb x 0).val * 576 + (p.1.emb x 2).val) := by
    intro p hp
    change p ∈ [_, _, _, _] at hp
    simp only [List.mem_cons, List.not_mem_nil, or_false] at hp
    rcases hp with rfl | rfl | rfl | rfl
    · exact slice (o := 3) (p := 1728) inb_S4x1024x576_S1x1024x576_3_0_0 g w3 fun _ => rfl
    · exact slice (o := 2) (p := 1152) inb_S4x1024x576_S1x1024x576_2_0_0 g w2 fun _ => rfl
    · exact slice (o := 1) (p := 576) inb_S4x1024x576_S1x1024x576_1_0_0 g w1 fun _ => rfl
    · exact slice (o := 0) (p := 0) inb_S4x1024x576_S1x1024x576_0_0_0 g w0 fun _ => rfl
  refine (View.read_writes_apply_of_pieces VO0_2 VO0_2.junk (fun y : S4x1024x576.Idx => (g (y 1).val ((y 0).val * 576 + (y 2).val) : EReal)) _ hd y
    (cover0_C_2 c i arg1 harg1 arg2 harg2 arg3 harg3 arg4 harg4 hc0 hc1 x0 x1 xs0 y)).trans ?_
  rw [← hg]

/-! ## The blocks -/

theorem idx_facts : ∀ t : Fin cfg0.N, (win0_0.index t 0 = t.val % 4 ∧ win0_0.index t 1 = 0) ∧ (win0_1.index t 0 = t.val % 4 ∧ win0_1.index t 1 = 0)
    ∧ (win0_2.index t 0 = 0 ∧ win0_2.index t 1 = 0 ∧ win0_2.index t 2 = 0) :=
  (by decide +kernel : ∀ t : Fin grid0.N, _)

/-- A sum over 4096 tokens in its four parts. -/
theorem parts (f : ℕ → EReal) : (∑ k : Fin 1024, f (0 * 1024 + k)) + (∑ k : Fin 1024, f (1 * 1024 + k)) + (∑ k : Fin 1024, f (2 * 1024 + k)) + (∑ k : Fin 1024, f (3 * 1024 + k))
    = ∑ k : Fin 4096, f k := by
  rw [Fin.sum_univ_eq_sum_range (fun k => f (0 * 1024 + k)) 1024, Fin.sum_univ_eq_sum_range (fun k => f (1 * 1024 + k)) 1024, Fin.sum_univ_eq_sum_range (fun k => f (2 * 1024 + k)) 1024,
    Fin.sum_univ_eq_sum_range (fun k => f (3 * 1024 + k)) 1024, Fin.sum_univ_eq_sum_range f 4096,
    show (4096 : ℕ) = 1024 + 1024 + 1024 + 1024 from rfl, Finset.sum_range_add, Finset.sum_range_add, Finset.sum_range_add]
  simp only [Nat.zero_mul, Nat.zero_add, Nat.one_mul, Nat.reduceMul, Nat.reduceAdd]

section Blocks
variable (m : (ℓ : Loc nD τ sig) → Buf (Elt Ideal) ℓ) (c : Dev nD) (t : Fin cfg0.N)

/-- The two operands as the region finds them, by their coordinates. -/
def fA : ℕ → ℕ → EReal := r2 4096 1024 (by decide) (by decide) (V m c main_v22)
def fB : ℕ → ℕ → EReal := r2 4096 2304 (by decide) (by decide) (V m c main_v23)

/-- The part of the sum that point `s` adds. -/
def part (s i j : ℕ) : EReal := ∑ k : Fin 1024, fA m c (s * 1024 + k) i * fB m c (s * 1024 + k) j

theorem ib0 (t : Fin cfg0.N) : Is2 (φ := .bf16) (n := 1024) (m := 1024) (iblk m c 0 t) fun k i => fA m c (t.val % 4 * 1024 + k) i := fun i => by
  obtain ⟨e0, e1⟩ := (idx_facts t).1
  refine (r2_at (a := 4096) (b := 1024) (by decide) (by decide) (V m c main_v22) ((win0_0.rect t).emb i)).symm.trans (congrArg₂ (fA m c) ?_ ?_)
  · refine (Pipeline.Window.rect_emb_val win0_0 t i 0).trans ?_
    rw [e0]; rfl
  · refine (Pipeline.Window.rect_emb_val win0_0 t i 1).trans ?_
    rw [e1]
    show 0 * 1024 + (i 1).val = (i 1).val
    omega
theorem ib1 (t : Fin cfg0.N) : Is2 (φ := .bf16) (n := 1024) (m := 2304) (iblk m c 1 t) fun k i => fB m c (t.val % 4 * 1024 + k) i := fun i => by
  obtain ⟨e0, e1⟩ := (idx_facts t).2.1
  refine (r2_at (a := 4096) (b := 2304) (by decide) (by decide) (V m c main_v23) ((win0_1.rect t).emb i)).symm.trans (congrArg₂ (fB m c) ?_ ?_)
  · refine (Pipeline.Window.rect_emb_val win0_1 t i 0).trans ?_
    rw [e0]; rfl
  · refine (Pipeline.Window.rect_emb_val win0_1 t i 1).trans ?_
    rw [e1]
    show 0 * 2304 + (i 1).val = (i 1).val
    omega

theorem first (t : Fin cfg0.N) (h0 : t.val % 4 = 0) : Is2 (φ := .f32) (outsAt0 m c t.val t.isLt).2 (part m c 0) := by
  have h1 : ¬t.val % 4 = 3 := by omega
  rw [outsAt0_A m c t h0 h1]
  refine sndOf (φ := .bf16) (ψ := .f32) ((pointA _ _ _ _ _ _ _ _ _ _ _ _ _ _ (A := fun k i => fA m c (t.val % 4 * 1024 + k) i) (B := fun k i => fB m c (t.val % 4 * 1024 + k) i) (ib0 m c t) (ib1 m c t)).congr fun i j => ?_)
  rw [h0]
  rfl

theorem next (t : Fin cfg0.N) (h0 : ¬t.val % 4 = 0) (h1 : ¬t.val % 4 = 3) {p : ℕ → ℕ → EReal} (hl : t.val - 1 < cfg0.N)
    (hp : Is2 (φ := .f32) (outsAt0 m c (t.val - 1) hl).2 p) : Is2 (φ := .f32) (outsAt0 m c t.val t.isLt).2 fun i j => p i j + part m c (t.val % 4) i j := by
  rw [outsAt0_B m c t h0 h1]
  exact sndOf (φ := .bf16) (ψ := .f32) (pointB _ _ _ _ _ _ _ _ _ _ _ _ _ _ _ (A := fun k i => fA m c (t.val % 4 * 1024 + k) i) (B := fun k i => fB m c (t.val % 4 * 1024 + k) i) (f := p) (ib0 m c t) (ib1 m c t) hp)

/-- The scratch after three points. -/
theorem second (t : Fin cfg0.N) (h : t.val % 4 = 1) : Is2 (φ := .f32) (outsAt0 m c t.val t.isLt).2 fun i j => part m c 0 i j + part m c 1 i j := by
  have hl : t.val - 1 < cfg0.N := Nat.lt_of_le_of_lt (Nat.sub_le _ _) t.isLt
  refine (next m c t (by omega) (by omega) hl (first m c ⟨t.val - 1, hl⟩ (by show (t.val - 1) % 4 = 0; omega))).congr fun i j => ?_
  rw [h]
theorem third (t : Fin cfg0.N) (h : t.val % 4 = 2) : Is2 (φ := .f32) (outsAt0 m c t.val t.isLt).2 fun i j => part m c 0 i j + part m c 1 i j + part m c 2 i j := by
  have hl : t.val - 1 < cfg0.N := Nat.lt_of_le_of_lt (Nat.sub_le _ _) t.isLt
  refine (next m c t (by omega) (by omega) hl (second m c ⟨t.val - 1, hl⟩ (by show (t.val - 1) % 4 = 1; omega))).congr fun i j => ?_
  rw [h]

/-- What the last point writes back. -/
theorem last (h1 : t.val % 4 = 3) : Is3 (φ := .bf16) (outsAt0 m c t.val t.isLt).1 fun a i j => ∑ k : Fin 4096, fA m c k i * fB m c k (a * 576 + j) := by
  have h0 : ¬t.val % 4 = 0 := by omega
  have hl : t.val - 1 < cfg0.N := Nat.lt_of_le_of_lt (Nat.sub_le _ _) t.isLt
  have hp := third m c ⟨t.val - 1, hl⟩ (by show (t.val - 1) % 4 = 2; omega)
  rw [outsAt0_C m c t h0 h1]
  refine fstOf3 (φ := .bf16) (ψ := .f32) ((pointC _ _ _ _ _ _ _ _ _ _ _ _ _ _ _ (A := fun k i => fA m c (t.val % 4 * 1024 + k) i) (B := fun k i => fB m c (t.val % 4 * 1024 + k) i)
    (f := fun i j => part m c 0 i j + part m c 1 i j + part m c 2 i j) (ib0 m c t) (ib1 m c t) hp).congr fun a i j => ?_)
  rw [h1]
  exact parts fun k => fA m c k i * fB m c k (a * 576 + j)

/-- The result array. -/
def G : S4x1024x576.Idx → EReal := fun i => ∑ k : Fin 4096, fA m c k (i 1).val * fB m c k ((i 0).val * 576 + (i 2).val)

theorem flushed_G (hf : (cfg0.win 2).flush t = true) : (dats m 0 c).flushed 2 t = ((cfg0.win 2).blk t).view.read (Elt Ideal) (G m c) := by
  have h1 : t.val % 4 = 3 := (by decide +kernel : ∀ t : Fin grid0.N, win0_2.flush t = true → t.val % 4 = 3) t hf
  obtain ⟨e0, e1, e2⟩ := (idx_facts t).2.2
  rw [flushed2]
  funext i
  have f0 := Pipeline.Window.rect_emb_val win0_2 t i 0
  have f1 := Pipeline.Window.rect_emb_val win0_2 t i 1
  have f2 := Pipeline.Window.rect_emb_val win0_2 t i 2
  rw [e0] at f0
  rw [e1] at f1
  rw [e2] at f2
  have g0 : ((win0_2.rect t).emb i 0 : ℕ) = (i 0).val := f0.trans (by show 0 * 4 + (i 0).val = _; omega)
  have g1 : ((win0_2.rect t).emb i 1 : ℕ) = (i 1).val := f1.trans (by show 0 * 1024 + (i 1).val = _; omega)
  have g2 : ((win0_2.rect t).emb i 2 : ℕ) = (i 2).val := f2.trans (by show 0 * 576 + (i 2).val = _; omega)
  refine (last m c t h1 i).trans ?_
  show _ = ∑ k : Fin 4096, fA m c k ((win0_2.rect t).emb i 1).val * fB m c k (((win0_2.rect t).emb i 0).val * 576 + ((win0_2.rect t).emb i 2).val)
  rw [g0, g1, g2]

theorem final_G : (dats m 0 c).arrAt 2 cfg0.N = G m c :=
  (dats m 0 c).arrAt_eq_of_cover 2 (G m c) (fun t hf => flushed_G m c t hf) ((by decide +kernel : win0_2.Covers).cover _ (Memref.isWhole_whole _))

end Blocks

end Cert.Wg.K6
-- ==== Proof.WgRef2.lean ====
/- The weight gradients of the two projections end as their references do: the sums are over the same tokens. -/
module

public import proofs.«01_k».proof.Proof.WgOut
public import proofs.«01_k».proof.Proof.WgIn
public import proofs.«01_k».proof.Proof.WgRef
public import proofs.«01_k».proof.Proof.Gen.Reference5Ideal.Read
public import proofs.«01_k».proof.Proof.Gen.Reference6Ideal.Read
public import Idealize.ShloMosaic.Lib.StableHlo.RunRead

@[expose] public section

set_option maxRecDepth 16384

noncomputable section

namespace Cert.Wg

open Cert.Mlp Cert.Mlp.Kern Idealize.ShloMosaic Idealize.ShloMosaic.ValueIdx Idealize.ShloMosaic.TcCoe Idealize.ShloMosaic.StableHlo Idealize.SL.Sem

namespace K5
open Cert.Kernel5Ideal Cert.Kernel5Ideal.Gen Cert.Kernel5Ideal.Value

variable (m : (ℓ : Loc nD τ sig) → Buf (Elt Ideal) ℓ) (c : Dev nD)

abbrev W0 : Valuation τ sig (Elt Ideal) := fun b => m (c, b)

/-- The two normalized groups of heads side by side, as the reference has them. -/
abbrev mixed : FVec Ideal ⟨3, ![2, 2048, 1024]⟩ .bf16 :=
  Cert.Reference5Ideal.Read.val_main_v27 (F := Ideal) (W0 m c (Proc.devRef .tc main_arg0)) (W0 m c (Proc.devRef .tc main_arg1)) (W0 m c (Proc.devRef .tc main_arg2)) (W0 m c (Proc.devRef .tc main_arg3))

theorem V_v28 : V m c main_v28 = shapeCast S4096x1024 (mixed m c) shapeCasts_S2x2048x1024_S4096x1024 := by
  show after (List.flatten [hostOps0]) (W0 m c) (Proc.devRef .tc _) = _
  simp only [List.flatten_cons, List.flatten_nil, List.append_nil, hostOps0]
  after_reads_simp
  rfl

theorem V_v29 : V m c main_v29 = shapeCast S4096x1024 (W0 m c (Proc.devRef .tc main_arg4)) shapeCasts_S2x2048x1024_S4096x1024 := by
  show after (List.flatten [hostOps0]) (W0 m c) (Proc.devRef .tc _) = _
  simp only [List.flatten_cons, List.flatten_nil, List.append_nil, hostOps0]
  after_reads_simp
  rfl

end K5

namespace R5
open Cert.Reference5Ideal Cert.Reference5Ideal.Gen Cert.Reference5Ideal.Read

variable (x0 : (⟨S2x2048x512, .f32⟩ : BufTy).Contents (Elt Ideal))
  (x1 : (⟨S2x2048x512, .f32⟩ : BufTy).Contents (Elt Ideal))
  (x2 : (⟨S1x512, .f32⟩ : BufTy).Contents (Elt Ideal))
  (x3 : (⟨S1x512, .f32⟩ : BufTy).Contents (Elt Ideal))
  (x4 : (⟨S2x2048x1024, .bf16⟩ : BufTy).Contents (Elt Ideal))

/-- The reference's product over the two sequences and their tokens. -/
theorem r30 (i : S1024x1024.Idx) : val_main_v30 (F := Ideal) x0 x1 x2 x3 x4 i
    = ∑ a : Fin 2, ∑ b : Fin 2048, x4 (ix3 (n0 := 2) (n1 := 2048) (n2 := 1024) a b (i 0)) * val_main_v27 (F := Ideal) x0 x1 x2 x3 (ix3 (n0 := 2) (n1 := 2048) (n2 := 1024) a b (i 1)) := by
  unfold val_main_v30 val_main_v29
  generalize val_main_v27 (F := Ideal) x0 x1 x2 x3 = y
  simp only [Host.dotGeneral]
  rw [Ideal.dotGeneral_apply, sum_contr2 dot_S2x2048x1024_S2x2048x1024_S1024x1024_01_01_2_2_n_n 2 2048 rfl rfl rfl]
  refine Finset.sum_congr rfl fun a _ => Finset.sum_congr rfl fun b _ => ?_
  have h0 := contrEquiv2_symm_val0 dot_S2x2048x1024_S2x2048x1024_S1024x1024_01_01_2_2_n_n 2 2048 rfl rfl rfl (a, b)
  have h1 := contrEquiv2_symm_val1 dot_S2x2048x1024_S2x2048x1024_S1024x1024_01_01_2_2_n_n 2 2048 rfl rfl rfl (a, b)
  rw [show dot_S2x2048x1024_S2x2048x1024_S1024x1024_01_01_2_2_n_n.lhsIdx i ((contrEquiv2 dot_S2x2048x1024_S2x2048x1024_S1024x1024_01_01_2_2_n_n 2 2048 rfl rfl rfl).symm (a, b))
      = ix3 (n0 := 2) (n1 := 2048) (n2 := 1024) a b (i 0) from funext fun j => Fin.ext (by match j with | ⟨0, _⟩ => exact h0 | ⟨1, _⟩ => exact h1 | ⟨2, _⟩ => rfl),
    show dot_S2x2048x1024_S2x2048x1024_S1024x1024_01_01_2_2_n_n.rhsIdx i ((contrEquiv2 dot_S2x2048x1024_S2x2048x1024_S1024x1024_01_01_2_2_n_n 2 2048 rfl rfl rfl).symm (a, b))
      = ix3 (n0 := 2) (n1 := 2048) (n2 := 1024) a b (i 1) from funext fun j => Fin.ext (by match j with | ⟨0, _⟩ => exact h0 | ⟨1, _⟩ => exact h1 | ⟨2, _⟩ => rfl)]
  rfl

/-- The same, over the tokens of both sequences laid end to end. -/
theorem r30_flat (i : S1024x1024.Idx) : val_main_v30 (F := Ideal) x0 x1 x2 x3 x4 i
    = ∑ k : Fin 4096, r3 2 2048 1024 (by decide) (by decide) (by decide) x4 (k.val / 2048) (k.val % 2048) (i 0).val
      * r3 2 2048 1024 (by decide) (by decide) (by decide) (val_main_v27 (F := Ideal) x0 x1 x2 x3) (k.val / 2048) (k.val % 2048) (i 1).val := by
  rw [r30, Fin.sum_univ_two, ← halves fun k => r3 2 2048 1024 (by decide) (by decide) (by decide) x4 (k / 2048) (k % 2048) (i 0).val
      * r3 2 2048 1024 (by decide) (by decide) (by decide) (val_main_v27 (F := Ideal) x0 x1 x2 x3) (k / 2048) (k % 2048) (i 1).val]
  have e : ∀ (a : Fin 2) (b : Fin 2048), (a.val * 2048 + b.val) / 2048 = a.val ∧ (a.val * 2048 + b.val) % 2048 = b.val := fun a b => by
    have hb := b.isLt
    omega
  have s : ∀ a : Fin 2, (∑ b : Fin 2048, x4 (ix3 (n0 := 2) (n1 := 2048) (n2 := 1024) a b (i 0)) * val_main_v27 (F := Ideal) x0 x1 x2 x3 (ix3 (n0 := 2) (n1 := 2048) (n2 := 1024) a b (i 1)))
      = ∑ b : Fin 2048, r3 2 2048 1024 (by decide) (by decide) (by decide) x4 ((a.val * 2048 + b.val) / 2048) ((a.val * 2048 + b.val) % 2048) (i 0).val
        * r3 2 2048 1024 (by decide) (by decide) (by decide) (val_main_v27 (F := Ideal) x0 x1 x2 x3) ((a.val * 2048 + b.val) / 2048) ((a.val * 2048 + b.val) % 2048) (i 1).val := fun a =>
    Finset.sum_congr rfl fun b _ => by
      rw [(e a b).1, (e a b).2]
      exact congrArg₂ (fun p q : EReal => p * q) (r3_at (by decide) (by decide) (by decide) x4 (ix3 (n0 := 2) (n1 := 2048) (n2 := 1024) a b (i 0))).symm
        (r3_at (by decide) (by decide) (by decide) (val_main_v27 (F := Ideal) x0 x1 x2 x3) (ix3 (n0 := 2) (n1 := 2048) (n2 := 1024) a b (i 1))).symm
  rw [s 0, s 1]
  rfl

/-- The reference's result at a row and a column. -/
theorem r32 (i : S1024x1024.Idx) : val_main_v32 (F := Ideal) x0 x1 x2 x3 x4 i
    = ∑ k : Fin 4096, r3 2 2048 1024 (by decide) (by decide) (by decide) x4 (k.val / 2048) (k.val % 2048) (i 1).val
      * r3 2 2048 1024 (by decide) (by decide) (by decide) (val_main_v27 (F := Ideal) x0 x1 x2 x3) (k.val / 2048) (k.val % 2048) (i 0).val := by
  rw [val_main_v32_apply, val_main_v31_apply]
  exact r30_flat x0 x1 x2 x3 x4 _

end R5

namespace K5
open Cert.Kernel5Ideal Cert.Kernel5Ideal.Gen Cert.Kernel5Ideal.Value

variable (m : (ℓ : Loc nD τ sig) → Buf (Elt Ideal) ℓ) (c : Dev nD)

theorem G_eq : G m c = Cert.Reference5Ideal.Read.val_main_v32 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) := by
  funext i
  rw [R5.r32]
  refine Finset.sum_congr rfl fun k _ => ?_
  have ha : fA m c k (i 0).val = r3 2 2048 1024 (by decide) (by decide) (by decide) (mixed m c) (k.val / 2048) (k.val % 2048) (i 0).val := by
    unfold fA
    rw [V_v28 m c]
    exact r2_of (by decide) (by decide) (flat (by decide) (mixed m c) _) k.isLt (i 0).isLt
  have hb : fB m c k (i 1).val = r3 2 2048 1024 (by decide) (by decide) (by decide) (W0 m c (Proc.devRef .tc main_arg4)) (k.val / 2048) (k.val % 2048) (i 1).val := by
    unfold fB
    rw [V_v29 m c]
    exact r2_of (by decide) (by decide) (flat (by decide) (W0 m c (Proc.devRef .tc main_arg4)) _) k.isLt (i 1).isLt
  rw [ha, hb]
  exact mul_comm _ _

/-- The output weight's gradient is its reference's. -/
theorem final : (dats m 0 c).arrAt 2 cfg0.N = Cert.Reference5Ideal.Read.val_main_v32 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) :=
  (final_G m c).trans (G_eq m c)

end K5

namespace K6
open Cert.Kernel6Ideal Cert.Kernel6Ideal.Gen Cert.Kernel6Ideal.Value

variable (m : (ℓ : Loc nD τ sig) → Buf (Elt Ideal) ℓ) (c : Dev nD)

abbrev W0 : Valuation τ sig (Elt Ideal) := fun b => m (c, b)

/-- The normalized, scaled and shifted input, as the reference has it. -/
abbrev hid : FVec Ideal ⟨3, ![2, 2048, 1024]⟩ .bf16 :=
  Cert.Reference6Ideal.Read.val_main_v21 (F := Ideal) (W0 m c (Proc.devRef .tc main_arg0)) (W0 m c (Proc.devRef .tc main_arg1)) (W0 m c (Proc.devRef .tc main_arg2))

theorem V_v22 : V m c main_v22 = shapeCast S4096x1024 (hid m c) shapeCasts_S2x2048x1024_S4096x1024 := by
  show after (List.flatten [hostOps0]) (W0 m c) (Proc.devRef .tc _) = _
  simp only [List.flatten_cons, List.flatten_nil, List.append_nil, hostOps0]
  after_reads_simp
  rfl

theorem V_v23 : V m c main_v23 = shapeCast S4096x2304 (W0 m c (Proc.devRef .tc main_arg3)) shapeCasts_S2x2048x2304_S4096x2304 := by
  show after (List.flatten [hostOps0]) (W0 m c) (Proc.devRef .tc _) = _
  simp only [List.flatten_cons, List.flatten_nil, List.append_nil, hostOps0]
  after_reads_simp
  rfl

end K6

namespace R6
open Cert.Reference6Ideal Cert.Reference6Ideal.Gen Cert.Reference6Ideal.Read

variable (x0 : (⟨S2x2048x1024, .f32⟩ : BufTy).Contents (Elt Ideal))
  (x1 : (⟨S2x6x1024, .f32⟩ : BufTy).Contents (Elt Ideal))
  (x2 : (⟨S1x1024, .f32⟩ : BufTy).Contents (Elt Ideal))
  (x3 : (⟨S2x2048x2304, .bf16⟩ : BufTy).Contents (Elt Ideal))

/-- The reference's product over the two sequences and their tokens. -/
theorem r24 (i : S2304x1024.Idx) : val_main_v24 (F := Ideal) x0 x1 x2 x3 i
    = ∑ a : Fin 2, ∑ b : Fin 2048, x3 (ix3 (n0 := 2) (n1 := 2048) (n2 := 2304) a b (i 0)) * val_main_v21 (F := Ideal) x0 x1 x2 (ix3 (n0 := 2) (n1 := 2048) (n2 := 1024) a b (i 1)) := by
  unfold val_main_v24 val_main_v23
  generalize val_main_v21 (F := Ideal) x0 x1 x2 = y
  simp only [Host.dotGeneral]
  rw [Ideal.dotGeneral_apply, sum_contr2 dot_S2x2048x2304_S2x2048x1024_S2304x1024_01_01_2_2_n_n 2 2048 rfl rfl rfl]
  refine Finset.sum_congr rfl fun a _ => Finset.sum_congr rfl fun b _ => ?_
  have h0 := contrEquiv2_symm_val0 dot_S2x2048x2304_S2x2048x1024_S2304x1024_01_01_2_2_n_n 2 2048 rfl rfl rfl (a, b)
  have h1 := contrEquiv2_symm_val1 dot_S2x2048x2304_S2x2048x1024_S2304x1024_01_01_2_2_n_n 2 2048 rfl rfl rfl (a, b)
  rw [show dot_S2x2048x2304_S2x2048x1024_S2304x1024_01_01_2_2_n_n.lhsIdx i ((contrEquiv2 dot_S2x2048x2304_S2x2048x1024_S2304x1024_01_01_2_2_n_n 2 2048 rfl rfl rfl).symm (a, b))
      = ix3 (n0 := 2) (n1 := 2048) (n2 := 2304) a b (i 0) from funext fun j => Fin.ext (by match j with | ⟨0, _⟩ => exact h0 | ⟨1, _⟩ => exact h1 | ⟨2, _⟩ => rfl),
    show dot_S2x2048x2304_S2x2048x1024_S2304x1024_01_01_2_2_n_n.rhsIdx i ((contrEquiv2 dot_S2x2048x2304_S2x2048x1024_S2304x1024_01_01_2_2_n_n 2 2048 rfl rfl rfl).symm (a, b))
      = ix3 (n0 := 2) (n1 := 2048) (n2 := 1024) a b (i 1) from funext fun j => Fin.ext (by match j with | ⟨0, _⟩ => exact h0 | ⟨1, _⟩ => exact h1 | ⟨2, _⟩ => rfl)]
  rfl

/-- The same, over the tokens of both sequences laid end to end. -/
theorem r24_flat (i : S2304x1024.Idx) : val_main_v24 (F := Ideal) x0 x1 x2 x3 i
    = ∑ k : Fin 4096, r3 2 2048 2304 (by decide) (by decide) (by decide) x3 (k.val / 2048) (k.val % 2048) (i 0).val
      * r3 2 2048 1024 (by decide) (by decide) (by decide) (val_main_v21 (F := Ideal) x0 x1 x2) (k.val / 2048) (k.val % 2048) (i 1).val := by
  rw [r24, Fin.sum_univ_two, ← halves fun k => r3 2 2048 2304 (by decide) (by decide) (by decide) x3 (k / 2048) (k % 2048) (i 0).val
      * r3 2 2048 1024 (by decide) (by decide) (by decide) (val_main_v21 (F := Ideal) x0 x1 x2) (k / 2048) (k % 2048) (i 1).val]
  have e : ∀ (a : Fin 2) (b : Fin 2048), (a.val * 2048 + b.val) / 2048 = a.val ∧ (a.val * 2048 + b.val) % 2048 = b.val := fun a b => by
    have hb := b.isLt
    omega
  have s : ∀ a : Fin 2, (∑ b : Fin 2048, x3 (ix3 (n0 := 2) (n1 := 2048) (n2 := 2304) a b (i 0)) * val_main_v21 (F := Ideal) x0 x1 x2 (ix3 (n0 := 2) (n1 := 2048) (n2 := 1024) a b (i 1)))
      = ∑ b : Fin 2048, r3 2 2048 2304 (by decide) (by decide) (by decide) x3 ((a.val * 2048 + b.val) / 2048) ((a.val * 2048 + b.val) % 2048) (i 0).val
        * r3 2 2048 1024 (by decide) (by decide) (by decide) (val_main_v21 (F := Ideal) x0 x1 x2) ((a.val * 2048 + b.val) / 2048) ((a.val * 2048 + b.val) % 2048) (i 1).val := fun a =>
    Finset.sum_congr rfl fun b _ => by
      rw [(e a b).1, (e a b).2]
      exact congrArg₂ (fun p q : EReal => p * q) (r3_at (by decide) (by decide) (by decide) x3 (ix3 (n0 := 2) (n1 := 2048) (n2 := 2304) a b (i 0))).symm
        (r3_at (by decide) (by decide) (by decide) (val_main_v21 (F := Ideal) x0 x1 x2) (ix3 (n0 := 2) (n1 := 2048) (n2 := 1024) a b (i 1))).symm
  rw [s 0, s 1]
  rfl

/-- The reference's result at a block, a row and a column of the block. -/
theorem r28 (i : S4x1024x576.Idx) : val_main_v28 (F := Ideal) x0 x1 x2 x3 i
    = ∑ k : Fin 4096, r3 2 2048 2304 (by decide) (by decide) (by decide) x3 (k.val / 2048) (k.val % 2048) ((i 0).val * 576 + (i 2).val)
      * r3 2 2048 1024 (by decide) (by decide) (by decide) (val_main_v21 (F := Ideal) x0 x1 x2) (k.val / 2048) (k.val % 2048) (i 1).val := by
  have h0 : (i 0).val < 4 := (i 0).isLt
  have h1 : (i 1).val < 1024 := (i 1).isLt
  have h2 : (i 2).val < 576 := (i 2).isLt
  rw [val_main_v28_apply, val_main_v27_apply, val_main_v26_apply, val_main_v25_apply]
  refine (r24_flat x0 x1 x2 x3 _).trans (Finset.sum_congr rfl fun k _ => ?_)
  refine congrArg₂ (fun a b : EReal => a * b) (congrArg (r3 2 2048 2304 _ _ _ x3 _ _) ?_) (congrArg (r3 2 2048 1024 _ _ _ (val_main_v21 (F := Ideal) x0 x1 x2) _ _) ?_)
  · show (((i 1).val * 4 + (i 0).val) * 576 + (i 2).val) % 2304 = _
    omega
  · show (((i 1).val * 4 + (i 0).val) * 576 + (i 2).val) / 2304 = _
    omega

end R6

namespace K6
open Cert.Kernel6Ideal Cert.Kernel6Ideal.Gen Cert.Kernel6Ideal.Value

variable (m : (ℓ : Loc nD τ sig) → Buf (Elt Ideal) ℓ) (c : Dev nD)

theorem G_eq : G m c = Cert.Reference6Ideal.Read.val_main_v28 (F := Ideal) (W0 m c (Proc.devRef .tc main_arg0)) (W0 m c (Proc.devRef .tc main_arg1)) (W0 m c (Proc.devRef .tc main_arg2)) (W0 m c (Proc.devRef .tc main_arg3)) := by
  funext i
  have h0 : (i 0).val < 4 := (i 0).isLt
  have h1 : (i 1).val < 1024 := (i 1).isLt
  have h2 : (i 2).val < 576 := (i 2).isLt
  rw [R6.r28]
  refine Finset.sum_congr rfl fun k _ => ?_
  have ha : fA m c k (i 1).val = r3 2 2048 1024 (by decide) (by decide) (by decide) (hid m c) (k.val / 2048) (k.val % 2048) (i 1).val := by
    unfold fA
    rw [V_v22 m c]
    exact r2_of (by decide) (by decide) (flat (by decide) (hid m c) _) k.isLt h1
  have hj : (i 0).val * 576 + (i 2).val < 2304 := by omega
  have hb : fB m c k ((i 0).val * 576 + (i 2).val)
      = r3 2 2048 2304 (by decide) (by decide) (by decide) (W0 m c (Proc.devRef .tc main_arg3)) (k.val / 2048) (k.val % 2048) ((i 0).val * 576 + (i 2).val) := by
    unfold fB
    rw [V_v23 m c]
    exact r2_of (by decide) (by decide) (flat (by decide) (W0 m c (Proc.devRef .tc main_arg3)) _) k.isLt hj
  rw [ha, hb]
  exact mul_comm _ _

/-- The input projection's gradient is its reference's. -/
theorem final : (dats m 0 c).arrAt 2 cfg0.N = Cert.Reference6Ideal.Read.val_main_v28 (F := Ideal) (W0 m c (Proc.devRef .tc main_arg0)) (W0 m c (Proc.devRef .tc main_arg1)) (W0 m c (Proc.devRef .tc main_arg2)) (W0 m c (Proc.devRef .tc main_arg3)) :=
  (final_G m c).trans (G_eq m c)

end K6

end Cert.Wg
-- ==== Proof.UpKern.lean ====
/- The channel mixer's first call: its stored values at exact arithmetic, and what one grid point leaves. -/
module

public import proofs.«01_k».proof.Proof.MlpOps
public import proofs.«01_k».proof.Proof.Gen.Kernel7Ideal.Value
public import Idealize.ShloMosaic.Lib.Pipeline.ValueKit.Tiles

@[expose] public section

set_option maxRecDepth 16384

noncomputable section

namespace Cert.Up

open Cert.Kernel7Ideal Cert.Kernel7Ideal.Gen Cert.Kernel7Ideal.Value Cert.Mlp Cert.Mlp.Kern Cert.Branch Idealize.ShloMosaic Idealize.ShloMosaic.ValueIdx Idealize.ShloMosaic.TcCoe Idealize.SL.Sem

/-! ## Blocks read and stored -/

section Boxes
variable {l n m l' n' m' o0 o1 o2 : ℕ}

/-- A read of a box is at the box's offsets. -/
theorem ld3 {X : Vec Ideal ⟨3, ![l, n, m]⟩ .f32} {f : ℕ → ℕ → ℕ → EReal} (h : Is3 (φ := .f32) X f) (inb) :
    Is3 (φ := .f32) (View.ld X (Rect.unit (s := ⟨3, ![l, n, m]⟩) ![o0, o1, o2] ![l', n', m'] inb)) fun a b c => f (o0 + a) (o1 + b) (o2 + c) := fun i => by
  refine (h _).trans ?_
  show (f (o0 + 1 * (i 0).val) (o1 + 1 * (i 1).val) (o2 + 1 * (i 2).val)) = _
  simp only [Nat.one_mul]
theorem ld2 {X : Vec Ideal ⟨2, ![n, m]⟩ .f32} {f : ℕ → ℕ → EReal} (h : Is2 (φ := .f32) X f) (inb) :
    Is2 (φ := .f32) (View.ld X (Rect.unit (s := ⟨2, ![n, m]⟩) ![o0, o1] ![n', m'] inb)) fun a b => f (o0 + a) (o1 + b) := fun i => by
  refine (h _).trans ?_
  show (f (o0 + 1 * (i 0).val) (o1 + 1 * (i 1).val)) = _
  simp only [Nat.one_mul]

/-- A stored box holds the numbers of the whole block at its offsets. -/
theorem piece {w : Vec Ideal ⟨3, ![l', n', m']⟩ .f32} {f g : ℕ → ℕ → ℕ → EReal} (h : Is3 (φ := .f32) w f) (inb)
    (e : ∀ a b c, f a b c = g (o0 + a) (o1 + b) (o2 + c)) (x : (⟨3, ![l', n', m']⟩ : Shape).Idx) :
    w x = g ((Rect.unit (s := ⟨3, ![l, n, m]⟩) ![o0, o1, o2] ![l', n', m'] inb).emb x 0).val ((Rect.unit (s := ⟨3, ![l, n, m]⟩) ![o0, o1, o2] ![l', n', m'] inb).emb x 1).val
      ((Rect.unit (s := ⟨3, ![l, n, m]⟩) ![o0, o1, o2] ![l', n', m'] inb).emb x 2).val := by
  rw [h x, e]
  show _ = g (o0 + 1 * (x 0).val) (o1 + 1 * (x 1).val) (o2 + 1 * (x 2).val)
  simp only [Nat.one_mul]

theorem ld3h {X : Vec Ideal ⟨3, ![l, n, m]⟩ .bf16} {f : ℕ → ℕ → ℕ → EReal} (h : Is3 (φ := .bf16) X f) (inb) :
    Is3 (φ := .bf16) (View.ld X (Rect.unit (s := ⟨3, ![l, n, m]⟩) ![o0, o1, o2] ![l', n', m'] inb)) fun a b c => f (o0 + a) (o1 + b) (o2 + c) := fun i => by
  refine (h _).trans ?_
  show (f (o0 + 1 * (i 0).val) (o1 + 1 * (i 1).val) (o2 + 1 * (i 2).val)) = _
  simp only [Nat.one_mul]
theorem ld2h {X : Vec Ideal ⟨2, ![n, m]⟩ .bf16} {f : ℕ → ℕ → EReal} (h : Is2 (φ := .bf16) X f) (inb) :
    Is2 (φ := .bf16) (View.ld X (Rect.unit (s := ⟨2, ![n, m]⟩) ![o0, o1] ![n', m'] inb)) fun a b => f (o0 + a) (o1 + b) := fun i => by
  refine (h _).trans ?_
  show (f (o0 + 1 * (i 0).val) (o1 + 1 * (i 1).val)) = _
  simp only [Nat.one_mul]

theorem pieceh {w : Vec Ideal ⟨3, ![l', n', m']⟩ .bf16} {f g : ℕ → ℕ → ℕ → EReal} (h : Is3 (φ := .bf16) w f) (inb)
    (e : ∀ a b c, f a b c = g (o0 + a) (o1 + b) (o2 + c)) (x : (⟨3, ![l', n', m']⟩ : Shape).Idx) :
    w x = g ((Rect.unit (s := ⟨3, ![l, n, m]⟩) ![o0, o1, o2] ![l', n', m'] inb).emb x 0).val ((Rect.unit (s := ⟨3, ![l, n, m]⟩) ![o0, o1, o2] ![l', n', m'] inb).emb x 1).val
      ((Rect.unit (s := ⟨3, ![l, n, m]⟩) ![o0, o1, o2] ![l', n', m'] inb).emb x 2).val := by
  rw [h x, e]
  show _ = g (o0 + 1 * (x 0).val) (o1 + 1 * (x 1).val) (o2 + 1 * (x 2).val)
  simp only [Nat.one_mul]

end Boxes

/-! ## The stored values -/

/-- The normalized, scaled and shifted row. -/
def hid (x g s b : ℕ → EReal) (e : ℕ) : EReal := xn x e * g e * (1 + s e) + b e
/-- The hidden value `n`. -/
def up (w : ℕ → ℕ → EReal) (h : ℕ → EReal) (n : ℕ) : EReal := ∑ k : Fin 1024, h k * w k n
/-- Its square where it is positive. -/
def act (u : EReal) : EReal := max u 0 * max u 0

variable {A B : ℕ → ℕ → EReal} {C : ℕ → ℕ → ℕ → EReal}

theorem mmn {a : FVec Ideal S512x1024 .bf16} {b : FVec Ideal S1024x1024 .bf16} (ha : Is2 a A) (hb : Is2 b B) :
    Is2 (matmul dot_S512x1024_S1024x1024_S512x1024_1_0_0_1_n_n none a b (constant S512x1024 .f32 0x00000000#32)) fun i j => ∑ k : Fin 1024, A i k * B k j := fun i => by
  show FloatOps.matmul dot_S512x1024_S1024x1024_S512x1024_1_0_0_1_n_n none a b (constant S512x1024 .f32 0x00000000#32) i = _
  rw [Ideal.matmul_apply, show constant (F := Ideal) S512x1024 .f32 0x00000000#32 i = 0 from Ideal.ofBits_zero_f32, zero_add,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  rw [show dot_S512x1024_S1024x1024_S512x1024_1_0_0_1_n_n.lhsIdx i ((contrEquiv1 dot_S512x1024_S1024x1024_S512x1024_1_0_0_1_n_n 1024 rfl rfl).symm k)
      = ix2 (n0 := 512) (n1 := 1024) (i 0) k from funext fun a => Fin.ext (by match a with | ⟨0, _⟩ => rfl | ⟨1, _⟩ => exact hk),
    show dot_S512x1024_S1024x1024_S512x1024_1_0_0_1_n_n.rhsIdx i ((contrEquiv1 dot_S512x1024_S1024x1024_S512x1024_1_0_0_1_n_n 1024 rfl rfl).symm k)
      = ix2 (n0 := 1024) (n1 := 1024) k (i 1) from funext fun a => Fin.ext (by match a with | ⟨0, _⟩ => exact hk | ⟨1, _⟩ => rfl),
    ha, hb]

/-- The square of the positive part, stored. -/
theorem sq {v : FVec Ideal S512x1024 .f32} (h : Is2 v A) : Is3 (φ := .bf16) (k0_pay10 v) fun _ i j => act (A i j) :=
  have p := Is2.max (φ := .f32) h (Is2.const czero)
  Is2.lift (φ := .bf16) (f := fun i j => act (A i j)) (a := truncf .bf16 (mulf (maximumf v (broadcast S512x1024 (Scalar.ofBits .f32 0x00000000#32))) (maximumf v (broadcast S512x1024 (Scalar.ofBits .f32 0x00000000#32)))) bitsLt_bf16_f32) (p.mul p) _

theorem p5 {x : Vec Ideal S1x512x1024 .f32} {g : Vec Ideal S1x1024 .f32} {s b : Vec Ideal S1x1x1024 .f32} {X S H : ℕ → ℕ → ℕ → EReal} {G : ℕ → ℕ → EReal}
    (hx : Is3 (φ := .f32) x X) (hg : Is2 (φ := .f32) g G) (hs : Is3 (φ := .f32) s S) (hb : Is3 (φ := .f32) b H) :
    Is2 (φ := .bf16) (k0_pay5 x g s b) fun i e => hid (X 0 i) (G 0) (S 0 0) (H 0 0) e :=
  Is2.add (φ := .f32) (Is2.mul (p16 hx hg) (Is2.rows (n := 512) (φ := .f32) ((Is2.const (c1.trans EReal.coe_one)).add (Is3.drop (φ := .f32) hs shapeCasts_S1x1x1024_S1x1024)) broadcasts_S1x1024_S512x1024 (by decide)))
    (Is2.rows (n := 512) (φ := .f32) (Is3.drop (φ := .f32) hb shapeCasts_S1x1x1024_S1x1024) broadcasts_S1x1024_S512x1024 (by decide))

variable {r : FVec Ideal S512x1024 .bf16} {w : Vec Ideal S1x1024x1024 .bf16}

theorem p2 (hr : Is2 r A) (hw : Is3 (φ := .bf16) w C) : Is2 (k0_pay2 r w) fun i j => ∑ k : Fin 1024, A i k * C 0 k j := mmn hr (Is3.drop hw _)
theorem p3 (hr : Is2 r A) (hw : Is3 (φ := .bf16) w C) : Is3 (φ := .bf16) (k0_pay3 r w) fun _ i j => ∑ k : Fin 1024, A i k * C 0 k j :=
  Is2.lift (φ := .bf16) (a := truncf .bf16 (k0_pay2 r w) bitsLt_bf16_f32) (f := fun i j => ∑ k : Fin 1024, A i k * C 0 k j) (p2 hr hw) _
theorem p4 (hr : Is2 r A) (hw : Is3 (φ := .bf16) w C) : Is3 (φ := .bf16) (k0_pay4 r w) fun _ i j => act (∑ k : Fin 1024, A i k * C 0 k j) := sq (p2 hr hw)

/-! ## One point -/

variable {x0 : Vec Ideal S1x512x1024 .f32} {x1 : Vec Ideal S1x6x1024 .f32} {x2 : Vec Ideal S1x1024 .f32} {x3 : Vec Ideal S4x1024x1024 .bf16}
  {X md : ℕ → ℕ → EReal} {g : ℕ → EReal} {wu : ℕ → ℕ → EReal}
  (h0 : Is3 (φ := .f32) x0 fun _ => X) (h1 : Is3 (φ := .f32) x1 fun _ => md) (h2 : Is2 (φ := .f32) x2 fun _ => g) (h3 : Is3 (φ := .bf16) x3 fun a e n => wu e (a * 1024 + n))

include h0 h1 h2 in
theorem row : Is2 (φ := .bf16) (k0_pay16 x0 x1 x2 x3) fun i e => hid (X i) g (md 4) (md 3) e :=
  (p5 (ld3 (o0 := 0) (o1 := 0) (o2 := 0) h0 inb_S1x512x1024_S1x512x1024_0_0_0) (ld2 (o0 := 0) (o1 := 0) h2 inb_S1x1024_S1x1024_0_0) (ld3 (o0 := 0) (o1 := 4) (o2 := 0) h1 inb_S1x6x1024_S1x1x1024_0_4_0)
    (ld3 (o0 := 0) (o1 := 3) (o2 := 0) h1 inb_S1x6x1024_S1x1x1024_0_3_0)).congr fun i e => by
      simp only [hid, xn, rr, ms, Nat.zero_add, Nat.add_zero]

include h0 h1 h2 in
theorem point4 : Is3 (φ := .bf16) (out0_4 x0 x1 x2 x3) fun _ i e => hid (X i) g (md 4) (md 3) e := fun y =>
  View.canon_eq_of_allAt _ _ _ (cover0_4 _ y) fun p hp x hx => by
    simp only [List.mem_cons, List.not_mem_nil, or_false] at hp
    subst hp
    rw [← hx]
    exact pieceh (o0 := 0) (o1 := 0) (o2 := 0) (g := fun _ i e => hid (X i) g (md 4) (md 3) e) (Is2.lift (φ := .bf16) (row (x3 := x3) h0 h1 h2) shapeCasts_S512x1024_S1x512x1024)
      inb_S1x512x1024_S1x512x1024_0_0_0 (fun a b c => by simp only [Nat.zero_add]) x

include h3 in
theorem block (a : ℕ) (inb) : Is3 (φ := .bf16) (View.ld x3 (Rect.unit (s := S4x1024x1024) ![a, 0, 0] S1x1024x1024.size inb)) fun a' e n => wu (0 + e) ((a + a') * 1024 + (0 + n)) :=
  ld3h (o0 := a) (o1 := 0) (o2 := 0) h3 inb

/-- The values of one point's hidden block. -/
abbrev hv (X md : ℕ → ℕ → EReal) (g : ℕ → EReal) (wu : ℕ → ℕ → EReal) (i n : ℕ) : EReal := up wu (hid (X i) g (md 4) (md 3)) n

theorem shift (a i n o : ℕ) (ho : a * 1024 = o) :
    (∑ k : Fin 1024, hid (X i) g (md 4) (md 3) k * wu (0 + k) ((a + 0) * 1024 + (0 + n))) = hv X md g wu (0 + i) (o + n) := by
  subst ho
  simp only [up, Nat.zero_add, Nat.add_zero]

include h0 h1 h2 h3 in
theorem point5 : Is3 (φ := .bf16) (out0_5 x0 x1 x2 x3) fun _ i n => hv X md g wu i n := fun y =>
  View.canon_eq_of_allAt _ _ _ (cover0_5 _ _ _ _ y) fun p hp x hx => by
    simp only [List.mem_cons, List.not_mem_nil, or_false] at hp
    rw [← hx]
    rcases hp with rfl | rfl | rfl | rfl
    · exact pieceh (o0 := 0) (o1 := 0) (o2 := 3072) (g := fun _ i n => hv X md g wu i n) (p3 (row (x3 := x3) h0 h1 h2) (block h3 3 inb_S4x1024x1024_S1x1024x1024_3_0_0)) inb_S1x512x4096_S1x512x1024_0_0_3072 (fun a b c => shift 3 b c 3072 rfl) x
    · exact pieceh (o0 := 0) (o1 := 0) (o2 := 2048) (g := fun _ i n => hv X md g wu i n) (p3 (row (x3 := x3) h0 h1 h2) (block h3 2 inb_S4x1024x1024_S1x1024x1024_2_0_0)) inb_S1x512x4096_S1x512x1024_0_0_2048 (fun a b c => shift 2 b c 2048 rfl) x
    · exact pieceh (o0 := 0) (o1 := 0) (o2 := 1024) (g := fun _ i n => hv X md g wu i n) (p3 (row (x3 := x3) h0 h1 h2) (block h3 1 inb_S4x1024x1024_S1x1024x1024_1_0_0)) inb_S1x512x4096_S1x512x1024_0_0_1024 (fun a b c => shift 1 b c 1024 rfl) x
    · exact pieceh (o0 := 0) (o1 := 0) (o2 := 0) (g := fun _ i n => hv X md g wu i n) (p3 (row (x3 := x3) h0 h1 h2) (block h3 0 inb_S4x1024x1024_S1x1024x1024_0_0_0)) inb_S1x512x4096_S1x512x1024_0_0_0 (fun a b c => shift 0 b c 0 rfl) x

include h0 h1 h2 h3 in
theorem point6 : Is3 (φ := .bf16) (out0_6 x0 x1 x2 x3) fun _ i n => act (hv X md g wu i n) := fun y =>
  View.canon_eq_of_allAt _ _ _ (cover0_6 _ _ _ _ y) fun p hp x hx => by
    simp only [List.mem_cons, List.not_mem_nil, or_false] at hp
    rw [← hx]
    rcases hp with rfl | rfl | rfl | rfl
    · exact pieceh (o0 := 0) (o1 := 0) (o2 := 3072) (g := fun _ i n => act (hv X md g wu i n)) (p4 (row (x3 := x3) h0 h1 h2) (block h3 3 inb_S4x1024x1024_S1x1024x1024_3_0_0)) inb_S1x512x4096_S1x512x1024_0_0_3072 (fun a b c => congrArg act (shift 3 b c 3072 rfl)) x
    · exact pieceh (o0 := 0) (o1 := 0) (o2 := 2048) (g := fun _ i n => act (hv X md g wu i n)) (p4 (row (x3 := x3) h0 h1 h2) (block h3 2 inb_S4x1024x1024_S1x1024x1024_2_0_0)) inb_S1x512x4096_S1x512x1024_0_0_2048 (fun a b c => congrArg act (shift 2 b c 2048 rfl)) x
    · exact pieceh (o0 := 0) (o1 := 0) (o2 := 1024) (g := fun _ i n => act (hv X md g wu i n)) (p4 (row (x3 := x3) h0 h1 h2) (block h3 1 inb_S4x1024x1024_S1x1024x1024_1_0_0)) inb_S1x512x4096_S1x512x1024_0_0_1024 (fun a b c => congrArg act (shift 1 b c 1024 rfl)) x
    · exact pieceh (o0 := 0) (o1 := 0) (o2 := 0) (g := fun _ i n => act (hv X md g wu i n)) (p4 (row (x3 := x3) h0 h1 h2) (block h3 0 inb_S4x1024x1024_S1x1024x1024_0_0_0)) inb_S1x512x4096_S1x512x1024_0_0_0 (fun a b c => congrArg act (shift 0 b c 0 rfl)) x

end Cert.Up
-- ==== Proof.UpOps.lean ====
/- The channel mixer's first call after its run: its operands as the region finds them, and its three result arrays whole. -/
module

public import proofs.«01_k».proof.Proof.UpKern
public import Idealize.ShloMosaic.Lib.StableHlo.RunRead
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Up

open Cert.Kernel7Ideal Cert.Kernel7Ideal.Gen Cert.Kernel7Ideal.Value Cert.Mlp Cert.Mlp.Kern Idealize.ShloMosaic Idealize.ShloMosaic.ValueIdx Idealize.ShloMosaic.TcCoe Idealize.SL.Sem
open Idealize.ShloMosaic.StableHlo
open Idealize.ShloMosaic.Pipeline (Dat)

/-- The four arguments hold the numbers that `D` lists. -/
structure Is7 (D : Data) (x0 : FVec Ideal ⟨3, ![2, 2048, 1024]⟩ .f32) (x1 : FVec Ideal ⟨3, ![2, 6, 1024]⟩ .f32) (x2 : FVec Ideal ⟨2, ![1, 1024]⟩ .f32)
    (x3 : FVec Ideal ⟨2, ![1024, 4096]⟩ .f32) : Prop where
  x : Is3 x0 D.x
  md : Is3 x1 D.md
  g : Is2 x2 fun _ => D.g
  wu : Is2 x3 D.wu

variable (x0 : FVec Ideal ⟨3, ![2, 2048, 1024]⟩ .f32) (x1 : FVec Ideal ⟨3, ![2, 6, 1024]⟩ .f32) (x2 : FVec Ideal ⟨2, ![1, 1024]⟩ .f32) (x3 : FVec Ideal ⟨2, ![1024, 4096]⟩ .f32) in
/-- The arguments by coordinates. -/
def data : Data where
  dy := fun _ _ _ => 0
  u := fun _ _ _ => 0
  wd := fun _ _ => 0
  wu := r2 1024 4096 (by decide) (by decide) x3
  x := r3 2 2048 1024 (by decide) (by decide) (by decide) x0
  gx := fun _ _ _ => 0
  md := r3 2 6 1024 (by decide) (by decide) (by decide) x1
  g := r2 1 1024 (by decide) (by decide) x2 0

variable (x0 : FVec Ideal ⟨3, ![2, 2048, 1024]⟩ .f32) (x1 : FVec Ideal ⟨3, ![2, 6, 1024]⟩ .f32) (x2 : FVec Ideal ⟨2, ![1, 1024]⟩ .f32) (x3 : FVec Ideal ⟨2, ![1024, 4096]⟩ .f32) in
theorem is_data : Is7 (data x0 x1 x2 x3) x0 x1 x2 x3 where
  wu := fun i => (r2_at (by decide) (by decide) x3 i).symm
  x := fun i => (r3_at (by decide) (by decide) (by decide) x0 i).symm
  md := fun i => (r3_at (by decide) (by decide) (by decide) x1 i).symm
  g := fun i => (row_at x2 i).symm

/-! ## The results -/

/-- The normalized rows, the hidden rows and their squares. -/
abbrev H (D : Data) (b s e : ℕ) : EReal := hid (D.x b s) D.g (D.md b 4) (D.md b 3) e
abbrev U (D : Data) (b s n : ℕ) : EReal := up D.wu (H D b s) n
abbrev A (D : Data) (b s n : ℕ) : EReal := act (U D b s n)
def Gh (D : Data) : S2x2048x1024.Idx → EReal := fun i => (H D (i 0).val (i 1).val (i 2).val)
def Gu (D : Data) : S2x2048x4096.Idx → EReal := fun i => (U D (i 0).val (i 1).val (i 2).val)
def Ga (D : Data) : S2x2048x4096.Idx → EReal := fun i => (A D (i 0).val (i 1).val (i 2).val)

/-! ## The blocks -/

theorem idx_facts : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = 0 ∧ win0_2.index t 1 = 0)
    ∧ (win0_3.index t 0 = 0 ∧ win0_3.index t 1 = 0 ∧ win0_3.index t 2 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0)
    ∧ (win0_6.index t 0 = t.val / 4 ∧ win0_6.index t 1 = t.val % 4 ∧ win0_6.index t 2 = 0) :=
  (by decide +kernel : ∀ t : Fin grid0.N, _)

section Blocks
variable (m : (ℓ : Loc nD τ sig) → Buf (Elt Ideal) ℓ) (c : Dev nD) (t : Fin cfg0.N) {D : Data}

/-- The launch memory's arguments hold the numbers that `D` lists. -/
abbrev IsM (D : Data) : Prop :=
  Is7 D (m ((c : Thread nD τ).loc main_arg0)) (m ((c : Thread nD τ).loc main_arg1)) (m ((c : Thread nD τ).loc main_arg2)) (m ((c : Thread nD τ).loc main_arg3))

/-- The launch memory of a device. -/
abbrev W0 : Valuation τ sig (Elt Ideal) := fun b => m (c, b)

theorem V_v2 : V m c main_v2 = truncf (F := Ideal) .bf16 (transpose S4x1024x1024 [1, 0, 2]
    (shapeCast S1024x4x1024 (W0 m c (Proc.devRef .tc main_arg3)) shapeCasts_S1024x4096_S1024x4x1024) transposes_S1024x4x1024_S4x1024x1024_1_0_2) bitsLt_bf16_f32 := by
  show after (List.flatten [hostOps0]) (W0 m c) (Proc.devRef .tc _) = _
  simp only [List.flatten_cons, List.flatten_nil, List.append_nil, hostOps0]
  after_reads_simp
  rfl

theorem emb0 (i : S1x512x1024.Idx) : ((win0_0.rect t).emb i 0 : ℕ) = t.val / 4 ∧ ((win0_0.rect t).emb i 1 : ℕ) = t.val % 4 * 512 + (i 1).val ∧ ((win0_0.rect t).emb i 2 : ℕ) = (i 2).val := by
  obtain ⟨e0, e1, e2⟩ := (idx_facts t).1
  have b0 : (i 0).val < 1 := (i 0).isLt
  refine ⟨(Pipeline.Window.rect_emb_val win0_0 t i 0).trans ?_, (Pipeline.Window.rect_emb_val win0_0 t i 1).trans ?_, (Pipeline.Window.rect_emb_val win0_0 t i 2).trans ?_⟩
  · rw [e0]; show t.val / 4 * 1 + (i 0).val = _; omega
  · rw [e1]; show t.val % 4 * 512 + (i 1).val = _; omega
  · rw [e2]; show 0 * 1024 + (i 2).val = _; omega

theorem emb1 (i : S1x6x1024.Idx) : ((win0_1.rect t).emb i 0 : ℕ) = t.val / 4 ∧ ((win0_1.rect t).emb i 1 : ℕ) = (i 1).val ∧ ((win0_1.rect t).emb i 2 : ℕ) = (i 2).val := by
  obtain ⟨e0, e1, e2⟩ := (idx_facts t).2.1
  have b0 : (i 0).val < 1 := (i 0).isLt
  refine ⟨(Pipeline.Window.rect_emb_val win0_1 t i 0).trans ?_, (Pipeline.Window.rect_emb_val win0_1 t i 1).trans ?_, (Pipeline.Window.rect_emb_val win0_1 t i 2).trans ?_⟩
  · rw [e0]; show t.val / 4 * 1 + (i 0).val = _; omega
  · rw [e1]; show 0 * 6 + (i 1).val = _; omega
  · rw [e2]; show 0 * 1024 + (i 2).val = _; omega

theorem emb2 (i : S1x1024.Idx) : ((win0_2.rect t).emb i 0 : ℕ) = (i 0).val ∧ ((win0_2.rect t).emb i 1 : ℕ) = (i 1).val := by
  obtain ⟨e0, e1⟩ := (idx_facts t).2.2.1
  refine ⟨(Pipeline.Window.rect_emb_val win0_2 t i 0).trans ?_, (Pipeline.Window.rect_emb_val win0_2 t i 1).trans ?_⟩
  · rw [e0]; show 0 * 1 + (i 0).val = _; omega
  · rw [e1]; show 0 * 1024 + (i 1).val = _; omega

theorem emb3 (i : S4x1024x1024.Idx) : ((win0_3.rect t).emb i 0 : ℕ) = (i 0).val ∧ ((win0_3.rect t).emb i 1 : ℕ) = (i 1).val ∧ ((win0_3.rect t).emb i 2 : ℕ) = (i 2).val := by
  obtain ⟨e0, e1, e2⟩ := (idx_facts t).2.2.2.1
  refine ⟨(Pipeline.Window.rect_emb_val win0_3 t i 0).trans ?_, (Pipeline.Window.rect_emb_val win0_3 t i 1).trans ?_, (Pipeline.Window.rect_emb_val win0_3 t i 2).trans ?_⟩
  · rw [e0]; show 0 * 4 + (i 0).val = _; omega
  · rw [e1]; show 0 * 1024 + (i 1).val = _; omega
  · rw [e2]; show 0 * 1024 + (i 2).val = _; omega

theorem emb4 (i : S1x512x1024.Idx) : ((win0_4.rect t).emb i 0 : ℕ) = t.val / 4 ∧ ((win0_4.rect t).emb i 1 : ℕ) = t.val % 4 * 512 + (i 1).val ∧ ((win0_4.rect t).emb i 2 : ℕ) = (i 2).val := by
  obtain ⟨e0, e1, e2⟩ := (idx_facts t).2.2.2.2.1
  have b0 : (i 0).val < 1 := (i 0).isLt
  refine ⟨(Pipeline.Window.rect_emb_val win0_4 t i 0).trans ?_, (Pipeline.Window.rect_emb_val win0_4 t i 1).trans ?_, (Pipeline.Window.rect_emb_val win0_4 t i 2).trans ?_⟩
  · rw [e0]; show t.val / 4 * 1 + (i 0).val = _; omega
  · rw [e1]; show t.val % 4 * 512 + (i 1).val = _; omega
  · rw [e2]; show 0 * 1024 + (i 2).val = _; omega

theorem emb5 (i : S1x512x4096.Idx) : ((win0_5.rect t).emb i 0 : ℕ) = t.val / 4 ∧ ((win0_5.rect t).emb i 1 : ℕ) = t.val % 4 * 512 + (i 1).val ∧ ((win0_5.rect t).emb i 2 : ℕ) = (i 2).val := by
  obtain ⟨e0, e1, e2⟩ := (idx_facts t).2.2.2.2.2.1
  have b0 : (i 0).val < 1 := (i 0).isLt
  refine ⟨(Pipeline.Window.rect_emb_val win0_5 t i 0).trans ?_, (Pipeline.Window.rect_emb_val win0_5 t i 1).trans ?_, (Pipeline.Window.rect_emb_val win0_5 t i 2).trans ?_⟩
  · rw [e0]; show t.val / 4 * 1 + (i 0).val = _; omega
  · rw [e1]; show t.val % 4 * 512 + (i 1).val = _; omega
  · rw [e2]; show 0 * 4096 + (i 2).val = _; omega

theorem emb6 (i : S1x512x4096.Idx) : ((win0_6.rect t).emb i 0 : ℕ) = t.val / 4 ∧ ((win0_6.rect t).emb i 1 : ℕ) = t.val % 4 * 512 + (i 1).val ∧ ((win0_6.rect t).emb i 2 : ℕ) = (i 2).val := by
  obtain ⟨e0, e1, e2⟩ := (idx_facts t).2.2.2.2.2.2
  have b0 : (i 0).val < 1 := (i 0).isLt
  refine ⟨(Pipeline.Window.rect_emb_val win0_6 t i 0).trans ?_, (Pipeline.Window.rect_emb_val win0_6 t i 1).trans ?_, (Pipeline.Window.rect_emb_val win0_6 t i 2).trans ?_⟩
  · rw [e0]; show t.val / 4 * 1 + (i 0).val = _; omega
  · rw [e1]; show t.val % 4 * 512 + (i 1).val = _; omega
  · rw [e2]; show 0 * 4096 + (i 2).val = _; omega

variable (h : IsM m c D)

include h in
theorem v2 : Is3 (φ := .bf16) (l := 4) (n := 1024) (m := 1024) (V m c main_v2) fun a e n => D.wu e (a * 1024 + n) := fun i => by
  rw [V_v2]
  have b0 : (i 0).val < 4 := (i 0).isLt
  have b2 : (i 2).val < 1024 := (i 2).isLt
  show transpose S4x1024x1024 [1, 0, 2] (shapeCast S1024x4x1024 (W0 m c (Proc.devRef .tc main_arg3)) shapeCasts_S1024x4096_S1024x4x1024) transposes_S1024x4x1024_S4x1024x1024_1_0_2 i = _
  refine (transpose_apply _ _ transposes_S1024x4x1024_S4x1024x1024_1_0_2 i (ix3 (n0 := 1024) (n1 := 4) (n2 := 1024) (i 1) (i 0) (i 2)) (fun b => match b with | ⟨0, _⟩ => rfl | ⟨1, _⟩ => rfl | ⟨2, _⟩ => rfl)).trans ?_
  refine (shapeCast_apply _ _ _ (ix2 (n0 := 1024) (n1 := 4096) (i 1) ⟨(i 0).val * 1024 + (i 2).val, by omega⟩) ?_).trans ?_
  · rw [Shape.rowMajor_val_two, Shape.rowMajor_val_three]
    show (i 1).val * 4096 + ((i 0).val * 1024 + (i 2).val) = ((i 1).val * 4 + (i 0).val) * 1024 + (i 2).val
    omega
  exact h.wu _

include h in
theorem ib0 : Is3 (φ := .f32) (l := 1) (n := 512) (m := 1024) (iblk m c 0 t) fun _ r k => D.x (t.val / 4) (t.val % 4 * 512 + r) k := fun i => by
  obtain ⟨f0, f1, f2⟩ := emb0 t i
  exact (congrFun (V_main_arg0 m c) ((win0_0.rect t).emb i)).trans ((h.x ((win0_0.rect t).emb i)).trans (at3 D.x f0 f1 f2))
include h in
theorem ib1 : Is3 (φ := .f32) (l := 1) (n := 6) (m := 1024) (iblk m c 1 t) fun _ r k => D.md (t.val / 4) r k := fun i => by
  obtain ⟨f0, f1, f2⟩ := emb1 t i
  exact (congrFun (V_main_arg1 m c) ((win0_1.rect t).emb i)).trans ((h.md ((win0_1.rect t).emb i)).trans (at3 D.md f0 f1 f2))
include h in
theorem ib2 : Is2 (φ := .f32) (n := 1) (m := 1024) (iblk m c 2 t) fun _ k => D.g k := fun i => by
  obtain ⟨f0, f1⟩ := emb2 t i
  exact (congrFun (V_main_arg2 m c) ((win0_2.rect t).emb i)).trans ((h.g ((win0_2.rect t).emb i)).trans (at2 (fun _ => D.g) f0 f1))
include h in
theorem ib3 : Is3 (φ := .bf16) (l := 4) (n := 1024) (m := 1024) (iblk m c 3 t) fun a e n => D.wu e (a * 1024 + n) := fun i => by
  obtain ⟨f0, f1, f2⟩ := emb3 t i
  exact (v2 m c h ((win0_3.rect t).emb i)).trans (at3 (fun a e n => D.wu e (a * 1024 + n)) f0 f1 f2)

include h in
theorem flushed_Gh : (dats m 0 c).flushed 4 t = ((cfg0.win 4).blk t).view.read (Elt Ideal) (Gh D) := by
  rw [flushed4]
  funext i
  obtain ⟨f0, f1, f2⟩ := emb4 t i
  exact (point4 (x3 := iblk m c 3 t) (ib0 m c t h) (ib1 m c t h) (ib2 m c t h) i).trans (at3 (H D) f0 f1 f2).symm
include h in
theorem final_Gh : (dats m 0 c).arrAt 4 cfg0.N = Gh D :=
  (dats m 0 c).arrAt_eq_of_cover 4 (Gh D) (fun t _ => flushed_Gh m c t h) ((by decide +kernel : win0_4.Covers).cover _ (Memref.isWhole_whole _))

include h in
theorem flushed_Gu : (dats m 0 c).flushed 5 t = ((cfg0.win 5).blk t).view.read (Elt Ideal) (Gu D) := by
  rw [flushed5]
  funext i
  obtain ⟨f0, f1, f2⟩ := emb5 t i
  exact (point5 (ib0 m c t h) (ib1 m c t h) (ib2 m c t h) (ib3 m c t h) i).trans (at3 (U D) f0 f1 f2).symm
include h in
theorem final_Gu : (dats m 0 c).arrAt 5 cfg0.N = Gu D :=
  (dats m 0 c).arrAt_eq_of_cover 5 (Gu D) (fun t _ => flushed_Gu m c t h) ((by decide +kernel : win0_5.Covers).cover _ (Memref.isWhole_whole _))

include h in
theorem flushed_Ga : (dats m 0 c).flushed 6 t = ((cfg0.win 6).blk t).view.read (Elt Ideal) (Ga D) := by
  rw [flushed6]
  funext i
  obtain ⟨f0, f1, f2⟩ := emb6 t i
  exact (point6 (ib0 m c t h) (ib1 m c t h) (ib2 m c t h) (ib3 m c t h) i).trans (at3 (A D) f0 f1 f2).symm
include h in
theorem final_Ga : (dats m 0 c).arrAt 6 cfg0.N = Ga D :=
  (dats m 0 c).arrAt_eq_of_cover 6 (Ga D) (fun t _ => flushed_Ga m c t h) ((by decide +kernel : win0_6.Covers).cover _ (Memref.isWhole_whole _))

end Blocks

end Cert.Up
-- ==== Proof.UpRef.lean ====
/- The channel mixer's first call's reference, read one operation at a time as functions of the coordinates. -/
module

public import proofs.«01_k».proof.Proof.UpOps
public import proofs.«01_k».proof.Proof.Gen.Reference7Ideal.Read
public import proofs.«01_k».proof.Proof.MlpRef

@[expose] public section

set_option maxRecDepth 16384

noncomputable section

namespace Cert.Up.Ref

open Cert.Reference7Ideal Cert.Reference7Ideal.Gen Cert.Reference7Ideal.Read Cert.Branch Cert.Mlp Cert.Mlp.Kern Cert.Mlp.Ref Cert.Up
open Idealize.ShloMosaic Idealize.ShloMosaic.ValueIdx Idealize.ShloMosaic.StableHlo

variable {D : Mlp.Data} {x0 : (⟨S2x2048x1024, .f32⟩ : BufTy).Contents (Elt Ideal)} {x1 : (⟨S2x6x1024, .f32⟩ : BufTy).Contents (Elt Ideal)}
  {x2 : (⟨S1x1024, .f32⟩ : BufTy).Contents (Elt Ideal)} {x3 : (⟨S1024x4096, .f32⟩ : BufTy).Contents (Elt Ideal)} (h : Is7 D x0 x1 x2 x3)

include h in
theorem r7 (i : S2x2048x1.Idx) : val_main_v7 (F := Ideal) x0 i = (rr (D.x (i 0).val (i 1).val)) := by
  have e5 : val_main_v5 (F := Ideal) i = (eps) := by rw [val_main_v5_apply, val_main_cst_1_apply]; exact ceps
  have e3 : val_main_v3 (F := Ideal) i = len := by rw [val_main_v3_apply, val_main_cst_0_apply]; exact clen
  have e2 : val_main_v2 (F := Ideal) x0 i = (∑ k : Fin 1024, D.x (i 0).val (i 1).val k * D.x (i 0).val (i 1).val k) := by
    rw [val_main_v2_apply, val_main_v1_apply, val_main_cst_apply]
    refine (zadd _).trans ?_
    refine Finset.sum_congr rfl fun k _ => ?_
    have e : x0 (idx_main_v1 (idx_main_v2 i) k) = (D.x (i 0).val (i 1).val k) := h.x _
    rw [val_main_v0_apply, e]; rfl
  have e4 : val_main_v4 (F := Ideal) x0 i = Ideal.div (∑ k : Fin 1024, D.x (i 0).val (i 1).val k * D.x (i 0).val (i 1).val k) len := by
    rw [val_main_v4_apply, e2, e3]; rfl
  have e6 : val_main_v6 (F := Ideal) x0 i = ms (D.x (i 0).val (i 1).val) := by rw [val_main_v6_apply, e4, e5]; rfl
  rw [val_main_v7_apply, e6]; rfl

include h in
theorem r20 (i : S2x2048x1024.Idx) : val_main_v20 (F := Ideal) x0 x1 x2 i = (H D (i 0).val (i 1).val (i 2).val) := by
  have e9 : val_main_v9 (F := Ideal) x0 i = xn (D.x (i 0).val (i 1).val) (i 2).val := by
    have e : x0 i = (D.x (i 0).val (i 1).val (i 2).val) := h.x i
    rw [val_main_v9_apply, val_main_v8_apply, r7 h, e]; rfl
  have e12 : val_main_v12 (F := Ideal) x0 x2 i = xn (D.x (i 0).val (i 1).val) (i 2).val * D.g (i 2).val := by
    have e : x2 (idx_main_v10 (idx_main_v11 i)) = (D.g (i 2).val) := h.g _
    rw [val_main_v12_apply, e9, val_main_v11_apply, val_main_v10_apply, e]; rfl
  have e16 : val_main_v16 (F := Ideal) x1 i = 1 + D.md (i 0).val 4 (i 2).val := by
    have e : x1 (idx_main_v13 (idx_main_v16 i)) = (D.md (i 0).val 4 (i 2).val) := h.md _
    have e14 : val_main_v14 (F := Ideal) (idx_main_v16 i) = (1) := by rw [val_main_v14_apply, val_main_cst_2_apply]; exact c1.trans EReal.coe_one
    rw [val_main_v16_apply, val_main_v15_apply, val_main_v13_apply, e, e14]; rfl
  have e19 : val_main_v19 (F := Ideal) x1 i = D.md (i 0).val 3 (i 2).val := by
    have e : x1 (idx_main_v18 (idx_main_v19 i)) = (D.md (i 0).val 3 (i 2).val) := h.md _
    rw [val_main_v19_apply, val_main_v18_apply, e]
  rw [val_main_v20_apply, val_main_v17_apply, e12, e16, e19]; rfl

include h in
theorem r22 (i : S2x2048x1024.Idx) : val_main_v22 (F := Ideal) x0 x1 x2 i = Gh D i := r20 h i

include h in
theorem r23 (i : S2x2048x4096.Idx) : val_main_v23 (F := Ideal) x0 x1 x2 x3 i = Gu D i := by
  show val_main_v21 (F := Ideal) x0 x1 x2 x3 i = _
  rw [val_main_v21_apply]
  show _ = ∑ k : Fin 1024, H D (i 0).val (i 1).val k * D.wu k (i 2).val
  refine Finset.sum_congr rfl fun k _ => ?_
  have e' : x3 (ridx_main_v21 i k) = (D.wu k (i 2).val) := h.wu _
  rw [r20 h, e']

include h in
theorem r26 (i : S2x2048x4096.Idx) : val_main_v26 (F := Ideal) x0 x1 x2 x3 i = Ga D i := by
  have e21 : val_main_v21 (F := Ideal) x0 x1 x2 x3 i = Gu D i := r23 h i
  have e0 : val_main_call0_v0 (F := Ideal) i = 0 := by rw [val_main_call0_v0_apply, val_main_call0_cst_apply]; exact czero
  have e24 : val_main_v24 (F := Ideal) x0 x1 x2 x3 i = max (Gu D i) 0 := by rw [val_main_v24_apply, e21, e0]; rfl
  show val_main_v25 (F := Ideal) x0 x1 x2 x3 i = _
  rw [val_main_v25_apply, e24]; rfl

end Cert.Up.Ref
-- ==== Proof.DownVal.lean ====
/- The channel mixer's second call: its stored values at exact arithmetic, and what one grid point leaves. -/
module

public import proofs.«01_k».proof.Proof.MlpLoad
public import proofs.«01_k».proof.Proof.Gen.Kernel8Ideal.Value

@[expose] public section

set_option maxRecDepth 16384

noncomputable section

namespace Cert.Down

open Cert.Kernel8Ideal Cert.Kernel8Ideal.Gen Cert.Branch Cert.Mlp Cert.Mlp.Kern Idealize.ShloMosaic Idealize.ShloMosaic.ValueIdx Idealize.ShloMosaic.TcCoe Idealize.SL.Sem

/-- One over the row's length. -/
def inv : EReal := ((1 / 1024 : ℝ) : EReal)
theorem cinv : (FloatOps.ofBits (F := Ideal) .f32 0x3A800000#32) = inv := by
  show Ideal.ofBits .f32 0x3A800000#32 = _
  unfold inv
  simp [Ideal.ofBits, Ideal.ieee, -EReal.coe_mul]; norm_num

/-! ## One row -/

section Row
variable (w : ℕ → ℕ → EReal) (g gt a x t : ℕ → EReal) (e : ℕ)

/-- The product with the second weight. -/
def yy : EReal := ∑ k : Fin 4096, a k * w k e
/-- The difference between the row's output and the target. -/
def er : EReal := x e + gt e * (xn (yy w a) e * g e) - t e
/-- The cotangent of the row's output, and that of the normalized row times its gain. -/
def go : EReal := er w g gt a x t e * inv
def d2 : EReal := go w g gt a x t e * gt e
/-- The cotangent of the product. -/
def dyo : EReal := gxo (yy w a) (fun _ => 0) (d2 w g gt a x t) g e

end Row

/-! ## The stored values -/

/-- A sum over all entries of a single matrix in a stack is a double sum. -/
theorem sum_all {n m : ℕ} (x : (⟨3, ![1, n, m]⟩ : Shape).Idx → EReal) : (∑ i, x i) = ∑ s : Fin n, ∑ e : Fin m, x (ix3 (n0 := 1) (n1 := n) (n2 := m) 0 s e) := by
  rw [← Finset.sum_product']
  refine Finset.sum_bij' (fun i _ => ((i 1 : Fin n), (i 2 : Fin m))) (fun p _ => ix3 (n0 := 1) (n1 := n) (n2 := m) 0 p.1 p.2) ?_ ?_ ?_ ?_ ?_
  · exact fun _ _ => Finset.mem_product.mpr ⟨Finset.mem_univ _, Finset.mem_univ _⟩
  · exact fun _ _ => Finset.mem_univ _
  · intro i _
    have h0 : (i 0).val < 1 := (i 0).isLt
    funext a
    match a with
    | ⟨0, _⟩ => exact Fin.ext (show 0 = (i 0).val by omega)
    | ⟨1, _⟩ => rfl
    | ⟨2, _⟩ => rfl
  · exact fun _ _ => rfl
  · intro i _
    have h0 : (i 0).val < 1 := (i 0).isLt
    refine congrArg x (funext fun a => ?_)
    match a with
    | ⟨0, _⟩ => exact Fin.ext (show (i 0).val = 0 by omega)
    | ⟨1, _⟩ => rfl
    | ⟨2, _⟩ => rfl

/-- A recast to the same shape changes nothing. -/
theorem same {n m : ℕ} {v : FVec Ideal ⟨2, ![n, m]⟩ .f32} {f : ℕ → ℕ → EReal} (hv : Is2 v f) (h) : Is2 (shapeCast (⟨2, ![n, m]⟩ : Shape) v h) f :=
  fun i => (shapeCast_apply v h i i rfl).trans (hv i)
theorem sameh {n m : ℕ} {v : FVec Ideal ⟨2, ![n, m]⟩ .bf16} {f : ℕ → ℕ → EReal} (hv : Is2 v f) (h) : Is2 (shapeCast (⟨2, ![n, m]⟩ : Shape) v h) f :=
  fun i => (shapeCast_apply v h i i rfl).trans (hv i)

/-- Rounding changes nothing at exact arithmetic. -/
theorem half {n m : ℕ} {v : FVec Ideal ⟨2, ![n, m]⟩ .f32} {f : ℕ → ℕ → EReal} (hv : Is2 v f) (h) : Is2 (truncf .bf16 v h) f := fun i => hv i

section Pay
variable {A W R X Y N V G S : ℕ → ℕ → EReal} {T C : ℕ → ℕ → ℕ → EReal}

theorem mmk {a : FVec Ideal S512x4096 .bf16} {b : FVec Ideal S4096x1024 .bf16} (ha : Is2 a A) (hb : Is2 b W) :
    Is2 (matmul dot_S512x4096_S4096x1024_S512x1024_1_0_0_1_n_n none a b (constant S512x1024 .f32 0x00000000#32)) fun i j => ∑ k : Fin 4096, A i k * W k j := fun i => by
  show FloatOps.matmul dot_S512x4096_S4096x1024_S512x1024_1_0_0_1_n_n none a b (constant S512x1024 .f32 0x00000000#32) i = _
  rw [Ideal.matmul_apply, show constant (F := Ideal) S512x1024 .f32 0x00000000#32 i = 0 from Ideal.ofBits_zero_f32, zero_add,
    ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  rw [show dot_S512x4096_S4096x1024_S512x1024_1_0_0_1_n_n.lhsIdx i ((contrEquiv1 dot_S512x4096_S4096x1024_S512x1024_1_0_0_1_n_n 4096 rfl rfl).symm k)
      = ix2 (n0 := 512) (n1 := 4096) (i 0) k from funext fun a => Fin.ext (by match a with | ⟨0, _⟩ => rfl | ⟨1, _⟩ => exact hk),
    show dot_S512x4096_S4096x1024_S512x1024_1_0_0_1_n_n.rhsIdx i ((contrEquiv1 dot_S512x4096_S4096x1024_S512x1024_1_0_0_1_n_n 4096 rfl rfl).symm k)
      = ix2 (n0 := 4096) (n1 := 1024) k (i 1) from funext fun a => Fin.ext (by match a with | ⟨0, _⟩ => exact hk | ⟨1, _⟩ => rfl),
    ha, hb]

section Rows
variable {v8 : Vec Ideal S1x512x4096 .bf16} {v10 : Vec Ideal S4096x1024 .bf16} {v23 : Vec Ideal S1x1024 .f32} {v24 : Vec Ideal S1x1x1024 .f32} {v28 : Vec Ideal S1x512x1024 .f32}
  {g : ℕ → EReal} (h8 : Is3 (φ := .bf16) v8 fun _ => A) (h10 : Is2 (φ := .bf16) v10 W)

include h8 h10
theorem p5 : Is2 (k0_pay5 v8 v10) fun i e => yy W (A i) e := mmk (Is3.drop (φ := .bf16) h8 shapeCasts_S1x512x4096_S512x4096) (sameh h10 _)
theorem p6 : Is2 (k0_pay6 v8 v10) fun i _ => rr (yy W (A i)) :=
  ((rowsum ((p5 h8 h10).mul (p5 h8 h10)) _ _ _ _).divc (Is2.const clen)).add (Is2.const ceps) |>.rsqrt
theorem p7 : Is2 (k0_pay7 v8 v10) fun i e => xn (yy W (A i)) e := (p5 h8 h10).mul ((p6 h8 h10).cols _ (by decide))
theorem p9 (hg : Is2 (φ := .f32) v23 fun _ => g) : Is2 (k0_pay9 v8 v10 v23) fun i e => xn (yy W (A i)) e * g e := (p7 h8 h10).mul (Is2.rows hg _ (by decide))
omit h8 h10
theorem p8 (hs : Is3 (φ := .f32) v24 T) : Is2 (k0_pay8 v24) fun i j => T 0 i j := Is3.drop hs _
include h8 h10
theorem p10 (hg : Is2 (φ := .f32) v23 fun _ => g) (hs : Is3 (φ := .f32) v24 T) (hx : Is3 (φ := .f32) v28 C) :
    Is2 (k0_pay10 v8 v10 v23 v24 v28) fun i e => C 0 i e + T 0 0 e * (xn (yy W (A i)) e * g e) :=
  (Is3.drop hx _).add ((Is2.rows (p8 hs) _ (by decide)).mul (p9 h8 h10 hg))
end Rows

variable {v20 : FVec Ideal S512x1 .f32} {v22 v27 v32 v35 v42 : FVec Ideal S512x1024 .f32} {v23 v68 v75 : Vec Ideal S1x1024 .f32} {v25 v69 : FVec Ideal S1x1024 .f32}
  {v33 : Vec Ideal S1x512x1024 .f32} {v59 : Vec Ideal S1x1x1024 .f32}

section Out
variable (h32 : Is2 v32 Y) (h33 : Is3 (φ := .f32) v33 T)
include h32 h33
theorem p11 : Is2 (k0_pay11 v32 v33) fun i e => Y i e - T 0 i e := h32.sub (Is3.drop h33 _)
theorem p12 : Is2 (k0_pay12 v32 v33) fun i e => (Y i e - T 0 i e) * inv := (p11 h32 h33).mul (Is2.const cinv)
theorem p13 : Is3 (k0_pay13 v32 v33) fun _ i e => (Y i e - T 0 i e) * inv := (p12 h32 h33).lift _
theorem p14 (h25 : Is2 v25 S) : Is2 (k0_pay14 v25 v32 v33) fun i e => (Y i e - T 0 i e) * inv * S 0 e := (p12 h32 h33).mul (Is2.rows h25 _ (by decide))
theorem p15a (h25 : Is2 v25 S) (h23 : Is2 (φ := .f32) v23 G) : Is2 (mulf (k0_pay14 v25 v32 v33) (broadcastTo S512x1024 v23 broadcasts_S1x1024_S512x1024)) fun i e => (Y i e - T 0 i e) * inv * S 0 e * G 0 e :=
  (p14 h32 h33 h25).mul (Is2.rows h23 _ (by decide))
theorem p15 (h20 : Is2 v20 R) (h22 : Is2 v22 X) (h23 : Is2 (φ := .f32) v23 G) (h25 : Is2 v25 S) : Is3 (φ := .bf16) (k0_pay15 v20 v22 v23 v25 v32 v33)
    fun _ i e => R i 0 * ((Y i e - T 0 i e) * inv * S 0 e * G 0 e - X i e * Ideal.div (∑ k : Fin 1024, (Y i k - T 0 i k) * inv * S 0 k * G 0 k * X i k) len) :=
  have q := (h20.cols (m := 1024) broadcasts_S512x1_S512x1024 (by decide)).mul ((p15a h32 h33 h25 h23).sub (h22.mul
    (((rowsum ((p15a h32 h33 h25 h23).mul h22) reduces_S512x1024_S512 (.inl rfl) rfl shapeCasts_S512_S512x1).divc (Is2.const clen)).cols (m := 1024) broadcasts_S512x1_S512x1024 (by decide))))
  (half q bitsLt_bf16_f32).lift shapeCasts_S512x1024_S1x512x1024
theorem p16 (h27 : Is2 v27 N) (h59 : Is3 (φ := .f32) v59 C) : Is3 (k0_pay16 v27 v32 v33 v59) fun _ _ j => C 0 0 j + ∑ k : Fin 512, (Y k j - T 0 k j) * inv * N k j := by
  intro i
  have h1 : (i 1).val = 0 := by have h : (i 1).val < 1 := (i 1).isLt; omega
  have h := (((Is3.drop h59 shapeCasts_S1x1x1024_S1x1024).add (colsum ((p12 h32 h33).mul h27) reduces_S512x1024_S1024 (.inl rfl) rfl shapeCasts_S1024_S1x1024)).lift shapeCasts_S1x1024_S1x1x1024) i
  rw [h1] at h
  exact h
end Out

theorem p17 (h : Is2 (φ := .f32) v68 R) : Is2 (k0_pay17 v68) R := same h _
theorem p1 (h22 : Is2 v22 X) (h42 : Is2 v42 V) (h69 : Is2 v69 R) : Is2 (k0_pay1 v22 v42 v69) fun i j => R i j + ∑ k : Fin 512, V k j * X k j :=
  h69.add (g := fun _ j => ∑ k : Fin 512, V k j * X k j) (colsum (h42.mul h22) reduces_S512x1024_S1024 (.inl rfl) rfl shapeCasts_S1024_S1x1024)

/-- The sum of all squares, in every lane. -/
theorem total {v : FVec Ideal S1x512x1024 .f32} {F : ℕ → ℕ → EReal} (hv : Is3 v fun _ => F) (h) (hφ) (hc) (hs) (hp) (h1) (hb) :
    Is2 (broadcastTo S1x1024 (shapeCast S1x1 (broadcast S1x1 (extractAt ![0, 0, 0] (shapeCast S1x1x1 (multiReduction .add [1, 2] S1 v 0x00000000#32 h hφ hc) hs) hp)) h1) hb)
      fun _ _ => ∑ r : Fin 512, ∑ k : Fin 1024, F r k := fun i => by
  refine (broadcastTo_apply _ hb i (ix2 (n0 := 1) (n1 := 1) 0 0) (fun b => ?_)).trans ?_
  · match b with
    | ⟨0, _⟩ => exact (if_pos rfl).symm
    | ⟨1, _⟩ => exact (if_pos rfl).symm
  refine (shapeCast_apply _ h1 _ _ rfl).trans ?_
  refine (shapeCast_apply (t := S1x1x1) _ hs _ (ix1 (n := 1) 0) ?_).trans ?_
  · rw [Shape.rowMajor_val_one, Shape.rowMajor_val_three]
    rfl
  · rw [Ideal.multiReduction_add_total _ _ _ (by decide), sum_all]
    exact Finset.sum_congr rfl fun r _ => Finset.sum_congr rfl fun k _ => hv _

theorem p2 (h35 : Is2 v35 V) (h75 : Is2 (φ := .f32) v75 R) : Is2 (k0_pay2 v35 v75) fun i j => R i j + ∑ r : Fin 512, ∑ k : Fin 1024, V r k * V r k :=
  (same h75 _).add (total ((h35.mul h35).lift _) _ _ _ _ _ _ _)

theorem p3 : Is3 (k0_pay3 (F := Ideal)) fun _ _ _ => 0 := (Is2.const czero).lift _
theorem p4 : Is2 (k0_pay4 (F := Ideal)) fun _ _ => 0 := Is2.const czero

end Pay

end Cert.Down
-- ==== Proof.DownKern.lean ====
/- What one grid point of the channel mixer's second call leaves in its output blocks, as functions of what it loads. -/
module

public import proofs.«01_k».proof.Proof.DownVal

@[expose] public section

set_option maxRecDepth 16384

noncomputable section

namespace Cert.Down

open Cert.Kernel8Ideal Cert.Kernel8Ideal.Gen Cert.Branch Cert.Mlp Cert.Mlp.Kern Idealize.ShloMosaic Idealize.ShloMosaic.ValueIdx Idealize.ShloMosaic.TcCoe Idealize.SL.Sem

/-- One point's parts of the accumulated sums. -/
def T8 (w : ℕ → ℕ → EReal) (g gt : ℕ → EReal) (a x t : ℕ → ℕ → EReal) (j e : ℕ) : EReal :=
  if j = 0 then ∑ r : Fin 512, go w g gt (a r) (x r) (t r) e * (xn (yy w (a r)) e * g e) else 0
def T9 (w : ℕ → ℕ → EReal) (g gt : ℕ → EReal) (a x t : ℕ → ℕ → EReal) (j e : ℕ) : EReal :=
  if j = 0 then ∑ r : Fin 512, d2 w g gt (a r) (x r) (t r) e * xn (yy w (a r)) e
  else if j = 1 then ∑ r : Fin 512, ∑ k : Fin 1024, er w g gt (a r) (x r) (t r) k * er w g gt (a r) (x r) (t r) k else 0

/-- Two descriptions of a single row need agree on that row only. -/
theorem _root_.Cert.Mlp.Kern.Is2.congr' {m : ℕ} {v : FVec Ideal ⟨2, ![1, m]⟩ .f32} {f g : ℕ → ℕ → EReal} (h : Is2 v f) (e : ∀ i j, i = 0 → f i j = g i j) : Is2 v g := fun i => by
  have hi : (i 0).val < 1 := (i 0).isLt
  exact (h i).trans (e _ _ (by omega))

variable {w : ℕ → ℕ → EReal} {g : ℕ → EReal} {md a x t : ℕ → ℕ → EReal} {o8 o9 : ℕ → ℕ → EReal}

theorem pointA (c : Dev nD) (i : grid0.Coords) (arg2 : Memref sig .tc .vmem S1x512x4096 .bf16) (harg2 : arg2.IsWhole) (arg3 : Memref sig .tc .vmem S4096x1024 .bf16) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .bf16) (harg9 : arg9.IsWhole) (arg10 : Memref sig .tc .vmem S1x8x1024 .f32) (harg10 : arg10.IsWhole) (arg11 : Memref sig .tc .vmem S8x1024 .f32) (harg11 : arg11.IsWhole) (hc0 : cond0_0 i) (hc1 : cond0_1 i)
    (x0 : Vec Ideal S1x512x4096 .bf16) (x1 : Vec Ideal S4096x1024 .bf16) (x2 : Vec Ideal S1x512x1024 .f32) (x3 : Vec Ideal S1x512x1024 .f32) (x4 : Vec Ideal S1x6x1024 .f32) (x5 : Vec Ideal S1x1024 .f32)
    (h0 : Is3 (φ := .bf16) x0 fun _ r k => a r k)
    (h1 : Is2 (φ := .bf16) x1 w)
    (h2 : Is3 (φ := .f32) x2 fun _ r e => x r e)
    (h3 : Is3 (φ := .f32) x3 fun _ r e => t r e)
    (h4 : Is3 (φ := .f32) x4 fun _ m e => md m e)
    (h5 : Is2 (φ := .f32) x5 fun _ e => g e) :
    (Is3 (φ := .f32) (out0_A_6 c i arg2 harg2 arg3 harg3 arg4 harg4 arg5 harg5 arg6 harg6 arg7 harg7 arg8 harg8 arg9 harg9 arg10 harg10 arg11 harg11 hc0 hc1 x0 x1 x2 x3 x4 x5) fun _ r e => go w g (md 5) (a r) (x r) (t r) e)
    ∧ (Is3 (φ := .bf16) (out0_A_7 c i arg2 harg2 arg3 harg3 arg4 harg4 arg5 harg5 arg6 harg6 arg7 harg7 arg8 harg8 arg9 harg9 arg10 harg10 arg11 harg11 hc0 hc1 x0 x1 x2 x3 x4 x5) fun _ r e => dyo w g (md 5) (a r) (x r) (t r) e)
    ∧ (Is3 (φ := .f32) (out0_A_8 c i arg2 harg2 arg3 harg3 arg4 harg4 arg5 harg5 arg6 harg6 arg7 harg7 arg8 harg8 arg9 harg9 arg10 harg10 arg11 harg11 hc0 hc1 x0 x1 x2 x3 x4 x5) fun _ j e => T8 w g (md 5) a x t j e)
    ∧ (Is2 (φ := .f32) (out0_A_9 c i arg2 harg2 arg3 harg3 arg4 harg4 arg5 harg5 arg6 harg6 arg7 harg7 arg8 harg8 arg9 harg9 arg10 harg10 arg11 harg11 hc0 hc1 x0 x1 x2 x3 x4 x5) fun j e => T9 w g (md 5) a x t j e) := by
  have hA : Is3 (φ := .bf16) (View.readAt (Elt Ideal) arg2.view (Rect.unit (s := S1x512x4096) ![0, 0, 0] S1x512x4096.size inb_S1x512x4096_S1x512x4096_0_0_0).toLoadRect (harg2.unread x0)) fun _ => a :=
    ((h0.unh harg2).boxh _ _).congr fun a b c => by simp only [Nat.zero_add]
  have hW : Is2 (φ := .bf16) (View.readAt (Elt Ideal) arg3.view (Rect.unit (s := S4096x1024) ![0, 0] S4096x1024.size inb_S4096x1024_S4096x1024_0_0).toLoadRect (harg3.unread x1)) w :=
    ((h1.unh harg3).boxh _ _).congr fun a b => by simp only [Nat.zero_add]
  have hX : Is3 (φ := .f32) (View.readAt (Elt Ideal) arg4.view (Rect.unit (s := S1x512x1024) ![0, 0, 0] S1x512x1024.size inb_S1x512x1024_S1x512x1024_0_0_0).toLoadRect (harg4.unread x2)) fun _ => x :=
    ((h2.un harg4).box _ _).congr fun a b c => by simp only [Nat.zero_add]
  have hT : Is3 (φ := .f32) (View.readAt (Elt Ideal) arg5.view (Rect.unit (s := S1x512x1024) ![0, 0, 0] S1x512x1024.size inb_S1x512x1024_S1x512x1024_0_0_0).toLoadRect (harg5.unread x3)) fun _ => t :=
    ((h3.un harg5).box _ _).congr fun a b c => by simp only [Nat.zero_add]
  have hM : Is3 (φ := .f32) (View.readAt (Elt Ideal) arg6.view (Rect.unit (s := S1x6x1024) ![0, 5, 0] S1x1x1024.size inb_S1x6x1024_S1x1x1024_0_5_0).toLoadRect (harg6.unread x4)) fun _ b => md (5 + b) :=
    ((h4.un harg6).box _ _).congr fun a b c => by simp only [Nat.zero_add]
  have hG : Is2 (φ := .f32) (View.readAt (Elt Ideal) arg7.view (Rect.unit (s := S1x1024) ![0, 0] S1x1024.size inb_S1x1024_S1x1024_0_0).toLoadRect (harg7.unread x5)) fun _ => g :=
    ((h5.un harg7).box _ _).congr fun a b => by simp only [Nat.zero_add]
  have k0 : Is2 (kernelRun0_A.sl.r (F := Ideal) c arg2 harg2 arg3 harg3 x0 x1) fun r _ => rr (yy w (a r)) := p6 hA hW
  have k1 : Is2 (kernelRun0_A.sl.r_1 (F := Ideal) c arg2 harg2 arg3 harg3 x0 x1) fun r e => xn (yy w (a r)) e := p7 hA hW
  have k3 : Is2 (kernelRun0_A.sl.r_3 (F := Ideal) c arg6 harg6 x4) fun i e => md (5 + i) e := p8 hM
  have k4 : Is2 (kernelRun0_A.sl.r_4 (F := Ideal) c arg2 harg2 arg3 harg3 arg7 harg7 x0 x1 x5) fun r e => xn (yy w (a r)) e * g e := p9 hA hW hG
  have k5 : Is2 (kernelRun0_A.sl.r_5 (F := Ideal) c arg2 harg2 arg3 harg3 arg4 harg4 arg6 harg6 arg7 harg7 x0 x1 x2 x4 x5) fun r e => x r e + md 5 e * (xn (yy w (a r)) e * g e) := p10 hA hW hG hM hX
  have k6 : Is2 (kernelRun0_A.sl.r_6 (F := Ideal) c arg2 harg2 arg3 harg3 arg4 harg4 arg5 harg5 arg6 harg6 arg7 harg7 x0 x1 x2 x3 x4 x5) fun r e => er w g (md 5) (a r) (x r) (t r) e := p11 k5 hT
  have k7 : Is2 (kernelRun0_A.sl.r_7 (F := Ideal) c arg2 harg2 arg3 harg3 arg4 harg4 arg5 harg5 arg6 harg6 arg7 harg7 x0 x1 x2 x3 x4 x5) fun r e => d2 w g (md 5) (a r) (x r) (t r) e := p14 k5 hT k3
  have a8 : ∀ (v : View sig .tc .vmem S1x8x1024 .f32) (X : v.ty.Contents (Elt Ideal)), Is3 (φ := .f32)
      (v.read (Elt Ideal) (v.writes (Elt Ideal) X (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.1)) fun _ j e => T8 w g (md 5) a x t j e := fun v X => by
    have z : Is3 (φ := .f32) (arg10.view.read (Elt Ideal) (arg10.view.writes (Elt Ideal) arg10.view.junk (kernelRun0_A.sl.H8_1 (F := Ideal)))) fun _ j e => (fun _ _ => (0:EReal)) j e := p3.whole _ _ _
    have a0 : Is3 (φ := .f32) (k0_pay16 (kernelRun0_A.sl.r_4 (F := Ideal) c arg2 harg2 arg3 harg3 arg7 harg7 x0 x1 x5) (kernelRun0_A.sl.r_5 (F := Ideal) c arg2 harg2 arg3 harg3 arg4 harg4 arg6 harg6 arg7 harg7 x0 x1 x2 x4 x5) (View.readAt (Elt Ideal) arg5.view (Rect.unit (s := S1x512x1024) ![0, 0, 0] S1x512x1024.size inb_S1x512x1024_S1x512x1024_0_0_0).toLoadRect (harg5.unread x3)) (kernelRun0_A.sl.v59 (F := Ideal) c arg10)) fun _ _ e => 0 + ∑ r : Fin 512, go w g (md 5) (a r) (x r) (t r) e * (xn (yy w (a r)) e * g e) :=
      (p16 k5 hT k4 (z.box (o0 := 0) (o1 := 0) (o2 := 0) _ inb_S1x8x1024_S1x1x1024_0_0_0)).congr fun _ _ _ => by simp only [Nat.zero_add]; rfl
    refine (Is3.row (o := 0) v X _ a0 (p3.whole _ _ _) _).congr fun _ j e => ?_
    unfold T8
    by_cases j0 : j = 0
    · subst j0; simp
    · simp [j0]
  have a9 : ∀ (v : View sig .tc .vmem S8x1024 .f32) (X : v.ty.Contents (Elt Ideal)), Is2 (φ := .f32)
      (v.read (Elt Ideal) (v.writes (Elt Ideal) X (kernelRun0_A (F := Ideal) c i arg2 harg2 arg3 harg3 arg4 harg4 arg5 harg5 arg6 harg6 arg7 harg7 arg8 harg8 arg9 harg9 arg10 harg10 arg11 harg11 hc0 hc1 x0 x1 x2 x3 x4 x5).2.2.2.1)) fun j e => T9 w g (md 5) a x t j e := fun v X => by
    have z : Is2 (φ := .f32) (arg11.view.read (Elt Ideal) (arg11.view.writes (Elt Ideal) arg11.view.junk (kernelRun0_A.sl.H9_1 (F := Ideal)))) (fun _ _ => (0:EReal)) := p4.whole _ _ _
    have b0 : Is2 (φ := .f32) (k0_pay1 (kernelRun0_A.sl.r_1 (F := Ideal) c arg2 harg2 arg3 harg3 x0 x1) (kernelRun0_A.sl.r_7 (F := Ideal) c arg2 harg2 arg3 harg3 arg4 harg4 arg5 harg5 arg6 harg6 arg7 harg7 x0 x1 x2 x3 x4 x5) (kernelRun0_A.sl.r_8 (F := Ideal) c arg11)) fun _ e => 0 + ∑ r : Fin 512, d2 w g (md 5) (a r) (x r) (t r) e * xn (yy w (a r)) e :=
      (p1 k1 k7 (p17 (z.box (o0 := 0) (o1 := 0) (n' := 1) (m' := 1024) _ inb_S8x1024_S1x1024_0_0))).congr' fun j e hj => by subst hj; simp only [Nat.zero_add]
    have b1 := (p2 k6 ((Is2.row (o := 0) _ _ _ b0 z inb_S8x1024_S1x1024_0_0).box (o0 := 1) (o1 := 0) (n' := 1) (m' := 1024) _ inb_S8x1024_S1x1024_1_0)).congr'
      (g := fun _ e => 0 + ∑ r : Fin 512, ∑ k : Fin 1024, er w g (md 5) (a r) (x r) (t r) k * er w g (md 5) (a r) (x r) (t r) k) fun j e hj => by subst hj; simp only [Nat.zero_add, Nat.add_zero, if_neg Nat.one_ne_zero]
    refine (Is2.row (o := 1) v X _ b1 (Is2.row (o := 0) v X _ b0 (p4.whole _ _ _) _) _).congr fun j e => ?_
    unfold T9
    by_cases j0 : j = 0
    · subst j0; simp
    · by_cases j1 : j = 1
      · subst j1; simp
      · simp [j0, j1]
  exact ⟨(p13 k5 hT).whole _ _ _, Is3.wholeh _ _ ((p15 k5 hT k0 k1 hG k3).congr fun _ _ _ => (zero_add _).symm) _, a8 _ _, a9 _ _⟩

theorem pointB (c : Dev nD) (i : grid0.Coords) (arg2 : Memref sig .tc .vmem S1x512x4096 .bf16) (harg2 : arg2.IsWhole) (arg3 : Memref sig .tc .vmem S4096x1024 .bf16) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .bf16) (harg9 : arg9.IsWhole) (arg10 : Memref sig .tc .vmem S1x8x1024 .f32) (harg10 : arg10.IsWhole) (arg11 : Memref sig .tc .vmem S8x1024 .f32) (harg11 : arg11.IsWhole) (hc0 : ¬cond0_0 i) (hc1 : ¬cond0_1 i)
    (x0 : Vec Ideal S1x512x4096 .bf16) (x1 : Vec Ideal S4096x1024 .bf16) (x2 : Vec Ideal S1x512x1024 .f32) (x3 : Vec Ideal S1x512x1024 .f32) (x4 : Vec Ideal S1x6x1024 .f32) (x5 : Vec Ideal S1x1024 .f32) (xo8 : Vec Ideal S1x8x1024 .f32) (xo9 : Vec Ideal S8x1024 .f32)
    (h0 : Is3 (φ := .bf16) x0 fun _ r k => a r k)
    (h1 : Is2 (φ := .bf16) x1 w)
    (h2 : Is3 (φ := .f32) x2 fun _ r e => x r e)
    (h3 : Is3 (φ := .f32) x3 fun _ r e => t r e)
    (h4 : Is3 (φ := .f32) x4 fun _ m e => md m e)
    (h5 : Is2 (φ := .f32) x5 fun _ e => g e)
    (ho9 : Is2 (φ := .f32) xo9 o9)
    (ho8 : Is3 (φ := .f32) xo8 fun _ j e => o8 j e) :
    (Is3 (φ := .f32) (out0_B_6 c i arg2 harg2 arg3 harg3 arg4 harg4 arg5 harg5 arg6 harg6 arg7 harg7 arg8 harg8 arg9 harg9 arg10 harg10 arg11 harg11 hc0 hc1 x0 x1 x2 x3 x4 x5 xo8 xo9) fun _ r e => go w g (md 5) (a r) (x r) (t r) e)
    ∧ (Is3 (φ := .bf16) (out0_B_7 c i arg2 harg2 arg3 harg3 arg4 harg4 arg5 harg5 arg6 harg6 arg7 harg7 arg8 harg8 arg9 harg9 arg10 harg10 arg11 harg11 hc0 hc1 x0 x1 x2 x3 x4 x5 xo8 xo9) fun _ r e => dyo w g (md 5) (a r) (x r) (t r) e)
    ∧ (Is3 (φ := .f32) (out0_B_8 c i arg2 harg2 arg3 harg3 arg4 harg4 arg5 harg5 arg6 harg6 arg7 harg7 arg8 harg8 arg9 harg9 arg10 harg10 arg11 harg11 hc0 hc1 x0 x1 x2 x3 x4 x5 xo8 xo9) fun _ j e => o8 j e + T8 w g (md 5) a x t j e)
    ∧ (Is2 (φ := .f32) (out0_B_9 c i arg2 harg2 arg3 harg3 arg4 harg4 arg5 harg5 arg6 harg6 arg7 harg7 arg8 harg8 arg9 harg9 arg10 harg10 arg11 harg11 hc0 hc1 x0 x1 x2 x3 x4 x5 xo8 xo9) fun j e => o9 j e + T9 w g (md 5) a x t j e) := by
  have hA : Is3 (φ := .bf16) (View.readAt (Elt Ideal) arg2.view (Rect.unit (s := S1x512x4096) ![0, 0, 0] S1x512x4096.size inb_S1x512x4096_S1x512x4096_0_0_0).toLoadRect (harg2.unread x0)) fun _ => a :=
    ((h0.unh harg2).boxh _ _).congr fun a b c => by simp only [Nat.zero_add]
  have hW : Is2 (φ := .bf16) (View.readAt (Elt Ideal) arg3.view (Rect.unit (s := S4096x1024) ![0, 0] S4096x1024.size inb_S4096x1024_S4096x1024_0_0).toLoadRect (harg3.unread x1)) w :=
    ((h1.unh harg3).boxh _ _).congr fun a b => by simp only [Nat.zero_add]
  have hX : Is3 (φ := .f32) (View.readAt (Elt Ideal) arg4.view (Rect.unit (s := S1x512x1024) ![0, 0, 0] S1x512x1024.size inb_S1x512x1024_S1x512x1024_0_0_0).toLoadRect (harg4.unread x2)) fun _ => x :=
    ((h2.un harg4).box _ _).congr fun a b c => by simp only [Nat.zero_add]
  have hT : Is3 (φ := .f32) (View.readAt (Elt Ideal) arg5.view (Rect.unit (s := S1x512x1024) ![0, 0, 0] S1x512x1024.size inb_S1x512x1024_S1x512x1024_0_0_0).toLoadRect (harg5.unread x3)) fun _ => t :=
    ((h3.un harg5).box _ _).congr fun a b c => by simp only [Nat.zero_add]
  have hM : Is3 (φ := .f32) (View.readAt (Elt Ideal) arg6.view (Rect.unit (s := S1x6x1024) ![0, 5, 0] S1x1x1024.size inb_S1x6x1024_S1x1x1024_0_5_0).toLoadRect (harg6.unread x4)) fun _ b => md (5 + b) :=
    ((h4.un harg6).box _ _).congr fun a b c => by simp only [Nat.zero_add]
  have hG : Is2 (φ := .f32) (View.readAt (Elt Ideal) arg7.view (Rect.unit (s := S1x1024) ![0, 0] S1x1024.size inb_S1x1024_S1x1024_0_0).toLoadRect (harg7.unread x5)) fun _ => g :=
    ((h5.un harg7).box _ _).congr fun a b => by simp only [Nat.zero_add]
  have k0 : Is2 (kernelRun0_B.sl.r (F := Ideal) c arg2 harg2 arg3 harg3 x0 x1) fun r _ => rr (yy w (a r)) := p6 hA hW
  have k1 : Is2 (kernelRun0_B.sl.r_1 (F := Ideal) c arg2 harg2 arg3 harg3 x0 x1) fun r e => xn (yy w (a r)) e := p7 hA hW
  have k3 : Is2 (kernelRun0_B.sl.r_3 (F := Ideal) c arg6 harg6 x4) fun i e => md (5 + i) e := p8 hM
  have k4 : Is2 (kernelRun0_B.sl.r_4 (F := Ideal) c arg2 harg2 arg3 harg3 arg7 harg7 x0 x1 x5) fun r e => xn (yy w (a r)) e * g e := p9 hA hW hG
  have k5 : Is2 (kernelRun0_B.sl.r_5 (F := Ideal) c arg2 harg2 arg3 harg3 arg4 harg4 arg6 harg6 arg7 harg7 x0 x1 x2 x4 x5) fun r e => x r e + md 5 e * (xn (yy w (a r)) e * g e) := p10 hA hW hG hM hX
  have k6 : Is2 (kernelRun0_B.sl.r_6 (F := Ideal) c arg2 harg2 arg3 harg3 arg4 harg4 arg5 harg5 arg6 harg6 arg7 harg7 x0 x1 x2 x3 x4 x5) fun r e => er w g (md 5) (a r) (x r) (t r) e := p11 k5 hT
  have k7 : Is2 (kernelRun0_B.sl.r_7 (F := Ideal) c arg2 harg2 arg3 harg3 arg4 harg4 arg5 harg5 arg6 harg6 arg7 harg7 x0 x1 x2 x3 x4 x5) fun r e => d2 w g (md 5) (a r) (x r) (t r) e := p14 k5 hT k3
  have a8 : ∀ (v : View sig .tc .vmem S1x8x1024 .f32) (X : v.ty.Contents (Elt Ideal)) (hv : Is3 (φ := .f32) (v.read (Elt Ideal) X) fun _ j e => o8 j e), Is3 (φ := .f32)
      (v.read (Elt Ideal) (v.writes (Elt Ideal) X (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo8 xo9).2.2.1)) fun _ j e => o8 j e + T8 w g (md 5) a x t j e := fun v X hv => by
    have z : Is3 (φ := .f32) (arg10.view.read (Elt Ideal) (harg10.unread xo8)) fun _ j e => o8 j e := ho8.un harg10
    have a0 : Is3 (φ := .f32) (k0_pay16 (kernelRun0_B.sl.r_4 (F := Ideal) c arg2 harg2 arg3 harg3 arg7 harg7 x0 x1 x5) (kernelRun0_B.sl.r_5 (F := Ideal) c arg2 harg2 arg3 harg3 arg4 harg4 arg6 harg6 arg7 harg7 x0 x1 x2 x4 x5) (View.readAt (Elt Ideal) arg5.view (Rect.unit (s := S1x512x1024) ![0, 0, 0] S1x512x1024.size inb_S1x512x1024_S1x512x1024_0_0_0).toLoadRect (harg5.unread x3)) _) fun _ _ e => o8 0 e + ∑ r : Fin 512, go w g (md 5) (a r) (x r) (t r) e * (xn (yy w (a r)) e * g e) :=
      (p16 k5 hT k4 (z.box (o0 := 0) (o1 := 0) (o2 := 0) _ inb_S1x8x1024_S1x1x1024_0_0_0)).congr fun _ _ _ => by simp only [Nat.zero_add]; rfl
    refine (Is3.row (o := 0) v X [] a0 (hv) _).congr fun _ j e => ?_
    unfold T8
    by_cases j0 : j = 0
    · subst j0; simp
    · simp [j0]
  have a9 : ∀ (v : View sig .tc .vmem S8x1024 .f32) (X : v.ty.Contents (Elt Ideal)) (hv : Is2 (φ := .f32) (v.read (Elt Ideal) X) o9), Is2 (φ := .f32)
      (v.read (Elt Ideal) (v.writes (Elt Ideal) X (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 xo8 xo9).2.2.2.1)) fun j e => o9 j e + T9 w g (md 5) a x t j e := fun v X hv => by
    have z : Is2 (φ := .f32) (arg11.view.read (Elt Ideal) (harg11.unread xo9)) o9 := ho9.un harg11
    have b0 : Is2 (φ := .f32) (k0_pay1 (kernelRun0_B.sl.r_1 (F := Ideal) c arg2 harg2 arg3 harg3 x0 x1) (kernelRun0_B.sl.r_7 (F := Ideal) c arg2 harg2 arg3 harg3 arg4 harg4 arg5 harg5 arg6 harg6 arg7 harg7 x0 x1 x2 x3 x4 x5) (kernelRun0_B.sl.r_8 (F := Ideal) c arg11 harg11 xo9)) fun _ e => o9 0 e + ∑ r : Fin 512, d2 w g (md 5) (a r) (x r) (t r) e * xn (yy w (a r)) e :=
      (p1 k1 k7 (p17 (z.box (o0 := 0) (o1 := 0) (n' := 1) (m' := 1024) _ inb_S8x1024_S1x1024_0_0))).congr' fun j e hj => by subst hj; simp only [Nat.zero_add]
    have b1 := (p2 k6 (z.box (o0 := 1) (o1 := 0) (n' := 1) (m' := 1024) _ inb_S8x1024_S1x1024_1_0)).congr'
      (g := fun _ e => o9 1 e + ∑ r : Fin 512, ∑ k : Fin 1024, er w g (md 5) (a r) (x r) (t r) k * er w g (md 5) (a r) (x r) (t r) k) fun j e hj => by subst hj; simp only [Nat.zero_add, Nat.add_zero, if_neg Nat.one_ne_zero]
    refine (Is2.row (o := 1) v X _ b1 (Is2.row (o := 0) v X [] b0 (hv) _) _).congr fun j e => ?_
    unfold T9
    by_cases j0 : j = 0
    · subst j0; simp
    · by_cases j1 : j = 1
      · subst j1; simp
      · simp [j0, j1]
  exact ⟨(p13 k5 hT).whole _ _ _, Is3.wholeh _ _ ((p15 k5 hT k0 k1 hG k3).congr fun _ _ _ => (zero_add _).symm) _, a8 _ _ (ho8.un harg10), a9 _ _ (ho9.un harg11)⟩

theorem pointC (c : Dev nD) (i : grid0.Coords) (arg2 : Memref sig .tc .vmem S1x512x4096 .bf16) (harg2 : arg2.IsWhole) (arg3 : Memref sig .tc .vmem S4096x1024 .bf16) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S1x512x1024 .bf16) (harg9 : arg9.IsWhole) (arg10 : Memref sig .tc .vmem S1x8x1024 .f32) (harg10 : arg10.IsWhole) (arg11 : Memref sig .tc .vmem S8x1024 .f32) (harg11 : arg11.IsWhole) (hc0 : cond0_0 i) (hc1 : ¬cond0_1 i)
    (x0 : Vec Ideal S1x512x4096 .bf16) (x1 : Vec Ideal S4096x1024 .bf16) (x2 : Vec Ideal S1x512x1024 .f32) (x3 : Vec Ideal S1x512x1024 .f32) (x4 : Vec Ideal S1x6x1024 .f32) (x5 : Vec Ideal S1x1024 .f32) (xo9 : Vec Ideal S8x1024 .f32)
    (h0 : Is3 (φ := .bf16) x0 fun _ r k => a r k)
    (h1 : Is2 (φ := .bf16) x1 w)
    (h2 : Is3 (φ := .f32) x2 fun _ r e => x r e)
    (h3 : Is3 (φ := .f32) x3 fun _ r e => t r e)
    (h4 : Is3 (φ := .f32) x4 fun _ m e => md m e)
    (h5 : Is2 (φ := .f32) x5 fun _ e => g e)
    (ho9 : Is2 (φ := .f32) xo9 o9) :
    (Is3 (φ := .f32) (out0_C_6 c i arg2 harg2 arg3 harg3 arg4 harg4 arg5 harg5 arg6 harg6 arg7 harg7 arg8 harg8 arg9 harg9 arg10 harg10 arg11 harg11 hc0 hc1 x0 x1 x2 x3 x4 x5 xo9) fun _ r e => go w g (md 5) (a r) (x r) (t r) e)
    ∧ (Is3 (φ := .bf16) (out0_C_7 c i arg2 harg2 arg3 harg3 arg4 harg4 arg5 harg5 arg6 harg6 arg7 harg7 arg8 harg8 arg9 harg9 arg10 harg10 arg11 harg11 hc0 hc1 x0 x1 x2 x3 x4 x5 xo9) fun _ r e => dyo w g (md 5) (a r) (x r) (t r) e)
    ∧ (Is3 (φ := .f32) (out0_C_8 c i arg2 harg2 arg3 harg3 arg4 harg4 arg5 harg5 arg6 harg6 arg7 harg7 arg8 harg8 arg9 harg9 arg10 harg10 arg11 harg11 hc0 hc1 x0 x1 x2 x3 x4 x5 xo9) fun _ j e => T8 w g (md 5) a x t j e)
    ∧ (Is2 (φ := .f32) (out0_C_9 c i arg2 harg2 arg3 harg3 arg4 harg4 arg5 harg5 arg6 harg6 arg7 harg7 arg8 harg8 arg9 harg9 arg10 harg10 arg11 harg11 hc0 hc1 x0 x1 x2 x3 x4 x5 xo9) fun j e => o9 j e + T9 w g (md 5) a x t j e) := by
  have hA : Is3 (φ := .bf16) (View.readAt (Elt Ideal) arg2.view (Rect.unit (s := S1x512x4096) ![0, 0, 0] S1x512x4096.size inb_S1x512x4096_S1x512x4096_0_0_0).toLoadRect (harg2.unread x0)) fun _ => a :=
    ((h0.unh harg2).boxh _ _).congr fun a b c => by simp only [Nat.zero_add]
  have hW : Is2 (φ := .bf16) (View.readAt (Elt Ideal) arg3.view (Rect.unit (s := S4096x1024) ![0, 0] S4096x1024.size inb_S4096x1024_S4096x1024_0_0).toLoadRect (harg3.unread x1)) w :=
    ((h1.unh harg3).boxh _ _).congr fun a b => by simp only [Nat.zero_add]
  have hX : Is3 (φ := .f32) (View.readAt (Elt Ideal) arg4.view (Rect.unit (s := S1x512x1024) ![0, 0, 0] S1x512x1024.size inb_S1x512x1024_S1x512x1024_0_0_0).toLoadRect (harg4.unread x2)) fun _ => x :=
    ((h2.un harg4).box _ _).congr fun a b c => by simp only [Nat.zero_add]
  have hT : Is3 (φ := .f32) (View.readAt (Elt Ideal) arg5.view (Rect.unit (s := S1x512x1024) ![0, 0, 0] S1x512x1024.size inb_S1x512x1024_S1x512x1024_0_0_0).toLoadRect (harg5.unread x3)) fun _ => t :=
    ((h3.un harg5).box _ _).congr fun a b c => by simp only [Nat.zero_add]
  have hM : Is3 (φ := .f32) (View.readAt (Elt Ideal) arg6.view (Rect.unit (s := S1x6x1024) ![0, 5, 0] S1x1x1024.size inb_S1x6x1024_S1x1x1024_0_5_0).toLoadRect (harg6.unread x4)) fun _ b => md (5 + b) :=
    ((h4.un harg6).box _ _).congr fun a b c => by simp only [Nat.zero_add]
  have hG : Is2 (φ := .f32) (View.readAt (Elt Ideal) arg7.view (Rect.unit (s := S1x1024) ![0, 0] S1x1024.size inb_S1x1024_S1x1024_0_0).toLoadRect (harg7.unread x5)) fun _ => g :=
    ((h5.un harg7).box _ _).congr fun a b => by simp only [Nat.zero_add]
  have k0 : Is2 (kernelRun0_C.sl.r (F := Ideal) c arg2 harg2 arg3 harg3 x0 x1) fun r _ => rr (yy w (a r)) := p6 hA hW
  have k1 : Is2 (kernelRun0_C.sl.r_1 (F := Ideal) c arg2 harg2 arg3 harg3 x0 x1) fun r e => xn (yy w (a r)) e := p7 hA hW
  have k3 : Is2 (kernelRun0_C.sl.r_3 (F := Ideal) c arg6 harg6 x4) fun i e => md (5 + i) e := p8 hM
  have k4 : Is2 (kernelRun0_C.sl.r_4 (F := Ideal) c arg2 harg2 arg3 harg3 arg7 harg7 x0 x1 x5) fun r e => xn (yy w (a r)) e * g e := p9 hA hW hG
  have k5 : Is2 (kernelRun0_C.sl.r_5 (F := Ideal) c arg2 harg2 arg3 harg3 arg4 harg4 arg6 harg6 arg7 harg7 x0 x1 x2 x4 x5) fun r e => x r e + md 5 e * (xn (yy w (a r)) e * g e) := p10 hA hW hG hM hX
  have k6 : Is2 (kernelRun0_C.sl.r_6 (F := Ideal) c arg2 harg2 arg3 harg3 arg4 harg4 arg5 harg5 arg6 harg6 arg7 harg7 x0 x1 x2 x3 x4 x5) fun r e => er w g (md 5) (a r) (x r) (t r) e := p11 k5 hT
  have k7 : Is2 (kernelRun0_C.sl.r_7 (F := Ideal) c arg2 harg2 arg3 harg3 arg4 harg4 arg5 harg5 arg6 harg6 arg7 harg7 x0 x1 x2 x3 x4 x5) fun r e => d2 w g (md 5) (a r) (x r) (t r) e := p14 k5 hT k3
  have a8 : ∀ (v : View sig .tc .vmem S1x8x1024 .f32) (X : v.ty.Contents (Elt Ideal)), Is3 (φ := .f32)
      (v.read (Elt Ideal) (v.writes (Elt Ideal) X (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 xo9).2.2.1)) fun _ j e => T8 w g (md 5) a x t j e := fun v X => by
    have z : Is3 (φ := .f32) (arg10.view.read (Elt Ideal) (arg10.view.writes (Elt Ideal) arg10.view.junk (kernelRun0_C.sl.H8_1 (F := Ideal)))) fun _ j e => (fun _ _ => (0:EReal)) j e := p3.whole _ _ _
    have a0 : Is3 (φ := .f32) (k0_pay16 (kernelRun0_C.sl.r_4 (F := Ideal) c arg2 harg2 arg3 harg3 arg7 harg7 x0 x1 x5) (kernelRun0_C.sl.r_5 (F := Ideal) c arg2 harg2 arg3 harg3 arg4 harg4 arg6 harg6 arg7 harg7 x0 x1 x2 x4 x5) (View.readAt (Elt Ideal) arg5.view (Rect.unit (s := S1x512x1024) ![0, 0, 0] S1x512x1024.size inb_S1x512x1024_S1x512x1024_0_0_0).toLoadRect (harg5.unread x3)) (kernelRun0_C.sl.v59 (F := Ideal) c arg10)) fun _ _ e => 0 + ∑ r : Fin 512, go w g (md 5) (a r) (x r) (t r) e * (xn (yy w (a r)) e * g e) :=
      (p16 k5 hT k4 (z.box (o0 := 0) (o1 := 0) (o2 := 0) _ inb_S1x8x1024_S1x1x1024_0_0_0)).congr fun _ _ _ => by simp only [Nat.zero_add]; rfl
    refine (Is3.row (o := 0) v X _ a0 (p3.whole _ _ _) _).congr fun _ j e => ?_
    unfold T8
    by_cases j0 : j = 0
    · subst j0; simp
    · simp [j0]
  have a9 : ∀ (v : View sig .tc .vmem S8x1024 .f32) (X : v.ty.Contents (Elt Ideal)) (hv : Is2 (φ := .f32) (v.read (Elt Ideal) X) o9), Is2 (φ := .f32)
      (v.read (Elt Ideal) (v.writes (Elt Ideal) X (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 xo9).2.2.2.1)) fun j e => o9 j e + T9 w g (md 5) a x t j e := fun v X hv => by
    have z : Is2 (φ := .f32) (arg11.view.read (Elt Ideal) (harg11.unread xo9)) o9 := ho9.un harg11
    have b0 : Is2 (φ := .f32) (k0_pay1 (kernelRun0_C.sl.r_1 (F := Ideal) c arg2 harg2 arg3 harg3 x0 x1) (kernelRun0_C.sl.r_7 (F := Ideal) c arg2 harg2 arg3 harg3 arg4 harg4 arg5 harg5 arg6 harg6 arg7 harg7 x0 x1 x2 x3 x4 x5) (kernelRun0_C.sl.r_8 (F := Ideal) c arg11 harg11 xo9)) fun _ e => o9 0 e + ∑ r : Fin 512, d2 w g (md 5) (a r) (x r) (t r) e * xn (yy w (a r)) e :=
      (p1 k1 k7 (p17 (z.box (o0 := 0) (o1 := 0) (n' := 1) (m' := 1024) _ inb_S8x1024_S1x1024_0_0))).congr' fun j e hj => by subst hj; simp only [Nat.zero_add]
    have b1 := (p2 k6 (z.box (o0 := 1) (o1 := 0) (n' := 1) (m' := 1024) _ inb_S8x1024_S1x1024_1_0)).congr'
      (g := fun _ e => o9 1 e + ∑ r : Fin 512, ∑ k : Fin 1024, er w g (md 5) (a r) (x r) (t r) k * er w g (md 5) (a r) (x r) (t r) k) fun j e hj => by subst hj; simp only [Nat.zero_add, Nat.add_zero, if_neg Nat.one_ne_zero]
    refine (Is2.row (o := 1) v X _ b1 (Is2.row (o := 0) v X [] b0 (hv) _) _).congr fun j e => ?_
    unfold T9
    by_cases j0 : j = 0
    · subst j0; simp
    · by_cases j1 : j = 1
      · subst j1; simp
      · simp [j0, j1]
  exact ⟨(p13 k5 hT).whole _ _ _, Is3.wholeh _ _ ((p15 k5 hT k0 k1 hG k3).congr fun _ _ _ => (zero_add _).symm) _, a8 _ _, a9 _ _ (ho9.un harg11)⟩

end Cert.Down
-- ==== Proof.DownOps.lean ====
/- The channel mixer's second call after its run: its operands as the region finds them. -/
module

public import proofs.«01_k».proof.Proof.DownKern
public import proofs.«01_k».proof.Proof.MlpOps
public import Idealize.ShloMosaic.Lib.StableHlo.RunRead
public import Idealize.ShloMosaic.Lib.KernelVsHost
public import Idealize.ShloMosaic.Lib.Pipeline.Value
public import Idealize.ShloMosaic.Lib.Pipeline.ValueKit.Geometry

@[expose] public section

set_option maxRecDepth 16384

noncomputable section

namespace Cert.Down

open Cert.Kernel8Ideal Cert.Kernel8Ideal.Gen Cert.Kernel8Ideal.Value Cert.Mlp Cert.Mlp.Kern Idealize.ShloMosaic Idealize.ShloMosaic.ValueIdx Idealize.ShloMosaic.TcCoe Idealize.SL.Sem
open Idealize.ShloMosaic.StableHlo
open Idealize.ShloMosaic.Pipeline (Dat)

/-- The six arguments hold the numbers that `D` lists: `u` is the squared rectifier, `gx` the target. -/
structure Is8 (D : Data) (x0 : FVec Ideal ⟨3, ![2, 2048, 4096]⟩ .bf16) (x1 : FVec Ideal ⟨2, ![4096, 1024]⟩ .f32) (x2 x3 : FVec Ideal ⟨3, ![2, 2048, 1024]⟩ .f32)
    (x4 : FVec Ideal ⟨3, ![2, 6, 1024]⟩ .f32) (x5 : FVec Ideal ⟨2, ![1, 1024]⟩ .f32) : Prop where
  u : Is3 x0 D.u
  wd : Is2 x1 D.wd
  x : Is3 x2 D.x
  gx : Is3 x3 D.gx
  md : Is3 x4 D.md
  g : Is2 x5 fun _ => D.g

variable (x0 : FVec Ideal ⟨3, ![2, 2048, 4096]⟩ .bf16) (x1 : FVec Ideal ⟨2, ![4096, 1024]⟩ .f32) (x2 x3 : FVec Ideal ⟨3, ![2, 2048, 1024]⟩ .f32)
    (x4 : FVec Ideal ⟨3, ![2, 6, 1024]⟩ .f32) (x5 : FVec Ideal ⟨2, ![1, 1024]⟩ .f32) in
/-- The arguments by coordinates. -/
def data : Data where
  dy := fun _ _ _ => 0
  u := r3 2 2048 4096 (by decide) (by decide) (by decide) x0
  wd := r2 4096 1024 (by decide) (by decide) x1
  wu := fun _ _ => 0
  x := r3 2 2048 1024 (by decide) (by decide) (by decide) x2
  gx := r3 2 2048 1024 (by decide) (by decide) (by decide) x3
  md := r3 2 6 1024 (by decide) (by decide) (by decide) x4
  g := r2 1 1024 (by decide) (by decide) x5 0

variable (x0 : FVec Ideal ⟨3, ![2, 2048, 4096]⟩ .bf16) (x1 : FVec Ideal ⟨2, ![4096, 1024]⟩ .f32) (x2 x3 : FVec Ideal ⟨3, ![2, 2048, 1024]⟩ .f32)
    (x4 : FVec Ideal ⟨3, ![2, 6, 1024]⟩ .f32) (x5 : FVec Ideal ⟨2, ![1, 1024]⟩ .f32) in
theorem is_data : Is8 (data x0 x1 x2 x3 x4 x5) x0 x1 x2 x3 x4 x5 where
  u := fun i => (r3_at (by decide) (by decide) (by decide) x0 i).symm
  wd := fun i => (r2_at (by decide) (by decide) x1 i).symm
  x := fun i => (r3_at (by decide) (by decide) (by decide) x2 i).symm
  gx := fun i => (r3_at (by decide) (by decide) (by decide) x3 i).symm
  md := fun i => (r3_at (by decide) (by decide) (by decide) x4 i).symm
  g := fun i => (row_at x5 i).symm

/-! ## The blocks -/

theorem idx_facts : ∀ t : Fin cfg0.N,
    (win0_0.index t 0 = t.val / 4 ∧ win0_0.index t 1 = t.val % 4 ∧ win0_0.index t 2 = 0)
    ∧ (win0_1.index t 0 = 0 ∧ win0_1.index t 1 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_4.index t 0 = t.val / 4 ∧ win0_4.index t 1 = 0 ∧ win0_4.index t 2 = 0)
    ∧ (win0_5.index t 0 = 0 ∧ win0_5.index t 1 = 0)
    ∧ (win0_6.index t 0 = t.val / 4 ∧ win0_6.index t 1 = t.val % 4 ∧ win0_6.index t 2 = 0)
    ∧ (win0_7.index t 0 = t.val / 4 ∧ win0_7.index t 1 = t.val % 4 ∧ win0_7.index t 2 = 0)
    ∧ (win0_8.index t 0 = t.val / 4 ∧ win0_8.index t 1 = 0 ∧ win0_8.index t 2 = 0)
    ∧ (win0_9.index t 0 = 0 ∧ win0_9.index t 1 = 0) :=
  (by decide +kernel : ∀ t : Fin grid0.N, _)

section Blocks
variable (m : (ℓ : Loc nD τ sig) → Buf (Elt Ideal) ℓ) (c : Dev nD) (t : Fin cfg0.N) {D : Data}

/-- The launch memory's arguments hold the numbers that `D` lists. -/
abbrev IsM (D : Data) : Prop :=
  Is8 D (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The launch memory of a device. -/
abbrev W0 : Valuation τ sig (Elt Ideal) := fun b => m (c, b)

theorem V_v0 : V m c main_v0 = truncf (F := Ideal) .bf16 (W0 m c (Proc.devRef .tc main_arg1)) bitsLt_bf16_f32 := by
  show after (List.flatten [hostOps0]) (W0 m c) (Proc.devRef .tc _) = _
  simp only [List.flatten_cons, List.flatten_nil, List.append_nil, hostOps0]
  after_reads_simp

theorem emb0 (i : S1x512x4096.Idx) : ((win0_0.rect t).emb i 0 : ℕ) = t.val / 4 ∧ ((win0_0.rect t).emb i 1 : ℕ) = t.val % 4 * 512 + (i 1).val ∧ ((win0_0.rect t).emb i 2 : ℕ) = (i 2).val := by
  obtain ⟨e0, e1, e2⟩ := (idx_facts t).1
  have b0 : (i 0).val < 1 := (i 0).isLt
  refine ⟨(Pipeline.Window.rect_emb_val win0_0 t i 0).trans ?_, (Pipeline.Window.rect_emb_val win0_0 t i 1).trans ?_, (Pipeline.Window.rect_emb_val win0_0 t i 2).trans ?_⟩
  · rw [e0]; show t.val / 4 * 1 + (i 0).val = _; omega
  · rw [e1]; show t.val % 4 * 512 + (i 1).val = _; omega
  · rw [e2]; show 0 * 4096 + (i 2).val = _; omega

theorem emb1 (i : S4096x1024.Idx) : ((win0_1.rect t).emb i 0 : ℕ) = (i 0).val ∧ ((win0_1.rect t).emb i 1 : ℕ) = (i 1).val := by
  obtain ⟨e0, e1⟩ := (idx_facts t).2.1
  refine ⟨(Pipeline.Window.rect_emb_val win0_1 t i 0).trans ?_, (Pipeline.Window.rect_emb_val win0_1 t i 1).trans ?_⟩
  · rw [e0]; show 0 * 4096 + (i 0).val = _; omega
  · rw [e1]; show 0 * 1024 + (i 1).val = _; omega

theorem emb2 (i : S1x512x1024.Idx) : ((win0_2.rect t).emb i 0 : ℕ) = t.val / 4 ∧ ((win0_2.rect t).emb i 1 : ℕ) = t.val % 4 * 512 + (i 1).val ∧ ((win0_2.rect t).emb i 2 : ℕ) = (i 2).val := by
  obtain ⟨e0, e1, e2⟩ := (idx_facts t).2.2.1
  have b0 : (i 0).val < 1 := (i 0).isLt
  refine ⟨(Pipeline.Window.rect_emb_val win0_2 t i 0).trans ?_, (Pipeline.Window.rect_emb_val win0_2 t i 1).trans ?_, (Pipeline.Window.rect_emb_val win0_2 t i 2).trans ?_⟩
  · rw [e0]; show t.val / 4 * 1 + (i 0).val = _; omega
  · rw [e1]; show t.val % 4 * 512 + (i 1).val = _; omega
  · rw [e2]; show 0 * 1024 + (i 2).val = _; omega

theorem emb3 (i : S1x512x1024.Idx) : ((win0_3.rect t).emb i 0 : ℕ) = t.val / 4 ∧ ((win0_3.rect t).emb i 1 : ℕ) = t.val % 4 * 512 + (i 1).val ∧ ((win0_3.rect t).emb i 2 : ℕ) = (i 2).val := by
  obtain ⟨e0, e1, e2⟩ := (idx_facts t).2.2.2.1
  have b0 : (i 0).val < 1 := (i 0).isLt
  refine ⟨(Pipeline.Window.rect_emb_val win0_3 t i 0).trans ?_, (Pipeline.Window.rect_emb_val win0_3 t i 1).trans ?_, (Pipeline.Window.rect_emb_val win0_3 t i 2).trans ?_⟩
  · rw [e0]; show t.val / 4 * 1 + (i 0).val = _; omega
  · rw [e1]; show t.val % 4 * 512 + (i 1).val = _; omega
  · rw [e2]; show 0 * 1024 + (i 2).val = _; omega

theorem emb4 (i : S1x6x1024.Idx) : ((win0_4.rect t).emb i 0 : ℕ) = t.val / 4 ∧ ((win0_4.rect t).emb i 1 : ℕ) = (i 1).val ∧ ((win0_4.rect t).emb i 2 : ℕ) = (i 2).val := by
  obtain ⟨e0, e1, e2⟩ := (idx_facts t).2.2.2.2.1
  have b0 : (i 0).val < 1 := (i 0).isLt
  refine ⟨(Pipeline.Window.rect_emb_val win0_4 t i 0).trans ?_, (Pipeline.Window.rect_emb_val win0_4 t i 1).trans ?_, (Pipeline.Window.rect_emb_val win0_4 t i 2).trans ?_⟩
  · rw [e0]; show t.val / 4 * 1 + (i 0).val = _; omega
  · rw [e1]; show 0 * 6 + (i 1).val = _; omega
  · rw [e2]; show 0 * 1024 + (i 2).val = _; omega

theorem emb5 (i : S1x1024.Idx) : ((win0_5.rect t).emb i 0 : ℕ) = (i 0).val ∧ ((win0_5.rect t).emb i 1 : ℕ) = (i 1).val := by
  obtain ⟨e0, e1⟩ := (idx_facts t).2.2.2.2.2.1
  refine ⟨(Pipeline.Window.rect_emb_val win0_5 t i 0).trans ?_, (Pipeline.Window.rect_emb_val win0_5 t i 1).trans ?_⟩
  · rw [e0]; show 0 * 1 + (i 0).val = _; omega
  · rw [e1]; show 0 * 1024 + (i 1).val = _; omega

theorem emb6 (i : S1x512x1024.Idx) : ((win0_6.rect t).emb i 0 : ℕ) = t.val / 4 ∧ ((win0_6.rect t).emb i 1 : ℕ) = t.val % 4 * 512 + (i 1).val ∧ ((win0_6.rect t).emb i 2 : ℕ) = (i 2).val := by
  obtain ⟨e0, e1, e2⟩ := (idx_facts t).2.2.2.2.2.2.1
  have b0 : (i 0).val < 1 := (i 0).isLt
  refine ⟨(Pipeline.Window.rect_emb_val win0_6 t i 0).trans ?_, (Pipeline.Window.rect_emb_val win0_6 t i 1).trans ?_, (Pipeline.Window.rect_emb_val win0_6 t i 2).trans ?_⟩
  · rw [e0]; show t.val / 4 * 1 + (i 0).val = _; omega
  · rw [e1]; show t.val % 4 * 512 + (i 1).val = _; omega
  · rw [e2]; show 0 * 1024 + (i 2).val = _; omega

theorem emb7 (i : S1x512x1024.Idx) : ((win0_7.rect t).emb i 0 : ℕ) = t.val / 4 ∧ ((win0_7.rect t).emb i 1 : ℕ) = t.val % 4 * 512 + (i 1).val ∧ ((win0_7.rect t).emb i 2 : ℕ) = (i 2).val := by
  obtain ⟨e0, e1, e2⟩ := (idx_facts t).2.2.2.2.2.2.2.1
  have b0 : (i 0).val < 1 := (i 0).isLt
  refine ⟨(Pipeline.Window.rect_emb_val win0_7 t i 0).trans ?_, (Pipeline.Window.rect_emb_val win0_7 t i 1).trans ?_, (Pipeline.Window.rect_emb_val win0_7 t i 2).trans ?_⟩
  · rw [e0]; show t.val / 4 * 1 + (i 0).val = _; omega
  · rw [e1]; show t.val % 4 * 512 + (i 1).val = _; omega
  · rw [e2]; show 0 * 1024 + (i 2).val = _; omega

theorem emb8 (i : S1x8x1024.Idx) : ((win0_8.rect t).emb i 0 : ℕ) = t.val / 4 ∧ ((win0_8.rect t).emb i 1 : ℕ) = (i 1).val ∧ ((win0_8.rect t).emb i 2 : ℕ) = (i 2).val := by
  obtain ⟨e0, e1, e2⟩ := (idx_facts t).2.2.2.2.2.2.2.2.1
  have b0 : (i 0).val < 1 := (i 0).isLt
  refine ⟨(Pipeline.Window.rect_emb_val win0_8 t i 0).trans ?_, (Pipeline.Window.rect_emb_val win0_8 t i 1).trans ?_, (Pipeline.Window.rect_emb_val win0_8 t i 2).trans ?_⟩
  · rw [e0]; show t.val / 4 * 1 + (i 0).val = _; omega
  · rw [e1]; show 0 * 8 + (i 1).val = _; omega
  · rw [e2]; show 0 * 1024 + (i 2).val = _; omega

theorem emb9 (i : S8x1024.Idx) : ((win0_9.rect t).emb i 0 : ℕ) = (i 0).val ∧ ((win0_9.rect t).emb i 1 : ℕ) = (i 1).val := by
  obtain ⟨e0, e1⟩ := (idx_facts t).2.2.2.2.2.2.2.2.2
  refine ⟨(Pipeline.Window.rect_emb_val win0_9 t i 0).trans ?_, (Pipeline.Window.rect_emb_val win0_9 t i 1).trans ?_⟩
  · rw [e0]; show 0 * 8 + (i 0).val = _; omega
  · rw [e1]; show 0 * 1024 + (i 1).val = _; omega

variable (h : IsM m c D)

include h in
theorem v0 : Is2 (φ := .bf16) (n := 4096) (m := 1024) (V m c main_v0) D.wd := fun i => by
  rw [V_v0]
  exact h.wd i

include h in
theorem ib0 : Is3 (φ := .bf16) (l := 1) (n := 512) (m := 4096) (iblk m c 0 t) fun _ r k => D.u (t.val / 4) (t.val % 4 * 512 + r) k := fun i => by
  obtain ⟨f0, f1, f2⟩ := emb0 t i
  exact (congrFun (V_main_arg0 m c) ((win0_0.rect t).emb i)).trans ((h.u ((win0_0.rect t).emb i)).trans (at3 D.u f0 f1 f2))
include h in
theorem ib2 : Is3 (φ := .f32) (l := 1) (n := 512) (m := 1024) (iblk m c 2 t) fun _ r k => D.x (t.val / 4) (t.val % 4 * 512 + r) k := fun i => by
  obtain ⟨f0, f1, f2⟩ := emb2 t i
  exact (congrFun (V_main_arg2 m c) ((win0_2.rect t).emb i)).trans ((h.x ((win0_2.rect t).emb i)).trans (at3 D.x f0 f1 f2))
include h in
theorem ib3 : Is3 (φ := .f32) (l := 1) (n := 512) (m := 1024) (iblk m c 3 t) fun _ r k => D.gx (t.val / 4) (t.val % 4 * 512 + r) k := fun i => by
  obtain ⟨f0, f1, f2⟩ := emb3 t i
  exact (congrFun (V_main_arg3 m c) ((win0_3.rect t).emb i)).trans ((h.gx ((win0_3.rect t).emb i)).trans (at3 D.gx f0 f1 f2))
include h in
theorem ib4 : Is3 (φ := .f32) (l := 1) (n := 6) (m := 1024) (iblk m c 4 t) fun _ r k => D.md (t.val / 4) r k := fun i => by
  obtain ⟨f0, f1, f2⟩ := emb4 t i
  exact (congrFun (V_main_arg4 m c) ((win0_4.rect t).emb i)).trans ((h.md ((win0_4.rect t).emb i)).trans (at3 D.md f0 f1 f2))
include h in
theorem ib1 : Is2 (φ := .bf16) (n := 4096) (m := 1024) (iblk m c 1 t) D.wd := fun i => by
  obtain ⟨f0, f1⟩ := emb1 t i
  exact (v0 m c h ((win0_1.rect t).emb i)).trans (at2 D.wd f0 f1)
include h in
theorem ib5 : Is2 (φ := .f32) (n := 1) (m := 1024) (iblk m c 5 t) fun _ k => D.g k := fun i => by
  obtain ⟨f0, f1⟩ := emb5 t i
  exact (congrFun (V_main_arg5 m c) ((win0_5.rect t).emb i)).trans ((h.g ((win0_5.rect t).emb i)).trans (at2 (fun _ => D.g) f0 f1))

end Blocks

end Cert.Down
-- ==== Proof.DownEnds.lean ====
/- What the grid points of the channel mixer's second call leave, one after another, and its four result arrays whole. -/
module

public import proofs.«01_k».proof.Proof.DownOps

@[expose] public section

set_option maxRecDepth 16384

noncomputable section

namespace Cert.Down

open Cert.Kernel8Ideal Cert.Kernel8Ideal.Gen Cert.Kernel8Ideal.Value Cert.Mlp Cert.Mlp.Kern Idealize.ShloMosaic Idealize.ShloMosaic.ValueIdx Idealize.ShloMosaic.TcCoe Idealize.SL.Sem
open Idealize.ShloMosaic.StableHlo
open Idealize.ShloMosaic.Pipeline (Dat)
open Finset (range sum_congr)

/-! ## The running sums -/

section Sums
variable (D : Data)

/-- The rows of the product, the difference from the target, the two cotangents, and the gradient of the product. -/
def YN (b s e : ℕ) : EReal := xn (yy D.wd (D.u b s)) e
def ER (b s e : ℕ) : EReal := er D.wd D.g (D.md b 5) (D.u b s) (D.x b s) (D.gx b s) e
def GO (b s e : ℕ) : EReal := go D.wd D.g (D.md b 5) (D.u b s) (D.x b s) (D.gx b s) e
def D2 (b s e : ℕ) : EReal := d2 D.wd D.g (D.md b 5) (D.u b s) (D.x b s) (D.gx b s) e
def DY (b s e : ℕ) : EReal := dyo D.wd D.g (D.md b 5) (D.u b s) (D.x b s) (D.gx b s) e
/-- One row's sum of squared differences. -/
def SQ (b s : ℕ) : EReal := ∑ k : Fin 1024, ER D b s k * ER D b s k

/-- The gate's gradient over image `b`'s first `N` rows. -/
def A8 (b N j e : ℕ) : EReal := if j = 0 then ∑ s ∈ range N, GO D b s e * (YN D b s e * D.g e) else 0
/-- The gain's gradient and the squared differences over the first `N` rows. -/
def A9 (N j e : ℕ) : EReal := if j = 0 then ∑ r ∈ range N, D2 D (r / 2048) (r % 2048) e * YN D (r / 2048) (r % 2048) e
  else if j = 1 then ∑ r ∈ range N, SQ D (r / 2048) (r % 2048) else 0

/-- The parts that point (b, q) adds. -/
abbrev P8 (b q : ℕ) : ℕ → ℕ → EReal := T8 D.wd D.g (D.md b 5) (fun r => D.u b (q * 512 + r)) (fun r => D.x b (q * 512 + r)) (fun r => D.gx b (q * 512 + r))
abbrev P9 (b q : ℕ) : ℕ → ℕ → EReal := T9 D.wd D.g (D.md b 5) (fun r => D.u b (q * 512 + r)) (fun r => D.x b (q * 512 + r)) (fun r => D.gx b (q * 512 + r))

theorem A8_step (b q j e : ℕ) : A8 D b (q * 512) j e + P8 D b q j e = A8 D b ((q + 1) * 512) j e := by
  unfold A8 P8 T8
  by_cases j0 : j = 0
  · simp only [if_pos j0]
    exact step (fun s => GO D b s e * (YN D b s e * D.g e)) q
  · simp only [if_neg j0, add_zero]

theorem A8_first (b j e : ℕ) : P8 D b 0 j e = A8 D b ((0 + 1) * 512) j e := by
  rw [← A8_step]
  unfold A8
  simp

/-- A sum over the list of all rows, taken 512 at a time. -/
theorem step' (f : ℕ → ℕ → EReal) (t : ℕ) : (∑ r ∈ range (t * 512), f (r / 2048) (r % 2048)) + ∑ r : Fin 512, f (t / 4) (t % 4 * 512 + r)
    = ∑ r ∈ range ((t + 1) * 512), f (r / 2048) (r % 2048) := by
  rw [← step (fun r => f (r / 2048) (r % 2048)) t]
  refine congrArg₂ (· + ·) rfl (sum_congr rfl fun r _ => ?_)
  have hr : r.val < 512 := r.isLt
  rw [show (t * 512 + r.val) / 2048 = t / 4 by omega, show (t * 512 + r.val) % 2048 = t % 4 * 512 + r.val by omega]

theorem A9_step (t j e : ℕ) : A9 D (t * 512) j e + P9 D (t / 4) (t % 4) j e = A9 D ((t + 1) * 512) j e := by
  unfold A9 P9 T9
  by_cases j0 : j = 0
  · simp only [if_pos j0]
    exact step' (fun b s => D2 D b s e * YN D b s e) t
  · by_cases j1 : j = 1
    · simp only [if_neg j0, if_pos j1]
      exact step' (SQ D) t
    · simp only [if_neg j0, if_neg j1, add_zero]

theorem A9_first (j e : ℕ) : P9 D 0 0 j e = A9 D ((0 + 1) * 512) j e := by
  rw [← A9_step D 0]
  unfold A9
  simp

/-- The two images' rows in one list. -/
theorem all_rows (f : ℕ → ℕ → EReal) : (∑ r ∈ range (8 * 512), f (r / 2048) (r % 2048)) = ∑ b : Fin 2, ∑ s : Fin 2048, f b s := by
  rw [show 8 * 512 = 2048 + 2048 from rfl, Finset.sum_range_add, Fin.sum_univ_two,
    Fin.sum_univ_eq_sum_range (fun s => f ((0 : Fin 2) : ℕ) s) 2048,
    Fin.sum_univ_eq_sum_range (fun s => f ((1 : Fin 2) : ℕ) s) 2048]
  refine congrArg₂ (· + ·) (sum_congr rfl fun r hr => ?_) (sum_congr rfl fun r hr => ?_)
  · have := Finset.mem_range.mp hr
    rw [show r / 2048 = 0 by omega, show r % 2048 = r by omega]; rfl
  · have := Finset.mem_range.mp hr
    rw [show (2048 + r) / 2048 = 1 by omega, show (2048 + r) % 2048 = r by omega]; rfl

theorem A8_eq (b j e : ℕ) : A8 D b (4 * 512) j e = if j = 0 then ∑ s : Fin 2048, GO D b s e * (YN D b s e * D.g e) else 0 := by
  unfold A8
  rw [Fin.sum_univ_eq_sum_range (fun s => GO D b s e * (YN D b s e * D.g e)) 2048]
theorem A9_eq (j e : ℕ) : A9 D (8 * 512) j e = if j = 0 then ∑ b : Fin 2, ∑ s : Fin 2048, D2 D b s e * YN D b s e
    else if j = 1 then ∑ b : Fin 2, ∑ s : Fin 2048, SQ D b s else 0 := by
  unfold A9
  rw [all_rows (fun b s => D2 D b s e * YN D b s e), all_rows (SQ D)]

end Sums

/-! ## The points in order -/

/-- What the buffers hold after point `t`. -/
structure St (D : Data) (t : ℕ) (o : Vec Ideal S1x512x1024 .f32 × Vec Ideal S1x512x1024 .bf16 × Vec Ideal S1x8x1024 .f32 × Vec Ideal S8x1024 .f32) : Prop where
  x : Is3 (φ := .f32) o.1 fun _ r e => GO D (t / 4) (t % 4 * 512 + r) e
  d : Is3 (φ := .bf16) o.2.1 fun _ r e => DY D (t / 4) (t % 4 * 512 + r) e
  a : Is3 (φ := .f32) o.2.2.1 fun _ j e => A8 D (t / 4) ((t % 4 + 1) * 512) j e
  b : Is2 (φ := .f32) o.2.2.2 fun j e => A9 D ((t + 1) * 512) j e

theorem St.of {D : Data} {t : ℕ} {o6 : Vec Ideal S1x512x1024 .f32} {o7 : Vec Ideal S1x512x1024 .bf16} {o8 : Vec Ideal S1x8x1024 .f32} {o9 : Vec Ideal S8x1024 .f32} {f8 f9 : ℕ → ℕ → EReal}
    (h : (Is3 (φ := .f32) o6 fun _ r e => go D.wd D.g (D.md (t / 4) 5) (D.u (t / 4) (t % 4 * 512 + r)) (D.x (t / 4) (t % 4 * 512 + r)) (D.gx (t / 4) (t % 4 * 512 + r)) e)
      ∧ (Is3 (φ := .bf16) o7 fun _ r e => dyo D.wd D.g (D.md (t / 4) 5) (D.u (t / 4) (t % 4 * 512 + r)) (D.x (t / 4) (t % 4 * 512 + r)) (D.gx (t / 4) (t % 4 * 512 + r)) e)
      ∧ (Is3 (φ := .f32) o8 fun _ j e => f8 j e) ∧ (Is2 (φ := .f32) o9 fun j e => f9 j e))
    (h8 : ∀ j e, f8 j e = A8 D (t / 4) ((t % 4 + 1) * 512) j e) (h9 : ∀ j e, f9 j e = A9 D ((t + 1) * 512) j e) : St D t (o6, o7, o8, o9) :=
  ⟨h.1, h.2.1, h.2.2.1.congr fun _ j e => h8 j e, h.2.2.2.congr h9⟩

section Points
variable (m : (ℓ : Loc nD τ sig) → Buf (Elt Ideal) ℓ) (c : Dev nD) {D : Data} (h : IsM m c D)
include h

theorem st_A (t : Fin cfg0.N) (t0 : t.val = 0) : St D t.val (outsAt0 m c t.val t.isLt) := by
  have h0 : t.val % 4 = 0 := by omega
  have h1 : t.val % 8 = 0 := by omega
  rw [outsAt0_A m c t h0 h1]
  refine St.of (pointA _ _ _ _ _ _ _ _ _ _ _ _ _ _ _ _ _ _ _ _ _ _ _ _ _ _ _ _ _ _ (w := D.wd) (g := D.g) (md := D.md (t.val / 4)) (a := fun r => D.u (t.val / 4) (t.val % 4 * 512 + r)) (x := fun r => D.x (t.val / 4) (t.val % 4 * 512 + r)) (t := fun r => D.gx (t.val / 4) (t.val % 4 * 512 + r))
    (ib0 m c t h) (ib1 m c t h) (ib2 m c t h) (ib3 m c t h) (ib4 m c t h) (ib5 m c t h)) (fun j e => ?_) (fun j e => ?_)
  · rw [t0]; exact A8_first D _ j e
  · rw [t0]; exact A9_first D j e

theorem st_B (t : Fin cfg0.N) (h0 : ¬t.val % 4 = 0) (hp : St D (t.val - 1) (outsAt0 m c (t.val - 1) (Nat.lt_of_le_of_lt (Nat.sub_le _ _) t.isLt))) : St D t.val (outsAt0 m c t.val t.isLt) := by
  have h1 : ¬t.val % 8 = 0 := by omega
  rw [outsAt0_B m c t h0 h1]
  refine St.of (pointB _ _ _ _ _ _ _ _ _ _ _ _ _ _ _ _ _ _ _ _ _ _ _ _ _ _ _ _ _ _ _ _ (w := D.wd) (g := D.g) (md := D.md (t.val / 4)) (a := fun r => D.u (t.val / 4) (t.val % 4 * 512 + r)) (x := fun r => D.x (t.val / 4) (t.val % 4 * 512 + r)) (t := fun r => D.gx (t.val / 4) (t.val % 4 * 512 + r)) (o8 := A8 D (t.val / 4) (t.val % 4 * 512)) (o9 := A9 D (t.val * 512))
    (ib0 m c t h) (ib1 m c t h) (ib2 m c t h) (ib3 m c t h) (ib4 m c t h) (ib5 m c t h) (hp.b.congr fun j e => ?_) (hp.a.congr fun _ j e => ?_)) (fun j e => ?_) (fun j e => ?_)
  · rw [show t.val - 1 + 1 = t.val by omega]
  · rw [show (t.val - 1) / 4 = t.val / 4 by omega, show (t.val - 1) % 4 + 1 = t.val % 4 by omega]
  · exact A8_step D _ _ j e
  · exact A9_step D _ j e

theorem st_C (t : Fin cfg0.N) (h0 : t.val % 4 = 0) (h1 : ¬t.val % 8 = 0) (hp : St D (t.val - 1) (outsAt0 m c (t.val - 1) (Nat.lt_of_le_of_lt (Nat.sub_le _ _) t.isLt))) : St D t.val (outsAt0 m c t.val t.isLt) := by
  rw [outsAt0_C m c t h0 h1]
  refine St.of (pointC _ _ _ _ _ _ _ _ _ _ _ _ _ _ _ _ _ _ _ _ _ _ _ _ _ _ _ _ _ _ _ (w := D.wd) (g := D.g) (md := D.md (t.val / 4)) (a := fun r => D.u (t.val / 4) (t.val % 4 * 512 + r)) (x := fun r => D.x (t.val / 4) (t.val % 4 * 512 + r)) (t := fun r => D.gx (t.val / 4) (t.val % 4 * 512 + r)) (o9 := A9 D (t.val * 512))
    (ib0 m c t h) (ib1 m c t h) (ib2 m c t h) (ib3 m c t h) (ib4 m c t h) (ib5 m c t h) (hp.b.congr fun j e => ?_)) (fun j e => ?_) (fun j e => ?_)
  · rw [show t.val - 1 + 1 = t.val by omega]
  · rw [h0]; exact A8_first D _ j e
  · exact A9_step D _ j e

theorem st : ∀ (n : ℕ) (hn : n < cfg0.N), St D n (outsAt0 m c n hn)
  | 0, hn => st_A m c h ⟨0, hn⟩ rfl
  | n + 1, hn => by
    have hN : n + 1 < 8 := lt_of_lt_of_eq hn (show cfg0.N = 8 from N_0)
    have hp := st n (Nat.lt_of_succ_lt hn)
    by_cases h0 : (n + 1) % 4 = 0
    · exact st_C m c h ⟨n + 1, hn⟩ h0 (by show ¬(n + 1) % 8 = 0; omega) hp
    · exact st_B m c h ⟨n + 1, hn⟩ h0 hp

end Points

/-! ## The result arrays -/

section Finals
variable (m : (ℓ : Loc nD τ sig) → Buf (Elt Ideal) ℓ) (c : Dev nD) (t : Fin cfg0.N) {D : Data} (h : IsM m c D)

/-- The cotangent of the rows, the gradient of the product; the gate's gradient, and the gain's with the squared differences, in their first rows. -/
def Ggx (D : Data) : S2x2048x1024.Idx → EReal := fun i => (GO D (i 0).val (i 1).val (i 2).val)
def Gdy (D : Data) : S2x2048x1024.Idx → EReal := fun i => (DY D (i 0).val (i 1).val (i 2).val)
def Gb (D : Data) : S2x8x1024.Idx → EReal := fun i => (A8 D (i 0).val (4 * 512) (i 1).val (i 2).val)
def Gg (D : Data) : S8x1024.Idx → EReal := fun i => (A9 D (8 * 512) (i 0).val (i 1).val)

include h in
theorem flushed_Ggx : (dats m 0 c).flushed 6 t = ((cfg0.win 6).blk t).view.read (Elt Ideal) (Ggx D) := by
  rw [flushed6]
  funext i
  obtain ⟨f0, f1, f2⟩ := emb6 t i
  exact ((st m c h t.val t.isLt).x i).trans (at3 (GO D) f0.symm f1.symm f2.symm)

include h in
theorem flushed_Gdy : (dats m 0 c).flushed 7 t = ((cfg0.win 7).blk t).view.read (Elt Ideal) (Gdy D) := by
  rw [flushed7]
  funext i
  obtain ⟨f0, f1, f2⟩ := emb7 t i
  exact ((st m c h t.val t.isLt).d i).trans (at3 (DY D) f0.symm f1.symm f2.symm)

include h in
theorem flushed_Gb (hf : (cfg0.win 8).flush t = true) : (dats m 0 c).flushed 8 t = ((cfg0.win 8).blk t).view.read (Elt Ideal) (Gb D) := by
  have ht : t.val % 4 = 3 := (by decide +kernel : ∀ t : Fin grid0.N, win0_8.flush t = true → t.val % 4 = 3) t hf
  rw [flushed8]
  funext i
  obtain ⟨f0, f1, f2⟩ := emb8 t i
  refine ((st m c h t.val t.isLt).a i).trans ?_
  rw [ht]
  exact at3 (fun b j e => A8 D b (4 * 512) j e) f0.symm f1.symm f2.symm

include h in
theorem flushed_Gg (hf : (cfg0.win 9).flush t = true) : (dats m 0 c).flushed 9 t = ((cfg0.win 9).blk t).view.read (Elt Ideal) (Gg D) := by
  have ht : t.val = 7 := (by decide +kernel : ∀ t : Fin grid0.N, win0_9.flush t = true → t.val = 7) t hf
  rw [flushed9]
  funext i
  obtain ⟨f0, f1⟩ := emb9 t i
  refine ((st m c h t.val t.isLt).b i).trans ?_
  rw [ht]
  exact at2 (fun j e => A9 D (8 * 512) j e) f0.symm f1.symm

include h in
theorem final_Ggx : (dats m 0 c).arrAt 6 cfg0.N = Ggx D :=
  (dats m 0 c).arrAt_eq_of_cover 6 (Ggx D) (fun t _ => flushed_Ggx m c t h) ((by decide +kernel : win0_6.Covers).cover _ (Memref.isWhole_whole _))

include h in
theorem final_Gdy : (dats m 0 c).arrAt 7 cfg0.N = Gdy D :=
  (dats m 0 c).arrAt_eq_of_cover 7 (Gdy D) (fun t _ => flushed_Gdy m c t h) ((by decide +kernel : win0_7.Covers).cover _ (Memref.isWhole_whole _))

include h in
theorem final_Gb : (dats m 0 c).arrAt 8 cfg0.N = Gb D :=
  (dats m 0 c).arrAt_eq_of_cover 8 (Gb D) (fun t hf => flushed_Gb m c t h hf) ((by decide +kernel : win0_8.Covers).cover _ (Memref.isWhole_whole _))

include h in
theorem final_Gg : (dats m 0 c).arrAt 9 cfg0.N = Gg D :=
  (dats m 0 c).arrAt_eq_of_cover 9 (Gg D) (fun t hf => flushed_Gg m c t h hf) ((by decide +kernel : win0_9.Covers).cover _ (Memref.isWhole_whole _))

end Finals

end Cert.Down
-- ==== Proof.DownRef.lean ====
/- The channel mixer's second call's reference, read one operation at a time as functions of the coordinates. -/
module

public import proofs.«01_k».proof.Proof.DownEnds
public import proofs.«01_k».proof.Proof.Gen.Reference8Ideal.Read
public import proofs.«01_k».proof.Proof.MlpRef

@[expose] public section

set_option maxRecDepth 16384

noncomputable section

namespace Cert.Down.Ref

open Cert.Reference8Ideal Cert.Reference8Ideal.Gen Cert.Reference8Ideal.Read Cert.Branch Cert.Mlp Cert.Mlp.Kern Cert.Mlp.Ref Cert.Down
open Idealize.ShloMosaic Idealize.ShloMosaic.ValueIdx Idealize.ShloMosaic.StableHlo

/-! ## Numbers -/

/-- A half, and the number of squared differences over twice the row's length. -/
def half : EReal := ((1 / 2 : ℝ) : EReal)
def two11 : EReal := ((2048 : ℝ) : EReal)
theorem chalf : (FloatOps.ofBits (F := Ideal) .f32 0x3F000000#32) = half := by
  show Ideal.ofBits .f32 0x3F000000#32 = _
  unfold half
  simp [Ideal.ofBits, Ideal.ieee, -EReal.coe_mul]; norm_num
theorem c2048 : (FloatOps.ofBits (F := Ideal) .f32 0x45000000#32) = two11 := by
  show Ideal.ofBits .f32 0x45000000#32 = _
  unfold two11
  simp [Ideal.ofBits, Ideal.ieee, -EReal.coe_mul]; norm_num

/-- The derivative of half a mean of squares. -/
theorem slope (z : EReal) : Ideal.div (half * 1) len * (two * z) = z * inv := by
  rw [div_len, mul_one, ← mul_assoc]
  unfold half two inv
  rw [← EReal.coe_mul, ← EReal.coe_mul, mul_comm]
  refine congrArg (fun r : ℝ => z * (r : EReal)) ?_
  norm_num

/-- The sum of squares from the sum of half their means. -/
theorem total_of_mean (f : ℕ → ℕ → EReal) : two11 * (half * ∑ b : Fin 2, ∑ s : Fin 2048, Ideal.div (f b s) len) = ∑ b : Fin 2, ∑ s : Fin 2048, f b s := by
  have e : (∑ b : Fin 2, ∑ s : Fin 2048, Ideal.div (f b s) len) = (∑ b : Fin 2, ∑ s : Fin 2048, f b s) * ((1 / 1024 : ℝ) : EReal) := by
    rw [sum_mul_coe _ _ (by norm_num)]
    refine Finset.sum_congr rfl fun b _ => ?_
    rw [sum_mul_coe _ _ (by norm_num)]
    exact Finset.sum_congr rfl fun s _ => div_len _
  rw [e, ← mul_assoc, mul_comm, mul_assoc]
  unfold two11 half
  rw [← EReal.coe_mul, ← EReal.coe_mul, show (1 / 1024 * (2048 * (1 / 2)) : ℝ) = 1 by norm_num, EReal.coe_one, mul_one]

/-- A sum over all entries of a matrix is a double sum. -/
theorem sum_two {n m : ℕ} (x : (⟨2, ![n, m]⟩ : Shape).Idx → EReal) : (∑ i, x i) = ∑ b : Fin n, ∑ s : Fin m, x (ix2 b s) := by
  have e : ∀ i : (⟨2, ![n, m]⟩ : Shape).Idx, ix2 (n0 := n) (n1 := m) (i 0) (i 1) = i := fun i => funext fun a => by
    match a with
    | ⟨0, _⟩ => rfl
    | ⟨1, _⟩ => rfl
  rw [← Finset.sum_product']
  refine Finset.sum_bij' (fun i _ => ((i 0 : Fin n), (i 1 : Fin m))) (fun p _ => ix2 p.1 p.2) ?_ ?_ ?_ ?_ ?_
  · exact fun _ _ => Finset.mem_product.mpr ⟨Finset.mem_univ _, Finset.mem_univ _⟩
  · exact fun _ _ => Finset.mem_univ _
  · exact fun i _ => e i
  · exact fun _ _ => rfl
  · exact fun i _ => congrArg x (e i).symm

/-! ## The operations -/

variable {D : Mlp.Data} {x0 : (⟨S2x2048x4096, .bf16⟩ : BufTy).Contents (Elt Ideal)} {x1 : (⟨S4096x1024, .f32⟩ : BufTy).Contents (Elt Ideal)}
  {x2 x3 : (⟨S2x2048x1024, .f32⟩ : BufTy).Contents (Elt Ideal)} {x4 : (⟨S2x6x1024, .f32⟩ : BufTy).Contents (Elt Ideal)} {x5 : (⟨S1x1024, .f32⟩ : BufTy).Contents (Elt Ideal)}
  (h : Is8 D x0 x1 x2 x3 x4 x5)

/-- A row of the product. -/
abbrev Y (D : Mlp.Data) (b s : ℕ) : ℕ → EReal := yy D.wd (D.u b s)

include h in
theorem r1 (i : S2x2048x1024.Idx) : val_main_v1 (F := Ideal) x0 x1 i = (Y D (i 0).val (i 1).val (i 2).val) := by
  rw [val_main_v1_apply]
  unfold Y yy
  refine Finset.sum_congr rfl fun k _ => ?_
  have e : val_main_v0 (F := Ideal) x0 (lidx_main_v1 i k) = (D.u (i 0).val (i 1).val k) := h.u _
  have e' : x1 (ridx_main_v1 i k) = (D.wd k (i 2).val) := h.wd _
  rw [e, e']

include h in
theorem r9 (i : S2x2048x1.Idx) : val_main_v9 (F := Ideal) x0 x1 i = (ms (Y D (i 0).val (i 1).val)) := by
  have e8 : val_main_v8 (F := Ideal) i = (eps) := by rw [val_main_v8_apply, val_main_cst_1_apply]; exact ceps
  have e6 : val_main_v6 (F := Ideal) i = len := by rw [val_main_v6_apply, val_main_cst_0_apply]; exact clen
  have e5 : val_main_v5 (F := Ideal) x0 x1 i = (∑ k : Fin 1024, Y D (i 0).val (i 1).val k * Y D (i 0).val (i 1).val k) := by
    rw [val_main_v5_apply, val_main_v4_apply, val_main_cst_apply]
    refine (zadd _).trans ?_
    refine Finset.sum_congr rfl fun k _ => ?_
    rw [val_main_v3_apply, r1 h]; rfl
  have e7 : val_main_v7 (F := Ideal) x0 x1 i = Ideal.div (∑ k : Fin 1024, Y D (i 0).val (i 1).val k * Y D (i 0).val (i 1).val k) len := by
    rw [val_main_v7_apply, e5, e6]; rfl
  rw [val_main_v9_apply, e7, e8]; rfl

include h in
theorem r10 (i : S2x2048x1.Idx) : val_main_v10 (F := Ideal) x0 x1 i = (rr (Y D (i 0).val (i 1).val)) := by
  rw [val_main_v10_apply, r9 h]
  rfl

include h in
theorem r13 (i : S2x2048x1.Idx) : val_main_v13 (F := Ideal) x0 x1 i = (mhalf * Ideal.div (rr (Y D (i 0).val (i 1).val)) (ms (Y D (i 0).val (i 1).val))) := by
  have e12 : val_main_v12 (F := Ideal) i = mhalf := by rw [val_main_v12_apply, val_main_cst_2_apply]; exact cmhalf
  have e11 : val_main_v11 (F := Ideal) x0 x1 i = (Ideal.div (rr (Y D (i 0).val (i 1).val)) (ms (Y D (i 0).val (i 1).val))) := by
    rw [val_main_v11_apply, r10 h, r9 h]
    rfl
  rw [val_main_v13_apply, e12, e11]; rfl

include h in
theorem r15 (i : S2x2048x1024.Idx) : val_main_v15 (F := Ideal) x0 x1 i = (YN D (i 0).val (i 1).val (i 2).val) := by
  rw [val_main_v15_apply, val_main_v14_apply, r10 h, r1 h]; rfl

include h in
theorem r18 (i : S2x2048x1024.Idx) : val_main_v18 (F := Ideal) x0 x1 x5 i = (YN D (i 0).val (i 1).val (i 2).val * D.g (i 2).val) := by
  have e : x5 (idx_main_v16 (idx_main_v17 i)) = (D.g (i 2).val) := h.g _
  rw [val_main_v18_apply, r15 h, val_main_v17_apply, val_main_v16_apply, e]; rfl

include h in
theorem r22 (i : S2x2048x1024.Idx) : val_main_v22 (F := Ideal) x0 x1 x2 x3 x4 x5 i = (ER D (i 0).val (i 1).val (i 2).val) := by
  have e : x4 (idx_main_v2 (idx_main_v19 i)) = (D.md (i 0).val 5 (i 2).val) := h.md _
  have ex : x2 i = (D.x (i 0).val (i 1).val (i 2).val) := h.x i
  have et : x3 i = (D.gx (i 0).val (i 1).val (i 2).val) := h.gx i
  have e20 : val_main_v20 (F := Ideal) x0 x1 x4 x5 i = (D.md (i 0).val 5 (i 2).val * (YN D (i 0).val (i 1).val (i 2).val * D.g (i 2).val)) := by
    rw [val_main_v20_apply, val_main_v19_apply, val_main_v2_apply, e, r18 h]; rfl
  have e21 : val_main_v21 (F := Ideal) x0 x1 x2 x4 x5 i = (D.x (i 0).val (i 1).val (i 2).val + D.md (i 0).val 5 (i 2).val * (YN D (i 0).val (i 1).val (i 2).val * D.g (i 2).val)) := by
    rw [val_main_v21_apply, e20, ex]; rfl
  rw [val_main_v22_apply, e21, et]; rfl

include h in
theorem r36 (i : S2x2048x1024.Idx) : val_main_v36 (F := Ideal) x0 x1 x2 x3 x4 x5 i = Ggx D i := by
  have e24 : val_main_v24 (F := Ideal) i = two := by rw [val_main_v24_apply, val_main_cst_3_apply]; exact ctwo
  have e25 : val_main_v25 (F := Ideal) x0 x1 x2 x3 x4 x5 i = two * ER D (i 0).val (i 1).val (i 2).val := by rw [val_main_v25_apply, e24, r22 h]; rfl
  have e32 : val_main_v32 (F := Ideal) (idx_main_v35 i) = half * 1 := by
    rw [val_main_v32_apply, val_main_v31_apply, val_main_cst_8_apply, val_main_cst_9_apply, chalf, c1.trans EReal.coe_one]; rfl
  have e33 : val_main_v33 (F := Ideal) (idx_main_v35 i) = len := by rw [val_main_v33_apply, val_main_cst_10_apply]; exact clen
  have e35 : val_main_v35 (F := Ideal) i = Ideal.div (half * 1) len := by rw [val_main_v35_apply, val_main_v34_apply, e32, e33]; rfl
  rw [val_main_v36_apply, e35, e25]
  exact slope _

include h in
theorem r38 (i : S2x2048x1024.Idx) : val_main_v38 (F := Ideal) x0 x1 x2 x3 x4 x5 i = (D2 D (i 0).val (i 1).val (i 2).val) := by
  have e : x4 (idx_main_v2 (idx_main_v37 i)) = (D.md (i 0).val 5 (i 2).val) := h.md _
  rw [val_main_v38_apply, val_main_v37_apply, val_main_v2_apply, e, r36 h]
  exact mul_comm _ _

include h in
theorem r41 (i : S2x1x1024.Idx) : val_main_v41 (F := Ideal) x0 x1 x2 x3 x4 x5 i = ∑ s : Fin 2048, GO D (i 0).val s (i 2).val * (YN D (i 0).val s (i 2).val * D.g (i 2).val) := by
  have h0 : (i 0).val < 2 := (i 0).isLt
  have h1 : (i 1).val < 1 := (i 1).isLt
  have h2 : (i 2).val < 1024 := (i 2).isLt
  rw [val_main_v41_apply, val_main_v40_apply, val_main_cst_11_apply]
  refine (zadd _).trans ?_
  refine Finset.sum_congr rfl fun k _ => ?_
  rw [val_main_v39_apply, r36 h, r18 h]
  refine (congrArg₂ (fun a b => GO D a k b * (YN D a k b * D.g b)) ?_ ?_)
  · show (((i 0).val * 1 + (i 1).val) * 1024 + (i 2).val) / 1024 = (i 0).val
    omega
  · show (((i 0).val * 1 + (i 1).val) * 1024 + (i 2).val) % 1024 = (i 2).val
    omega

/-- The gain's gradient. -/
def GA (D : Mlp.Data) (e : ℕ) : EReal := ∑ b : Fin 2, ∑ s : Fin 2048, D2 D b s e * YN D b s e

include h in
theorem r42 (i : S2x2048x1024.Idx) : val_main_v42 (F := Ideal) x0 x1 x2 x3 x4 x5 i = (D2 D (i 0).val (i 1).val (i 2).val * YN D (i 0).val (i 1).val (i 2).val) := by
  rw [val_main_v42_apply, r15 h, r38 h]
  exact mul_comm _ _

include h in
theorem r43 (i : S1024.Idx) : val_main_v43 (F := Ideal) x0 x1 x2 x3 x4 x5 i = (GA D (i 0).val) := by
  have e : val_main_v43 (F := Ideal) x0 x1 x2 x3 x4 x5 i = (val_main_cst_12 (F := Ideal)) (Shape.Idx.first h_S_)
      + ∑ b : Fin 2, ∑ s : Fin 2048, val_main_v42 (F := Ideal) x0 x1 x2 x3 x4 x5 (ix3 b s (i 0)) := by
    rw [← sum01 reducesTo_S2x2048x1024_S1024_d0_1]; rfl
  rw [e, val_main_cst_12_apply]
  refine (zadd _).trans ?_
  unfold GA
  refine Finset.sum_congr rfl fun b _ => ?_
  exact Finset.sum_congr rfl fun s _ => r42 h _

include h in
theorem r48 (i : S1x1024.Idx) : val_main_v48 (F := Ideal) x0 x1 x2 x3 x4 x5 i = (GA D (i 1).val) := by
  have e : val_main_v47 (F := Ideal) x0 x1 x2 x3 x4 x5 (idx_main_v48 i) = (val_main_cst_13 (F := Ideal)) (Shape.Idx.first h_S_)
      + ∑ b : Fin 1, ∑ s : Fin 1, val_main_v44 (F := Ideal) x0 x1 x2 x3 x4 x5 (ix3 b s ((idx_main_v48 i) 0)) := by
    rw [← sum01 (j := idx_main_v48 i) reducesTo_S1x1x1024_S1024_d0_1]; rfl
  rw [val_main_v48_apply, e, val_main_cst_13_apply, Fin.sum_univ_one, Fin.sum_univ_one, val_main_v44_apply, r43 h, zadd]
  refine congrArg (GA D) ?_
  have h2 : (i 1).val < 1024 := (i 1).isLt
  show (0 * 1 + 0) * 1024 + (i 1).val = (i 1).val
  omega

include h in
theorem r46 (i : S2x2048x1024.Idx) : val_main_v46 (F := Ideal) x0 x1 x2 x3 x4 x5 i = (D2 D (i 0).val (i 1).val (i 2).val * D.g (i 2).val) := by
  have e : x5 (idx_main_v16 (idx_main_v45 i)) = (D.g (i 2).val) := h.g _
  rw [val_main_v46_apply, r38 h, val_main_v45_apply, val_main_v16_apply, e]; rfl

include h in
theorem r56 (i : S2x2048x1.Idx) : val_main_v56 (F := Ideal) x0 x1 x2 x3 x4 x5 i = tt (Y D (i 0).val (i 1).val) (D2 D (i 0).val (i 1).val) D.g := by
  have h0 : (i 0).val < 2 := (i 0).isLt
  have h1 : (i 1).val < 2048 := (i 1).isLt
  have h2 : (i 2).val < 1 := (i 2).isLt
  have e51 : val_main_v51 (F := Ideal) x0 x1 x2 x3 x4 x5 i = (∑ k : Fin 1024, Y D (i 0).val (i 1).val k * (D2 D (i 0).val (i 1).val k * D.g k)) := by
    rw [val_main_v51_apply, val_main_v50_apply, val_main_cst_14_apply]
    refine (zadd _).trans ?_
    refine Finset.sum_congr rfl fun k _ => ?_
    rw [val_main_v49_apply, r46 h, r1 h]
    refine congrArg₂ (fun a b => Y D a b k * (D2 D a b k * D.g k)) ?_ ?_
    · show (((i 0).val * 2048 + (i 1).val) * 1 + (i 2).val) / 2048 = (i 0).val
      omega
    · show (((i 0).val * 2048 + (i 1).val) * 1 + (i 2).val) % 2048 = (i 1).val
      omega
  have e55 : val_main_v55 (F := Ideal) i = len := by rw [val_main_v55_apply, val_main_cst_15_apply]; exact clen
  have e54 : val_main_v54 (F := Ideal) x0 x1 x2 x3 x4 x5 i = (∑ k : Fin 1024, Y D (i 0).val (i 1).val k * (D2 D (i 0).val (i 1).val k * D.g k)) * (mhalf * Ideal.div (rr (Y D (i 0).val (i 1).val)) (ms (Y D (i 0).val (i 1).val))) := by
    rw [val_main_v54_apply, e51, r13 h]; rfl
  rw [val_main_v56_apply, e54, e55]; rfl

include h in
theorem r58 (i : S2x2048x1024.Idx) : val_main_v58 (F := Ideal) x0 x1 x2 x3 x4 x5 i = tt (Y D (i 0).val (i 1).val) (D2 D (i 0).val (i 1).val) D.g := by
  rw [val_main_v58_apply, val_main_v57_apply, val_main_cst_16_apply, Fin.sum_univ_one, r56 h, zadd]

include h in
theorem r63 (i : S2x2048x1024.Idx) : val_main_v63 (F := Ideal) x0 x1 x2 x3 x4 x5 i = Gdy D i := by
  have e53 : val_main_v53 (F := Ideal) x0 x1 x2 x3 x4 x5 i = (D2 D (i 0).val (i 1).val (i 2).val * D.g (i 2).val * rr (Y D (i 0).val (i 1).val)) := by
    rw [val_main_v53_apply, r46 h, val_main_v52_apply, r10 h]; rfl
  have e59 : val_main_v59 (F := Ideal) x0 x1 x2 x3 x4 x5 i = Y D (i 0).val (i 1).val (i 2).val * tt (Y D (i 0).val (i 1).val) (D2 D (i 0).val (i 1).val) D.g := by rw [val_main_v59_apply, r1 h, r58 h]; rfl
  have e61 : val_main_v61 (F := Ideal) x0 x1 x2 x3 x4 x5 i = tt (Y D (i 0).val (i 1).val) (D2 D (i 0).val (i 1).val) D.g * Y D (i 0).val (i 1).val (i 2).val := by rw [val_main_v61_apply, r1 h, r58 h]; rfl
  have e60 : val_main_v60 (F := Ideal) x0 x1 x2 x3 x4 x5 i = D2 D (i 0).val (i 1).val (i 2).val * D.g (i 2).val * rr (Y D (i 0).val (i 1).val) + Y D (i 0).val (i 1).val (i 2).val * tt (Y D (i 0).val (i 1).val) (D2 D (i 0).val (i 1).val) D.g := by rw [val_main_v60_apply, e53, e59]; rfl
  show val_main_v62 (F := Ideal) x0 x1 x2 x3 x4 x5 i = gxo (Y D (i 0).val (i 1).val) (fun _ => 0) (D2 D (i 0).val (i 1).val) D.g (i 2).val
  rw [val_main_v62_apply, e60, e61, ← gxo_eq _ _ _ _ _ (i 2).isLt, zero_add]; rfl

theorem r64 (i : S2x7x1024.Idx) : val_main_v64 (F := Ideal) i = (0) := by
  rw [val_main_v64_apply, val_main_cst_17_apply]; exact czero

theorem r68 (i : S6x1024.Idx) : val_main_v68 (F := Ideal) i = (0) := by
  rw [val_main_v68_apply, val_main_cst_19_apply]; exact czero

include h in
theorem r65 (i : S2x8x1024.Idx) : val_main_v65 (F := Ideal) x0 x1 x2 x3 x4 x5 i = Gb D i := by
  have h1 : (i 1).val < 8 := (i 1).isLt
  show _ = A8 D (i 0).val (4 * 512) (i 1).val (i 2).val
  rw [A8_eq]
  unfold val_main_v65
  by_cases j0 : (i 1).val = 0
  · rw [if_pos j0]
    refine (concatenate_apply_piece 1 _ _ i 0 (by show 0 < 2; decide) S2x1x1024 (val_main_v41 (F := Ideal) x0 x1 x2 x3 x4 x5) rfl rfl 0 rfl (ix3 (i 0) 0 (i 2)) (fun b hb => ?_) ?_).trans (r41 h _)
    · match b with
      | ⟨0, _⟩ => rfl
      | ⟨1, _⟩ => exact absurd rfl hb
      | ⟨2, _⟩ => rfl
    · show 0 + 0 = (i 1).val
      omega
  rw [if_neg j0]
  refine (concatenate_apply_piece 1 _ _ i 1 (by show 1 < 2; decide) S2x7x1024 (val_main_v64 (F := Ideal)) rfl rfl 1 rfl (ix3 (i 0) ⟨(i 1).val - 1, by omega⟩ (i 2)) (fun b hb => ?_) ?_).trans (r64 _)
  · match b with
    | ⟨0, _⟩ => rfl
    | ⟨1, _⟩ => exact absurd rfl hb
    | ⟨2, _⟩ => rfl
  · show 1 + ((i 1).val - 1) = (i 1).val
    omega

include h in
theorem r28 (i : S2x2048.Idx) : val_main_v28 (F := Ideal) x0 x1 x2 x3 x4 x5 i = Ideal.div (SQ D (i 0).val (i 1).val) len := by
  have e27 : val_main_v27 (F := Ideal) i = len := by rw [val_main_v27_apply, val_main_cst_5_apply]; exact clen
  have e26 : val_main_v26 (F := Ideal) x0 x1 x2 x3 x4 x5 i = SQ D (i 0).val (i 1).val := by
    rw [val_main_v26_apply, val_main_cst_4_apply]
    refine (zadd _).trans ?_
    unfold SQ
    refine Finset.sum_congr rfl fun k _ => ?_
    rw [val_main_v23_apply, r22 h]; rfl
  rw [val_main_v28_apply, e26, e27]; rfl

include h in
theorem r67 (i : S1x1024.Idx) : val_main_v67 (F := Ideal) x0 x1 x2 x3 x4 x5 i = ∑ b : Fin 2, ∑ s : Fin 2048, SQ D b s := by
  have e29 (i : S_.Idx) : val_main_v29 (F := Ideal) x0 x1 x2 x3 x4 x5 i = ∑ b : Fin 2, ∑ s : Fin 2048, Ideal.div (SQ D b s) len := by
    rw [val_main_v29_apply, val_main_cst_6_apply]
    refine (zadd _).trans ((sum_two _).trans ?_)
    exact Finset.sum_congr rfl fun b _ => Finset.sum_congr rfl fun s _ => r28 h _
  rw [val_main_v67_apply, val_main_v66_apply, val_main_v30_apply, e29, val_main_cst_7_apply, val_main_cst_18_apply, chalf, c2048]
  exact total_of_mean (SQ D)

include h in
theorem r69 (i : S8x1024.Idx) : val_main_v69 (F := Ideal) x0 x1 x2 x3 x4 x5 i = Gg D i := by
  have h0 : (i 0).val < 8 := (i 0).isLt
  show _ = A9 D (8 * 512) (i 0).val (i 1).val
  rw [A9_eq]
  unfold val_main_v69
  by_cases j0 : (i 0).val = 0
  · rw [if_pos j0]
    refine (concatenate_apply_piece 0 _ _ i 0 (by show 0 < 3; decide) S1x1024 (val_main_v48 (F := Ideal) x0 x1 x2 x3 x4 x5) rfl rfl 0 rfl (ix2 0 (i 1)) (fun b hb => ?_) ?_).trans (r48 h _)
    · match b with
      | ⟨0, _⟩ => exact absurd rfl hb
      | ⟨1, _⟩ => rfl
    · show 0 + 0 = (i 0).val
      omega
  rw [if_neg j0]
  by_cases j1 : (i 0).val = 1
  · rw [if_pos j1]
    refine (concatenate_apply_piece 0 _ _ i 1 (by show 1 < 3; decide) S1x1024 (val_main_v67 (F := Ideal) x0 x1 x2 x3 x4 x5) rfl rfl 1 rfl (ix2 0 (i 1)) (fun b hb => ?_) ?_).trans (r67 h _)
    · match b with
      | ⟨0, _⟩ => exact absurd rfl hb
      | ⟨1, _⟩ => rfl
    · show 1 + 0 = (i 0).val
      omega
  rw [if_neg j1]
  refine (concatenate_apply_piece 0 _ _ i 2 (by show 2 < 3; decide) S6x1024 (val_main_v68 (F := Ideal)) rfl rfl 2 rfl (ix2 ⟨(i 0).val - 2, by omega⟩ (i 1)) (fun b hb => ?_) ?_).trans (r68 _)
  · match b with
    | ⟨0, _⟩ => exact absurd rfl hb
    | ⟨1, _⟩ => rfl
  · show 2 + ((i 0).val - 2) = (i 0).val
    omega

end Cert.Down.Ref
-- ==== Proof.lean ====
/- The certificate: of each of the eight calls the frames, the ideal form, and the equality of its results with the reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.ReferenceIdeal.Read
public import proofs.«01_k».proof.Proof.Ends
public import proofs.«01_k».proof.Proof.Finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MlpEnds
public import proofs.«01_k».proof.Proof.MlpRef
public import proofs.«01_k».proof.Proof.WgRef
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.WgRef2
public import proofs.«01_k».proof.Proof.UpRef
public import proofs.«01_k».proof.Proof.DownRef
public import Idealize.ShloMosaic.Lib.Quiescent
public import Idealize.ShloMosaic.Adequacy
public import Idealize.ShloMosaic.Init

@[expose] public section

noncomputable section

namespace Cert.Proof

open Idealize.ShloMosaic Idealize.SL.Sem

/-- The reference keeps its arguments, and it has no semaphore. -/
theorem reference_frame : Cert.quiescent_ReferenceIdeal := fun m g _ =>
  (θ_run Cert.ReferenceIdeal.defs _ _).mono
    (fun r h => And.intro (fun c => (h c).2.2.2) (sem_eq_zero_of_no_sems (by decide) r.2)) (Cert.ReferenceIdeal.Value.run (F := Ideal) m g)

open Cert.Branch Cert.Branch.Kern in
/-- The two programs end with the same three gradients. -/
theorem algebraic : Cert.algebraic_KernelIdeal_ReferenceIdeal_pre_finite := by
  intro m g m' g' hpre hag
  have hd (c : Dev Cert.KernelIdeal.nD) := Pre.is_data _ _ _ _ _ _ _ _ (hpre c)
  have hr (c : Dev Cert.KernelIdeal.nD) : Ref.Is (Pre.data (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
    obtain ⟨a0, a1, a2, a3, a4, a5, a6, a7⟩ := hag c
    rw [a0, a1, a2, a3, a4, a5, a6, a7]
    exact hd c
  refine ⟨fun c => Gq (Pre.data _ _ _ _ _ _ _ _), fun c => Gk (Pre.data _ _ _ _ _ _ _ _), fun c => Gv (Pre.data _ _ _ _ _ _ _ _),
    (θ_run _ _ _).mono (fun r h c => ⟨(h c).1.trans (final_q m c (hd c)), (h c).2.1.trans (final_k m c (hd c)), (h c).2.2.1.trans (final_v m c (hd c)), (h c).2.2.2⟩)
      (Cert.KernelIdeal.Value.run_blocks (F := Ideal) m g),
    (θ_run _ _ _).mono (fun r h c => ⟨(h c).1.trans ((Cert.ReferenceIdeal.Read.val_main_v169_eq (StableHlo.launchContents m' c)).trans (funext fun i => Ref.r169 (hr c) i)),
      (h c).2.1.trans ((Cert.ReferenceIdeal.Read.val_main_v168_eq (StableHlo.launchContents m' c)).trans (funext fun i => Ref.r168 (hr c) i)),
      (h c).2.2.1.trans ((Cert.ReferenceIdeal.Read.val_main_v167_eq (StableHlo.launchContents m' c)).trans (funext fun i => Ref.r167 (hr c) i)), (h c).2.2.2⟩)
      (Cert.ReferenceIdeal.Value.run (F := Ideal) m' g')⟩

/-- The second reference keeps its arguments, and it has no semaphore. -/
theorem reference2_frame : Cert.quiescent_Reference2Ideal := fun m g _ =>
  (θ_run Cert.Reference2Ideal.defs _ _).mono
    (fun r h => And.intro (fun c => (h c).2.2.2.2) (sem_eq_zero_of_no_sems (by decide) r.2)) (Cert.Reference2Ideal.Value.run (F := Ideal) m g)

open Cert.Mlp Cert.Mlp.Kern in
/-- The second call and its reference end with the same four arrays. -/
theorem algebraic2 : Cert.algebraic_Kernel2Ideal_Reference2Ideal := by
  intro m g m' g' _ hag
  have hd (c : Dev Cert.Kernel2Ideal.nD) := is_data (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))
  have hr (c : Dev Cert.Kernel2Ideal.nD) : Is (data (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)))
      (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) := by
    obtain ⟨a0, a1, a2, a3, a4, a5, a6, a7⟩ := hag c
    rw [a0, a1, a2, a3, a4, a5, a6, a7]
    exact hd c
  refine ⟨fun c => Gdu (data _ _ _ _ _ _ _ _), fun c => Ggx (data _ _ _ _ _ _ _ _), fun c => Gmod (data _ _ _ _ _ _ _ _), fun c => Gg (data _ _ _ _ _ _ _ _),
    (θ_run _ _ _).mono (fun r h c => ⟨(h c).1.trans (final_du m c (hd c)), (h c).2.1.trans (final_gx m c (hd c)), (h c).2.2.1.trans (final_mod m c (hd c)),
      (h c).2.2.2.1.trans (final_g m c (hd c)), (h c).2.2.2.2⟩)
      (Cert.Kernel2Ideal.Value.run_blocks (F := Ideal) m g),
    (θ_run _ _ _).mono (fun r h c => ⟨(h c).1.trans ((Cert.Reference2Ideal.Read.val_main_v69_eq _ _ _).trans (funext fun i => Ref.r69 (hr c) i)),
      (h c).2.1.trans ((Cert.Reference2Ideal.Read.val_main_v68_eq m' c).trans (funext fun i => Ref.r68 (hr c) i)),
      (h c).2.2.1.trans ((Cert.Reference2Ideal.Read.val_main_v71_eq _ _ _ _ _ _).trans (funext fun i => (Ref.r71 (hr c) i).trans (A8_eq _ _ _ _).symm)),
      (h c).2.2.2.1.trans ((Cert.Reference2Ideal.Read.val_main_v73_eq _ _ _ _ _ _).trans (funext fun i => (Ref.r73 (hr c) i).trans (A9_eq _ _ _).symm)), (h c).2.2.2.2⟩)
      (Cert.Reference2Ideal.Value.run (F := Ideal) m' g')⟩

/-- The third reference keeps its arguments, and it has no semaphore. -/
theorem reference3_frame : Cert.quiescent_Reference3Ideal := fun m g _ =>
  (θ_run Cert.Reference3Ideal.defs _ _).mono
    (fun r h => And.intro (fun c => (h c).2) (sem_eq_zero_of_no_sems (by decide) r.2)) (Cert.Reference3Ideal.Value.run (F := Ideal) m g)

/-- The third call and its reference end with the same gradient of the second weight. -/
theorem algebraic3 : Cert.algebraic_Kernel3Ideal_Reference3Ideal := by
  intro m g m' g' _ hag
  refine ⟨fun c => Cert.Reference3Ideal.Read.val_main_v7 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun r h c => ⟨(h c).1.trans (Cert.Wg.K3.final m c), (h c).2⟩) (Cert.Kernel3Ideal.Value.run_blocks (F := Ideal) m g),
    (θ_run _ _ _).mono (fun r h c => ⟨(h c).1.trans ((Cert.Reference3Ideal.Read.val_main_v7_eq _ _ ).trans ?_), (h c).2⟩)
      (Cert.Reference3Ideal.Value.run (F := Ideal) m' g')⟩
  obtain ⟨a0, a1⟩ := hag c
  exact congrArg₂ _ a0 a1

/-- The fourth reference keeps its arguments, and it has no semaphore. -/
theorem reference4_frame : Cert.quiescent_Reference4Ideal := fun m g _ =>
  (θ_run Cert.Reference4Ideal.defs _ _).mono
    (fun r h => And.intro (fun c => (h c).2) (sem_eq_zero_of_no_sems (by decide) r.2)) (Cert.Reference4Ideal.Value.run (F := Ideal) m g)

/-- The fourth call and its reference end with the same gradient of the first weight. -/
theorem algebraic4 : Cert.algebraic_Kernel4Ideal_Reference4Ideal := by
  intro m g m' g' _ hag
  refine ⟨fun c => Cert.Reference4Ideal.Read.val_main_v28 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run _ _ _).mono (fun r h c => ⟨(h c).1.trans (Cert.Wg.K4.final m c), (h c).2⟩) (Cert.Kernel4Ideal.Value.run_blocks (F := Ideal) m g),
    (θ_run _ _ _).mono (fun r h c => ⟨(h c).1.trans ((Cert.Reference4Ideal.Read.val_main_v28_eq _ _ _ _ ).trans ?_), (h c).2⟩)
      (Cert.Reference4Ideal.Value.run (F := Ideal) m' g')⟩
  obtain ⟨a0, a1, a2, a3⟩ := hag c
  exact by rw [a0, a1, a2, a3]

/-- The fifth reference keeps its arguments, and it has no semaphore. -/
theorem reference5_frame : Cert.quiescent_Reference5Ideal := fun m g _ =>
  (θ_run Cert.Reference5Ideal.defs _ _).mono
    (fun r h => And.intro (fun c => (h c).2) (sem_eq_zero_of_no_sems (by decide) r.2)) (Cert.Reference5Ideal.Value.run (F := Ideal) m g)

/-- The fifth call and its reference end with the same gradient of the output projection's weight. -/
theorem algebraic5 : Cert.algebraic_Kernel5Ideal_Reference5Ideal := by
  intro m g m' g' _ hag
  refine ⟨fun c => Cert.Reference5Ideal.Read.val_main_v32 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    (θ_run _ _ _).mono (fun r h c => ⟨(h c).1.trans (Cert.Wg.K5.final m c), (h c).2⟩) (Cert.Kernel5Ideal.Value.run_blocks (F := Ideal) m g),
    (θ_run _ _ _).mono (fun r h c => ⟨(h c).1.trans ((Cert.Reference5Ideal.Read.val_main_v32_eq _ _ _ _ _).trans ?_), (h c).2⟩)
      (Cert.Reference5Ideal.Value.run (F := Ideal) m' g')⟩
  obtain ⟨a0, a1, a2, a3, a4⟩ := hag c
  exact by rw [a0, a1, a2, a3, a4]

/-- The sixth reference keeps its arguments, and it has no semaphore. -/
theorem reference6_frame : Cert.quiescent_Reference6Ideal := fun m g _ =>
  (θ_run Cert.Reference6Ideal.defs _ _).mono
    (fun r h => And.intro (fun c => (h c).2) (sem_eq_zero_of_no_sems (by decide) r.2)) (Cert.Reference6Ideal.Value.run (F := Ideal) m g)

/-- The sixth call and its reference end with the same gradient of the input projection's weight. -/
theorem algebraic6 : Cert.algebraic_Kernel6Ideal_Reference6Ideal := by
  intro m g m' g' _ hag
  refine ⟨fun c => Cert.Reference6Ideal.Read.val_main_v28 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    (θ_run _ _ _).mono (fun r h c => ⟨(h c).1.trans (Cert.Wg.K6.final m c), (h c).2⟩) (Cert.Kernel6Ideal.Value.run_blocks (F := Ideal) m g),
    (θ_run _ _ _).mono (fun r h c => ⟨(h c).1.trans ((Cert.Reference6Ideal.Read.val_main_v28_eq _ _ _ _).trans ?_), (h c).2⟩)
      (Cert.Reference6Ideal.Value.run (F := Ideal) m' g')⟩
  obtain ⟨a0, a1, a2, a3⟩ := hag c
  exact by rw [a0, a1, a2, a3]

/-- The seventh reference keeps its arguments, and it has no semaphore. -/
theorem reference7_frame : Cert.quiescent_Reference7Ideal := fun m g _ =>
  (θ_run Cert.Reference7Ideal.defs _ _).mono
    (fun r h => And.intro (fun c => (h c).2.2.2) (sem_eq_zero_of_no_sems (by decide) r.2)) (Cert.Reference7Ideal.Value.run (F := Ideal) m g)

open Cert.Mlp Cert.Mlp.Kern Cert.Up in
/-- The seventh call and its reference end with the same three arrays. -/
theorem algebraic7 : Cert.algebraic_Kernel7Ideal_Reference7Ideal := by
  intro m g m' g' _ hag
  have hd (c : Dev Cert.Kernel7Ideal.nD) := Up.is_data (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))
  have hr (c : Dev Cert.Kernel7Ideal.nD) : Is7 (Up.data (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)))
      (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) := by
    obtain ⟨a0, a1, a2, a3⟩ := hag c
    rw [a0, a1, a2, a3]
    exact hd c
  refine ⟨fun c => Up.Gh (Up.data _ _ _ _), fun c => Up.Gu (Up.data _ _ _ _), fun c => Up.Ga (Up.data _ _ _ _),
    (θ_run _ _ _).mono (fun r h c => ⟨(h c).1.trans (Up.final_Gh m c (hd c)), (h c).2.1.trans (Up.final_Gu m c (hd c)), (h c).2.2.1.trans (Up.final_Ga m c (hd c)), (h c).2.2.2⟩)
      (Cert.Kernel7Ideal.Value.run_blocks (F := Ideal) m g),
    (θ_run _ _ _).mono (fun r h c => ⟨(h c).1.trans ((Cert.Reference7Ideal.Read.val_main_v22_eq _ _ _).trans (funext fun i => Up.Ref.r22 (hr c) i)),
      (h c).2.1.trans ((Cert.Reference7Ideal.Read.val_main_v23_eq _ _ _ _).trans (funext fun i => Up.Ref.r23 (hr c) i)),
      (h c).2.2.1.trans ((Cert.Reference7Ideal.Read.val_main_v26_eq _ _ _ _).trans (funext fun i => Up.Ref.r26 (hr c) i)), (h c).2.2.2⟩)
      (Cert.Reference7Ideal.Value.run (F := Ideal) m' g')⟩

/-- The eighth reference keeps its arguments, and it has no semaphore. -/
theorem reference8_frame : Cert.quiescent_Reference8Ideal := fun m g _ =>
  (θ_run Cert.Reference8Ideal.defs _ _).mono
    (fun r h => And.intro (fun c => (h c).2.2.2.2) (sem_eq_zero_of_no_sems (by decide) r.2)) (Cert.Reference8Ideal.Value.run (F := Ideal) m g)

open Cert.Mlp Cert.Mlp.Kern Cert.Down in
/-- The eighth call and its reference end with the same four arrays. -/
theorem algebraic8 : Cert.algebraic_Kernel8Ideal_Reference8Ideal := by
  intro m g m' g' _ hag
  have hd (c : Dev Cert.Kernel8Ideal.nD) := Down.is_data (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))
  have hr (c : Dev Cert.Kernel8Ideal.nD) : Is8 (Down.data (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)))
      (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) := by
    obtain ⟨a0, a1, a2, a3, a4, a5⟩ := hag c
    rw [a0, a1, a2, a3, a4, a5]
    exact hd c
  refine ⟨fun c => Down.Ggx (Down.data _ _ _ _ _ _), fun c => Down.Gdy (Down.data _ _ _ _ _ _), fun c => Down.Gb (Down.data _ _ _ _ _ _), fun c => Down.Gg (Down.data _ _ _ _ _ _),
    (θ_run _ _ _).mono (fun r h c => ⟨(h c).1.trans (Down.final_Ggx m c (hd c)), (h c).2.1.trans (Down.final_Gdy m c (hd c)), (h c).2.2.1.trans (Down.final_Gb m c (hd c)), (h c).2.2.2.1.trans (Down.final_Gg m c (hd c)), (h c).2.2.2.2⟩)
      (Cert.Kernel8Ideal.Value.run_blocks (F := Ideal) m g),
    (θ_run _ _ _).mono (fun r h c => ⟨(h c).1.trans ((Cert.Reference8Ideal.Read.val_main_v36_eq _ _ _ _ _ _).trans (funext fun i => Down.Ref.r36 (hr c) i)),
      (h c).2.1.trans ((Cert.Reference8Ideal.Read.val_main_v63_eq m' c).trans (funext fun i => Down.Ref.r63 (hr c) i)),
      (h c).2.2.1.trans ((Cert.Reference8Ideal.Read.val_main_v65_eq _ _ _ _ _ _).trans (funext fun i => Down.Ref.r65 (hr c) i)),
      (h c).2.2.2.1.trans ((Cert.Reference8Ideal.Read.val_main_v69_eq m' c).trans (funext fun i => Down.Ref.r69 (hr c) i)), (h c).2.2.2.2⟩)
      (Cert.Reference8Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g,
    reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    IdealRules.named_const.statement Cert.KernelIdeal.κ "mask" .f32 0xF149F2CA#32 ⊥ rfl, algebraic, trivial, algebraic2, trivial, algebraic3, trivial, algebraic4, trivial, algebraic5, trivial, algebraic6, trivial, algebraic7, trivial, algebraic8⟩

end Cert.Proof

end
